-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ffns (m : (ℓ : Loc Cert.Ffns.nD Cert.Ffns.τ Cert.Ffns.sig) → Buf (Elt Bits) ℓ) : Prop :=
  True

def Pre_FfnsIdeal (m : (ℓ : Loc Cert.FfnsIdeal.nD Cert.FfnsIdeal.τ Cert.FfnsIdeal.sig) → Buf (Elt Ideal) ℓ) : Prop :=
  True

def Pre_FfnsRefIdeal (m : (ℓ : Loc Cert.FfnsRefIdeal.nD Cert.FfnsRefIdeal.τ Cert.FfnsRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Norms (m : (ℓ : Loc Cert.Norms.nD Cert.Norms.τ Cert.Norms.sig) → Buf (Elt Bits) ℓ) : Prop :=
  True

def Pre_NormsIdeal (m : (ℓ : Loc Cert.NormsIdeal.nD Cert.NormsIdeal.τ Cert.NormsIdeal.sig) → Buf (Elt Ideal) ℓ) : Prop :=
  True

def Pre_NormsRefIdeal (m : (ℓ : Loc Cert.NormsRefIdeal.nD Cert.NormsRefIdeal.τ Cert.NormsRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Inprojs (m : (ℓ : Loc Cert.Inprojs.nD Cert.Inprojs.τ Cert.Inprojs.sig) → Buf (Elt Bits) ℓ) : Prop :=
  True

def Pre_InprojsIdeal (m : (ℓ : Loc Cert.InprojsIdeal.nD Cert.InprojsIdeal.τ Cert.InprojsIdeal.sig) → Buf (Elt Ideal) ℓ) : Prop :=
  True

def Pre_InprojsRefIdeal (m : (ℓ : Loc Cert.InprojsRefIdeal.nD Cert.InprojsRefIdeal.τ Cert.InprojsRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_log_alpha [hPre_finite_log_alpha : Cert.Pre_finite_log_alpha.Facts] (m : (ℓ : Loc Cert.MixIdeal.nD Cert.MixIdeal.τ Cert.MixIdeal.sig) → Buf (Elt Ideal) ℓ) : Prop :=
  ∀ c : Dev Cert.MixIdeal.nD,
    (Cert.Pre_finite_log_alpha.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_log_alpha [hPre_finite_log_alpha : Cert.Pre_finite_log_alpha.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_log_alpha.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15)) (m ((c.tc : Thread Cert.MixRefIdeal.nD Cert.MixRefIdeal.τ).loc Cert.MixRefIdeal.main_arg16)) (m ((c.tc : Thread Cert.MixRefIdeal.nD Cert.MixRefIdeal.τ).loc Cert.MixRefIdeal.main_arg17))) = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Ffns [hFfns : Cert.Ffns.Facts] : Prop :=
  ∀ (m : (ℓ : Loc Cert.Ffns.nD Cert.Ffns.τ Cert.Ffns.sig) → Buf (Elt Bits) ℓ) (g : Dev Cert.Ffns.nD → PrngReg), Pre_Ffns m →
    θ_run (Cert.Ffns.defs (F := Bits)) (onTc (τ := Cert.Ffns.τ) (Cert.Ffns.main (F := Bits))) ⟨m, fun _ => 0, g⟩ (fun r => (∀ c : Dev Cert.Ffns.nD,
      r.2.mem ((c.tc : Thread Cert.Ffns.nD Cert.Ffns.τ).loc Cert.Ffns.main_arg0) = m ((c.tc : Thread Cert.Ffns.nD Cert.Ffns.τ).loc Cert.Ffns.main_arg0)
      ∧ r.2.mem ((c.tc : Thread Cert.Ffns.nD Cert.Ffns.τ).loc Cert.Ffns.main_arg1) = m ((c.tc : Thread Cert.Ffns.nD Cert.Ffns.τ).loc Cert.Ffns.main_arg1)
      ∧ r.2.mem ((c.tc : Thread Cert.Ffns.nD Cert.Ffns.τ).loc Cert.Ffns.main_arg2) = m ((c.tc : Thread Cert.Ffns.nD Cert.Ffns.τ).loc Cert.Ffns.main_arg2)
      ∧ r.2.mem ((c.tc : Thread Cert.Ffns.nD Cert.Ffns.τ).loc Cert.Ffns.main_arg3) = m ((c.tc : Thread Cert.Ffns.nD Cert.Ffns.τ).loc Cert.Ffns.main_arg3)
      ∧ r.2.mem ((c.tc : Thread Cert.Ffns.nD Cert.Ffns.τ).loc Cert.Ffns.main_arg4) = m ((c.tc : Thread Cert.Ffns.nD Cert.Ffns.τ).loc Cert.Ffns.main_arg4)
      ∧ r.2.mem ((c.tc : Thread Cert.Ffns.nD Cert.Ffns.τ).loc Cert.Ffns.main_arg5) = m ((c.tc : Thread Cert.Ffns.nD Cert.Ffns.τ).loc Cert.Ffns.main_arg5)
      ∧ r.2.mem ((c.tc : Thread Cert.Ffns.nD Cert.Ffns.τ).loc Cert.Ffns.main_arg6) = m ((c.tc : Thread Cert.Ffns.nD Cert.Ffns.τ).loc Cert.Ffns.main_arg6))
      ∧ r.2.sem = fun _ => 0)

def quiescent_FfnsIdeal [hFfnsIdeal : Cert.FfnsIdeal.Facts] : Prop :=
  ∀ (m : (ℓ : Loc Cert.FfnsIdeal.nD Cert.FfnsIdeal.τ Cert.FfnsIdeal.sig) → Buf (Elt Ideal) ℓ) (g : Dev Cert.FfnsIdeal.nD → PrngReg), Pre_FfnsIdeal m →
    θ_run (Cert.FfnsIdeal.defs (F := Ideal)) (onTc (τ := Cert.FfnsIdeal.τ) (Cert.FfnsIdeal.main (F := Ideal))) ⟨m, fun _ => 0, g⟩ (fun r => (∀ c : Dev Cert.FfnsIdeal.nD,
      r.2.mem ((c.tc : Thread Cert.FfnsIdeal.nD Cert.FfnsIdeal.τ).loc Cert.FfnsIdeal.main_arg0) = m ((c.tc : Thread Cert.FfnsIdeal.nD Cert.FfnsIdeal.τ).loc Cert.FfnsIdeal.main_arg0)
      ∧ r.2.mem ((c.tc : Thread Cert.FfnsIdeal.nD Cert.FfnsIdeal.τ).loc Cert.FfnsIdeal.main_arg1) = m ((c.tc : Thread Cert.FfnsIdeal.nD Cert.FfnsIdeal.τ).loc Cert.FfnsIdeal.main_arg1)
      ∧ r.2.mem ((c.tc : Thread Cert.FfnsIdeal.nD Cert.FfnsIdeal.τ).loc Cert.FfnsIdeal.main_arg2) = m ((c.tc : Thread Cert.FfnsIdeal.nD Cert.FfnsIdeal.τ).loc Cert.FfnsIdeal.main_arg2)
      ∧ r.2.mem ((c.tc : Thread Cert.FfnsIdeal.nD Cert.FfnsIdeal.τ).loc Cert.FfnsIdeal.main_arg3) = m ((c.tc : Thread Cert.FfnsIdeal.nD Cert.FfnsIdeal.τ).loc Cert.FfnsIdeal.main_arg3)
      ∧ r.2.mem ((c.tc : Thread Cert.FfnsIdeal.nD Cert.FfnsIdeal.τ).loc Cert.FfnsIdeal.main_arg4) = m ((c.tc : Thread Cert.FfnsIdeal.nD Cert.FfnsIdeal.τ).loc Cert.FfnsIdeal.main_arg4)
      ∧ r.2.mem ((c.tc : Thread Cert.FfnsIdeal.nD Cert.FfnsIdeal.τ).loc Cert.FfnsIdeal.main_arg5) = m ((c.tc : Thread Cert.FfnsIdeal.nD Cert.FfnsIdeal.τ).loc Cert.FfnsIdeal.main_arg5)
      ∧ r.2.mem ((c.tc : Thread Cert.FfnsIdeal.nD Cert.FfnsIdeal.τ).loc Cert.FfnsIdeal.main_arg6) = m ((c.tc : Thread Cert.FfnsIdeal.nD Cert.FfnsIdeal.τ).loc Cert.FfnsIdeal.main_arg6))
      ∧ r.2.sem = fun _ => 0)

def quiescent_FfnsRefIdeal [hFfnsRefIdeal : Cert.FfnsRefIdeal.Facts] : Prop :=
  ∀ (m : (ℓ : Loc Cert.FfnsRefIdeal.nD Cert.FfnsRefIdeal.τ Cert.FfnsRefIdeal.sig) → Buf (Elt Ideal) ℓ) (g : Dev Cert.FfnsRefIdeal.nD → PrngReg), Pre_FfnsRefIdeal m →
    θ_run (Cert.FfnsRefIdeal.defs (F := Ideal)) (onTc (τ := Cert.FfnsRefIdeal.τ) (Cert.FfnsRefIdeal.main (F := Ideal))) ⟨m, fun _ => 0, g⟩ (fun r => (∀ c : Dev Cert.FfnsRefIdeal.nD,
      r.2.mem ((c.tc : Thread Cert.FfnsRefIdeal.nD Cert.FfnsRefIdeal.τ).loc Cert.FfnsRefIdeal.main_arg0) = m ((c.tc : Thread Cert.FfnsRefIdeal.nD Cert.FfnsRefIdeal.τ).loc Cert.FfnsRefIdeal.main_arg0)
      ∧ r.2.mem ((c.tc : Thread Cert.FfnsRefIdeal.nD Cert.FfnsRefIdeal.τ).loc Cert.FfnsRefIdeal.main_arg1) = m ((c.tc : Thread Cert.FfnsRefIdeal.nD Cert.FfnsRefIdeal.τ).loc Cert.FfnsRefIdeal.main_arg1)
      ∧ r.2.mem ((c.tc : Thread Cert.FfnsRefIdeal.nD Cert.FfnsRefIdeal.τ).loc Cert.FfnsRefIdeal.main_arg2) = m ((c.tc : Thread Cert.FfnsRefIdeal.nD Cert.FfnsRefIdeal.τ).loc Cert.FfnsRefIdeal.main_arg2)
      ∧ r.2.mem ((c.tc : Thread Cert.FfnsRefIdeal.nD Cert.FfnsRefIdeal.τ).loc Cert.FfnsRefIdeal.main_arg3) = m ((c.tc : Thread Cert.FfnsRefIdeal.nD Cert.FfnsRefIdeal.τ).loc Cert.FfnsRefIdeal.main_arg3)
      ∧ r.2.mem ((c.tc : Thread Cert.FfnsRefIdeal.nD Cert.FfnsRefIdeal.τ).loc Cert.FfnsRefIdeal.main_arg4) = m ((c.tc : Thread Cert.FfnsRefIdeal.nD Cert.FfnsRefIdeal.τ).loc Cert.FfnsRefIdeal.main_arg4)
      ∧ r.2.mem ((c.tc : Thread Cert.FfnsRefIdeal.nD Cert.FfnsRefIdeal.τ).loc Cert.FfnsRefIdeal.main_arg5) = m ((c.tc : Thread Cert.FfnsRefIdeal.nD Cert.FfnsRefIdeal.τ).loc Cert.FfnsRefIdeal.main_arg5)
      ∧ r.2.mem ((c.tc : Thread Cert.FfnsRefIdeal.nD Cert.FfnsRefIdeal.τ).loc Cert.FfnsRefIdeal.main_arg6) = m ((c.tc : Thread Cert.FfnsRefIdeal.nD Cert.FfnsRefIdeal.τ).loc Cert.FfnsRefIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Norms [hNorms : Cert.Norms.Facts] : Prop :=
  ∀ (m : (ℓ : Loc Cert.Norms.nD Cert.Norms.τ Cert.Norms.sig) → Buf (Elt Bits) ℓ) (g : Dev Cert.Norms.nD → PrngReg), Pre_Norms m →
    θ_run (Cert.Norms.defs (F := Bits)) (onTc (τ := Cert.Norms.τ) (Cert.Norms.main (F := Bits))) ⟨m, fun _ => 0, g⟩ (fun r => (∀ c : Dev Cert.Norms.nD,
      r.2.mem ((c.tc : Thread Cert.Norms.nD Cert.Norms.τ).loc Cert.Norms.main_arg0) = m ((c.tc : Thread Cert.Norms.nD Cert.Norms.τ).loc Cert.Norms.main_arg0)
      ∧ r.2.mem ((c.tc : Thread Cert.Norms.nD Cert.Norms.τ).loc Cert.Norms.main_arg1) = m ((c.tc : Thread Cert.Norms.nD Cert.Norms.τ).loc Cert.Norms.main_arg1))
      ∧ r.2.sem = fun _ => 0)

def quiescent_NormsIdeal [hNormsIdeal : Cert.NormsIdeal.Facts] : Prop :=
  ∀ (m : (ℓ : Loc Cert.NormsIdeal.nD Cert.NormsIdeal.τ Cert.NormsIdeal.sig) → Buf (Elt Ideal) ℓ) (g : Dev Cert.NormsIdeal.nD → PrngReg), Pre_NormsIdeal m →
    θ_run (Cert.NormsIdeal.defs (F := Ideal)) (onTc (τ := Cert.NormsIdeal.τ) (Cert.NormsIdeal.main (F := Ideal))) ⟨m, fun _ => 0, g⟩ (fun r => (∀ c : Dev Cert.NormsIdeal.nD,
      r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
      ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1))
      ∧ r.2.sem = fun _ => 0)

def quiescent_NormsRefIdeal [hNormsRefIdeal : Cert.NormsRefIdeal.Facts] : Prop :=
  ∀ (m : (ℓ : Loc Cert.NormsRefIdeal.nD Cert.NormsRefIdeal.τ Cert.NormsRefIdeal.sig) → Buf (Elt Ideal) ℓ) (g : Dev Cert.NormsRefIdeal.nD → PrngReg), Pre_NormsRefIdeal m →
    θ_run (Cert.NormsRefIdeal.defs (F := Ideal)) (onTc (τ := Cert.NormsRefIdeal.τ) (Cert.NormsRefIdeal.main (F := Ideal))) ⟨m, fun _ => 0, g⟩ (fun r => (∀ c : Dev Cert.NormsRefIdeal.nD,
      r.2.mem ((c.tc : Thread Cert.NormsRefIdeal.nD Cert.NormsRefIdeal.τ).loc Cert.NormsRefIdeal.main_arg0) = m ((c.tc : Thread Cert.NormsRefIdeal.nD Cert.NormsRefIdeal.τ).loc Cert.NormsRefIdeal.main_arg0)
      ∧ r.2.mem ((c.tc : Thread Cert.NormsRefIdeal.nD Cert.NormsRefIdeal.τ).loc Cert.NormsRefIdeal.main_arg1) = m ((c.tc : Thread Cert.NormsRefIdeal.nD Cert.NormsRefIdeal.τ).loc Cert.NormsRefIdeal.main_arg1))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9))
      ∧ r.2.sem = fun _ => 0)

def quiescent_Inprojs [hInprojs : Cert.Inprojs.Facts] : Prop :=
  ∀ (m : (ℓ : Loc Cert.Inprojs.nD Cert.Inprojs.τ Cert.Inprojs.sig) → Buf (Elt Bits) ℓ) (g : Dev Cert.Inprojs.nD → PrngReg), Pre_Inprojs m →
    θ_run (Cert.Inprojs.defs (F := Bits)) (onTc (τ := Cert.Inprojs.τ) (Cert.Inprojs.main (F := Bits))) ⟨m, fun _ => 0, g⟩ (fun r => (∀ c : Dev Cert.Inprojs.nD,
      r.2.mem ((c.tc : Thread Cert.Inprojs.nD Cert.Inprojs.τ).loc Cert.Inprojs.main_arg0) = m ((c.tc : Thread Cert.Inprojs.nD Cert.Inprojs.τ).loc Cert.Inprojs.main_arg0)
      ∧ r.2.mem ((c.tc : Thread Cert.Inprojs.nD Cert.Inprojs.τ).loc Cert.Inprojs.main_arg1) = m ((c.tc : Thread Cert.Inprojs.nD Cert.Inprojs.τ).loc Cert.Inprojs.main_arg1)
      ∧ r.2.mem ((c.tc : Thread Cert.Inprojs.nD Cert.Inprojs.τ).loc Cert.Inprojs.main_arg2) = m ((c.tc : Thread Cert.Inprojs.nD Cert.Inprojs.τ).loc Cert.Inprojs.main_arg2)
      ∧ r.2.mem ((c.tc : Thread Cert.Inprojs.nD Cert.Inprojs.τ).loc Cert.Inprojs.main_arg3) = m ((c.tc : Thread Cert.Inprojs.nD Cert.Inprojs.τ).loc Cert.Inprojs.main_arg3)
      ∧ r.2.mem ((c.tc : Thread Cert.Inprojs.nD Cert.Inprojs.τ).loc Cert.Inprojs.main_arg4) = m ((c.tc : Thread Cert.Inprojs.nD Cert.Inprojs.τ).loc Cert.Inprojs.main_arg4)
      ∧ r.2.mem ((c.tc : Thread Cert.Inprojs.nD Cert.Inprojs.τ).loc Cert.Inprojs.main_arg5) = m ((c.tc : Thread Cert.Inprojs.nD Cert.Inprojs.τ).loc Cert.Inprojs.main_arg5)
      ∧ r.2.mem ((c.tc : Thread Cert.Inprojs.nD Cert.Inprojs.τ).loc Cert.Inprojs.main_arg6) = m ((c.tc : Thread Cert.Inprojs.nD Cert.Inprojs.τ).loc Cert.Inprojs.main_arg6))
      ∧ r.2.sem = fun _ => 0)

def quiescent_InprojsIdeal [hInprojsIdeal : Cert.InprojsIdeal.Facts] : Prop :=
  ∀ (m : (ℓ : Loc Cert.InprojsIdeal.nD Cert.InprojsIdeal.τ Cert.InprojsIdeal.sig) → Buf (Elt Ideal) ℓ) (g : Dev Cert.InprojsIdeal.nD → PrngReg), Pre_InprojsIdeal m →
    θ_run (Cert.InprojsIdeal.defs (F := Ideal)) (onTc (τ := Cert.InprojsIdeal.τ) (Cert.InprojsIdeal.main (F := Ideal))) ⟨m, fun _ => 0, g⟩ (fun r => (∀ c : Dev Cert.InprojsIdeal.nD,
      r.2.mem ((c.tc : Thread Cert.InprojsIdeal.nD Cert.InprojsIdeal.τ).loc Cert.InprojsIdeal.main_arg0) = m ((c.tc : Thread Cert.InprojsIdeal.nD Cert.InprojsIdeal.τ).loc Cert.InprojsIdeal.main_arg0)
      ∧ r.2.mem ((c.tc : Thread Cert.InprojsIdeal.nD Cert.InprojsIdeal.τ).loc Cert.InprojsIdeal.main_arg1) = m ((c.tc : Thread Cert.InprojsIdeal.nD Cert.InprojsIdeal.τ).loc Cert.InprojsIdeal.main_arg1)
      ∧ r.2.mem ((c.tc : Thread Cert.InprojsIdeal.nD Cert.InprojsIdeal.τ).loc Cert.InprojsIdeal.main_arg2) = m ((c.tc : Thread Cert.InprojsIdeal.nD Cert.InprojsIdeal.τ).loc Cert.InprojsIdeal.main_arg2)
      ∧ r.2.mem ((c.tc : Thread Cert.InprojsIdeal.nD Cert.InprojsIdeal.τ).loc Cert.InprojsIdeal.main_arg3) = m ((c.tc : Thread Cert.InprojsIdeal.nD Cert.InprojsIdeal.τ).loc Cert.InprojsIdeal.main_arg3)
      ∧ r.2.mem ((c.tc : Thread Cert.InprojsIdeal.nD Cert.InprojsIdeal.τ).loc Cert.InprojsIdeal.main_arg4) = m ((c.tc : Thread Cert.InprojsIdeal.nD Cert.InprojsIdeal.τ).loc Cert.InprojsIdeal.main_arg4)
      ∧ r.2.mem ((c.tc : Thread Cert.InprojsIdeal.nD Cert.InprojsIdeal.τ).loc Cert.InprojsIdeal.main_arg5) = m ((c.tc : Thread Cert.InprojsIdeal.nD Cert.InprojsIdeal.τ).loc Cert.InprojsIdeal.main_arg5)
      ∧ r.2.mem ((c.tc : Thread Cert.InprojsIdeal.nD Cert.InprojsIdeal.τ).loc Cert.InprojsIdeal.main_arg6) = m ((c.tc : Thread Cert.InprojsIdeal.nD Cert.InprojsIdeal.τ).loc Cert.InprojsIdeal.main_arg6))
      ∧ r.2.sem = fun _ => 0)

def quiescent_InprojsRefIdeal [hInprojsRefIdeal : Cert.InprojsRefIdeal.Facts] : Prop :=
  ∀ (m : (ℓ : Loc Cert.InprojsRefIdeal.nD Cert.InprojsRefIdeal.τ Cert.InprojsRefIdeal.sig) → Buf (Elt Ideal) ℓ) (g : Dev Cert.InprojsRefIdeal.nD → PrngReg), Pre_InprojsRefIdeal m →
    θ_run (Cert.InprojsRefIdeal.defs (F := Ideal)) (onTc (τ := Cert.InprojsRefIdeal.τ) (Cert.InprojsRefIdeal.main (F := Ideal))) ⟨m, fun _ => 0, g⟩ (fun r => (∀ c : Dev Cert.InprojsRefIdeal.nD,
      r.2.mem ((c.tc : Thread Cert.InprojsRefIdeal.nD Cert.InprojsRefIdeal.τ).loc Cert.InprojsRefIdeal.main_arg0) = m ((c.tc : Thread Cert.InprojsRefIdeal.nD Cert.InprojsRefIdeal.τ).loc Cert.InprojsRefIdeal.main_arg0)
      ∧ r.2.mem ((c.tc : Thread Cert.InprojsRefIdeal.nD Cert.InprojsRefIdeal.τ).loc Cert.InprojsRefIdeal.main_arg1) = m ((c.tc : Thread Cert.InprojsRefIdeal.nD Cert.InprojsRefIdeal.τ).loc Cert.InprojsRefIdeal.main_arg1)
      ∧ r.2.mem ((c.tc : Thread Cert.InprojsRefIdeal.nD Cert.InprojsRefIdeal.τ).loc Cert.InprojsRefIdeal.main_arg2) = m ((c.tc : Thread Cert.InprojsRefIdeal.nD Cert.InprojsRefIdeal.τ).loc Cert.InprojsRefIdeal.main_arg2)
      ∧ r.2.mem ((c.tc : Thread Cert.InprojsRefIdeal.nD Cert.InprojsRefIdeal.τ).loc Cert.InprojsRefIdeal.main_arg3) = m ((c.tc : Thread Cert.InprojsRefIdeal.nD Cert.InprojsRefIdeal.τ).loc Cert.InprojsRefIdeal.main_arg3)
      ∧ r.2.mem ((c.tc : Thread Cert.InprojsRefIdeal.nD Cert.InprojsRefIdeal.τ).loc Cert.InprojsRefIdeal.main_arg4) = m ((c.tc : Thread Cert.InprojsRefIdeal.nD Cert.InprojsRefIdeal.τ).loc Cert.InprojsRefIdeal.main_arg4)
      ∧ r.2.mem ((c.tc : Thread Cert.InprojsRefIdeal.nD Cert.InprojsRefIdeal.τ).loc Cert.InprojsRefIdeal.main_arg5) = m ((c.tc : Thread Cert.InprojsRefIdeal.nD Cert.InprojsRefIdeal.τ).loc Cert.InprojsRefIdeal.main_arg5)
      ∧ r.2.mem ((c.tc : Thread Cert.InprojsRefIdeal.nD Cert.InprojsRefIdeal.τ).loc Cert.InprojsRefIdeal.main_arg6) = m ((c.tc : Thread Cert.InprojsRefIdeal.nD Cert.InprojsRefIdeal.τ).loc Cert.InprojsRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16)
      ∧ r.2.mem ((c.tc : Thread Cert.Mix.nD Cert.Mix.τ).loc Cert.Mix.main_arg17) = m ((c.tc : Thread Cert.Mix.nD Cert.Mix.τ).loc Cert.Mix.main_arg17))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17))
      ∧ r.2.sem = fun _ => 0)

def quiescent_MixIdeal_pre_finite_log_alpha [hMixIdeal : Cert.MixIdeal.Facts] [hPre_finite_log_alpha : Cert.Pre_finite_log_alpha.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_log_alpha m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17))
      ∧ r.2.sem = fun _ => 0)

def quiescent_MixRefIdeal_pre_finite_log_alpha [hMixRefIdeal : Cert.MixRefIdeal.Facts] [hPre_finite_log_alpha : Cert.Pre_finite_log_alpha.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_log_alpha m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v60) = v0 c
          ∧ r.2.mem ((c.tc : Thread Cert.FfnRefIdeal.nD Cert.FfnRefIdeal.τ).loc Cert.FfnRefIdeal.main_v61) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Ffns_FfnsIdeal : Prop :=
  True

def algebraic_FfnsIdeal_FfnsRefIdeal [hFfnsIdeal : Cert.FfnsIdeal.Facts] [hFfnsRefIdeal : Cert.FfnsRefIdeal.Facts] : Prop :=
  ∀ (m : (ℓ : Loc Cert.FfnsIdeal.nD Cert.FfnsIdeal.τ Cert.FfnsIdeal.sig) → Buf (Elt Ideal) ℓ) (g : Dev Cert.FfnsIdeal.nD → PrngReg)
    (m' : (ℓ : Loc Cert.FfnsRefIdeal.nD Cert.FfnsRefIdeal.τ Cert.FfnsRefIdeal.sig) → Buf (Elt Ideal) ℓ) (g' : Dev Cert.FfnsRefIdeal.nD → PrngReg), Pre_FfnsIdeal m →
    (∀ c : Dev Cert.FfnsIdeal.nD,
      m' ((c.tc : Thread Cert.FfnsRefIdeal.nD Cert.FfnsRefIdeal.τ).loc Cert.FfnsRefIdeal.main_arg0) = m ((c.tc : Thread Cert.FfnsIdeal.nD Cert.FfnsIdeal.τ).loc Cert.FfnsIdeal.main_arg0)
      ∧ m' ((c.tc : Thread Cert.FfnsRefIdeal.nD Cert.FfnsRefIdeal.τ).loc Cert.FfnsRefIdeal.main_arg1) = m ((c.tc : Thread Cert.FfnsIdeal.nD Cert.FfnsIdeal.τ).loc Cert.FfnsIdeal.main_arg1)
      ∧ m' ((c.tc : Thread Cert.FfnsRefIdeal.nD Cert.FfnsRefIdeal.τ).loc Cert.FfnsRefIdeal.main_arg2) = m ((c.tc : Thread Cert.FfnsIdeal.nD Cert.FfnsIdeal.τ).loc Cert.FfnsIdeal.main_arg2)
      ∧ m' ((c.tc : Thread Cert.FfnsRefIdeal.nD Cert.FfnsRefIdeal.τ).loc Cert.FfnsRefIdeal.main_arg3) = m ((c.tc : Thread Cert.FfnsIdeal.nD Cert.FfnsIdeal.τ).loc Cert.FfnsIdeal.main_arg3)
      ∧ m' ((c.tc : Thread Cert.FfnsRefIdeal.nD Cert.FfnsRefIdeal.τ).loc Cert.FfnsRefIdeal.main_arg4) = m ((c.tc : Thread Cert.FfnsIdeal.nD Cert.FfnsIdeal.τ).loc Cert.FfnsIdeal.main_arg4)
      ∧ m' ((c.tc : Thread Cert.FfnsRefIdeal.nD Cert.FfnsRefIdeal.τ).loc Cert.FfnsRefIdeal.main_arg5) = m ((c.tc : Thread Cert.FfnsIdeal.nD Cert.FfnsIdeal.τ).loc Cert.FfnsIdeal.main_arg5)
      ∧ m' ((c.tc : Thread Cert.FfnsRefIdeal.nD Cert.FfnsRefIdeal.τ).loc Cert.FfnsRefIdeal.main_arg6) = m ((c.tc : Thread Cert.FfnsIdeal.nD Cert.FfnsIdeal.τ).loc Cert.FfnsIdeal.main_arg6)) →
    ∃ (v0 : (c : Dev Cert.FfnsIdeal.nD) → Buf (Elt Ideal) ((c.tc : Thread Cert.FfnsIdeal.nD Cert.FfnsIdeal.τ).loc Cert.FfnsIdeal.main_v8_0)) (v1 : (c : Dev Cert.FfnsIdeal.nD) → Buf (Elt Ideal) ((c.tc : Thread Cert.FfnsIdeal.nD Cert.FfnsIdeal.τ).loc Cert.FfnsIdeal.main_v8_1)),
      θ_run (Cert.FfnsIdeal.defs (F := Ideal)) (onTc (τ := Cert.FfnsIdeal.τ) (Cert.FfnsIdeal.main (F := Ideal))) ⟨m, fun _ => 0, g⟩ (fun r => ∀ c : Dev Cert.FfnsIdeal.nD,
          r.2.mem ((c.tc : Thread Cert.FfnsIdeal.nD Cert.FfnsIdeal.τ).loc Cert.FfnsIdeal.main_v8_0) = v0 c
          ∧ r.2.mem ((c.tc : Thread Cert.FfnsIdeal.nD Cert.FfnsIdeal.τ).loc Cert.FfnsIdeal.main_v8_1) = v1 c
          ∧ r.2.mem ((c.tc : Thread Cert.FfnsIdeal.nD Cert.FfnsIdeal.τ).loc Cert.FfnsIdeal.main_arg0) = m ((c.tc : Thread Cert.FfnsIdeal.nD Cert.FfnsIdeal.τ).loc Cert.FfnsIdeal.main_arg0)
          ∧ r.2.mem ((c.tc : Thread Cert.FfnsIdeal.nD Cert.FfnsIdeal.τ).loc Cert.FfnsIdeal.main_arg1) = m ((c.tc : Thread Cert.FfnsIdeal.nD Cert.FfnsIdeal.τ).loc Cert.FfnsIdeal.main_arg1)
          ∧ r.2.mem ((c.tc : Thread Cert.FfnsIdeal.nD Cert.FfnsIdeal.τ).loc Cert.FfnsIdeal.main_arg2) = m ((c.tc : Thread Cert.FfnsIdeal.nD Cert.FfnsIdeal.τ).loc Cert.FfnsIdeal.main_arg2)
          ∧ r.2.mem ((c.tc : Thread Cert.FfnsIdeal.nD Cert.FfnsIdeal.τ).loc Cert.FfnsIdeal.main_arg3) = m ((c.tc : Thread Cert.FfnsIdeal.nD Cert.FfnsIdeal.τ).loc Cert.FfnsIdeal.main_arg3)
          ∧ r.2.mem ((c.tc : Thread Cert.FfnsIdeal.nD Cert.FfnsIdeal.τ).loc Cert.FfnsIdeal.main_arg4) = m ((c.tc : Thread Cert.FfnsIdeal.nD Cert.FfnsIdeal.τ).loc Cert.FfnsIdeal.main_arg4)
          ∧ r.2.mem ((c.tc : Thread Cert.FfnsIdeal.nD Cert.FfnsIdeal.τ).loc Cert.FfnsIdeal.main_arg5) = m ((c.tc : Thread Cert.FfnsIdeal.nD Cert.FfnsIdeal.τ).loc Cert.FfnsIdeal.main_arg5)
          ∧ r.2.mem ((c.tc : Thread Cert.FfnsIdeal.nD Cert.FfnsIdeal.τ).loc Cert.FfnsIdeal.main_arg6) = m ((c.tc : Thread Cert.FfnsIdeal.nD Cert.FfnsIdeal.τ).loc Cert.FfnsIdeal.main_arg6))
      ∧ θ_run (Cert.FfnsRefIdeal.defs (F := Ideal)) (onTc (τ := Cert.FfnsRefIdeal.τ) (Cert.FfnsRefIdeal.main (F := Ideal))) ⟨m', fun _ => 0, g'⟩ (fun r => ∀ c : Dev Cert.FfnsRefIdeal.nD,
          r.2.mem ((c.tc : Thread Cert.FfnsRefIdeal.nD Cert.FfnsRefIdeal.τ).loc Cert.FfnsRefIdeal.main_v59) = v0 c
          ∧ r.2.mem ((c.tc : Thread Cert.FfnsRefIdeal.nD Cert.FfnsRefIdeal.τ).loc Cert.FfnsRefIdeal.main_v61) = v1 c
          ∧ r.2.mem ((c.tc : Thread Cert.FfnsRefIdeal.nD Cert.FfnsRefIdeal.τ).loc Cert.FfnsRefIdeal.main_arg0) = m' ((c.tc : Thread Cert.FfnsRefIdeal.nD Cert.FfnsRefIdeal.τ).loc Cert.FfnsRefIdeal.main_arg0)
          ∧ r.2.mem ((c.tc : Thread Cert.FfnsRefIdeal.nD Cert.FfnsRefIdeal.τ).loc Cert.FfnsRefIdeal.main_arg1) = m' ((c.tc : Thread Cert.FfnsRefIdeal.nD Cert.FfnsRefIdeal.τ).loc Cert.FfnsRefIdeal.main_arg1)
          ∧ r.2.mem ((c.tc : Thread Cert.FfnsRefIdeal.nD Cert.FfnsRefIdeal.τ).loc Cert.FfnsRefIdeal.main_arg2) = m' ((c.tc : Thread Cert.FfnsRefIdeal.nD Cert.FfnsRefIdeal.τ).loc Cert.FfnsRefIdeal.main_arg2)
          ∧ r.2.mem ((c.tc : Thread Cert.FfnsRefIdeal.nD Cert.FfnsRefIdeal.τ).loc Cert.FfnsRefIdeal.main_arg3) = m' ((c.tc : Thread Cert.FfnsRefIdeal.nD Cert.FfnsRefIdeal.τ).loc Cert.FfnsRefIdeal.main_arg3)
          ∧ r.2.mem ((c.tc : Thread Cert.FfnsRefIdeal.nD Cert.FfnsRefIdeal.τ).loc Cert.FfnsRefIdeal.main_arg4) = m' ((c.tc : Thread Cert.FfnsRefIdeal.nD Cert.FfnsRefIdeal.τ).loc Cert.FfnsRefIdeal.main_arg4)
          ∧ r.2.mem ((c.tc : Thread Cert.FfnsRefIdeal.nD Cert.FfnsRefIdeal.τ).loc Cert.FfnsRefIdeal.main_arg5) = m' ((c.tc : Thread Cert.FfnsRefIdeal.nD Cert.FfnsRefIdeal.τ).loc Cert.FfnsRefIdeal.main_arg5)
          ∧ r.2.mem ((c.tc : Thread Cert.FfnsRefIdeal.nD Cert.FfnsRefIdeal.τ).loc Cert.FfnsRefIdeal.main_arg6) = m' ((c.tc : Thread Cert.FfnsRefIdeal.nD Cert.FfnsRefIdeal.τ).loc Cert.FfnsRefIdeal.main_arg6))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Norms_NormsIdeal : Prop :=
  True

def algebraic_NormsIdeal_NormsRefIdeal [hNormsIdeal : Cert.NormsIdeal.Facts] [hNormsRefIdeal : Cert.NormsRefIdeal.Facts] : Prop :=
  ∀ (m : (ℓ : Loc Cert.NormsIdeal.nD Cert.NormsIdeal.τ Cert.NormsIdeal.sig) → Buf (Elt Ideal) ℓ) (g : Dev Cert.NormsIdeal.nD → PrngReg)
    (m' : (ℓ : Loc Cert.NormsRefIdeal.nD Cert.NormsRefIdeal.τ Cert.NormsRefIdeal.sig) → Buf (Elt Ideal) ℓ) (g' : Dev Cert.NormsRefIdeal.nD → PrngReg), Pre_NormsIdeal m →
    (∀ c : Dev Cert.NormsIdeal.nD,
      m' ((c.tc : Thread Cert.NormsRefIdeal.nD Cert.NormsRefIdeal.τ).loc Cert.NormsRefIdeal.main_arg0) = m ((c.tc : Thread Cert.NormsIdeal.nD Cert.NormsIdeal.τ).loc Cert.NormsIdeal.main_arg0)
      ∧ m' ((c.tc : Thread Cert.NormsRefIdeal.nD Cert.NormsRefIdeal.τ).loc Cert.NormsRefIdeal.main_arg1) = m ((c.tc : Thread Cert.NormsIdeal.nD Cert.NormsIdeal.τ).loc Cert.NormsIdeal.main_arg1)) →
    ∃ (v0 : (c : Dev Cert.NormsIdeal.nD) → Buf (Elt Ideal) ((c.tc : Thread Cert.NormsIdeal.nD Cert.NormsIdeal.τ).loc Cert.NormsIdeal.main_v1)),
      θ_run (Cert.NormsIdeal.defs (F := Ideal)) (onTc (τ := Cert.NormsIdeal.τ) (Cert.NormsIdeal.main (F := Ideal))) ⟨m, fun _ => 0, g⟩ (fun r => ∀ c : Dev Cert.NormsIdeal.nD,
          r.2.mem ((c.tc : Thread Cert.NormsIdeal.nD Cert.NormsIdeal.τ).loc Cert.NormsIdeal.main_v1) = v0 c
          ∧ r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
          ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1))
      ∧ θ_run (Cert.NormsRefIdeal.defs (F := Ideal)) (onTc (τ := Cert.NormsRefIdeal.τ) (Cert.NormsRefIdeal.main (F := Ideal))) ⟨m', fun _ => 0, g'⟩ (fun r => ∀ c : Dev Cert.NormsRefIdeal.nD,
          r.2.mem ((c.tc : Thread Cert.NormsRefIdeal.nD Cert.NormsRefIdeal.τ).loc Cert.NormsRefIdeal.main_v12) = v0 c
          ∧ r.2.mem ((c.tc : Thread Cert.NormsRefIdeal.nD Cert.NormsRefIdeal.τ).loc Cert.NormsRefIdeal.main_arg0) = m' ((c.tc : Thread Cert.NormsRefIdeal.nD Cert.NormsRefIdeal.τ).loc Cert.NormsRefIdeal.main_arg0)
          ∧ r.2.mem ((c.tc : Thread Cert.NormsRefIdeal.nD Cert.NormsRefIdeal.τ).loc Cert.NormsRefIdeal.main_arg1) = m' ((c.tc : Thread Cert.NormsRefIdeal.nD Cert.NormsRefIdeal.τ).loc Cert.NormsRefIdeal.main_arg1))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)) →
    ∃ (v0 : (c : Dev Cert.InprojIdeal.nD) → Buf (Elt Ideal) ((c.tc : Thread Cert.InprojIdeal.nD Cert.InprojIdeal.τ).loc Cert.InprojIdeal.main_v57_0)) (v1 : (c : Dev Cert.InprojIdeal.nD) → Buf (Elt Ideal) ((c.tc : Thread Cert.InprojIdeal.nD Cert.InprojIdeal.τ).loc Cert.InprojIdeal.main_v57_1)) (v2 : (c : Dev Cert.InprojIdeal.nD) → Buf (Elt Ideal) ((c.tc : Thread Cert.InprojIdeal.nD Cert.InprojIdeal.τ).loc Cert.InprojIdeal.main_v57_2)) (v3 : (c : Dev Cert.InprojIdeal.nD) → Buf (Elt Ideal) ((c.tc : Thread Cert.InprojIdeal.nD Cert.InprojIdeal.τ).loc Cert.InprojIdeal.main_v57_3)) (v4 : (c : Dev Cert.InprojIdeal.nD) → Buf (Elt Ideal) ((c.tc : Thread Cert.InprojIdeal.nD Cert.InprojIdeal.τ).loc Cert.InprojIdeal.main_v57_4)) (v5 : (c : Dev Cert.InprojIdeal.nD) → Buf (Elt Ideal) ((c.tc : Thread Cert.InprojIdeal.nD Cert.InprojIdeal.τ).loc Cert.InprojIdeal.main_v57_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v57_0) = v0 c
          ∧ r.2.mem ((c.tc : Thread Cert.InprojIdeal.nD Cert.InprojIdeal.τ).loc Cert.InprojIdeal.main_v57_1) = v1 c
          ∧ r.2.mem ((c.tc : Thread Cert.InprojIdeal.nD Cert.InprojIdeal.τ).loc Cert.InprojIdeal.main_v57_2) = v2 c
          ∧ r.2.mem ((c.tc : Thread Cert.InprojIdeal.nD Cert.InprojIdeal.τ).loc Cert.InprojIdeal.main_v57_3) = v3 c
          ∧ r.2.mem ((c.tc : Thread Cert.InprojIdeal.nD Cert.InprojIdeal.τ).loc Cert.InprojIdeal.main_v57_4) = v4 c
          ∧ r.2.mem ((c.tc : Thread Cert.InprojIdeal.nD Cert.InprojIdeal.τ).loc Cert.InprojIdeal.main_v57_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v100) = v0 c
          ∧ r.2.mem ((c.tc : Thread Cert.InprojRefIdeal.nD Cert.InprojRefIdeal.τ).loc Cert.InprojRefIdeal.main_v106) = v1 c
          ∧ r.2.mem ((c.tc : Thread Cert.InprojRefIdeal.nD Cert.InprojRefIdeal.τ).loc Cert.InprojRefIdeal.main_v102) = v2 c
          ∧ r.2.mem ((c.tc : Thread Cert.InprojRefIdeal.nD Cert.InprojRefIdeal.τ).loc Cert.InprojRefIdeal.main_v107) = v3 c
          ∧ r.2.mem ((c.tc : Thread Cert.InprojRefIdeal.nD Cert.InprojRefIdeal.τ).loc Cert.InprojRefIdeal.main_v108) = v4 c
          ∧ r.2.mem ((c.tc : Thread Cert.InprojRefIdeal.nD Cert.InprojRefIdeal.τ).loc Cert.InprojRefIdeal.main_v105) = v5 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9))

def preserves_Inprojs_InprojsIdeal : Prop :=
  True

def algebraic_InprojsIdeal_InprojsRefIdeal [hInprojsIdeal : Cert.InprojsIdeal.Facts] [hInprojsRefIdeal : Cert.InprojsRefIdeal.Facts] : Prop :=
  ∀ (m : (ℓ : Loc Cert.InprojsIdeal.nD Cert.InprojsIdeal.τ Cert.InprojsIdeal.sig) → Buf (Elt Ideal) ℓ) (g : Dev Cert.InprojsIdeal.nD → PrngReg)
    (m' : (ℓ : Loc Cert.InprojsRefIdeal.nD Cert.InprojsRefIdeal.τ Cert.InprojsRefIdeal.sig) → Buf (Elt Ideal) ℓ) (g' : Dev Cert.InprojsRefIdeal.nD → PrngReg), Pre_InprojsIdeal m →
    (∀ c : Dev Cert.InprojsIdeal.nD,
      m' ((c.tc : Thread Cert.InprojsRefIdeal.nD Cert.InprojsRefIdeal.τ).loc Cert.InprojsRefIdeal.main_arg0) = m ((c.tc : Thread Cert.InprojsIdeal.nD Cert.InprojsIdeal.τ).loc Cert.InprojsIdeal.main_arg0)
      ∧ m' ((c.tc : Thread Cert.InprojsRefIdeal.nD Cert.InprojsRefIdeal.τ).loc Cert.InprojsRefIdeal.main_arg1) = m ((c.tc : Thread Cert.InprojsIdeal.nD Cert.InprojsIdeal.τ).loc Cert.InprojsIdeal.main_arg1)
      ∧ m' ((c.tc : Thread Cert.InprojsRefIdeal.nD Cert.InprojsRefIdeal.τ).loc Cert.InprojsRefIdeal.main_arg2) = m ((c.tc : Thread Cert.InprojsIdeal.nD Cert.InprojsIdeal.τ).loc Cert.InprojsIdeal.main_arg2)
      ∧ m' ((c.tc : Thread Cert.InprojsRefIdeal.nD Cert.InprojsRefIdeal.τ).loc Cert.InprojsRefIdeal.main_arg3) = m ((c.tc : Thread Cert.InprojsIdeal.nD Cert.InprojsIdeal.τ).loc Cert.InprojsIdeal.main_arg3)
      ∧ m' ((c.tc : Thread Cert.InprojsRefIdeal.nD Cert.InprojsRefIdeal.τ).loc Cert.InprojsRefIdeal.main_arg4) = m ((c.tc : Thread Cert.InprojsIdeal.nD Cert.InprojsIdeal.τ).loc Cert.InprojsIdeal.main_arg4)
      ∧ m' ((c.tc : Thread Cert.InprojsRefIdeal.nD Cert.InprojsRefIdeal.τ).loc Cert.InprojsRefIdeal.main_arg5) = m ((c.tc : Thread Cert.InprojsIdeal.nD Cert.InprojsIdeal.τ).loc Cert.InprojsIdeal.main_arg5)
      ∧ m' ((c.tc : Thread Cert.InprojsRefIdeal.nD Cert.InprojsRefIdeal.τ).loc Cert.InprojsRefIdeal.main_arg6) = m ((c.tc : Thread Cert.InprojsIdeal.nD Cert.InprojsIdeal.τ).loc Cert.InprojsIdeal.main_arg6)) →
    ∃ (v0 : (c : Dev Cert.InprojsIdeal.nD) → Buf (Elt Ideal) ((c.tc : Thread Cert.InprojsIdeal.nD Cert.InprojsIdeal.τ).loc Cert.InprojsIdeal.main_v57_0)) (v1 : (c : Dev Cert.InprojsIdeal.nD) → Buf (Elt Ideal) ((c.tc : Thread Cert.InprojsIdeal.nD Cert.InprojsIdeal.τ).loc Cert.InprojsIdeal.main_v57_1)) (v2 : (c : Dev Cert.InprojsIdeal.nD) → Buf (Elt Ideal) ((c.tc : Thread Cert.InprojsIdeal.nD Cert.InprojsIdeal.τ).loc Cert.InprojsIdeal.main_v57_2)) (v3 : (c : Dev Cert.InprojsIdeal.nD) → Buf (Elt Ideal) ((c.tc : Thread Cert.InprojsIdeal.nD Cert.InprojsIdeal.τ).loc Cert.InprojsIdeal.main_v57_3)) (v4 : (c : Dev Cert.InprojsIdeal.nD) → Buf (Elt Ideal) ((c.tc : Thread Cert.InprojsIdeal.nD Cert.InprojsIdeal.τ).loc Cert.InprojsIdeal.main_v57_4)) (v5 : (c : Dev Cert.InprojsIdeal.nD) → Buf (Elt Ideal) ((c.tc : Thread Cert.InprojsIdeal.nD Cert.InprojsIdeal.τ).loc Cert.InprojsIdeal.main_v57_5)) (v6 : (c : Dev Cert.InprojsIdeal.nD) → Buf (Elt Ideal) ((c.tc : Thread Cert.InprojsIdeal.nD Cert.InprojsIdeal.τ).loc Cert.InprojsIdeal.main_v57_6)),
      θ_run (Cert.InprojsIdeal.defs (F := Ideal)) (onTc (τ := Cert.InprojsIdeal.τ) (Cert.InprojsIdeal.main (F := Ideal))) ⟨m, fun _ => 0, g⟩ (fun r => ∀ c : Dev Cert.InprojsIdeal.nD,
          r.2.mem ((c.tc : Thread Cert.InprojsIdeal.nD Cert.InprojsIdeal.τ).loc Cert.InprojsIdeal.main_v57_0) = v0 c
          ∧ r.2.mem ((c.tc : Thread Cert.InprojsIdeal.nD Cert.InprojsIdeal.τ).loc Cert.InprojsIdeal.main_v57_1) = v1 c
          ∧ r.2.mem ((c.tc : Thread Cert.InprojsIdeal.nD Cert.InprojsIdeal.τ).loc Cert.InprojsIdeal.main_v57_2) = v2 c
          ∧ r.2.mem ((c.tc : Thread Cert.InprojsIdeal.nD Cert.InprojsIdeal.τ).loc Cert.InprojsIdeal.main_v57_3) = v3 c
          ∧ r.2.mem ((c.tc : Thread Cert.InprojsIdeal.nD Cert.InprojsIdeal.τ).loc Cert.InprojsIdeal.main_v57_4) = v4 c
          ∧ r.2.mem ((c.tc : Thread Cert.InprojsIdeal.nD Cert.InprojsIdeal.τ).loc Cert.InprojsIdeal.main_v57_5) = v5 c
          ∧ r.2.mem ((c.tc : Thread Cert.InprojsIdeal.nD Cert.InprojsIdeal.τ).loc Cert.InprojsIdeal.main_v57_6) = v6 c
          ∧ r.2.mem ((c.tc : Thread Cert.InprojsIdeal.nD Cert.InprojsIdeal.τ).loc Cert.InprojsIdeal.main_arg0) = m ((c.tc : Thread Cert.InprojsIdeal.nD Cert.InprojsIdeal.τ).loc Cert.InprojsIdeal.main_arg0)
          ∧ r.2.mem ((c.tc : Thread Cert.InprojsIdeal.nD Cert.InprojsIdeal.τ).loc Cert.InprojsIdeal.main_arg1) = m ((c.tc : Thread Cert.InprojsIdeal.nD Cert.InprojsIdeal.τ).loc Cert.InprojsIdeal.main_arg1)
          ∧ r.2.mem ((c.tc : Thread Cert.InprojsIdeal.nD Cert.InprojsIdeal.τ).loc Cert.InprojsIdeal.main_arg2) = m ((c.tc : Thread Cert.InprojsIdeal.nD Cert.InprojsIdeal.τ).loc Cert.InprojsIdeal.main_arg2)
          ∧ r.2.mem ((c.tc : Thread Cert.InprojsIdeal.nD Cert.InprojsIdeal.τ).loc Cert.InprojsIdeal.main_arg3) = m ((c.tc : Thread Cert.InprojsIdeal.nD Cert.InprojsIdeal.τ).loc Cert.InprojsIdeal.main_arg3)
          ∧ r.2.mem ((c.tc : Thread Cert.InprojsIdeal.nD Cert.InprojsIdeal.τ).loc Cert.InprojsIdeal.main_arg4) = m ((c.tc : Thread Cert.InprojsIdeal.nD Cert.InprojsIdeal.τ).loc Cert.InprojsIdeal.main_arg4)
          ∧ r.2.mem ((c.tc : Thread Cert.InprojsIdeal.nD Cert.InprojsIdeal.τ).loc Cert.InprojsIdeal.main_arg5) = m ((c.tc : Thread Cert.InprojsIdeal.nD Cert.InprojsIdeal.τ).loc Cert.InprojsIdeal.main_arg5)
          ∧ r.2.mem ((c.tc : Thread Cert.InprojsIdeal.nD Cert.InprojsIdeal.τ).loc Cert.InprojsIdeal.main_arg6) = m ((c.tc : Thread Cert.InprojsIdeal.nD Cert.InprojsIdeal.τ).loc Cert.InprojsIdeal.main_arg6))
      ∧ θ_run (Cert.InprojsRefIdeal.defs (F := Ideal)) (onTc (τ := Cert.InprojsRefIdeal.τ) (Cert.InprojsRefIdeal.main (F := Ideal))) ⟨m', fun _ => 0, g'⟩ (fun r => ∀ c : Dev Cert.InprojsRefIdeal.nD,
          r.2.mem ((c.tc : Thread Cert.InprojsRefIdeal.nD Cert.InprojsRefIdeal.τ).loc Cert.InprojsRefIdeal.main_v98) = v0 c
          ∧ r.2.mem ((c.tc : Thread Cert.InprojsRefIdeal.nD Cert.InprojsRefIdeal.τ).loc Cert.InprojsRefIdeal.main_v104) = v1 c
          ∧ r.2.mem ((c.tc : Thread Cert.InprojsRefIdeal.nD Cert.InprojsRefIdeal.τ).loc Cert.InprojsRefIdeal.main_v100) = v2 c
          ∧ r.2.mem ((c.tc : Thread Cert.InprojsRefIdeal.nD Cert.InprojsRefIdeal.τ).loc Cert.InprojsRefIdeal.main_v105) = v3 c
          ∧ r.2.mem ((c.tc : Thread Cert.InprojsRefIdeal.nD Cert.InprojsRefIdeal.τ).loc Cert.InprojsRefIdeal.main_v106) = v4 c
          ∧ r.2.mem ((c.tc : Thread Cert.InprojsRefIdeal.nD Cert.InprojsRefIdeal.τ).loc Cert.InprojsRefIdeal.main_v103) = v5 c
          ∧ r.2.mem ((c.tc : Thread Cert.InprojsRefIdeal.nD Cert.InprojsRefIdeal.τ).loc Cert.InprojsRefIdeal.main_v109) = v6 c
          ∧ r.2.mem ((c.tc : Thread Cert.InprojsRefIdeal.nD Cert.InprojsRefIdeal.τ).loc Cert.InprojsRefIdeal.main_arg0) = m' ((c.tc : Thread Cert.InprojsRefIdeal.nD Cert.InprojsRefIdeal.τ).loc Cert.InprojsRefIdeal.main_arg0)
          ∧ r.2.mem ((c.tc : Thread Cert.InprojsRefIdeal.nD Cert.InprojsRefIdeal.τ).loc Cert.InprojsRefIdeal.main_arg1) = m' ((c.tc : Thread Cert.InprojsRefIdeal.nD Cert.InprojsRefIdeal.τ).loc Cert.InprojsRefIdeal.main_arg1)
          ∧ r.2.mem ((c.tc : Thread Cert.InprojsRefIdeal.nD Cert.InprojsRefIdeal.τ).loc Cert.InprojsRefIdeal.main_arg2) = m' ((c.tc : Thread Cert.InprojsRefIdeal.nD Cert.InprojsRefIdeal.τ).loc Cert.InprojsRefIdeal.main_arg2)
          ∧ r.2.mem ((c.tc : Thread Cert.InprojsRefIdeal.nD Cert.InprojsRefIdeal.τ).loc Cert.InprojsRefIdeal.main_arg3) = m' ((c.tc : Thread Cert.InprojsRefIdeal.nD Cert.InprojsRefIdeal.τ).loc Cert.InprojsRefIdeal.main_arg3)
          ∧ r.2.mem ((c.tc : Thread Cert.InprojsRefIdeal.nD Cert.InprojsRefIdeal.τ).loc Cert.InprojsRefIdeal.main_arg4) = m' ((c.tc : Thread Cert.InprojsRefIdeal.nD Cert.InprojsRefIdeal.τ).loc Cert.InprojsRefIdeal.main_arg4)
          ∧ r.2.mem ((c.tc : Thread Cert.InprojsRefIdeal.nD Cert.InprojsRefIdeal.τ).loc Cert.InprojsRefIdeal.main_arg5) = m' ((c.tc : Thread Cert.InprojsRefIdeal.nD Cert.InprojsRefIdeal.τ).loc Cert.InprojsRefIdeal.main_arg5)
          ∧ r.2.mem ((c.tc : Thread Cert.InprojsRefIdeal.nD Cert.InprojsRefIdeal.τ).loc Cert.InprojsRefIdeal.main_arg6) = m' ((c.tc : Thread Cert.InprojsRefIdeal.nD Cert.InprojsRefIdeal.τ).loc Cert.InprojsRefIdeal.main_arg6))

def preserves_Mix_MixIdeal : Prop :=
  True

def algebraic_MixIdeal_MixRefIdeal_pre_finite_log_alpha [hMixIdeal : Cert.MixIdeal.Facts] [hMixRefIdeal : Cert.MixRefIdeal.Facts] [hPre_finite_log_alpha : Cert.Pre_finite_log_alpha.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_log_alpha m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)
      ∧ m' ((c.tc : Thread Cert.MixRefIdeal.nD Cert.MixRefIdeal.τ).loc Cert.MixRefIdeal.main_arg16) = m ((c.tc : Thread Cert.MixIdeal.nD Cert.MixIdeal.τ).loc Cert.MixIdeal.main_arg16)
      ∧ m' ((c.tc : Thread Cert.MixRefIdeal.nD Cert.MixRefIdeal.τ).loc Cert.MixRefIdeal.main_arg17) = m ((c.tc : Thread Cert.MixIdeal.nD Cert.MixIdeal.τ).loc Cert.MixIdeal.main_arg17)) →
    ∃ (v0 : (c : Dev Cert.MixIdeal.nD) → Buf (Elt Ideal) ((c.tc : Thread Cert.MixIdeal.nD Cert.MixIdeal.τ).loc Cert.MixIdeal.main_v83_1)) (v1 : (c : Dev Cert.MixIdeal.nD) → Buf (Elt Ideal) ((c.tc : Thread Cert.MixIdeal.nD Cert.MixIdeal.τ).loc Cert.MixIdeal.main_v83_3)) (v2 : (c : Dev Cert.MixIdeal.nD) → Buf (Elt Ideal) ((c.tc : Thread Cert.MixIdeal.nD Cert.MixIdeal.τ).loc Cert.MixIdeal.main_v83_5)) (v3 : (c : Dev Cert.MixIdeal.nD) → Buf (Elt Ideal) ((c.tc : Thread Cert.MixIdeal.nD Cert.MixIdeal.τ).loc Cert.MixIdeal.main_v83_6)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v83_1) = v0 c
          ∧ r.2.mem ((c.tc : Thread Cert.MixIdeal.nD Cert.MixIdeal.τ).loc Cert.MixIdeal.main_v83_3) = v1 c
          ∧ r.2.mem ((c.tc : Thread Cert.MixIdeal.nD Cert.MixIdeal.τ).loc Cert.MixIdeal.main_v83_5) = v2 c
          ∧ r.2.mem ((c.tc : Thread Cert.MixIdeal.nD Cert.MixIdeal.τ).loc Cert.MixIdeal.main_v83_6) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
          ∧ r.2.mem ((c.tc : Thread Cert.MixIdeal.nD Cert.MixIdeal.τ).loc Cert.MixIdeal.main_arg17) = m ((c.tc : Thread Cert.MixIdeal.nD Cert.MixIdeal.τ).loc Cert.MixIdeal.main_arg17))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v36) = v0 c
          ∧ r.2.mem ((c.tc : Thread Cert.MixRefIdeal.nD Cert.MixRefIdeal.τ).loc Cert.MixRefIdeal.main_v61) = v1 c
          ∧ r.2.mem ((c.tc : Thread Cert.MixRefIdeal.nD Cert.MixRefIdeal.τ).loc Cert.MixRefIdeal.main_v87) = v2 c
          ∧ r.2.mem ((c.tc : Thread Cert.MixRefIdeal.nD Cert.MixRefIdeal.τ).loc Cert.MixRefIdeal.main_v88) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15)
          ∧ r.2.mem ((c.tc : Thread Cert.MixRefIdeal.nD Cert.MixRefIdeal.τ).loc Cert.MixRefIdeal.main_arg16) = m' ((c.tc : Thread Cert.MixRefIdeal.nD Cert.MixRefIdeal.τ).loc Cert.MixRefIdeal.main_arg16)
          ∧ r.2.mem ((c.tc : Thread Cert.MixRefIdeal.nD Cert.MixRefIdeal.τ).loc Cert.MixRefIdeal.main_arg17) = m' ((c.tc : Thread Cert.MixRefIdeal.nD Cert.MixRefIdeal.τ).loc Cert.MixRefIdeal.main_arg17))

def Claim : Prop :=
  ∃ (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hFfns : Cert.Ffns.Facts) (hFfnsIdeal : Cert.FfnsIdeal.Facts) (hFfnsRefIdeal : Cert.FfnsRefIdeal.Facts) (hNorm : Cert.Norm.Facts) (hNormIdeal : Cert.NormIdeal.Facts) (hNormRefIdeal : Cert.NormRefIdeal.Facts) (hNorms : Cert.Norms.Facts) (hNormsIdeal : Cert.NormsIdeal.Facts) (hNormsRefIdeal : Cert.NormsRefIdeal.Facts) (hInproj : Cert.Inproj.Facts) (hInprojIdeal : Cert.InprojIdeal.Facts) (hInprojRefIdeal : Cert.InprojRefIdeal.Facts) (hInprojs : Cert.Inprojs.Facts) (hInprojsIdeal : Cert.InprojsIdeal.Facts) (hInprojsRefIdeal : Cert.InprojsRefIdeal.Facts) (hMix : Cert.Mix.Facts) (hMixIdeal : Cert.MixIdeal.Facts) (hMixRefIdeal : Cert.MixRefIdeal.Facts) (hPre_finite_log_alpha : Cert.Pre_finite_log_alpha.Facts),
    quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Ffns (hFfns := hFfns)
    ∧ quiescent_FfnsIdeal (hFfnsIdeal := hFfnsIdeal)
    ∧ quiescent_FfnsRefIdeal (hFfnsRefIdeal := hFfnsRefIdeal)
    ∧ quiescent_Norm (hNorm := hNorm)
    ∧ quiescent_NormIdeal (hNormIdeal := hNormIdeal)
    ∧ quiescent_NormRefIdeal (hNormRefIdeal := hNormRefIdeal)
    ∧ quiescent_Norms (hNorms := hNorms)
    ∧ quiescent_NormsIdeal (hNormsIdeal := hNormsIdeal)
    ∧ quiescent_NormsRefIdeal (hNormsRefIdeal := hNormsRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Inprojs (hInprojs := hInprojs)
    ∧ quiescent_InprojsIdeal (hInprojsIdeal := hInprojsIdeal)
    ∧ quiescent_InprojsRefIdeal (hInprojsRefIdeal := hInprojsRefIdeal)
    ∧ quiescent_Mix (hMix := hMix)
    ∧ quiescent_MixIdeal (hMixIdeal := hMixIdeal)
    ∧ quiescent_MixIdeal_pre_finite_log_alpha (hMixIdeal := hMixIdeal) (hPre_finite_log_alpha := hPre_finite_log_alpha)
    ∧ quiescent_MixRefIdeal (hMixRefIdeal := hMixRefIdeal)
    ∧ quiescent_MixRefIdeal_pre_finite_log_alpha (hMixRefIdeal := hMixRefIdeal) (hPre_finite_log_alpha := hPre_finite_log_alpha)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_Ffns_FfnsIdeal
    ∧ algebraic_FfnsIdeal_FfnsRefIdeal (hFfnsIdeal := hFfnsIdeal) (hFfnsRefIdeal := hFfnsRefIdeal)
    ∧ preserves_Norm_NormIdeal
    ∧ algebraic_NormIdeal_NormRefIdeal (hNormIdeal := hNormIdeal) (hNormRefIdeal := hNormRefIdeal)
    ∧ preserves_Norms_NormsIdeal
    ∧ algebraic_NormsIdeal_NormsRefIdeal (hNormsIdeal := hNormsIdeal) (hNormsRefIdeal := hNormsRefIdeal)
    ∧ preserves_Inproj_InprojIdeal
    ∧ algebraic_InprojIdeal_InprojRefIdeal (hInprojIdeal := hInprojIdeal) (hInprojRefIdeal := hInprojRefIdeal)
    ∧ preserves_Inprojs_InprojsIdeal
    ∧ algebraic_InprojsIdeal_InprojsRefIdeal (hInprojsIdeal := hInprojsIdeal) (hInprojsRefIdeal := hInprojsRefIdeal)
    ∧ preserves_Mix_MixIdeal
    ∧ algebraic_MixIdeal_MixRefIdeal_pre_finite_log_alpha (hMixIdeal := hMixIdeal) (hMixRefIdeal := hMixRefIdeal) (hPre_finite_log_alpha := hPre_finite_log_alpha)
-- ==== Pre_finite_log_alpha.lean ====
abbrev S32x1024 : Shape := ⟨2, ![32, 1024]⟩
abbrev S32x896 : Shape := ⟨2, ![32, 896]⟩
abbrev S32x256 : Shape := ⟨2, ![32, 256]⟩
abbrev S32x4x64x64 : Shape := ⟨4, ![32, 4, 64, 64]⟩
abbrev S32x4x32x64 : Shape := ⟨4, ![32, 4, 32, 64]⟩
abbrev S32x16x64 : Shape := ⟨3, ![32, 16, 64]⟩
abbrev S256 : Shape := ⟨1, ![256]⟩
abbrev S16x64 : Shape := ⟨2, ![16, 64]⟩
abbrev S16x16x64 : Shape := ⟨3, ![16, 16, 64]⟩
abbrev S256x256 : Shape := ⟨2, ![256, 256]⟩
abbrev S32x128 : Shape := ⟨2, ![32, 128]⟩
abbrev S_ : Shape := ⟨0, ![]⟩

class Facts : Prop where
  slices_S32x896_S32x128_0_768 : S32x896.Slices ![0, 768] S32x128
  bcast_S_S32x128 : S_.BroadcastsInDim S32x128 (![] : Fin 0 → Fin S32x128.rank)
  reducesTo_S32x128_S_d0_1 : S32x128.ReducesTo [0, 1] S_
  h_S_ : 0 < S_.numel

variable [Facts]

def fn {F : FTy → Type} [FloatOps F] (main_arg0 : FVec F S32x1024 .f32) (main_arg1 : FVec F S32x896 .f32) (main_arg2 : FVec F S32x256 .f32) (main_arg3 : FVec F S32x4x64x64 .f32) (main_arg4 : FVec F S32x4x32x64 .f32) (main_arg5 : FVec F S32x16x64 .f32) (main_arg6 : FVec F S32x16x64 .f32) (main_arg7 : FVec F S256 .f32) (main_arg8 : FVec F S256 .f32) (main_arg9 : FVec F S16x64 .f32) (main_arg10 : FVec F S16x64 .f32) (main_arg11 : FVec F S16x16x64 .f32) (main_arg12 : FVec F S16x16x64 .f32) (main_arg13 : FVec F S16x16x64 .f32) (main_arg14 : FVec F S16x16x64 .f32) (main_arg15 : FVec F S256 .f32) (main_arg16 : FVec F S256x256 .f32) (main_arg17 : FVec F S256 .f32) : IVec S_ 1 :=
  let main_v0 : FVec F S32x128 .f32 := (extractStridedSlice S32x128 ![0, 768] · slices_S32x896_S32x128_0_768) main_arg1
  let main_v1 : FVec F S32x128 .f32 := Host.absf main_v0
  let main_cst : FVec F S_ .f32 := constant S_ .f32 0x7F800000#32
  let main_v2 : FVec F S32x128 .f32 := broadcastInDim S32x128 ![] bcast_S_S32x128 main_cst
  let main_v3 : IVec S32x128 1 := cmpf .olt main_v1 main_v2
  let main_c : IVec S_ 1 := constantI S_ 1 1#1
  let main_v4 : IVec S_ 1 := (fun x v => Host.reduce IntOp.andi x v reducesTo_S32x128_S_d0_1 h_S_) main_v3 main_c
  main_v4
-- ==== Merge.lean ====
abbrev S16384x1024 : Shape := ⟨2, ![16384, 1024]⟩
abbrev S16384x256 : Shape := ⟨2, ![16384, 256]⟩
abbrev S1024 : Shape := ⟨1, ![1024]⟩
abbrev S1024x4096 : Shape := ⟨2, ![1024, 4096]⟩
abbrev S4096 : Shape := ⟨1, ![4096]⟩
abbrev S4x256x1024 : Shape := ⟨3, ![4, 256, 1024]⟩
abbrev S1024x1024 : Shape := ⟨2, ![1024, 1024]⟩
abbrev S1x1024 : Shape := ⟨2, ![1, 1024]⟩
abbrev S1x4096 : Shape := ⟨2, ![1, 4096]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256x1024 : Shape := ⟨3, ![1, 256, 1024]⟩
abbrev S256x1024 : Shape := ⟨2, ![256, 1024]⟩

abbrev nBuf : Space → Nat
  | .hbm => 16
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S1024, .f32⟩
  | .hbm, ⟨6, _⟩ => ⟨S1024x4096, .f32⟩
  | .hbm, ⟨7, _⟩ => ⟨S4096, .f32⟩
  | .hbm, ⟨8, _⟩ => ⟨S4x256x1024, .f32⟩
  | .hbm, ⟨9, _⟩ => ⟨S1024x1024, .f32⟩
  | .hbm, ⟨10, _⟩ => ⟨S1x1024, .f32⟩
  | .hbm, ⟨11, _⟩ => ⟨S1024x4096, .bf16⟩
  | .hbm, ⟨12, _⟩ => ⟨S1x4096, .f32⟩
  | .hbm, ⟨13, _⟩ => ⟨S4x256x1024, .bf16⟩
  | .hbm, ⟨14, _⟩ => ⟨S1024x1024, .bf16⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1x1024, .f32⟩
  | .local _ .vmem, ⟨11, _⟩ => ⟨S1024x4096, .bf16⟩
  | .local _ .vmem, ⟨12, _⟩ => ⟨S1x4096, .f32⟩
  | .local _ .vmem, ⟨13, _⟩ => ⟨S4x256x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S16384x1024 : Shape := ⟨2, ![16384, 1024]⟩
abbrev S16384x256 : Shape := ⟨2, ![16384, 256]⟩
abbrev S1024 : Shape := ⟨1, ![1024]⟩
abbrev S1024x4096 : Shape := ⟨2, ![1024, 4096]⟩
abbrev S4096 : Shape := ⟨1, ![4096]⟩
abbrev S4x256x1024 : Shape := ⟨3, ![4, 256, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1x256 : Shape := ⟨3, ![16384, 1, 256]⟩
abbrev S16384x4x256 : Shape := ⟨3, ![16384, 4, 256]⟩
abbrev S4x1024x16384 : Shape := ⟨3, ![4, 1024, 16384]⟩
abbrev S16384x4x1024 : Shape := ⟨3, ![16384, 4, 1024]⟩
abbrev S16384x4096 : Shape := ⟨2, ![16384, 4096]⟩
abbrev S1x4096 : Shape := ⟨2, ![1, 4096]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S1024, .f32⟩
  | .hbm, ⟨6, _⟩ => ⟨S1024x4096, .f32⟩
  | .hbm, ⟨7, _⟩ => ⟨S4096, .f32⟩
  | .hbm, ⟨8, _⟩ => ⟨S4x256x1024, .f32⟩
  | .hbm, ⟨9, _⟩ => ⟨S1024x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x1x256, .f32⟩
  | .hbm, ⟨31, _⟩ => ⟨S16384x1x256, .f32⟩
  | .hbm, ⟨32, _⟩ => ⟨S16384x1x256, .f32⟩
  | .hbm, ⟨33, _⟩ => ⟨S16384x1x256, .f32⟩
  | .hbm, ⟨34, _⟩ => ⟨S16384x4x256, .f32⟩
  | .hbm, ⟨35, _⟩ => ⟨S4x1024x16384, .f32⟩
  | .hbm, ⟨36, _⟩ => ⟨S16384x4x1024, .f32⟩
  | .hbm, ⟨37, _⟩ => ⟨S16384x4096, .f32⟩
  | .hbm, ⟨38, _⟩ => ⟨S1x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384x4096, .f32⟩
  | .hbm, ⟨48, _⟩ => ⟨S16384x4096, .f32⟩
  | .hbm, ⟨49, _⟩ => ⟨S16384x4x1024, .f32⟩
  | .hbm, ⟨50, _⟩ => ⟨S16384x4x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S2x8x2816 : Shape := ⟨3, ![2, 8, 2816]⟩
abbrev S512x1024 : Shape := ⟨2, ![512, 1024]⟩
abbrev S1x8x2816 : Shape := ⟨3, ![1, 8, 2816]⟩
abbrev S8x2816 : Shape := ⟨2, ![8, 2816]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1x1408 : Shape := ⟨2, ![1, 1408]⟩
abbrev S8x1408 : Shape := ⟨2, ![8, 1408]⟩
abbrev S1x8x1408 : Shape := ⟨3, ![1, 8, 1408]⟩
abbrev S1408x1024 : Shape := ⟨2, ![1408, 1024]⟩

abbrev nBuf : Space → Nat
  | .hbm => 12
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1x1024, .f32⟩
  | .hbm, ⟨7, _⟩ => ⟨S1024x5632, .bf16⟩
  | .hbm, ⟨8, _⟩ => ⟨S1x2816, .f32⟩
  | .hbm, ⟨9, _⟩ => ⟨S2816x1024, .bf16⟩
  | .hbm, ⟨10, _⟩ => ⟨S16384x1024, .f32⟩
  | .hbm, ⟨11, _⟩ => ⟨S2x8x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S1x8x2816, .f32⟩
  | .local _ .vmem, ⟨10, _⟩ => ⟨S1x8x2816, .f32⟩
  | .local _ .vmem, ⟨11, _⟩ => ⟨S8x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S16384x1024 : Shape := ⟨2, ![16384, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S2x2x2816 : Shape := ⟨3, ![2, 2, 2816]⟩
abbrev S2x8194x2816 : Shape := ⟨3, ![2, 8194, 2816]⟩
abbrev S1x2816 : Shape := ⟨2, ![1, 2816]⟩
abbrev S1x1x2816 : Shape := ⟨3, ![1, 1, 2816]⟩
abbrev S2x8x2816 : Shape := ⟨3, ![2, 8, 2816]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S2x8192x1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S2x8192x5632, .f32⟩
  | .hbm, ⟨24, _⟩ => ⟨S2x8192x2816, .f32⟩
  | .hbm, ⟨25, _⟩ => ⟨S2x8192x2816, .f32⟩
  | .hbm, ⟨26, _⟩ => ⟨S_, .f32⟩
  | .hbm, ⟨27, _⟩ => ⟨S2x2x2816, .f32⟩
  | .hbm, ⟨28, _⟩ => ⟨S2x8194x2816, .f32⟩
  | .hbm, ⟨29, _⟩ => ⟨S1x2816, .f32⟩
  | .hbm, ⟨30, _⟩ => ⟨S2816, .f32⟩
  | .hbm, ⟨31, _⟩ => ⟨S2x8192x2816, .f32⟩
  | .hbm, ⟨32, _⟩ => ⟨S1x1x2816, .f32⟩
  | .hbm, ⟨33, _⟩ => ⟨S2x8192x2816, .f32⟩
  | .hbm, ⟨34, _⟩ => ⟨S2x8192x2816, .f32⟩
  | .hbm, ⟨35, _⟩ => ⟨S_, .f32⟩
  | .hbm, ⟨36, _⟩ => ⟨S2x8192x2816, .f32⟩
  | .hbm, ⟨37, _⟩ => ⟨S2x8192x2816, .f32⟩
  | .hbm, ⟨38, _⟩ => ⟨S1x2816, .f32⟩
  | .hbm, ⟨39, _⟩ => ⟨S2816, .f32⟩
  | .hbm, ⟨40, _⟩ => ⟨S2x8192x2816, .f32⟩
  | .hbm, ⟨41, _⟩ => ⟨S1x1x2816, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S1x2816, .f32⟩
  | .hbm, ⟨46, _⟩ => ⟨S2816, .f32⟩
  | .hbm, ⟨47, _⟩ => ⟨S2x8192x2816, .f32⟩
  | .hbm, ⟨48, _⟩ => ⟨S1x1x2816, .f32⟩
  | .hbm, ⟨49, _⟩ => ⟨S2x8192x2816, .f32⟩
  | .hbm, ⟨50, _⟩ => ⟨S2x8192x2816, .f32⟩
  | .hbm, ⟨51, _⟩ => ⟨S2x8192x2816, .f32⟩
  | .hbm, ⟨52, _⟩ => ⟨S1x1x2816, .f32⟩
  | .hbm, ⟨53, _⟩ => ⟨S2x8192x2816, .f32⟩
  | .hbm, ⟨54, _⟩ => ⟨S2x8192x2816, .f32⟩
  | .hbm, ⟨55, _⟩ => ⟨S2x8192x2816, .f32⟩
  | .hbm, ⟨56, _⟩ => ⟨S2x8192x2816, .f32⟩
  | .hbm, ⟨57, _⟩ => ⟨S_, .f32⟩
  | .hbm, ⟨58, _⟩ => ⟨S2x8192x2816, .f32⟩
  | .hbm, ⟨59, _⟩ => ⟨S2x8192x2816, .f32⟩
  | .hbm, ⟨60, _⟩ => ⟨S2x8192x2816, .f32⟩
  | .hbm, ⟨61, _⟩ => ⟨S_, .f32⟩
  | .hbm, ⟨62, _⟩ => ⟨S2x8192x2816, .f32⟩
  | .hbm, ⟨63, _⟩ => ⟨S2x8192x2816, .f32⟩
  | .hbm, ⟨64, _⟩ => ⟨S2x8192x2816, .f32⟩
  | .hbm, ⟨65, _⟩ => ⟨S_, .f32⟩
  | .hbm, ⟨66, _⟩ => ⟨S2x8192x2816, .f32⟩
  | .hbm, ⟨67, _⟩ => ⟨S2x8192x2816, .f32⟩
  | .hbm, ⟨68, _⟩ => ⟨S_, .f32⟩
  | .hbm, ⟨69, _⟩ => ⟨S2x8192x2816, .f32⟩
  | .hbm, ⟨70, _⟩ => ⟨S2x8192x2816, .f32⟩
  | .hbm, ⟨71, _⟩ => ⟨S2x8192x2816, .f32⟩
  | .hbm, ⟨72, _⟩ => ⟨S2x8192x2816, .f32⟩
  | .hbm, ⟨73, _⟩ => ⟨S2x8192x1024, .f32⟩
  | .hbm, ⟨74, _⟩ => ⟨S16384x1024, .f32⟩
  | .hbm, ⟨75, _⟩ => ⟨S16384x1024, .f32⟩
  | .hbm, ⟨76, _⟩ => ⟨S2x8x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩

abbrev nD : Nat := 1
abbrev τ : Topo := Topo.v7x

variable {F : FTy → Type} [FloatOps F]
-- ==== Ffns.lean ====
abbrev S32x1024 : Shape := ⟨2, ![32, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32x2x2816 : Shape := ⟨3, ![32, 2, 2816]⟩
abbrev S1x1024 : Shape := ⟨2, ![1, 1024]⟩
abbrev S1x2816 : Shape := ⟨2, ![1, 2816]⟩
abbrev S32x1x2816 : Shape := ⟨3, ![32, 1, 2816]⟩
abbrev S32x2816 : Shape := ⟨2, ![32, 2816]⟩
abbrev S32 : Shape := ⟨1, ![32]⟩
abbrev S32x1 : Shape := ⟨2, ![32, 1]⟩
abbrev S1024x1408 : Shape := ⟨2, ![1024, 1408]⟩
abbrev S32x1408 : Shape := ⟨2, ![32, 1408]⟩
abbrev S1x1408 : Shape := ⟨2, ![1, 1408]⟩
abbrev S1408x1024 : Shape := ⟨2, ![1408, 1024]⟩

abbrev nBuf : Space → Nat
  | .hbm => 17
  | .vmem => 10
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S32x2x2816, .f32⟩
  | .hbm, ⟨7, _⟩ => ⟨S1x1024, .f32⟩
  | .hbm, ⟨8, _⟩ => ⟨S1024x5632, .bf16⟩
  | .hbm, ⟨9, _⟩ => ⟨S1x2816, .f32⟩
  | .hbm, ⟨10, _⟩ => ⟨S2816x1024, .bf16⟩
  | .hbm, ⟨11, _⟩ => ⟨S32x1x2816, .f32⟩
  | .hbm, ⟨12, _⟩ => ⟨S32x2816, .f32⟩
  | .hbm, ⟨13, _⟩ => ⟨S32x1x2816, .f32⟩
  | .hbm, ⟨14, _⟩ => ⟨S32x2816, .f32⟩
  | .hbm, ⟨15, _⟩ => ⟨S32x1024, .f32⟩
  | .hbm, ⟨16, _⟩ => ⟨S32x2816, .f32⟩
  | .local _ .vmem, ⟨0, _⟩ => ⟨S32x1024, .f32⟩
  | .local _ .vmem, ⟨1, _⟩ => ⟨S1x1024, .f32⟩
  | .local _ .vmem, ⟨2, _⟩ => ⟨S1024x5632, .bf16⟩
  | .local _ .vmem, ⟨3, _⟩ => ⟨S3x2816, .f32⟩
  | .local _ .vmem, ⟨4, _⟩ => ⟨S1x2816, .f32⟩
  | .local _ .vmem, ⟨5, _⟩ => ⟨S2816x1024, .bf16⟩
  | .local _ .vmem, ⟨6, _⟩ => ⟨S32x2816, .f32⟩
  | .local _ .vmem, ⟨7, _⟩ => ⟨S32x2816, .f32⟩
  | .local _ .vmem, ⟨8, _⟩ => ⟨S32x1024, .f32⟩
  | .local _ .vmem, ⟨9, _⟩ => ⟨S32x2816, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FfnsRefIdeal.lean ====
abbrev S32x1024 : Shape := ⟨2, ![32, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32x2x2816 : Shape := ⟨3, ![32, 2, 2816]⟩
abbrev S32x1x1024 : Shape := ⟨3, ![32, 1, 1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x5632 : Shape := ⟨3, ![32, 1, 5632]⟩
abbrev S32x1x2816 : Shape := ⟨3, ![32, 1, 2816]⟩
abbrev S32x3x2816 : Shape := ⟨3, ![32, 3, 2816]⟩
abbrev S1x2816 : Shape := ⟨2, ![1, 2816]⟩
abbrev S1x1x2816 : Shape := ⟨3, ![1, 1, 2816]⟩
abbrev S32x2816 : Shape := ⟨2, ![32, 2816]⟩

abbrev nBuf : Space → Nat
  | .hbm => 77
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S32x2x2816, .f32⟩
  | .hbm, ⟨7, _⟩ => ⟨S32x1x1024, .f32⟩
  | .hbm, ⟨8, _⟩ => ⟨S32x1x1024, .f32⟩
  | .hbm, ⟨9, _⟩ => ⟨S_, .f32⟩
  | .hbm, ⟨10, _⟩ => ⟨S32x1, .f32⟩
  | .hbm, ⟨11, _⟩ => ⟨S32x1x1, .f32⟩
  | .hbm, ⟨12, _⟩ => ⟨S_, .f32⟩
  | .hbm, ⟨13, _⟩ => ⟨S32x1x1, .f32⟩
  | .hbm, ⟨14, _⟩ => ⟨S32x1x1, .f32⟩
  | .hbm, ⟨15, _⟩ => ⟨S_, .f32⟩
  | .hbm, ⟨16, _⟩ => ⟨S32x1x1, .f32⟩
  | .hbm, ⟨17, _⟩ => ⟨S32x1x1, .f32⟩
  | .hbm, ⟨18, _⟩ => ⟨S32x1x1, .f32⟩
  | .hbm, ⟨19, _⟩ => ⟨S32x1x1024, .f32⟩
  | .hbm, ⟨20, _⟩ => ⟨S32x1x1024, .f32⟩
  | .hbm, ⟨21, _⟩ => ⟨S1x1x1024, .f32⟩
  | .hbm, ⟨22, _⟩ => ⟨S32x1x1024, .f32⟩
  | .hbm, ⟨23, _⟩ => ⟨S32x1x1024, .f32⟩
  | .hbm, ⟨24, _⟩ => ⟨S32x1x5632, .f32⟩
  | .hbm, ⟨25, _⟩ => ⟨S32x1x2816, .f32⟩
  | .hbm, ⟨26, _⟩ => ⟨S32x1x2816, .f32⟩
  | .hbm, ⟨27, _⟩ => ⟨S32x3x2816, .f32⟩
  | .hbm, ⟨28, _⟩ => ⟨S1x2816, .f32⟩
  | .hbm, ⟨29, _⟩ => ⟨S2816, .f32⟩
  | .hbm, ⟨30, _⟩ => ⟨S32x1x2816, .f32⟩
  | .hbm, ⟨31, _⟩ => ⟨S1x1x2816, .f32⟩
  | .hbm, ⟨32, _⟩ => ⟨S32x1x2816, .f32⟩
  | .hbm, ⟨33, _⟩ => ⟨S32x1x2816, .f32⟩
  | .hbm, ⟨34, _⟩ => ⟨S_, .f32⟩
  | .hbm, ⟨35, _⟩ => ⟨S32x1x2816, .f32⟩
  | .hbm, ⟨36, _⟩ => ⟨S32x1x2816, .f32⟩
  | .hbm, ⟨37, _⟩ => ⟨S1x2816, .f32⟩
  | .hbm, ⟨38, _⟩ => ⟨S2816, .f32⟩
  | .hbm, ⟨39, _⟩ => ⟨S32x1x2816, .f32⟩
  | .hbm, ⟨40, _⟩ => ⟨S1x1x2816, .f32⟩
  | .hbm, ⟨41, _⟩ => ⟨S32x1x2816, .f32⟩
  | .hbm, ⟨42, _⟩ => ⟨S32x1x2816, .f32⟩
  | .hbm, ⟨43, _⟩ => ⟨S32x1x2816, .f32⟩
  | .hbm, ⟨44, _⟩ => ⟨S1x2816, .f32⟩
  | .hbm, ⟨45, _⟩ => ⟨S2816, .f32⟩
  | .hbm, ⟨46, _⟩ => ⟨S32x1x2816, .f32⟩
  | .hbm, ⟨47, _⟩ => ⟨S1x1x2816, .f32⟩
  | .hbm, ⟨48, _⟩ => ⟨S32x1x2816, .f32⟩
  | .hbm, ⟨49, _⟩ => ⟨S32x1x2816, .f32⟩
  | .hbm, ⟨50, _⟩ => ⟨S32x1x2816, .f32⟩
  | .hbm, ⟨51, _⟩ => ⟨S1x1x2816, .f32⟩
  | .hbm, ⟨52, _⟩ => ⟨S32x1x2816, .f32⟩
  | .hbm, ⟨53, _⟩ => ⟨S32x1x2816, .f32⟩
  | .hbm, ⟨54, _⟩ => ⟨S32x1x2816, .f32⟩
  | .hbm, ⟨55, _⟩ => ⟨S32x1x2816, .f32⟩
  | .hbm, ⟨56, _⟩ => ⟨S_, .f32⟩
  | .hbm, ⟨57, _⟩ => ⟨S32x1x2816, .f32⟩
  | .hbm, ⟨58, _⟩ => ⟨S32x1x2816, .f32⟩
  | .hbm, ⟨59, _⟩ => ⟨S32x1x2816, .f32⟩
  | .hbm, ⟨60, _⟩ => ⟨S_, .f32⟩
  | .hbm, ⟨61, _⟩ => ⟨S32x1x2816, .f32⟩
  | .hbm, ⟨62, _⟩ => ⟨S32x1x2816, .f32⟩
  | .hbm, ⟨63, _⟩ => ⟨S32x1x2816, .f32⟩
  | .hbm, ⟨64, _⟩ => ⟨S_, .f32⟩
  | .hbm, ⟨65, _⟩ => ⟨S32x1x2816, .f32⟩
  | .hbm, ⟨66, _⟩ => ⟨S32x1x2816, .f32⟩
  | .hbm, ⟨67, _⟩ => ⟨S_, .f32⟩
  | .hbm, ⟨68, _⟩ => ⟨S32x1x2816, .f32⟩
  | .hbm, ⟨69, _⟩ => ⟨S32x1x2816, .f32⟩
  | .hbm, ⟨70, _⟩ => ⟨S32x1x2816, .f32⟩
  | .hbm, ⟨71, _⟩ => ⟨S32x1x2816, .f32⟩
  | .hbm, ⟨72, _⟩ => ⟨S32x1x1024, .f32⟩
  | .hbm, ⟨73, _⟩ => ⟨S32x1024, .f32⟩
  | .hbm, ⟨74, _⟩ => ⟨S32x1024, .f32⟩
  | .hbm, ⟨75, _⟩ => ⟨S32x1x2816, .f32⟩
  | .hbm, ⟨76, _⟩ => ⟨S32x2816, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩

abbrev nD : Nat := 1
abbrev τ : Topo := Topo.v7x

variable {F : FTy → Type} [FloatOps F]
-- ==== Norm.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Norms.lean ====
abbrev S32x1024 : Shape := ⟨2, ![32, 1024]⟩
abbrev S1024 : Shape := ⟨1, ![1024]⟩
abbrev S1x1024 : Shape := ⟨2, ![1, 1024]⟩
abbrev S32 : Shape := ⟨1, ![32]⟩
abbrev S32x1 : Shape := ⟨2, ![32, 1]⟩

abbrev nBuf : Space → Nat
  | .hbm => 4
  | .vmem => 3
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1x1024, .f32⟩
  | .hbm, ⟨3, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormsRefIdeal.lean ====
abbrev S32x1024 : Shape := ⟨2, ![32, 1024]⟩
abbrev S1024 : Shape := ⟨1, ![1024]⟩
abbrev S_ : Shape := ⟨0, ![]⟩
abbrev S32 : Shape := ⟨1, ![32]⟩
abbrev S32x1 : Shape := ⟨2, ![32, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S32x1024, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S_, .f32⟩
  | .hbm, ⟨7, _⟩ => ⟨S32x1, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1, .f32⟩
  | .hbm, ⟨13, _⟩ => ⟨S32x1024, .f32⟩
  | .hbm, ⟨14, _⟩ => ⟨S32x1024, .f32⟩
  | .hbm, ⟨15, _⟩ => ⟨S1x1024, .f32⟩
  | .hbm, ⟨16, _⟩ => ⟨S32x1024, .f32⟩
  | .hbm, ⟨17, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Inproj.lean ====
abbrev S16384x1024 : Shape := ⟨2, ![16384, 1024]⟩
abbrev S1024 : Shape := ⟨1, ![1024]⟩
abbrev S1024x2836 : Shape := ⟨2, ![1024, 2836]⟩
abbrev S16x128 : Shape := ⟨2, ![16, 128]⟩
abbrev S128 : Shape := ⟨1, ![128]⟩
abbrev S4 : Shape := ⟨1, ![4]⟩
abbrev S32 : Shape := ⟨1, ![32]⟩
abbrev S128x1024 : Shape := ⟨2, ![128, 1024]⟩
abbrev S1x128 : Shape := ⟨2, ![1, 128]⟩
abbrev S1x1024x2836 : Shape := ⟨3, ![1, 1024, 2836]⟩
abbrev S_ : Shape := ⟨0, ![]⟩
abbrev S1x1024x128 : Shape := ⟨3, ![1, 1024, 128]⟩
abbrev S1x1024x4 : Shape := ⟨3, ![1, 1024, 4]⟩
abbrev S1 : Shape := ⟨1, ![1]⟩
abbrev S1x1024x16 : Shape := ⟨3, ![1, 1024, 16]⟩
abbrev S1x1024x256 : Shape := ⟨3, ![1, 1024, 256]⟩
abbrev S1x1024x4x2x32 : Shape := ⟨5, ![1, 1024, 4, 2, 32]⟩
abbrev S1x1024x2x4x32 : Shape := ⟨5, ![1, 1024, 2, 4, 32]⟩
abbrev S1x1024x768 : Shape := ⟨3, ![1, 1024, 768]⟩
abbrev S1x1024x512 : Shape := ⟨3, ![1, 1024, 512]⟩
abbrev S1x1024x2944 : Shape := ⟨3, ![1, 1024, 2944]⟩
abbrev S1024x2944 : Shape := ⟨2, ![1024, 2944]⟩
abbrev S1x128x128 : Shape := ⟨3, ![1, 128, 128]⟩
abbrev S1x16x128 : Shape := ⟨3, ![1, 16, 128]⟩
abbrev S128x128 : Shape := ⟨2, ![128, 128]⟩
abbrev S1x1x128 : Shape := ⟨3, ![1, 1, 128]⟩
abbrev S1x4 : Shape := ⟨2, ![1, 4]⟩
abbrev S2 : Shape := ⟨1, ![2]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S1x1024 : Shape := ⟨2, ![1, 1024]⟩
abbrev S16384x256 : Shape := ⟨2, ![16384, 256]⟩
abbrev S16384x896 : Shape := ⟨2, ![16384, 896]⟩
abbrev S16384x128 : Shape := ⟨2, ![16384, 128]⟩
abbrev S4x16384x128 : Shape := ⟨3, ![4, 16384, 128]⟩
abbrev S512x1024 : Shape := ⟨2, ![512, 1024]⟩
abbrev S512x128 : Shape := ⟨2, ![512, 128]⟩
abbrev S512x256 : Shape := ⟨2, ![512, 256]⟩
abbrev S512x896 : Shape := ⟨2, ![512, 896]⟩
abbrev S4x512x128 : Shape := ⟨3, ![4, 512, 128]⟩
abbrev S8x128 : Shape := ⟨2, ![8, 128]⟩
abbrev S512 : Shape := ⟨1, ![512]⟩
abbrev S512x1 : Shape := ⟨2, ![512, 1]⟩
abbrev S512x2944 : Shape := ⟨2, ![512, 2944]⟩
abbrev S512x512 : Shape := ⟨2, ![512, 512]⟩
abbrev S1x512x128 : Shape := ⟨3, ![1, 512, 128]⟩

abbrev nBuf : Space → Nat
  | .hbm => 86
  | .vmem => 33
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2836, .f32⟩
  | .hbm, ⟨3, _⟩ => ⟨S16x128, .f32⟩
  | .hbm, ⟨4, _⟩ => ⟨S128, .f32⟩
  | .hbm, ⟨5, _⟩ => ⟨S4, .f32⟩
  | .hbm, ⟨6, _⟩ => ⟨S32, .f32⟩
  | .hbm, ⟨7, _⟩ => ⟨S128x1024, .bf16⟩
  | .hbm, ⟨8, _⟩ => ⟨S1x128, .f32⟩
  | .hbm, ⟨9, _⟩ => ⟨S1x128, .f32⟩
  | .hbm, ⟨10, _⟩ => ⟨S1x1024x2836, .f32⟩
  | .hbm, ⟨11, _⟩ => ⟨S_, .f32⟩
  | .hbm, ⟨12, _⟩ => ⟨S1x1024x128, .f32⟩
  | .hbm, ⟨13, _⟩ => ⟨S1x1024x4, .f32⟩
  | .hbm, ⟨14, _⟩ => ⟨S_, .i32⟩
  | .hbm, ⟨15, _⟩ => ⟨S1, .i32⟩
  | .hbm, ⟨16, _⟩ => ⟨S1x1024x128, .f32⟩
  | .hbm, ⟨17, _⟩ => ⟨S1x1024x16, .f32⟩
  | .hbm, ⟨18, _⟩ => ⟨S_, .i32⟩
  | .hbm, ⟨19, _⟩ => ⟨S1, .i32⟩
  | .hbm, ⟨20, _⟩ => ⟨S1x1024x128, .f32⟩
  | .hbm, ⟨21, _⟩ => ⟨S1x1024x256, .f32⟩
  | .hbm, ⟨22, _⟩ => ⟨S1x1024x4x2x32, .f32⟩
  | .hbm, ⟨23, _⟩ => ⟨S1x1024x2x4x32, .f32⟩
  | .hbm, ⟨24, _⟩ => ⟨S1x1024x256, .f32⟩
  | .hbm, ⟨25, _⟩ => ⟨S1x1024x256, .f32⟩
  | .hbm, ⟨26, _⟩ => ⟨S1x1024x4x2x32, .f32⟩
  | .hbm, ⟨27, _⟩ => ⟨S1x1024x2x4x32, .f32⟩
  | .hbm, ⟨28, _⟩ => ⟨S1x1024x256, .f32⟩
  | .hbm, ⟨29, _⟩ => ⟨S_, .f32⟩
  | .hbm, ⟨30, _⟩ => ⟨S1x1024x256, .f32⟩
  | .hbm, ⟨31, _⟩ => ⟨S1x1024x256, .f32⟩
  | .hbm, ⟨32, _⟩ => ⟨S1x1024x768, .f32⟩
  | .hbm, ⟨33, _⟩ => ⟨S1x1024x768, .f32⟩
  | .hbm, ⟨34, _⟩ => ⟨S1x1024x256, .f32⟩
  | .hbm, ⟨35, _⟩ => ⟨S_, .f32⟩
  | .hbm, ⟨36, _⟩ => ⟨S1x1024x256, .f32⟩
  | .hbm, ⟨37, _⟩ => ⟨S1x1024x256, .f32⟩
  | .hbm, ⟨38, _⟩ => ⟨S1x1024x512, .f32⟩
  | .hbm, ⟨39, _⟩ => ⟨S1x1024x2944, .f32⟩
  | .hbm, ⟨40, _⟩ => ⟨S1x1024x2944, .bf16⟩
  | .hbm, ⟨41, _⟩ => ⟨S1024x2944, .bf16⟩
  | .hbm, ⟨42, _⟩ => ⟨S_, .f32⟩
  | .hbm, ⟨43, _⟩ => ⟨S1x128x128, .f32⟩
  | .hbm, ⟨44, _⟩ => ⟨S1x16x128, .f32⟩
  | .hbm, ⟨45, _⟩ => ⟨S_, .i32⟩
  | .hbm, ⟨46, _⟩ => ⟨S1, .i32⟩
  | .hbm, ⟨47, _⟩ => ⟨S1x128x128, .f32⟩
  | .hbm, ⟨48, _⟩ => ⟨S1x128x128, .bf16⟩
  | .hbm, ⟨49, _⟩ => ⟨S128x128, .bf16⟩
  | .hbm, ⟨50, _⟩ => ⟨S_, .f32⟩
  | .hbm, ⟨51, _⟩ => ⟨S1x1x128, .f32⟩
  | .hbm, ⟨52, _⟩ => ⟨S1x4, .f32⟩
  | .hbm, ⟨53, _⟩ => ⟨S_, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S2, .i32⟩
  | .hbm, ⟨58, _⟩ => ⟨S1x1x128, .f32⟩
  | .hbm, ⟨59, _⟩ => ⟨S1x128, .f32⟩
  | .hbm, ⟨60, _⟩ => ⟨S8192, .i32⟩
  | .hbm, ⟨61, _⟩ => ⟨S8192, .f32⟩
  | .hbm, ⟨62, _⟩ => ⟨S8192x1, .f32⟩
  | .hbm, ⟨63, _⟩ => ⟨S1x32, .f32⟩
  | .hbm, ⟨64, _⟩ => ⟨S8192x32, .f32⟩
  | .hbm, ⟨65, _⟩ => ⟨S8192x32, .f32⟩
  | .hbm, ⟨66, _⟩ => ⟨S8192x32, .f32⟩
  | .hbm, ⟨67, _⟩ => ⟨S8192x32, .f32⟩
  | .hbm, ⟨68, _⟩ => ⟨S1x8192x1x32, .f32⟩
  | .hbm, ⟨69, _⟩ => ⟨S1x8192x4x32, .f32⟩
  | .hbm, ⟨70, _⟩ => ⟨S8192x128, .f32⟩
  | .hbm, ⟨71, _⟩ => ⟨S8192x32, .f32⟩
  | .hbm, ⟨72, _⟩ => ⟨S1x8192x1x32, .f32⟩
  | .hbm, ⟨73, _⟩ => ⟨S1x8192x4x32, .f32⟩
  | .hbm, ⟨74, _⟩ => ⟨S8192x128, .f32⟩
  | .hbm, ⟨75, _⟩ => ⟨S1x1024, .f32⟩
  | .hbm, ⟨76, _⟩ => ⟨S1x128, .f32⟩
  | .hbm, ⟨77, _⟩ => ⟨S16384x1024, .f32⟩
  | .hbm, ⟨78, _⟩ => ⟨S16384x256, .f32⟩
  | .hbm, ⟨79, _⟩ => ⟨S16384x896, .f32⟩
  | .hbm, ⟨80, _⟩ => ⟨S16384x256, .f32⟩
  | .hbm, ⟨81, _⟩ => ⟨S16384x256, .f32⟩
  | .hbm, ⟨82, _⟩ => ⟨S16384x128, .f32⟩
  | .hbm, ⟨83, _⟩ => ⟨S4x16384x128, .bf16⟩
  | .hbm, ⟨84, _⟩ => ⟨S4x16384x128, .bf16⟩
  | .hbm, ⟨85, _⟩ => ⟨S4x16384x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S128x128, .bf16⟩
  | .local _ .vmem, ⟨5, _⟩ => ⟨S1x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S128x1024, .bf16⟩
  | .local _ .vmem, ⟨12, _⟩ => ⟨S1x128, .f32⟩
  | .local _ .vmem, ⟨13, _⟩ => ⟨S1x128, .f32⟩
  | .local _ .vmem, ⟨14, _⟩ => ⟨S512x1024, .f32⟩
  | .local _ .vmem, ⟨15, _⟩ => ⟨S512x1024, .f32⟩
  | .local _ .vmem, ⟨16, _⟩ => ⟨S512x256, .f32⟩
  | .local _ .vmem, ⟨17, _⟩ => ⟨S512x256, .f32⟩
  | .local _ .vmem, ⟨18, _⟩ => ⟨S512x896, .f32⟩
  | .local _ .vmem, ⟨19, _⟩ => ⟨S512x896, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x128, .f32⟩
  | .local _ .vmem, ⟨25, _⟩ => ⟨S512x128, .f32⟩
  | .local _ .vmem, ⟨26, _⟩ => ⟨S4x512x128, .bf16⟩
  | .local _ .vmem, ⟨27, _⟩ => ⟨S4x512x128, .bf16⟩
  | .local _ .vmem, ⟨28, _⟩ => ⟨S4x512x128, .bf16⟩
  | .local _ .vmem, ⟨29, _⟩ => ⟨S4x512x128, .bf16⟩
  | .local _ .vmem, ⟨30, _⟩ => ⟨S4x512x128, .bf16⟩
  | .local _ .vmem, ⟨31, _⟩ => ⟨S4x512x128, .bf16⟩
  | .local _ .vmem, ⟨32, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57_0 : Ref sig .tc := ⟨.hbm, 77, rfl⟩
abbrev main_v57_1 : Ref sig .tc := ⟨.hbm, 78, rfl⟩
abbrev main_v57_2 : Ref sig .tc := ⟨.hbm, 79, rfl⟩
abbrev main_v57_3 : Ref sig .tc := ⟨.hbm, 80, rfl⟩
abbrev main_v57_4 : Ref sig .tc := ⟨.hbm, 81, rfl⟩
abbrev main_v57_5 : Ref sig .tc := ⟨.hbm, 82, rfl⟩
abbrev main_v57_6 : Ref sig .tc := ⟨.hbm, 83, rfl⟩
abbrev main_v57_7 : Ref sig .tc := ⟨.hbm, 84, rfl⟩
abbrev main_v57_8 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x896 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== InprojRefIdeal.lean ====
abbrev S16384x1024 : Shape := ⟨2, ![16384, 1024]⟩
abbrev S1024 : Shape := ⟨1, ![1024]⟩
abbrev S1024x2836 : Shape := ⟨2, ![1024, 2836]⟩
abbrev S16x128 : Shape := ⟨2, ![16, 128]⟩
abbrev S128 : Shape := ⟨1, ![128]⟩
abbrev S4 : Shape := ⟨1, ![4]⟩
abbrev S32 : Shape := ⟨1, ![32]⟩
abbrev S128x1024 : Shape := ⟨2, ![128, 1024]⟩
abbrev S1x128 : Shape := ⟨2, ![1, 128]⟩
abbrev S2x8192x1024 : Shape := ⟨3, ![2, 8192, 1024]⟩
abbrev S8192 : Shape := ⟨1, ![8192]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2836 : Shape := ⟨3, ![2, 8192, 2836]⟩
abbrev S2x8192x256 : Shape := ⟨3, ![2, 8192, 256]⟩
abbrev S2x8192x128 : Shape := ⟨3, ![2, 8192, 128]⟩
abbrev S2x8192x16 : Shape := ⟨3, ![2, 8192, 16]⟩
abbrev S2x8192x4 : Shape := ⟨3, ![2, 8192, 4]⟩
abbrev S2x8192x4x64 : Shape := ⟨4, ![2, 8192, 4, 64]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x4x32 : Shape := ⟨4, ![2, 8192, 4, 32]⟩
abbrev S1x1x128 : Shape := ⟨3, ![1, 1, 128]⟩
abbrev S1x1x4 : Shape := ⟨3, ![1, 1, 4]⟩
abbrev S2x8192x4x2x32 : Shape := ⟨5, ![2, 8192, 4, 2, 32]⟩
abbrev S2x8192x2x4x32 : Shape := ⟨5, ![2, 8192, 2, 4, 32]⟩
abbrev S2x8192x896 : Shape := ⟨3, ![2, 8192, 896]⟩
abbrev S16384x896 : Shape := ⟨2, ![16384, 896]⟩
abbrev S2x8192x124 : Shape := ⟨3, ![2, 8192, 124]⟩
abbrev S16384x128 : Shape := ⟨2, ![16384, 128]⟩
abbrev S16384x256 : Shape := ⟨2, ![16384, 256]⟩

abbrev nBuf : Space → Nat
  | .hbm => 157
  | .vmem => 0
  | .smem => 0
  | _ => 0

abbrev hbmTy0_0 (i : Nat) : BufTy := match i % 128 with
  | 0 => ⟨S16384x1024, .f32⟩
  | 1 => ⟨S1024, .f32⟩
  | 2 => ⟨S1024x2836, .f32⟩
  | 3 => ⟨S16x128, .f32⟩
  | 4 => ⟨S128, .f32⟩
  | 5 => ⟨S4, .f32⟩
  | 6 => ⟨S32, .f32⟩
  | 7 => ⟨S128x1024, .bf16⟩
  | 8 => ⟨S1x128, .f32⟩
  | 9 => ⟨S1x128, .f32⟩
  | 10 => ⟨S2x8192x1024, .f32⟩
  | 11 => ⟨S8192, .i32⟩
  | 12 => ⟨S2x8192x1024, .f32⟩
  | 13 => ⟨S_, .f32⟩
  | 14 => ⟨S2x8192, .f32⟩
  | 15 => ⟨S2x8192x1, .f32⟩
  | 16 => ⟨S_, .f32⟩
  | 17 => ⟨S2x8192x1, .f32⟩
  | 18 => ⟨S2x8192x1, .f32⟩
  | 19 => ⟨S_, .f32⟩
  | 20 => ⟨S2x8192x1, .f32⟩
  | 21 => ⟨S2x8192x1, .f32⟩
  | 22 => ⟨S2x8192x1, .f32⟩
  | 23 => ⟨S2x8192x1024, .f32⟩
  | 24 => ⟨S2x8192x1024, .f32⟩
  | 25 => ⟨S1x1x1024, .f32⟩
  | 26 => ⟨S2x8192x1024, .f32⟩
  | 27 => ⟨S2x8192x1024, .f32⟩
  | 28 => ⟨S2x8192x2836, .f32⟩
  | 29 => ⟨S2x8192x256, .f32⟩
  | 30 => ⟨S2x8192x256, .f32⟩
  | 31 => ⟨S2x8192x256, .f32⟩
  | 32 => ⟨S2x8192x256, .f32⟩
  | 33 => ⟨S2x8192x256, .f32⟩
  | 34 => ⟨S2x8192x128, .f32⟩
  | 35 => ⟨S2x8192x128, .f32⟩
  | 36 => ⟨S2x8192x256, .f32⟩
  | 37 => ⟨S2x8192x256, .f32⟩
  | 38 => ⟨S2x8192x16, .f32⟩
  | 39 => ⟨S2x8192x256, .f32⟩
  | 40 => ⟨S2x8192x256, .f32⟩
  | 41 => ⟨S2x8192x256, .f32⟩
  | 42 => ⟨S2x8192x4, .f32⟩
  | 43 => ⟨S2x8192x4x64, .f32⟩
  | 44 => ⟨S8192, .f32⟩
  | 45 => ⟨S8192x1, .f32⟩
  | 46 => ⟨S1x32, .f32⟩
  | 47 => ⟨S8192x32, .f32⟩
  | 48 => ⟨S8192x32, .f32⟩
  | 49 => ⟨S8192x32, .f32⟩
  | 50 => ⟨S8192x32, .f32⟩
  | 51 => ⟨S1x8192x1x32, .f32⟩
  | 52 => ⟨S8192x32, .f32⟩
  | 53 => ⟨S1x8192x1x32, .f32⟩
  | 54 => ⟨S2x8192x4x32, .f32⟩
  | 55 => ⟨S2x8192x4x32, .f32⟩
  | 56 => ⟨S2x8192x4x32, .f32⟩
  | 57 => ⟨S2x8192x4x32, .f32⟩
  | 58 => ⟨S2x8192x4x32, .f32⟩
  | 59 => ⟨S2x8192x4x32, .f32⟩
  | 60 => ⟨S2x8192x4x32, .f32⟩
  | 61 => ⟨S2x8192x4x32, .f32⟩
  | 62 => ⟨S2x8192x4x32, .f32⟩
  | 63 => ⟨S2x8192x4x32, .f32⟩
  | 64 => ⟨S2x8192x4x32, .f32⟩
  | 65 => ⟨S2x8192x4x32, .f32⟩
  | 66 => ⟨S2x8192x4x64, .f32⟩
  | 67 => ⟨S2x8192x4x64, .f32⟩
  | 68 => ⟨S8192, .f32⟩
  | 69 => ⟨S8192x1, .f32⟩
  | 70 => ⟨S1x32, .f32⟩
  | 71 => ⟨S8192x32, .f32⟩
  | 72 => ⟨S8192x32, .f32⟩
  | 73 => ⟨S8192x32, .f32⟩
  | 74 => ⟨S8192x32, .f32⟩
  | 75 => ⟨S1x8192x1x32, .f32⟩
  | 76 => ⟨S8192x32, .f32⟩
  | 77 => ⟨S1x8192x1x32, .f32⟩
  | 78 => ⟨S2x8192x4x32, .f32⟩
  | 79 => ⟨S2x8192x4x32, .f32⟩
  | 80 => ⟨S2x8192x4x32, .f32⟩
  | 81 => ⟨S2x8192x4x32, .f32⟩
  | 82 => ⟨S2x8192x4x32, .f32⟩
  | 83 => ⟨S2x8192x4x32, .f32⟩
  | 84 => ⟨S2x8192x4x32, .f32⟩
  | 85 => ⟨S2x8192x4x32, .f32⟩
  | 86 => ⟨S2x8192x4x32, .f32⟩
  | 87 => ⟨S2x8192x4x32, .f32⟩
  | 88 => ⟨S2x8192x4x32, .f32⟩
  | 89 => ⟨S2x8192x4x32, .f32⟩
  | 90 => ⟨S2x8192x4x64, .f32⟩
  | 91 => ⟨S_, .f32⟩
  | 92 => ⟨S2x8192x4x64, .f32⟩
  | 93 => ⟨S2x8192x4x64, .f32⟩
  | 94 => ⟨S_, .f32⟩
  | 95 => ⟨S2x8192x128, .f32⟩
  | 96 => ⟨S2x8192x128, .f32⟩
  | 97 => ⟨S2x8192x128, .f32⟩
  | 98 => ⟨S1x1x128, .f32⟩
  | 99 => ⟨S2x8192x128, .f32⟩
  | 100 => ⟨S2x8192x128, .f32⟩
  | 101 => ⟨S2x8192x128, .f32⟩
  | 102 => ⟨S_, .f32⟩
  | 103 => ⟨S2x8192x128, .f32⟩
  | 104 => ⟨S2x8192x128, .f32⟩
  | 105 => ⟨S2x8192x128, .f32⟩
  | 106 => ⟨S2x8192x128, .f32⟩
  | 107 => ⟨S2x8192x128, .i1⟩
  | 108 => ⟨S2x8192x128, .f32⟩
  | 109 => ⟨S2x8192x128, .f32⟩
  | 110 => ⟨S2x8192x128, .f32⟩
  | 111 => ⟨S2x8192x128, .f32⟩
  | 112 => ⟨S2x8192x128, .f32⟩
  | 113 => ⟨S2x8192x128, .f32⟩
  | 114 => ⟨S2x8192x128, .f32⟩
  | 115 => ⟨S2x8192x128, .f32⟩
  | 116 => ⟨S2x8192x128, .f32⟩
  | 117 => ⟨S_, .f32⟩
  | 118 => ⟨S2x8192x128, .f32⟩
  | 119 => ⟨S2x8192x128, .f32⟩
  | 120 => ⟨S1x1x4, .f32⟩
  | 121 => ⟨S2x8192x4, .f32⟩
  | 122 => ⟨S2x8192x4, .f32⟩
  | 123 => ⟨S2x8192x4, .f32⟩
  | 124 => ⟨S_, .f32⟩
  | 125 => ⟨S2x8192x4, .f32⟩
  | 126 => ⟨S2x8192x4, .f32⟩
  | 127 => ⟨S2x8192x4, .f32⟩
  | _ => ⟨S16384x1024, .f32⟩

abbrev hbmTy0_1 (i : Nat) : BufTy := match i % 128 with
  | 0 => ⟨S2x8192x4, .f32⟩
  | 1 => ⟨S2x8192x4, .i1⟩
  | 2 => ⟨S2x8192x4, .f32⟩
  | 3 => ⟨S2x8192x4, .f32⟩
  | 4 => ⟨S2x8192x4, .f32⟩
  | 5 => ⟨S2x8192x4, .f32⟩
  | 6 => ⟨S2x8192x4, .f32⟩
  | 7 => ⟨S2x8192x4, .f32⟩
  | 8 => ⟨S2x8192x4, .f32⟩
  | 9 => ⟨S2x8192x4, .f32⟩
  | 10 => ⟨S2x8192x4, .f32⟩
  | 11 => ⟨S2x8192x4x2x32, .f32⟩
  | 12 => ⟨S2x8192x2x4x32, .f32⟩
  | 13 => ⟨S2x8192x256, .f32⟩
  | 14 => ⟨S2x8192x4x2x32, .f32⟩
  | 15 => ⟨S2x8192x2x4x32, .f32⟩
  | 16 => ⟨S2x8192x256, .f32⟩
  | 17 => ⟨S2x8192x1024, .f32⟩
  | 18 => ⟨S16384x1024, .f32⟩
  | 19 => ⟨S2x8192x896, .f32⟩
  | 20 => ⟨S16384x896, .f32⟩
  | 21 => ⟨S_, .f32⟩
  | 22 => ⟨S2x8192x124, .f32⟩
  | 23 => ⟨S2x8192x128, .f32⟩
  | 24 => ⟨S16384x128, .f32⟩
  | 25 => ⟨S16384x256, .f32⟩
  | 26 => ⟨S16384x256, .f32⟩
  | 27 => ⟨S16384x256, .f32⟩
  | 28 => ⟨S16384x256, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_cst_2 : Ref sig .tc := ⟨.hbm, 91, rfl⟩
abbrev main_v78 : Ref sig .tc := ⟨.hbm, 92, rfl⟩
abbrev main_v79 : Ref sig .tc := ⟨.hbm, 93, rfl⟩
abbrev main_cst_3 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_call0_v0 : Ref sig .tc := ⟨.hbm, 101, rfl⟩
abbrev main_call0_call0_cst : Ref sig .tc := ⟨.hbm, 102, rfl⟩
abbrev main_call0_call0_v0 : Ref sig .tc := ⟨.hbm, 103, rfl⟩
abbrev main_call0_call0_v1 : Ref sig .tc := ⟨.hbm, 104, rfl⟩
abbrev main_call0_call0_v2 : Ref sig .tc := ⟨.hbm, 105, rfl⟩
abbrev main_call0_call0_v3 : Ref sig .tc := ⟨.hbm, 106, rfl⟩
abbrev main_call0_call0_v4 : Ref sig .tc := ⟨.hbm, 107, rfl⟩
abbrev main_call0_call0_v5 : Ref sig .tc := ⟨.hbm, 108, rfl⟩
abbrev main_call0_call0_v6 : Ref sig .tc := ⟨.hbm, 109, rfl⟩
abbrev main_call0_call0_v7 : Ref sig .tc := ⟨.hbm, 110, rfl⟩
abbrev main_call0_call0_v8 : Ref sig .tc := ⟨.hbm, 111, rfl⟩
abbrev main_call0_call0_v9 : Ref sig .tc := ⟨.hbm, 112, rfl⟩
abbrev main_call0_call0_v10 : Ref sig .tc := ⟨.hbm, 113, rfl⟩
abbrev main_call0_call0_v11 : Ref sig .tc := ⟨.hbm, 114, rfl⟩
abbrev main_call0_v1 : Ref sig .tc := ⟨.hbm, 115, rfl⟩
abbrev main_v86 : Ref sig .tc := ⟨.hbm, 116, rfl⟩
abbrev main_cst_4 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_call1_v0 : Ref sig .tc := ⟨.hbm, 123, rfl⟩
abbrev main_call1_call0_cst : Ref sig .tc := ⟨.hbm, 124, rfl⟩
abbrev main_call1_call0_v0 : Ref sig .tc := ⟨.hbm, 125, rfl⟩
abbrev main_call1_call0_v1 : Ref sig .tc := ⟨.hbm, 126, rfl⟩
abbrev main_call1_call0_v2 : Ref sig .tc := ⟨.hbm, 127, rfl⟩
abbrev main_call1_call0_v3 : Ref sig .tc := ⟨.hbm, 128, rfl⟩
abbrev main_call1_call0_v4 : Ref sig .tc := ⟨.hbm, 129, rfl⟩
abbrev main_call1_call0_v5 : Ref sig .tc := ⟨.hbm, 130, rfl⟩
abbrev main_call1_call0_v6 : Ref sig .tc := ⟨.hbm, 131, rfl⟩
abbrev main_call1_call0_v7 : Ref sig .tc := ⟨.hbm, 132, rfl⟩
abbrev main_call1_call0_v8 : Ref sig .tc := ⟨.hbm, 133, rfl⟩
abbrev main_call1_call0_v9 : Ref sig .tc := ⟨.hbm, 134, rfl⟩
abbrev main_call1_call0_v10 : Ref sig .tc := ⟨.hbm, 135, rfl⟩
abbrev main_call1_call0_v11 : Ref sig .tc := ⟨.hbm, 136, rfl⟩
abbrev main_call1_v1 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_5 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩

abbrev nD : Nat := 1
abbrev τ : Topo := Topo.v7x

variable {F : FTy → Type} [FloatOps F]
-- ==== Inprojs.lean ====
abbrev S32x1024 : Shape := ⟨2, ![32, 1024]⟩
abbrev S1024 : Shape := ⟨1, ![1024]⟩
abbrev S1024x2836 : Shape := ⟨2, ![1024, 2836]⟩
abbrev S16x128 : Shape := ⟨2, ![16, 128]⟩
abbrev S128 : Shape := ⟨1, ![128]⟩
abbrev S4 : Shape := ⟨1, ![4]⟩
abbrev S32 : Shape := ⟨1, ![32]⟩
abbrev S1x1024x2836 : Shape := ⟨3, ![1, 1024, 2836]⟩
abbrev S_ : Shape := ⟨0, ![]⟩
abbrev S1x1024x128 : Shape := ⟨3, ![1, 1024, 128]⟩
abbrev S1x1024x4 : Shape := ⟨3, ![1, 1024, 4]⟩
abbrev S1 : Shape := ⟨1, ![1]⟩
abbrev S1x1024x16 : Shape := ⟨3, ![1, 1024, 16]⟩
abbrev S1x1024x256 : Shape := ⟨3, ![1, 1024, 256]⟩
abbrev S1x1024x4x2x32 : Shape := ⟨5, ![1, 1024, 4, 2, 32]⟩
abbrev S1x1024x2x4x32 : Shape := ⟨5, ![1, 1024, 2, 4, 32]⟩
abbrev S1x1024x768 : Shape := ⟨3, ![1, 1024, 768]⟩
abbrev S1x1024x512 : Shape := ⟨3, ![1, 1024, 512]⟩
abbrev S1x1024x2944 : Shape := ⟨3, ![1, 1024, 2944]⟩
abbrev S1024x2944 : Shape := ⟨2, ![1024, 2944]⟩
abbrev S1x128x128 : Shape := ⟨3, ![1, 128, 128]⟩
abbrev S1x16x128 : Shape := ⟨3, ![1, 16, 128]⟩
abbrev S128x128 : Shape := ⟨2, ![128, 128]⟩
abbrev S1x1x128 : Shape := ⟨3, ![1, 1, 128]⟩
abbrev S1x4 : Shape := ⟨2, ![1, 4]⟩
abbrev S2 : Shape := ⟨1, ![2]⟩
abbrev S1x128 : Shape := ⟨2, ![1, 128]⟩
abbrev S32x1 : Shape := ⟨2, ![32, 1]⟩
abbrev S1x32 : Shape := ⟨2, ![1, 32]⟩
abbrev S32x32 : Shape := ⟨2, ![32, 32]⟩
abbrev S1x32x1x32 : Shape := ⟨4, ![1, 32, 1, 32]⟩
abbrev S1x32x4x32 : Shape := ⟨4, ![1, 32, 4, 32]⟩
abbrev S32x128 : Shape := ⟨2, ![32, 128]⟩
abbrev S1x1024 : Shape := ⟨2, ![1, 1024]⟩
abbrev S32x256 : Shape := ⟨2, ![32, 256]⟩
abbrev S32x896 : Shape := ⟨2, ![32, 896]⟩
abbrev S32x2944 : Shape := ⟨2, ![32, 2944]⟩
abbrev S32x512 : Shape := ⟨2, ![32, 512]⟩

abbrev nBuf : Space → Nat
  | .hbm => 82
  | .vmem => 15
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2836, .f32⟩
  | .hbm, ⟨3, _⟩ => ⟨S16x128, .f32⟩
  | .hbm, ⟨4, _⟩ => ⟨S128, .f32⟩
  | .hbm, ⟨5, _⟩ => ⟨S4, .f32⟩
  | .hbm, ⟨6, _⟩ => ⟨S32, .f32⟩
  | .hbm, ⟨7, _⟩ => ⟨S1x1024x2836, .f32⟩
  | .hbm, ⟨8, _⟩ => ⟨S_, .f32⟩
  | .hbm, ⟨9, _⟩ => ⟨S1x1024x128, .f32⟩
  | .hbm, ⟨10, _⟩ => ⟨S1x1024x4, .f32⟩
  | .hbm, ⟨11, _⟩ => ⟨S_, .i32⟩
  | .hbm, ⟨12, _⟩ => ⟨S1, .i32⟩
  | .hbm, ⟨13, _⟩ => ⟨S1x1024x128, .f32⟩
  | .hbm, ⟨14, _⟩ => ⟨S1x1024x16, .f32⟩
  | .hbm, ⟨15, _⟩ => ⟨S_, .i32⟩
  | .hbm, ⟨16, _⟩ => ⟨S1, .i32⟩
  | .hbm, ⟨17, _⟩ => ⟨S1x1024x128, .f32⟩
  | .hbm, ⟨18, _⟩ => ⟨S1x1024x256, .f32⟩
  | .hbm, ⟨19, _⟩ => ⟨S1x1024x4x2x32, .f32⟩
  | .hbm, ⟨20, _⟩ => ⟨S1x1024x2x4x32, .f32⟩
  | .hbm, ⟨21, _⟩ => ⟨S1x1024x256, .f32⟩
  | .hbm, ⟨22, _⟩ => ⟨S1x1024x256, .f32⟩
  | .hbm, ⟨23, _⟩ => ⟨S1x1024x4x2x32, .f32⟩
  | .hbm, ⟨24, _⟩ => ⟨S1x1024x2x4x32, .f32⟩
  | .hbm, ⟨25, _⟩ => ⟨S1x1024x256, .f32⟩
  | .hbm, ⟨26, _⟩ => ⟨S_, .f32⟩
  | .hbm, ⟨27, _⟩ => ⟨S1x1024x256, .f32⟩
  | .hbm, ⟨28, _⟩ => ⟨S1x1024x256, .f32⟩
  | .hbm, ⟨29, _⟩ => ⟨S1x1024x768, .f32⟩
  | .hbm, ⟨30, _⟩ => ⟨S1x1024x768, .f32⟩
  | .hbm, ⟨31, _⟩ => ⟨S1x1024x256, .f32⟩
  | .hbm, ⟨32, _⟩ => ⟨S_, .f32⟩
  | .hbm, ⟨33, _⟩ => ⟨S1x1024x256, .f32⟩
  | .hbm, ⟨34, _⟩ => ⟨S1x1024x256, .f32⟩
  | .hbm, ⟨35, _⟩ => ⟨S1x1024x512, .f32⟩
  | .hbm, ⟨36, _⟩ => ⟨S1x1024x2944, .f32⟩
  | .hbm, ⟨37, _⟩ => ⟨S1x1024x2944, .bf16⟩
  | .hbm, ⟨38, _⟩ => ⟨S1024x2944, .bf16⟩
  | .hbm, ⟨39, _⟩ => ⟨S_, .f32⟩
  | .hbm, ⟨40, _⟩ => ⟨S1x128x128, .f32⟩
  | .hbm, ⟨41, _⟩ => ⟨S1x16x128, .f32⟩
  | .hbm, ⟨42, _⟩ => ⟨S_, .i32⟩
  | .hbm, ⟨43, _⟩ => ⟨S1, .i32⟩
  | .hbm, ⟨44, _⟩ => ⟨S1x128x128, .f32⟩
  | .hbm, ⟨45, _⟩ => ⟨S1x128x128, .bf16⟩
  | .hbm, ⟨46, _⟩ => ⟨S128x128, .bf16⟩
  | .hbm, ⟨47, _⟩ => ⟨S_, .f32⟩
  | .hbm, ⟨48, _⟩ => ⟨S1x1x128, .f32⟩
  | .hbm, ⟨49, _⟩ => ⟨S1x4, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S1x1x128, .f32⟩
  | .hbm, ⟨56, _⟩ => ⟨S1x128, .f32⟩
  | .hbm, ⟨57, _⟩ => ⟨S_, .i32⟩
  | .hbm, ⟨58, _⟩ => ⟨S32, .i32⟩
  | .hbm, ⟨59, _⟩ => ⟨S32, .f32⟩
  | .hbm, ⟨60, _⟩ => ⟨S32x1, .f32⟩
  | .hbm, ⟨61, _⟩ => ⟨S1x32, .f32⟩
  | .hbm, ⟨62, _⟩ => ⟨S32x32, .f32⟩
  | .hbm, ⟨63, _⟩ => ⟨S32x32, .f32⟩
  | .hbm, ⟨64, _⟩ => ⟨S32x32, .f32⟩
  | .hbm, ⟨65, _⟩ => ⟨S32x32, .f32⟩
  | .hbm, ⟨66, _⟩ => ⟨S1x32x1x32, .f32⟩
  | .hbm, ⟨67, _⟩ => ⟨S1x32x4x32, .f32⟩
  | .hbm, ⟨68, _⟩ => ⟨S32x128, .f32⟩
  | .hbm, ⟨69, _⟩ => ⟨S32x32, .f32⟩
  | .hbm, ⟨70, _⟩ => ⟨S1x32x1x32, .f32⟩
  | .hbm, ⟨71, _⟩ => ⟨S1x32x4x32, .f32⟩
  | .hbm, ⟨72, _⟩ => ⟨S32x128, .f32⟩
  | .hbm, ⟨73, _⟩ => ⟨S1x1024, .f32⟩
  | .hbm, ⟨74, _⟩ => ⟨S1x128, .f32⟩
  | .hbm, ⟨75, _⟩ => ⟨S32x1024, .f32⟩
  | .hbm, ⟨76, _⟩ => ⟨S32x256, .f32⟩
  | .hbm, ⟨77, _⟩ => ⟨S32x896, .f32⟩
  | .hbm, ⟨78, _⟩ => ⟨S32x256, .f32⟩
  | .hbm, ⟨79, _⟩ => ⟨S32x256, .f32⟩
  | .hbm, ⟨80, _⟩ => ⟨S32x128, .f32⟩
  | .hbm, ⟨81, _⟩ => ⟨S32x256, .f32⟩
  | .local _ .vmem, ⟨0, _⟩ => ⟨S32x1024, .f32⟩
  | .local _ .vmem, ⟨1, _⟩ => ⟨S1x1024, .f32⟩
  | .local _ .vmem, ⟨2, _⟩ => ⟨S1024x2944, .bf16⟩
  | .local _ .vmem, ⟨3, _⟩ => ⟨S128x128, .bf16⟩
  | .local _ .vmem, ⟨4, _⟩ => ⟨S1x128, .f32⟩
  | .local _ .vmem, ⟨5, _⟩ => ⟨S1x128, .f32⟩
  | .local _ .vmem, ⟨6, _⟩ => ⟨S32x128, .f32⟩
  | .local _ .vmem, ⟨7, _⟩ => ⟨S32x128, .f32⟩
  | .local _ .vmem, ⟨8, _⟩ => ⟨S32x1024, .f32⟩
  | .local _ .vmem, ⟨9, _⟩ => ⟨S32x256, .f32⟩
  | .local _ .vmem, ⟨10, _⟩ => ⟨S32x896, .f32⟩
  | .local _ .vmem, ⟨11, _⟩ => ⟨S32x256, .f32⟩
  | .local _ .vmem, ⟨12, _⟩ => ⟨S32x256, .f32⟩
  | .local _ .vmem, ⟨13, _⟩ => ⟨S32x128, .f32⟩
  | .local _ .vmem, ⟨14, _⟩ => ⟨S32x256, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57_0 : Ref sig .tc := ⟨.hbm, 75, rfl⟩
abbrev main_v57_1 : Ref sig .tc := ⟨.hbm, 76, rfl⟩
abbrev main_v57_2 : Ref sig .tc := ⟨.hbm, 77, rfl⟩
abbrev main_v57_3 : Ref sig .tc := ⟨.hbm, 78, rfl⟩
abbrev main_v57_4 : Ref sig .tc := ⟨.hbm, 79, rfl⟩
abbrev main_v57_5 : Ref sig .tc := ⟨.hbm, 80, rfl⟩
abbrev main_v57_6 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x896 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S32x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== InprojsRefIdeal.lean ====
abbrev S32x1024 : Shape := ⟨2, ![32, 1024]⟩
abbrev S1024 : Shape := ⟨1, ![1024]⟩
abbrev S1024x2836 : Shape := ⟨2, ![1024, 2836]⟩
abbrev S16x128 : Shape := ⟨2, ![16, 128]⟩
abbrev S128 : Shape := ⟨1, ![128]⟩
abbrev S4 : Shape := ⟨1, ![4]⟩
abbrev S32 : Shape := ⟨1, ![32]⟩
abbrev S32x1x1024 : Shape := ⟨3, ![32, 1, 1024]⟩
abbrev S_ : Shape := ⟨0, ![]⟩
abbrev S1 : Shape := ⟨1, ![1]⟩
abbrev S32x1 : Shape := ⟨2, ![32, 1]⟩
abbrev S32x1x1 : Shape := ⟨3, ![32, 1, 1]⟩
abbrev S1x1x1024 : Shape := ⟨3, ![1, 1, 1024]⟩
abbrev S32x1x2836 : Shape := ⟨3, ![32, 1, 2836]⟩
abbrev S32x1x256 : Shape := ⟨3, ![32, 1, 256]⟩
abbrev S32x1x128 : Shape := ⟨3, ![32, 1, 128]⟩
abbrev S32x1x16 : Shape := ⟨3, ![32, 1, 16]⟩
abbrev S32x1x4 : Shape := ⟨3, ![32, 1, 4]⟩
abbrev S32x1x4x64 : Shape := ⟨4, ![32, 1, 4, 64]⟩
abbrev S1x1 : Shape := ⟨2, ![1, 1]⟩
abbrev S1x32 : Shape := ⟨2, ![1, 32]⟩
abbrev S1x1x1x32 : Shape := ⟨4, ![1, 1, 1, 32]⟩
abbrev S32x1x4x32 : Shape := ⟨4, ![32, 1, 4, 32]⟩
abbrev S1x1x128 : Shape := ⟨3, ![1, 1, 128]⟩
abbrev S1x1x4 : Shape := ⟨3, ![1, 1, 4]⟩
abbrev S32x1x4x2x32 : Shape := ⟨5, ![32, 1, 4, 2, 32]⟩
abbrev S32x1x2x4x32 : Shape := ⟨5, ![32, 1, 2, 4, 32]⟩
abbrev S32x1x896 : Shape := ⟨3, ![32, 1, 896]⟩
abbrev S32x896 : Shape := ⟨2, ![32, 896]⟩
abbrev S32x1x124 : Shape := ⟨3, ![32, 1, 124]⟩
abbrev S32x128 : Shape := ⟨2, ![32, 128]⟩
abbrev S32x256 : Shape := ⟨2, ![32, 256]⟩

abbrev nBuf : Space → Nat
  | .hbm => 156
  | .vmem => 0
  | .smem => 0
  | _ => 0

abbrev hbmTy0_0 (i : Nat) : BufTy := match i % 128 with
  | 0 => ⟨S32x1024, .f32⟩
  | 1 => ⟨S1024, .f32⟩
  | 2 => ⟨S1024x2836, .f32⟩
  | 3 => ⟨S16x128, .f32⟩
  | 4 => ⟨S128, .f32⟩
  | 5 => ⟨S4, .f32⟩
  | 6 => ⟨S32, .f32⟩
  | 7 => ⟨S32x1x1024, .f32⟩
  | 8 => ⟨S_, .i32⟩
  | 9 => ⟨S1, .i32⟩
  | 10 => ⟨S32x1x1024, .f32⟩
  | 11 => ⟨S_, .f32⟩
  | 12 => ⟨S32x1, .f32⟩
  | 13 => ⟨S32x1x1, .f32⟩
  | 14 => ⟨S_, .f32⟩
  | 15 => ⟨S32x1x1, .f32⟩
  | 16 => ⟨S32x1x1, .f32⟩
  | 17 => ⟨S_, .f32⟩
  | 18 => ⟨S32x1x1, .f32⟩
  | 19 => ⟨S32x1x1, .f32⟩
  | 20 => ⟨S32x1x1, .f32⟩
  | 21 => ⟨S32x1x1024, .f32⟩
  | 22 => ⟨S32x1x1024, .f32⟩
  | 23 => ⟨S1x1x1024, .f32⟩
  | 24 => ⟨S32x1x1024, .f32⟩
  | 25 => ⟨S32x1x1024, .f32⟩
  | 26 => ⟨S32x1x2836, .f32⟩
  | 27 => ⟨S32x1x256, .f32⟩
  | 28 => ⟨S32x1x256, .f32⟩
  | 29 => ⟨S32x1x256, .f32⟩
  | 30 => ⟨S32x1x256, .f32⟩
  | 31 => ⟨S32x1x256, .f32⟩
  | 32 => ⟨S32x1x128, .f32⟩
  | 33 => ⟨S32x1x128, .f32⟩
  | 34 => ⟨S32x1x256, .f32⟩
  | 35 => ⟨S32x1x256, .f32⟩
  | 36 => ⟨S32x1x16, .f32⟩
  | 37 => ⟨S32x1x256, .f32⟩
  | 38 => ⟨S32x1x256, .f32⟩
  | 39 => ⟨S32x1x256, .f32⟩
  | 40 => ⟨S32x1x4, .f32⟩
  | 41 => ⟨S32x1x4x64, .f32⟩
  | 42 => ⟨S1, .f32⟩
  | 43 => ⟨S1x1, .f32⟩
  | 44 => ⟨S1x32, .f32⟩
  | 45 => ⟨S1x32, .f32⟩
  | 46 => ⟨S1x32, .f32⟩
  | 47 => ⟨S1x32, .f32⟩
  | 48 => ⟨S1x1x1x32, .f32⟩
  | 49 => ⟨S1x32, .f32⟩
  | 50 => ⟨S1x1x1x32, .f32⟩
  | 51 => ⟨S32x1x4x32, .f32⟩
  | 52 => ⟨S32x1x4x32, .f32⟩
  | 53 => ⟨S32x1x4x32, .f32⟩
  | 54 => ⟨S32x1x4x32, .f32⟩
  | 55 => ⟨S32x1x4x32, .f32⟩
  | 56 => ⟨S32x1x4x32, .f32⟩
  | 57 => ⟨S32x1x4x32, .f32⟩
  | 58 => ⟨S32x1x4x32, .f32⟩
  | 59 => ⟨S32x1x4x32, .f32⟩
  | 60 => ⟨S32x1x4x32, .f32⟩
  | 61 => ⟨S32x1x4x32, .f32⟩
  | 62 => ⟨S32x1x4x32, .f32⟩
  | 63 => ⟨S32x1x4x64, .f32⟩
  | 64 => ⟨S32x1x4x64, .f32⟩
  | 65 => ⟨S1, .f32⟩
  | 66 => ⟨S1x1, .f32⟩
  | 67 => ⟨S1x32, .f32⟩
  | 68 => ⟨S1x32, .f32⟩
  | 69 => ⟨S1x32, .f32⟩
  | 70 => ⟨S1x32, .f32⟩
  | 71 => ⟨S1x1x1x32, .f32⟩
  | 72 => ⟨S1x32, .f32⟩
  | 73 => ⟨S1x1x1x32, .f32⟩
  | 74 => ⟨S32x1x4x32, .f32⟩
  | 75 => ⟨S32x1x4x32, .f32⟩
  | 76 => ⟨S32x1x4x32, .f32⟩
  | 77 => ⟨S32x1x4x32, .f32⟩
  | 78 => ⟨S32x1x4x32, .f32⟩
  | 79 => ⟨S32x1x4x32, .f32⟩
  | 80 => ⟨S32x1x4x32, .f32⟩
  | 81 => ⟨S32x1x4x32, .f32⟩
  | 82 => ⟨S32x1x4x32, .f32⟩
  | 83 => ⟨S32x1x4x32, .f32⟩
  | 84 => ⟨S32x1x4x32, .f32⟩
  | 85 => ⟨S32x1x4x32, .f32⟩
  | 86 => ⟨S32x1x4x64, .f32⟩
  | 87 => ⟨S_, .f32⟩
  | 88 => ⟨S32x1x4x64, .f32⟩
  | 89 => ⟨S32x1x4x64, .f32⟩
  | 90 => ⟨S_, .f32⟩
  | 91 => ⟨S32x1x128, .f32⟩
  | 92 => ⟨S32x1x128, .f32⟩
  | 93 => ⟨S32x1x128, .f32⟩
  | 94 => ⟨S1x1x128, .f32⟩
  | 95 => ⟨S32x1x128, .f32⟩
  | 96 => ⟨S32x1x128, .f32⟩
  | 97 => ⟨S32x1x128, .f32⟩
  | 98 => ⟨S_, .f32⟩
  | 99 => ⟨S32x1x128, .f32⟩
  | 100 => ⟨S32x1x128, .f32⟩
  | 101 => ⟨S32x1x128, .f32⟩
  | 102 => ⟨S32x1x128, .f32⟩
  | 103 => ⟨S32x1x128, .i1⟩
  | 104 => ⟨S32x1x128, .f32⟩
  | 105 => ⟨S32x1x128, .f32⟩
  | 106 => ⟨S32x1x128, .f32⟩
  | 107 => ⟨S32x1x128, .f32⟩
  | 108 => ⟨S32x1x128, .f32⟩
  | 109 => ⟨S32x1x128, .f32⟩
  | 110 => ⟨S32x1x128, .f32⟩
  | 111 => ⟨S32x1x128, .f32⟩
  | 112 => ⟨S32x1x128, .f32⟩
  | 113 => ⟨S_, .f32⟩
  | 114 => ⟨S32x1x128, .f32⟩
  | 115 => ⟨S32x1x128, .f32⟩
  | 116 => ⟨S1x1x4, .f32⟩
  | 117 => ⟨S32x1x4, .f32⟩
  | 118 => ⟨S32x1x4, .f32⟩
  | 119 => ⟨S32x1x4, .f32⟩
  | 120 => ⟨S_, .f32⟩
  | 121 => ⟨S32x1x4, .f32⟩
  | 122 => ⟨S32x1x4, .f32⟩
  | 123 => ⟨S32x1x4, .f32⟩
  | 124 => ⟨S32x1x4, .f32⟩
  | 125 => ⟨S32x1x4, .i1⟩
  | 126 => ⟨S32x1x4, .f32⟩
  | 127 => ⟨S32x1x4, .f32⟩
  | _ => ⟨S32x1024, .f32⟩

abbrev hbmTy0_1 (i : Nat) : BufTy := match i % 128 with
  | 0 => ⟨S32x1x4, .f32⟩
  | 1 => ⟨S32x1x4, .f32⟩
  | 2 => ⟨S32x1x4, .f32⟩
  | 3 => ⟨S32x1x4, .f32⟩
  | 4 => ⟨S32x1x4, .f32⟩
  | 5 => ⟨S32x1x4, .f32⟩
  | 6 => ⟨S32x1x4, .f32⟩
  | 7 => ⟨S32x1x4x2x32, .f32⟩
  | 8 => ⟨S32x1x2x4x32, .f32⟩
  | 9 => ⟨S32x1x256, .f32⟩
  | 10 => ⟨S32x1x4x2x32, .f32⟩
  | 11 => ⟨S32x1x2x4x32, .f32⟩
  | 12 => ⟨S32x1x256, .f32⟩
  | 13 => ⟨S32x1x1024, .f32⟩
  | 14 => ⟨S32x1024, .f32⟩
  | 15 => ⟨S32x1x896, .f32⟩
  | 16 => ⟨S32x896, .f32⟩
  | 17 => ⟨S_, .f32⟩
  | 18 => ⟨S32x1x124, .f32⟩
  | 19 => ⟨S32x1x128, .f32⟩
  | 20 => ⟨S32x128, .f32⟩
  | 21 => ⟨S32x256, .f32⟩
  | 22 => ⟨S32x256, .f32⟩
  | 23 => ⟨S32x256, .f32⟩
  | 24 => ⟨S32x256, .f32⟩
  | 25 => ⟨S_, .f32⟩
  | 26 => ⟨S32x256, .f32⟩
  | 27 => ⟨S32x256, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_cst_2 : Ref sig .tc := ⟨.hbm, 87, rfl⟩
abbrev main_v76 : Ref sig .tc := ⟨.hbm, 88, rfl⟩
abbrev main_v77 : Ref sig .tc := ⟨.hbm, 89, rfl⟩
abbrev main_cst_3 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_call0_v0 : Ref sig .tc := ⟨.hbm, 97, rfl⟩
abbrev main_call0_call0_cst : Ref sig .tc := ⟨.hbm, 98, rfl⟩
abbrev main_call0_call0_v0 : Ref sig .tc := ⟨.hbm, 99, rfl⟩
abbrev main_call0_call0_v1 : Ref sig .tc := ⟨.hbm, 100, rfl⟩
abbrev main_call0_call0_v2 : Ref sig .tc := ⟨.hbm, 101, rfl⟩
abbrev main_call0_call0_v3 : Ref sig .tc := ⟨.hbm, 102, rfl⟩
abbrev main_call0_call0_v4 : Ref sig .tc := ⟨.hbm, 103, rfl⟩
abbrev main_call0_call0_v5 : Ref sig .tc := ⟨.hbm, 104, rfl⟩
abbrev main_call0_call0_v6 : Ref sig .tc := ⟨.hbm, 105, rfl⟩
abbrev main_call0_call0_v7 : Ref sig .tc := ⟨.hbm, 106, rfl⟩
abbrev main_call0_call0_v8 : Ref sig .tc := ⟨.hbm, 107, rfl⟩
abbrev main_call0_call0_v9 : Ref sig .tc := ⟨.hbm, 108, rfl⟩
abbrev main_call0_call0_v10 : Ref sig .tc := ⟨.hbm, 109, rfl⟩
abbrev main_call0_call0_v11 : Ref sig .tc := ⟨.hbm, 110, rfl⟩
abbrev main_call0_v1 : Ref sig .tc := ⟨.hbm, 111, rfl⟩
abbrev main_v84 : Ref sig .tc := ⟨.hbm, 112, rfl⟩
abbrev main_cst_4 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_call1_v0 : Ref sig .tc := ⟨.hbm, 119, rfl⟩
abbrev main_call1_call0_cst : Ref sig .tc := ⟨.hbm, 120, rfl⟩
abbrev main_call1_call0_v0 : Ref sig .tc := ⟨.hbm, 121, rfl⟩
abbrev main_call1_call0_v1 : Ref sig .tc := ⟨.hbm, 122, rfl⟩
abbrev main_call1_call0_v2 : Ref sig .tc := ⟨.hbm, 123, rfl⟩
abbrev main_call1_call0_v3 : Ref sig .tc := ⟨.hbm, 124, rfl⟩
abbrev main_call1_call0_v4 : Ref sig .tc := ⟨.hbm, 125, rfl⟩
abbrev main_call1_call0_v5 : Ref sig .tc := ⟨.hbm, 126, rfl⟩
abbrev main_call1_call0_v6 : Ref sig .tc := ⟨.hbm, 127, rfl⟩
abbrev main_call1_call0_v7 : Ref sig .tc := ⟨.hbm, 128, rfl⟩
abbrev main_call1_call0_v8 : Ref sig .tc := ⟨.hbm, 129, rfl⟩
abbrev main_call1_call0_v9 : Ref sig .tc := ⟨.hbm, 130, rfl⟩
abbrev main_call1_call0_v10 : Ref sig .tc := ⟨.hbm, 131, rfl⟩
abbrev main_call1_call0_v11 : Ref sig .tc := ⟨.hbm, 132, rfl⟩
abbrev main_call1_v1 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_5 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_6 : Ref sig .tc := ⟨.hbm, 153, rfl⟩
abbrev main_v108 : Ref sig .tc := ⟨.hbm, 154, rfl⟩
abbrev main_v109 : Ref sig .tc := ⟨.hbm, 155, rfl⟩

abbrev nD : Nat := 1
abbrev τ : Topo := Topo.v7x

variable {F : FTy → Type} [FloatOps F]
-- ==== Mix.lean ====
abbrev S32x1024 : Shape := ⟨2, ![32, 1024]⟩
abbrev S32x896 : Shape := ⟨2, ![32, 896]⟩
abbrev S32x256 : Shape := ⟨2, ![32, 256]⟩
abbrev S32x4x64x64 : Shape := ⟨4, ![32, 4, 64, 64]⟩
abbrev S32x4x32x64 : Shape := ⟨4, ![32, 4, 32, 64]⟩
abbrev S32x16x64 : Shape := ⟨3, ![32, 16, 64]⟩
abbrev S256 : Shape := ⟨1, ![256]⟩
abbrev S16x64 : Shape := ⟨2, ![16, 64]⟩
abbrev S16x16x64 : Shape := ⟨3, ![16, 16, 64]⟩
abbrev S256x256 : Shape := ⟨2, ![256, 256]⟩
abbrev S16x16 : Shape := ⟨2, ![16, 16]⟩
abbrev S_ : Shape := ⟨0, ![]⟩
abbrev S16x16x1x64 : Shape := ⟨4, ![16, 16, 1, 64]⟩
abbrev S16x1x16x1 : Shape := ⟨4, ![16, 1, 16, 1]⟩
abbrev S16x16x16x64 : Shape := ⟨4, ![16, 16, 16, 64]⟩
abbrev S256x1024 : Shape := ⟨2, ![256, 1024]⟩
abbrev S256x2048 : Shape := ⟨2, ![256, 2048]⟩
abbrev S1x16x16x64 : Shape := ⟨4, ![1, 16, 16, 64]⟩
abbrev S1x16x64x16 : Shape := ⟨4, ![1, 16, 64, 16]⟩
abbrev S1x16x64x1x16 : Shape := ⟨5, ![1, 16, 64, 1, 16]⟩
abbrev S1x16x1x16x1 : Shape := ⟨5, ![1, 16, 1, 16, 1]⟩
abbrev S1x16x64x16x16 : Shape := ⟨5, ![1, 16, 64, 16, 16]⟩
abbrev S1x1024x256 : Shape := ⟨3, ![1, 1024, 256]⟩
abbrev S1x2048x256 : Shape := ⟨3, ![1, 2048, 256]⟩
abbrev S2048x256 : Shape := ⟨2, ![2048, 256]⟩
abbrev S1x1024 : Shape := ⟨2, ![1, 1024]⟩
abbrev S1x256 : Shape := ⟨2, ![1, 256]⟩
abbrev S32x2x4x32 : Shape := ⟨4, ![32, 2, 4, 32]⟩
abbrev S32x4x2x32 : Shape := ⟨4, ![32, 4, 2, 32]⟩
abbrev S32x4x64x1 : Shape := ⟨4, ![32, 4, 64, 1]⟩
abbrev S32x4x1x64 : Shape := ⟨4, ![32, 4, 1, 64]⟩
abbrev S32x4x64 : Shape := ⟨3, ![32, 4, 64]⟩
abbrev S32x128 : Shape := ⟨2, ![32, 128]⟩
abbrev S32x4x32x1 : Shape := ⟨4, ![32, 4, 32, 1]⟩
abbrev S4x1x64 : Shape := ⟨3, ![4, 1, 64]⟩
abbrev S32x1x64x64 : Shape := ⟨4, ![32, 1, 64, 64]⟩
abbrev S32x64x64 : Shape := ⟨3, ![32, 64, 64]⟩
abbrev S32x1x64x1 : Shape := ⟨4, ![32, 1, 64, 1]⟩
abbrev S32x64x1 : Shape := ⟨3, ![32, 64, 1]⟩
abbrev S32x1x1x64 : Shape := ⟨4, ![32, 1, 1, 64]⟩
abbrev S32x1x64 : Shape := ⟨3, ![32, 1, 64]⟩
abbrev S32x64 : Shape := ⟨2, ![32, 64]⟩
abbrev S32 : Shape := ⟨1, ![32]⟩
abbrev S32x1 : Shape := ⟨2, ![32, 1]⟩
abbrev S1x1x64 : Shape := ⟨3, ![1, 1, 64]⟩
abbrev S1x64 : Shape := ⟨2, ![1, 64]⟩
abbrev S32x1x32x1 : Shape := ⟨4, ![32, 1, 32, 1]⟩
abbrev S32x32x1 : Shape := ⟨3, ![32, 32, 1]⟩
abbrev S32x1x32x64 : Shape := ⟨4, ![32, 1, 32, 64]⟩
abbrev S32x32x64 : Shape := ⟨3, ![32, 32, 64]⟩
abbrev S32x2048 : Shape := ⟨2, ![32, 2048]⟩

abbrev nBuf : Space → Nat
  | .hbm => 111
  | .vmem => 30
  | .smem => 0
  | _ => 0

abbrev bufTy : (tb : Table) → Fin (tcTables nBuf tb) → BufTy
  | .hbm, ⟨0, _⟩ => ⟨S32x1024, .f32⟩
  | .hbm, ⟨1, _⟩ => ⟨S32x896, .f32⟩
  | .hbm, ⟨2, _⟩ => ⟨S32x256, .f32⟩
  | .hbm, ⟨3, _⟩ => ⟨S32x4x64x64, .f32⟩
  | .hbm, ⟨4, _⟩ => ⟨S32x4x32x64, .f32⟩
  | .hbm, ⟨5, _⟩ => ⟨S32x16x64, .f32⟩
  | .hbm, ⟨6, _⟩ => ⟨S32x16x64, .f32⟩
  | .hbm, ⟨7, _⟩ => ⟨S256, .f32⟩
  | .hbm, ⟨8, _⟩ => ⟨S256, .f32⟩
  | .hbm, ⟨9, _⟩ => ⟨S16x64, .f32⟩
  | .hbm, ⟨10, _⟩ => ⟨S16x64, .f32⟩
  | .hbm, ⟨11, _⟩ => ⟨S16x16x64, .f32⟩
  | .hbm, ⟨12, _⟩ => ⟨S16x16x64, .f32⟩
  | .hbm, ⟨13, _⟩ => ⟨S16x16x64, .f32⟩
  | .hbm, ⟨14, _⟩ => ⟨S16x16x64, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S16x16, .i32⟩
  | .hbm, ⟨19, _⟩ => ⟨S16x16, .i32⟩
  | .hbm, ⟨20, _⟩ => ⟨S_, .i32⟩
  | .hbm, ⟨21, _⟩ => ⟨S16x16, .i32⟩
  | .hbm, ⟨22, _⟩ => ⟨S16x16, .i32⟩
  | .hbm, ⟨23, _⟩ => ⟨S16x16, .i1⟩
  | .hbm, ⟨24, _⟩ => ⟨S16x16, .f32⟩
  | .hbm, ⟨25, _⟩ => ⟨S16x16x1x64, .f32⟩
  | .hbm, ⟨26, _⟩ => ⟨S16x1x16x1, .f32⟩
  | .hbm, ⟨27, _⟩ => ⟨S16x16x16x64, .f32⟩
  | .hbm, ⟨28, _⟩ => ⟨S16x16x16x64, .f32⟩
  | .hbm, ⟨29, _⟩ => ⟨S16x16x16x64, .f32⟩
  | .hbm, ⟨30, _⟩ => ⟨S256x1024, .f32⟩
  | .hbm, ⟨31, _⟩ => ⟨S16x16, .i32⟩
  | .hbm, ⟨32, _⟩ => ⟨S16x16, .i32⟩
  | .hbm, ⟨33, _⟩ => ⟨S_, .i32⟩
  | .hbm, ⟨34, _⟩ => ⟨S16x16, .i32⟩
  | .hbm, ⟨35, _⟩ => ⟨S16x16, .i32⟩
  | .hbm, ⟨36, _⟩ => ⟨S16x16, .i1⟩
  | .hbm, ⟨37, _⟩ => ⟨S16x16, .f32⟩
  | .hbm, ⟨38, _⟩ => ⟨S16x16x1x64, .f32⟩
  | .hbm, ⟨39, _⟩ => ⟨S16x1x16x1, .f32⟩
  | .hbm, ⟨40, _⟩ => ⟨S16x16x16x64, .f32⟩
  | .hbm, ⟨41, _⟩ => ⟨S16x16x16x64, .f32⟩
  | .hbm, ⟨42, _⟩ => ⟨S16x16x16x64, .f32⟩
  | .hbm, ⟨43, _⟩ => ⟨S256x1024, .f32⟩
  | .hbm, ⟨44, _⟩ => ⟨S256x2048, .f32⟩
  | .hbm, ⟨45, _⟩ => ⟨S256x2048, .bf16⟩
  | .hbm, ⟨46, _⟩ => ⟨S1x16x16x64, .f32⟩
  | .hbm, ⟨47, _⟩ => ⟨S1x16x16x64, .f32⟩
  | .hbm, ⟨48, _⟩ => ⟨S16x16, .i32⟩
  | .hbm, ⟨49, _⟩ => ⟨S16x16, .i32⟩
  | .hbm, ⟨50, _⟩ => ⟨S_, .i32⟩
  | .hbm, ⟨51, _⟩ => ⟨S16x16, .i32⟩
  | .hbm, ⟨52, _⟩ => ⟨S16x16, .i32⟩
  | .hbm, ⟨53, _⟩ => ⟨S16x16, .i1⟩
  | .hbm, ⟨54, _⟩ => ⟨S16x16, .f32⟩
  | .hbm, ⟨55, _⟩ => ⟨S1x16x64x16, .f32⟩
  | .hbm, ⟨56, _⟩ => ⟨S1x16x64x1x16, .f32⟩
  | .hbm, ⟨57, _⟩ => ⟨S1x16x1x16x1, .f32⟩
  | .hbm, ⟨58, _⟩ => ⟨S1x16x64x16x16, .f32⟩
  | .hbm, ⟨59, _⟩ => ⟨S1x16x64x16x16, .f32⟩
  | .hbm, ⟨60, _⟩ => ⟨S1x16x64x16x16, .f32⟩
  | .hbm, ⟨61, _⟩ => ⟨S1x1024x256, .f32⟩
  | .hbm, ⟨62, _⟩ => ⟨S1x16x64x16, .f32⟩
  | .hbm, ⟨63, _⟩ => ⟨S1x16x64x1x16, .f32⟩
  | .hbm, ⟨64, _⟩ => ⟨S1x16x1x16x1, .f32⟩
  | .hbm, ⟨65, _⟩ => ⟨S1x16x64x16x16, .f32⟩
  | .hbm, ⟨66, _⟩ => ⟨S1x16x64x16x16, .f32⟩
  | .hbm, ⟨67, _⟩ => ⟨S1x16x64x16x16, .f32⟩
  | .hbm, ⟨68, _⟩ => ⟨S1x1024x256, .f32⟩
  | .hbm, ⟨69, _⟩ => ⟨S1x1024x256, .f32⟩
  | .hbm, ⟨70, _⟩ => ⟨S1x2048x256, .f32⟩
  | .hbm, ⟨71, _⟩ => ⟨S1x2048x256, .bf16⟩
  | .hbm, ⟨72, _⟩ => ⟨S2048x256, .bf16⟩
  | .hbm, ⟨73, _⟩ => ⟨S1x1024, .f32⟩
  | .hbm, ⟨74, _⟩ => ⟨S1x1024, .f32⟩
  | .hbm, ⟨75, _⟩ => ⟨S1x256, .f32⟩
  | .hbm, ⟨76, _⟩ => ⟨S256x256, .bf16⟩
  | .hbm, ⟨77, _⟩ => ⟨S1x256, .f32⟩
  | .hbm, ⟨78, _⟩ => ⟨S32x256, .f32⟩
  | .hbm, ⟨79, _⟩ => ⟨S32x2x4x32, .f32⟩
  | .hbm, ⟨80, _⟩ => ⟨S32x4x2x32, .f32⟩
  | .hbm, ⟨81, _⟩ => ⟨S32x4x64x1, .f32⟩
  | .hbm, ⟨82, _⟩ => ⟨S32x256, .f32⟩
  | .hbm, ⟨83, _⟩ => ⟨S32x2x4x32, .f32⟩
  | .hbm, ⟨84, _⟩ => ⟨S32x4x2x32, .f32⟩
  | .hbm, ⟨85, _⟩ => ⟨S32x4x64x1, .f32⟩
  | .hbm, ⟨86, _⟩ => ⟨S32x256, .f32⟩
  | .hbm, ⟨87, _⟩ => ⟨S32x4x1x64, .f32⟩
  | .hbm, ⟨88, _⟩ => ⟨S32x256, .f32⟩
  | .hbm, ⟨89, _⟩ => ⟨S32x4x64, .f32⟩
  | .hbm, ⟨90, _⟩ => ⟨S32x128, .f32⟩
  | .hbm, ⟨91, _⟩ => ⟨S32x4x32x1, .f32⟩
  | .hbm, ⟨92, _⟩ => ⟨S32x128, .f32⟩
  | .hbm, ⟨93, _⟩ => ⟨S32x4x32x1, .f32⟩
  | .hbm, ⟨94, _⟩ => ⟨S32x128, .f32⟩
  | .hbm, ⟨95, _⟩ => ⟨S32x4x32x1, .f32⟩
  | .hbm, ⟨96, _⟩ => ⟨S32x256, .f32⟩
  | .hbm, ⟨97, _⟩ => ⟨S32x4x1x64, .f32⟩
  | .hbm, ⟨98, _⟩ => ⟨S32x256, .f32⟩
  | .hbm, ⟨99, _⟩ => ⟨S32x4x64, .f32⟩
  | .hbm, ⟨100, _⟩ => ⟨S4x1x64, .f32⟩
  | .hbm, ⟨101, _⟩ => ⟨S4x1x64, .f32⟩
  | .hbm, ⟨102, _⟩ => ⟨S32x1024, .f32⟩
  | .hbm, ⟨103, _⟩ => ⟨S32x1024, .f32⟩
  | .hbm, ⟨104, _⟩ => ⟨S32x4x64, .f32⟩
  | .hbm, ⟨105, _⟩ => ⟨S32x4x64x64, .f32⟩
  | .hbm, ⟨106, _⟩ => ⟨S32x4x64, .f32⟩
  | .hbm, ⟨107, _⟩ => ⟨S32x4x32x64, .f32⟩
  | .hbm, ⟨108, _⟩ => ⟨S32x256, .f32⟩
  | .hbm, ⟨109, _⟩ => ⟨S32x1024, .f32⟩
  | .hbm, ⟨110, _⟩ => ⟨S32x1024, .f32⟩
  | .local _ .vmem, ⟨0, _⟩ => ⟨S32x4x64x1, .f32⟩
  | .local _ .vmem, ⟨1, _⟩ => ⟨S32x4x64x1, .f32⟩
  | .local _ .vmem, ⟨2, _⟩ => ⟨S32x4x1x64, .f32⟩
  | .local _ .vmem, ⟨3, _⟩ => ⟨S32x4x64, .f32⟩
  | .local _ .vmem, ⟨4, _⟩ => ⟨S32x4x64x64, .f32⟩
  | .local _ .vmem, ⟨5, _⟩ => ⟨S4x1x64, .f32⟩
  | .local _ .vmem, ⟨6, _⟩ => ⟨S32x4x32x1, .f32⟩
  | .local _ .vmem, ⟨7, _⟩ => ⟨S32x4x32x1, .f32⟩
  | .local _ .vmem, ⟨8, _⟩ => ⟨S32x4x32x1, .f32⟩
  | .local _ .vmem, ⟨9, _⟩ => ⟨S32x4x1x64, .f32⟩
  | .local _ .vmem, ⟨10, _⟩ => ⟨S32x4x64, .f32⟩
  | .local _ .vmem, ⟨11, _⟩ => ⟨S32x4x32x64, .f32⟩
  | .local _ .vmem, ⟨12, _⟩ => ⟨S4x1x64, .f32⟩
  | .local _ .vmem, ⟨13, _⟩ => ⟨S32x256, .f32⟩
  | .local _ .vmem, ⟨14, _⟩ => ⟨S32x1024, .f32⟩
  | .local _ .vmem, ⟨15, _⟩ => ⟨S32x1024, .f32⟩
  | .local _ .vmem, ⟨16, _⟩ => ⟨S1x1024, .f32⟩
  | .local _ .vmem, ⟨17, _⟩ => ⟨S1x1024, .f32⟩
  | .local _ .vmem, ⟨18, _⟩ => ⟨S256x2048, .bf16⟩
  | .local _ .vmem, ⟨19, _⟩ => ⟨S2048x256, .bf16⟩
  | .local _ .vmem, ⟨20, _⟩ => ⟨S1x256, .f32⟩
  | .local _ .vmem, ⟨21, _⟩ => ⟨S256x256, .bf16⟩
  | .local _ .vmem, ⟨22, _⟩ => ⟨S1x256, .f32⟩
  | .local _ .vmem, ⟨23, _⟩ => ⟨S32x4x64, .f32⟩
  | .local _ .vmem, ⟨24, _⟩ => ⟨S32x4x64x64, .f32⟩
  | .local _ .vmem, ⟨25, _⟩ => ⟨S32x4x64, .f32⟩
  | .local _ .vmem, ⟨26, _⟩ => ⟨S32x4x32x64, .f32⟩
  | .local _ .vmem, ⟨27, _⟩ => ⟨S32x256, .f32⟩
  | .local _ .vmem, ⟨28, _⟩ => ⟨S32x1024, .f32⟩
  | .local _ .vmem, ⟨29, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_1 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83_0 : Ref sig .tc := ⟨.hbm, 104, rfl⟩
abbrev main_v83_1 : Ref sig .tc := ⟨.hbm, 105, rfl⟩
abbrev main_v83_2 : Ref sig .tc := ⟨.hbm, 106, rfl⟩
abbrev main_v83_3 : Ref sig .tc := ⟨.hbm, 107, rfl⟩
abbrev main_v83_4 : Ref sig .tc := ⟨.hbm, 108, rfl⟩
abbrev main_v83_5 : Ref sig .tc := ⟨.hbm, 109, rfl⟩
abbrev main_v83_6 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29

abbrev nD : Nat := 1
abbrev τ : Topo := Topo.v7x

variable {F : FTy → Type} [FloatOps F]

abbrev grid0 : Pipeline.Grid := .none

abbrev stage0_0 : Fin 1 → Memref sig .tc .vmem S32x4x64x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x4x64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x4x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x4x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x4x32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x4x32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x4x32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x4x1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x4x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x4x32x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x2048 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2048x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S256x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S32x4x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S32x4x64x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S32x4x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S32x4x32x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S32x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S32x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S32x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
-- ==== MixRefIdeal.lean ====
abbrev S32x1024 : Shape := ⟨2, ![32, 1024]⟩
abbrev S32x896 : Shape := ⟨2, ![32, 896]⟩
abbrev S32x256 : Shape := ⟨2, ![32, 256]⟩
abbrev S32x4x64x64 : Shape := ⟨4, ![32, 4, 64, 64]⟩
abbrev S32x4x32x64 : Shape := ⟨4, ![32, 4, 32, 64]⟩
abbrev S32x16x64 : Shape := ⟨3, ![32, 16, 64]⟩
abbrev S256 : Shape := ⟨1, ![256]⟩
abbrev S16x64 : Shape := ⟨2, ![16, 64]⟩
abbrev S16x16x64 : Shape := ⟨3, ![16, 16, 64]⟩
abbrev S256x256 : Shape := ⟨2, ![256, 256]⟩
abbrev S32x2x4x32 : Shape := ⟨4, ![32, 2, 4, 32]⟩
abbrev S32x4x2x32 : Shape := ⟨4, ![32, 4, 2, 32]⟩
abbrev S32x1x4x64 : Shape := ⟨4, ![32, 1, 4, 64]⟩
abbrev S4 : Shape := ⟨1, ![4]⟩
abbrev S_ : Shape := ⟨0, ![]⟩
abbrev S1x1x4x1 : Shape := ⟨4, ![1, 1, 4, 1]⟩
abbrev S32x1x4x1 : Shape := ⟨4, ![32, 1, 4, 1]⟩
abbrev S32x1x1x4x64 : Shape := ⟨5, ![32, 1, 1, 4, 64]⟩
abbrev S1x32x4x1x64 : Shape := ⟨5, ![1, 32, 4, 1, 64]⟩
abbrev S32x4x1x64 : Shape := ⟨4, ![32, 4, 1, 64]⟩
abbrev S32x1x1x4x1 : Shape := ⟨5, ![32, 1, 1, 4, 1]⟩
abbrev S1x32x4x1x1 : Shape := ⟨5, ![1, 32, 4, 1, 1]⟩
abbrev S32x4x1x1 : Shape := ⟨4, ![32, 4, 1, 1]⟩
abbrev S32x4x1 : Shape := ⟨3, ![32, 4, 1]⟩
abbrev S32x128 : Shape := ⟨2, ![32, 128]⟩
abbrev S32x1x4x32 : Shape := ⟨4, ![32, 1, 4, 32]⟩
abbrev S32x1x1x4x32 : Shape := ⟨5, ![32, 1, 1, 4, 32]⟩
abbrev S1x32x4x1x32 : Shape := ⟨5, ![1, 32, 4, 1, 32]⟩
abbrev S32x4x1x32 : Shape := ⟨4, ![32, 4, 1, 32]⟩
abbrev S32x4x32 : Shape := ⟨3, ![32, 4, 32]⟩
abbrev S32x4x32x1 : Shape := ⟨4, ![32, 4, 32, 1]⟩
abbrev S16x64x16 : Shape := ⟨3, ![16, 64, 16]⟩
abbrev S32x1x16x16 : Shape := ⟨4, ![32, 1, 16, 16]⟩
abbrev S16x64x32x1 : Shape := ⟨4, ![16, 64, 32, 1]⟩
abbrev S32x1x16x64 : Shape := ⟨4, ![32, 1, 16, 64]⟩
abbrev S1x16x64 : Shape := ⟨3, ![1, 16, 64]⟩

abbrev nBuf : Space → Nat
  | .hbm => 110
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x896, .f32⟩
  | .hbm, ⟨2, _⟩ => ⟨S32x256, .f32⟩
  | .hbm, ⟨3, _⟩ => ⟨S32x4x64x64, .f32⟩
  | .hbm, ⟨4, _⟩ => ⟨S32x4x32x64, .f32⟩
  | .hbm, ⟨5, _⟩ => ⟨S32x16x64, .f32⟩
  | .hbm, ⟨6, _⟩ => ⟨S32x16x64, .f32⟩
  | .hbm, ⟨7, _⟩ => ⟨S256, .f32⟩
  | .hbm, ⟨8, _⟩ => ⟨S256, .f32⟩
  | .hbm, ⟨9, _⟩ => ⟨S16x64, .f32⟩
  | .hbm, ⟨10, _⟩ => ⟨S16x64, .f32⟩
  | .hbm, ⟨11, _⟩ => ⟨S16x16x64, .f32⟩
  | .hbm, ⟨12, _⟩ => ⟨S16x16x64, .f32⟩
  | .hbm, ⟨13, _⟩ => ⟨S16x16x64, .f32⟩
  | .hbm, ⟨14, _⟩ => ⟨S16x16x64, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S32x256, .f32⟩
  | .hbm, ⟨19, _⟩ => ⟨S32x2x4x32, .f32⟩
  | .hbm, ⟨20, _⟩ => ⟨S32x4x2x32, .f32⟩
  | .hbm, ⟨21, _⟩ => ⟨S32x1x4x64, .f32⟩
  | .hbm, ⟨22, _⟩ => ⟨S32x256, .f32⟩
  | .hbm, ⟨23, _⟩ => ⟨S32x1x4x64, .f32⟩
  | .hbm, ⟨24, _⟩ => ⟨S4, .i32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S1x1x4x1, .f32⟩
  | .hbm, ⟨37, _⟩ => ⟨S32x1x4x1, .f32⟩
  | .hbm, ⟨38, _⟩ => ⟨S32x1x1x4x64, .f32⟩
  | .hbm, ⟨39, _⟩ => ⟨S1x32x4x1x64, .f32⟩
  | .hbm, ⟨40, _⟩ => ⟨S32x4x1x64, .f32⟩
  | .hbm, ⟨41, _⟩ => ⟨S32x1x1x4x64, .f32⟩
  | .hbm, ⟨42, _⟩ => ⟨S1x32x4x1x64, .f32⟩
  | .hbm, ⟨43, _⟩ => ⟨S32x4x1x64, .f32⟩
  | .hbm, ⟨44, _⟩ => ⟨S32x1x1x4x1, .f32⟩
  | .hbm, ⟨45, _⟩ => ⟨S1x32x4x1x1, .f32⟩
  | .hbm, ⟨46, _⟩ => ⟨S32x4x1x1, .f32⟩
  | .hbm, ⟨47, _⟩ => ⟨S32x4x1x1, .f32⟩
  | .hbm, ⟨48, _⟩ => ⟨S32x4x1, .f32⟩
  | .hbm, ⟨49, _⟩ => ⟨S32x4x1x1, .f32⟩
  | .hbm, ⟨50, _⟩ => ⟨S32x4x64x64, .f32⟩
  | .hbm, ⟨51, _⟩ => ⟨S32x4x64x64, .f32⟩
  | .hbm, ⟨52, _⟩ => ⟨S32x4x1x1, .f32⟩
  | .hbm, ⟨53, _⟩ => ⟨S32x4x1x1, .f32⟩
  | .hbm, ⟨54, _⟩ => ⟨S32x4x1x64, .f32⟩
  | .hbm, ⟨55, _⟩ => ⟨S32x4x1x64, .f32⟩
  | .hbm, ⟨56, _⟩ => ⟨S32x4x64x64, .f32⟩
  | .hbm, ⟨57, _⟩ => ⟨S32x4x64x64, .f32⟩
  | .hbm, ⟨58, _⟩ => ⟨S32x128, .f32⟩
  | .hbm, ⟨59, _⟩ => ⟨S32x1x4x32, .f32⟩
  | .hbm, ⟨60, _⟩ => ⟨S32x256, .f32⟩
  | .hbm, ⟨61, _⟩ => ⟨S32x1x4x64, .f32⟩
  | .hbm, ⟨62, _⟩ => ⟨S32x128, .f32⟩
  | .hbm, ⟨63, _⟩ => ⟨S32x1x4x32, .f32⟩
  | .hbm, ⟨64, _⟩ => ⟨S32x1x1x4x32, .f32⟩
  | .hbm, ⟨65, _⟩ => ⟨S1x32x4x1x32, .f32⟩
  | .hbm, ⟨66, _⟩ => ⟨S32x4x1x32, .f32⟩
  | .hbm, ⟨67, _⟩ => ⟨S32x1x1x4x64, .f32⟩
  | .hbm, ⟨68, _⟩ => ⟨S1x32x4x1x64, .f32⟩
  | .hbm, ⟨69, _⟩ => ⟨S32x4x1x64, .f32⟩
  | .hbm, ⟨70, _⟩ => ⟨S32x1x1x4x32, .f32⟩
  | .hbm, ⟨71, _⟩ => ⟨S1x32x4x1x32, .f32⟩
  | .hbm, ⟨72, _⟩ => ⟨S32x4x1x32, .f32⟩
  | .hbm, ⟨73, _⟩ => ⟨S32x4x1x32, .f32⟩
  | .hbm, ⟨74, _⟩ => ⟨S32x4x32, .f32⟩
  | .hbm, ⟨75, _⟩ => ⟨S32x4x32x1, .f32⟩
  | .hbm, ⟨76, _⟩ => ⟨S32x4x32x64, .f32⟩
  | .hbm, ⟨77, _⟩ => ⟨S32x4x32x64, .f32⟩
  | .hbm, ⟨78, _⟩ => ⟨S32x4x1x32, .f32⟩
  | .hbm, ⟨79, _⟩ => ⟨S32x4x1x32, .f32⟩
  | .hbm, ⟨80, _⟩ => ⟨S32x4x1x32, .f32⟩
  | .hbm, ⟨81, _⟩ => ⟨S32x4x32x64, .f32⟩
  | .hbm, ⟨82, _⟩ => ⟨S32x4x32x64, .f32⟩
  | .hbm, ⟨83, _⟩ => ⟨S16x64x16, .f32⟩
  | .hbm, ⟨84, _⟩ => ⟨S16x64x16, .f32⟩
  | .hbm, ⟨85, _⟩ => ⟨S32x1x16x16, .f32⟩
  | .hbm, ⟨86, _⟩ => ⟨S16x64x32x1, .f32⟩
  | .hbm, ⟨87, _⟩ => ⟨S32x1x16x64, .f32⟩
  | .hbm, ⟨88, _⟩ => ⟨S16x64x32x1, .f32⟩
  | .hbm, ⟨89, _⟩ => ⟨S32x1x16x64, .f32⟩
  | .hbm, ⟨90, _⟩ => ⟨S32x16x64, .f32⟩
  | .hbm, ⟨91, _⟩ => ⟨S1x16x64, .f32⟩
  | .hbm, ⟨92, _⟩ => ⟨S32x16x64, .f32⟩
  | .hbm, ⟨93, _⟩ => ⟨S32x16x64, .f32⟩
  | .hbm, ⟨94, _⟩ => ⟨S1x16x64, .f32⟩
  | .hbm, ⟨95, _⟩ => ⟨S32x16x64, .f32⟩
  | .hbm, ⟨96, _⟩ => ⟨S32x16x64, .f32⟩
  | .hbm, ⟨97, _⟩ => ⟨S32x16x64, .f32⟩
  | .hbm, ⟨98, _⟩ => ⟨S32x16x64, .f32⟩
  | .hbm, ⟨99, _⟩ => ⟨S32x16x64, .f32⟩
  | .hbm, ⟨100, _⟩ => ⟨S1x16x64, .f32⟩
  | .hbm, ⟨101, _⟩ => ⟨S32x16x64, .f32⟩
  | .hbm, ⟨102, _⟩ => ⟨S32x16x64, .f32⟩
  | .hbm, ⟨103, _⟩ => ⟨S1x16x64, .f32⟩
  | .hbm, ⟨104, _⟩ => ⟨S32x16x64, .f32⟩
  | .hbm, ⟨105, _⟩ => ⟨S32x16x64, .f32⟩
  | .hbm, ⟨106, _⟩ => ⟨S32x16x64, .f32⟩
  | .hbm, ⟨107, _⟩ => ⟨S32x16x64, .f32⟩
  | .hbm, ⟨108, _⟩ => ⟨S32x1024, .f32⟩
  | .hbm, ⟨109, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩

abbrev nD : Nat := 1
abbrev τ : Topo := Topo.v7x

variable {F : FTy → Type} [FloatOps F]
-- ==== Proof.Merge.Tok.lean ====
module

public import proofs.«01_k».proof.Proof.Gen.MergeIdeal.Value
public import Idealize.ShloMosaic.Lib.Pointwise
public import Idealize.ShloMosaic.Lib.StableHlo.ReadAt

@[expose] public section

set_option maxRecDepth 16384

noncomputable section

namespace Cert.MergeIdeal.Hand

open Cert.MergeIdeal Cert.MergeIdeal.Gen Idealize.ShloMosaic

/-- Channel `k` of a token normalised by the root mean square of its 1024 channels, times the gain `g`. -/
def hid (x g : Fin 1024 → EReal) (k : Fin 1024) : EReal :=
  x k * Ideal.rsqrt (Ideal.div (∑ a, x a * x a) (Ideal.ofBits .f32 0x44800000#32) + Ideal.ofBits .f32 0x358637BD#32) * g k

/-- One branch's gated channel: the sigmoid of the normalised token's product with a gate column plus the bias, times
    the branch output's product with a projection column. -/
def gated (h : Fin 1024 → EReal) (wm : Fin 1024 → EReal) (b : EReal) (o : Fin 256 → EReal) (wb : Fin 256 → EReal) : EReal :=
  Ideal.div 1 (1 + Ideal.exp (0 - (∑ k, h k * wm k + b))) * ∑ q, o q * wb q

/-- Channel `j` of branch 0 among the 4096 gate columns. -/
def col0 (j : Fin 1024) : Fin 4096 := ⟨j.val, by omega⟩
/-- Channel `j` of branch 1 among the 4096 gate columns. -/
def col1 (j : Fin 1024) : Fin 4096 := ⟨1024 + j.val, by omega⟩
/-- Channel `j` of branch 2 among the 4096 gate columns. -/
def col2 (j : Fin 1024) : Fin 4096 := ⟨2048 + j.val, by omega⟩
/-- Channel `j` of branch 3 among the 4096 gate columns. -/
def col3 (j : Fin 1024) : Fin 4096 := ⟨3072 + j.val, by omega⟩

/-- The merge of one token, channel `c`: the four gated branches summed, projected, added to the token. -/
def tok (x g : Fin 1024 → EReal) (wm : Fin 1024 → Fin 4096 → EReal) (b : Fin 4096 → EReal)
    (o0 o1 o2 o3 : Fin 256 → EReal) (wb : Fin 4 → Fin 256 → Fin 1024 → EReal) (wo : Fin 1024 → Fin 1024 → EReal)
    (c : Fin 1024) : EReal :=
  x c + ∑ j, (gated (hid x g) (fun k => wm k (col0 j)) (b (col0 j)) o0 (fun q => wb 0 q j)
      + gated (hid x g) (fun k => wm k (col1 j)) (b (col1 j)) o1 (fun q => wb 1 q j)
      + gated (hid x g) (fun k => wm k (col2 j)) (b (col2 j)) o2 (fun q => wb 2 q j)
      + gated (hid x g) (fun k => wm k (col3 j)) (b (col3 j)) o3 (fun q => wb 3 q j)) * wo j c

theorem pay2_apply (x0 : Vec Ideal S512x1024 .f32) (v1 : Vec Ideal S1x1024 .f32) (r : Fin 512) (c : Fin 1024) :
    k0_pay2 (F := Ideal) x0 v1 (ix2 r c) = hid (fun k => x0 (ix2 r k)) (fun k => v1 (ix2 0 k)) c := by
  pointwise [k0_pay2, hid]

theorem pay3_apply (x0 : Vec Ideal S512x1024 .f32) (v1 : Vec Ideal S1x1024 .f32) (v16 : Vec Ideal S1024x1024 .bf16)
    (v19 : Vec Ideal S1x1024 .f32) (v30 : Vec Ideal S512x256 .bf16) (v31 : Vec Ideal S1x256x1024 .bf16)
    (r : Fin 512) (c : Fin 1024) :
    k0_pay3 (F := Ideal) x0 v1 v16 v19 v30 v31 (ix2 r c) =
      gated (hid (fun k => x0 (ix2 r k)) (fun k => v1 (ix2 0 k))) (fun k => v16 (ix2 k c)) (v19 (ix2 0 c))
        (fun q => v30 (ix2 r q)) (fun q => v31 (ix3 0 q c)) := by
  pointwise [k0_pay3, gated, pay2_apply]

theorem pay4_apply (v15 : FVec Ideal S512x1024 .bf16) (v34 : FVec Ideal S512x1024 .f32) (v35 : Vec Ideal S1024x1024 .bf16)
    (v38 : Vec Ideal S1x1024 .f32) (v49 : Vec Ideal S512x256 .bf16) (v50 : Vec Ideal S1x256x1024 .bf16)
    (r : Fin 512) (c : Fin 1024) :
    k0_pay4 (F := Ideal) v15 v34 v35 v38 v49 v50 (ix2 r c) = v34 (ix2 r c) +
      gated (fun k => v15 (ix2 r k)) (fun k => v35 (ix2 k c)) (v38 (ix2 0 c))
        (fun q => v49 (ix2 r q)) (fun q => v50 (ix3 0 q c)) := by
  pointwise [k0_pay4, gated]

theorem pay5_apply (v15 : FVec Ideal S512x1024 .bf16) (v55 : Vec Ideal S1024x1024 .bf16)
    (v58 : Vec Ideal S1x1024 .f32) (r : Fin 512) (c : Fin 1024) :
    k0_pay5 (F := Ideal) v15 v55 v58 (ix2 r c) =
      Ideal.div 1 (1 + Ideal.exp (0 - (∑ k, v15 (ix2 r k) * v55 (ix2 k c) + v58 (ix2 0 c)))) := by
  pointwise [k0_pay5]

theorem pay1_apply (v0 : Vec Ideal S512x1024 .f32) (v15 : FVec Ideal S512x1024 .bf16) (v54 v68 : FVec Ideal S512x1024 .f32)
    (v69 : Vec Ideal S512x256 .bf16) (v70 : Vec Ideal S1x256x1024 .bf16) (v75 : Vec Ideal S1024x1024 .bf16)
    (v78 : Vec Ideal S1x1024 .f32) (v89 : Vec Ideal S512x256 .bf16) (v90 : Vec Ideal S1x256x1024 .bf16)
    (v96 : Vec Ideal S1024x1024 .bf16) (r : Fin 512) (c : Fin 1024) :
    k0_pay1 (F := Ideal) v0 v15 v54 v68 v69 v70 v75 v78 v89 v90 v96 (ix2 r c) = v0 (ix2 r c) +
      ∑ j, (v54 (ix2 r j) + v68 (ix2 r j) * (∑ q, v69 (ix2 r q) * v70 (ix3 0 q j)) +
        gated (fun k => v15 (ix2 r k)) (fun k => v75 (ix2 k j)) (v78 (ix2 0 j))
          (fun q => v89 (ix2 r q)) (fun q => v90 (ix3 0 q j))) * v96 (ix2 j c) := by
  pointwise [k0_pay1, gated]

theorem out_apply (x0 : Vec Ideal S512x1024 .f32) (x1 x2 x3 x4 : Vec Ideal S512x256 .bf16) (x5 : Vec Ideal S1x1024 .f32)
    (x6 : Vec Ideal S1024x4096 .bf16) (x7 : Vec Ideal S1x4096 .f32) (x8 : Vec Ideal S4x256x1024 .bf16)
    (x9 : Vec Ideal S1024x1024 .bf16) (r : Fin 512) (c : Fin 1024) :
    out0_10 (F := Ideal) x0 x1 x2 x3 x4 x5 x6 x7 x8 x9 (ix2 r c) =
      tok (fun k => x0 (ix2 r k)) (fun k => x5 (ix2 0 k)) (fun k a => x6 (ix2 k a)) (fun a => x7 (ix2 0 a))
        (fun q => x1 (ix2 r q)) (fun q => x2 (ix2 r q)) (fun q => x3 (ix2 r q)) (fun q => x4 (ix2 r q))
        (fun n q j => x8 (ix3 n q j)) (fun j d => x9 (ix2 j d)) c := by
  unfold out0_10 k0_pay6
  rw [View.canon_unit_zero (by funext a; fin_cases a <;> rfl)]
  rw [pay1_apply]
  simp only [pay4_apply, pay3_apply, pay2_apply, pay5_apply]
  unfold tok
  pointwise [gated, col0, col1, col2, col3]

end Cert.MergeIdeal.Hand

end
-- ==== Proof.Merge.Array.lean ====
module

public import proofs.«01_k».proof.Proof.Merge.Tok
public import Idealize.ShloMosaic.Lib.Pipeline.ValueKit

@[expose] public section

set_option maxRecDepth 16384

noncomputable section

namespace Cert.MergeIdeal.Hand

open Cert.MergeIdeal Cert.MergeIdeal.Gen Idealize.ShloMosaic Idealize.ShloMosaic.TcCoe Idealize.SL.Sem

variable (m : (ℓ : Loc nD τ sig) → Buf (Elt Ideal) ℓ)

/-- The block index of every window at every grid point: the token blocks move with the point, the weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0, 0] ∧ win0_9.index t = ![0, 0] ∧ win0_10.index t = ![t.val, 0] :=
  (by decide +kernel : ∀ t : Fin grid0.N, _)

theorem cover : (cfg0.win 10).Covers := by decide +kernel

/-- The merged token stream as one function of the arguments: at each index the token function of its row. -/
def G (c : Dev nD) : S16384x1024.Idx → EReal := fun i =>
  tok (fun k => m ((c : Thread nD τ).loc main_arg0) (ix2 (i 0) k)) (fun k => m ((c : Thread nD τ).loc main_arg5) (ix1 k))
    (fun k a => m ((c : Thread nD τ).loc main_arg6) (ix2 k a)) (fun a => m ((c : Thread nD τ).loc main_arg7) (ix1 a))
    (fun q => m ((c : Thread nD τ).loc main_arg1) (ix2 (i 0) q)) (fun q => m ((c : Thread nD τ).loc main_arg2) (ix2 (i 0) q))
    (fun q => m ((c : Thread nD τ).loc main_arg3) (ix2 (i 0) q)) (fun q => m ((c : Thread nD τ).loc main_arg4) (ix2 (i 0) q))
    (fun n q j => m ((c : Thread nD τ).loc main_arg8) (ix3 n q j)) (fun j d => m ((c : Thread nD τ).loc main_arg9) (ix2 j d)) (i 1)

/-- The token function of equal rows. -/
theorem tok_congr {x x' g g' : Fin 1024 → EReal} {wm wm' : Fin 1024 → Fin 4096 → EReal} {b b' : Fin 4096 → EReal}
    {o0 o0' o1 o1' o2 o2' o3 o3' : Fin 256 → EReal} {wb wb' : Fin 4 → Fin 256 → Fin 1024 → EReal}
    {wo wo' : Fin 1024 → Fin 1024 → EReal} {c c' : Fin 1024}
    (hx : ∀ k, x k = x' k) (hg : ∀ k, g k = g' k) (hwm : ∀ k a, wm k a = wm' k a) (hb : ∀ a, b a = b' a)
    (h0 : ∀ q, o0 q = o0' q) (h1 : ∀ q, o1 q = o1' q) (h2 : ∀ q, o2 q = o2' q) (h3 : ∀ q, o3 q = o3' q)
    (hwb : ∀ n q j, wb n q j = wb' n q j) (hwo : ∀ j d, wo j d = wo' j d) (hc : c = c') :
    tok x g wm b o0 o1 o2 o3 wb wo c = tok x' g' wm' b' o0' o1' o2' o3' wb' wo' c' := by
  obtain rfl : x = x' := funext hx
  obtain rfl : g = g' := funext hg
  obtain rfl : wm = wm' := funext fun k => funext (hwm k)
  obtain rfl : b = b' := funext hb
  obtain rfl : o0 = o0' := funext h0
  obtain rfl : o1 = o1' := funext h1
  obtain rfl : o2 = o2' := funext h2
  obtain rfl : o3 = o3' := funext h3
  obtain rfl : wb = wb' := funext fun n => funext fun q => funext (hwb n q)
  obtain rfl : wo = wo' := funext fun j => funext (hwo j)
  rw [hc]

/-- The gain as the region finds it: the argument under a unit axis. -/
theorem gain_apply (c : Dev nD) (a : Fin 1) (k : Fin 1024) :
    V m c main_v0 (ix2 a k) = m ((c : Thread nD τ).loc main_arg5) (ix1 k) := by
  unfold V; after_reads_at

/-- The gate bias as the region finds it: the argument under a unit axis. -/
theorem bias_apply (c : Dev nD) (a : Fin 1) (k : Fin 4096) :
    V m c main_v2 (ix2 a k) = m ((c : Thread nD τ).loc main_arg7) (ix1 k) := by
  unfold V; after_reads_at

/-- The output array after the run is `G`. -/
theorem final (c : Dev nD) : (dats m 0 c).arrAt 10 cfg0.N = G m c := by
  refine (dats m 0 c).arrAt_eq_of_covers 10 _ cover fun t hf y => ?_
  blk_simp
  rw [after0_10]
  idx_vars y
  rw [out_apply]
  unfold G
  refine tok_congr (fun k => ?_) (fun k => ?_) (fun k a => ?_) (fun a => ?_) (fun q => ?_) (fun q => ?_) (fun q => ?_)
    (fun q => ?_) (fun n q j => ?_) (fun j d => ?_) ?_
  · blk_ext [iblk, V, idx t]
  · refine Eq.trans ?_ (gain_apply m c 0 k)
    blk_ext [iblk, idx t]
  · blk_ext [iblk, V, idx t]
  · refine Eq.trans ?_ (bias_apply m c 0 a)
    blk_ext [iblk, idx t]
  iterate 6 blk_ext [iblk, V, idx t]
  · apply Fin.ext
    blk_simp [idx t]

end Cert.MergeIdeal.Hand

end
-- ==== Proof.Merge.Reference.lean ====
module

public import proofs.«01_k».proof.Proof.Merge.Tok
public import proofs.«01_k».proof.Proof.Gen.MergeRefIdeal.Run
public import proofs.«01_k».proof.Proof.Gen.MergeRefIdeal.Read

@[expose] public section

set_option maxRecDepth 16384

noncomputable section

namespace Cert.MergeRefIdeal.Hand

open Cert.MergeRefIdeal Cert.MergeRefIdeal.Read Idealize.ShloMosaic Cert.MergeIdeal.Hand

variable (x0 : (⟨S16384x1024, .f32⟩ : BufTy).Contents (Elt Ideal)) (x1 x2 x3 x4 : (⟨S16384x256, .bf16⟩ : BufTy).Contents (Elt Ideal))
  (x5 : (⟨S1024, .f32⟩ : BufTy).Contents (Elt Ideal)) (x6 : (⟨S1024x4096, .f32⟩ : BufTy).Contents (Elt Ideal))
  (x7 : (⟨S4096, .f32⟩ : BufTy).Contents (Elt Ideal)) (x8 : (⟨S4x256x1024, .f32⟩ : BufTy).Contents (Elt Ideal))
  (x9 : (⟨S1024x1024, .f32⟩ : BufTy).Contents (Elt Ideal))

/-- The reference's normalised token. -/
theorem h_apply (r : Fin 16384) (k : Fin 1024) :
    val_main_v12 (F := Ideal) x0 x5 (ix2 r k) = hid (fun k => x0 (ix2 r k)) (fun k => x5 (ix1 k)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, hid]

/-- Zero minus an extended real is its negation. -/
theorem zero_minus (x : EReal) : 0 - x = -x := by rw [sub_eq_add_neg, zero_add]

/-- The reference's gates. -/
theorem gate_apply (r : Fin 16384) (n : Fin 4) (j : Fin 1024) (e : Fin 4096) (he : e.val = n.val * 1024 + j.val) :
    val_main_v34 (F := Ideal) x0 x5 x6 x7 (ix3 r n j) =
      Ideal.div 1 (1 + Ideal.exp (0 - (∑ k, hid (fun k => x0 (ix2 r k)) (fun k => x5 (ix1 k)) k * x6 (ix2 k e) + x7 (ix1 e)))) := by
  have hb : n.val * 1024 + j.val < 4096 := by omega
  obtain rfl : e = ⟨n.val * 1024 + j.val, hb⟩ := Fin.ext he
  pointwise [val_main_v34, val_main_v33, val_main_v32, val_main_v31, val_main_v30, val_main_v29, val_main_v28, val_main_v27,
    val_main_v26, val_main_v25, val_main_v24, val_main_cst_2, val_main_cst_3, h_apply]
  rw [zero_minus]

/-- The reference's projected branches. -/
theorem proj_apply (r : Fin 16384) (n : Fin 4) (j : Fin 1024) :
    val_main_v23 (F := Ideal) x1 x2 x3 x4 x8 (ix3 r n j) =
      ∑ q, x8 (ix3 n q j) * (if n.val < 1 then x1 (ix2 r q) else if n.val - 1 < 1 then x2 (ix2 r q)
        else if n.val - 1 - 1 < 1 then x3 (ix2 r q) else x4 (ix2 r q)) := by
  pointwise [val_main_v23, val_main_v22, val_main_v21, val_main_v20, val_main_v19, val_main_v18, val_main_v17, val_main_v16,
    val_main_v15, val_main_v14, val_main_v13]
  rfl

/-- One summand of the merge over the branches, the factors of each product of the projection in the other order. -/
theorem gated_eq (h : Fin 1024 → EReal) (wm : Fin 1024 → EReal) (b : EReal) (o : Fin 256 → EReal) (wb : Fin 256 → EReal) :
    Ideal.div 1 (1 + Ideal.exp (0 - (∑ k, h k * wm k + b))) * (∑ q, wb q * o q) = gated h wm b o wb := by
  unfold gated
  congr 1
  exact Finset.sum_congr rfl fun q _ => mul_comm _ _

/-- The reference's result at an index is the token function of its row. -/
theorem out_apply (r : Fin 16384) (c : Fin 1024) :
    val_main_v38 (F := Ideal) x0 x1 x2 x3 x4 x5 x6 x7 x8 x9 (ix2 r c) =
      tok (fun k => x0 (ix2 r k)) (fun k => x5 (ix1 k)) (fun k a => x6 (ix2 k a)) (fun a => x7 (ix1 a))
        (fun q => x1 (ix2 r q)) (fun q => x2 (ix2 r q)) (fun q => x3 (ix2 r q)) (fun q => x4 (ix2 r q))
        (fun n q j => x8 (ix3 n q j)) (fun j d => x9 (ix2 j d)) c := by
  pointwise [val_main_v38, val_main_v37, val_main_v36, val_main_v35, val_main_cst_4]
  unfold tok
  congr 1
  refine Finset.sum_congr rfl fun j _ => ?_
  congr 1
  rw [Fin.sum_univ_four, gate_apply x0 x5 x6 x7 r 0 j (col0 j) (by simp [col0]),
    gate_apply x0 x5 x6 x7 r 1 j (col1 j) (by simp [col1]),
    gate_apply x0 x5 x6 x7 r 2 j (col2 j) (by simp [col2]), gate_apply x0 x5 x6 x7 r 3 j (col3 j) (by simp [col3])]
  simp only [proj_apply]
  rw [← gated_eq, ← gated_eq, ← gated_eq, ← gated_eq]
  rfl

end Cert.MergeRefIdeal.Hand

end
-- ==== Proof.Merge.Claim.lean ====
module

public import proofs.«01_k».proof.Defs
public import proofs.«01_k».proof.Proof.Merge.Array
public import proofs.«01_k».proof.Proof.Merge.Reference
public import proofs.«01_k».proof.Proof.Gen.Merge.Frame

@[expose] public section

set_option maxRecDepth 16384

noncomputable section

namespace Cert.Proof.Merge

open Idealize.ShloMosaic Idealize.ShloMosaic.TcCoe Idealize.SL.Sem

/-- Index by index, the reference's term of arguments that agree with the kernel's is the kernel's array. -/
theorem ref_eq (m : (ℓ : Loc Cert.MergeIdeal.nD Cert.MergeIdeal.τ Cert.MergeIdeal.sig) → Buf (Elt Ideal) ℓ) (c : Dev Cert.MergeIdeal.nD) :
    Cert.MergeRefIdeal.Read.val_main_v38 (F := Ideal) (m ((c : Thread Cert.MergeIdeal.nD Cert.MergeIdeal.τ).loc Cert.MergeIdeal.main_arg0))
      (m ((c : Thread Cert.MergeIdeal.nD Cert.MergeIdeal.τ).loc Cert.MergeIdeal.main_arg1)) (m ((c : Thread Cert.MergeIdeal.nD Cert.MergeIdeal.τ).loc Cert.MergeIdeal.main_arg2))
      (m ((c : Thread Cert.MergeIdeal.nD Cert.MergeIdeal.τ).loc Cert.MergeIdeal.main_arg3)) (m ((c : Thread Cert.MergeIdeal.nD Cert.MergeIdeal.τ).loc Cert.MergeIdeal.main_arg4))
      (m ((c : Thread Cert.MergeIdeal.nD Cert.MergeIdeal.τ).loc Cert.MergeIdeal.main_arg5)) (m ((c : Thread Cert.MergeIdeal.nD Cert.MergeIdeal.τ).loc Cert.MergeIdeal.main_arg6))
      (m ((c : Thread Cert.MergeIdeal.nD Cert.MergeIdeal.τ).loc Cert.MergeIdeal.main_arg7)) (m ((c : Thread Cert.MergeIdeal.nD Cert.MergeIdeal.τ).loc Cert.MergeIdeal.main_arg8))
      (m ((c : Thread Cert.MergeIdeal.nD Cert.MergeIdeal.τ).loc Cert.MergeIdeal.main_arg9)) = Cert.MergeIdeal.Hand.G m c := by
  funext i
  idx_vars i
  exact Cert.MergeRefIdeal.Hand.out_apply ..

theorem algebraic : Cert.algebraic_MergeIdeal_MergeRefIdeal (hMergeIdeal := Cert.MergeIdeal.Gen.facts) (hMergeRefIdeal := Cert.MergeRefIdeal.Gen.facts) := by
  intro m g m' g' _ hagree
  refine ⟨fun c => Cert.MergeIdeal.Hand.G m c, ?_, ?_⟩
  · refine (θ_run _ _ _).mono (fun r h c => ⟨(h c).1.trans (Cert.MergeIdeal.Hand.final m c), (h c).2⟩) (Cert.MergeIdeal.Value.run_blocks m g)
  · refine (θ_run _ _ _).mono (fun r h c => ⟨?_, (h c).2⟩) (Cert.MergeRefIdeal.Value.run m' g')
    obtain ⟨h0, h1, h2, h3, h4, h5, h6, h7, h8, h9⟩ := hagree c
    rw [(h c).1, h0, h1, h2, h3, h4, h5, h6, h7, h8, h9]
    exact (Cert.MergeRefIdeal.Read.val_main_v38_eq ..).trans (ref_eq m c)

end Cert.Proof.Merge

end
-- ==== Proof.Ffn.Tok.lean ====
module

public import proofs.«01_k».proof.Proof.Gen.FfnIdeal.Value
public import Idealize.ShloMosaic.Lib.Pointwise
public import Idealize.ShloMosaic.Lib.StableHlo.ReadAt

@[expose] public section

set_option maxRecDepth 16384

noncomputable section

namespace Cert.FfnIdeal.Hand

open Cert.FfnIdeal Cert.FfnIdeal.Gen Idealize.ShloMosaic

/-- Channel `k` of a token normalised by the root mean square of its 1024 channels, times the gain `g`. -/
def hid (x g : Fin 1024 → EReal) (k : Fin 1024) : EReal :=
  x k * Ideal.rsqrt (Ideal.div (∑ a, x a * x a) (Ideal.ofBits .f32 0x44800000#32) + Ideal.ofBits .f32 0x358637BD#32) * g k

/-- The tanh form of the GELU. -/
def gelu (v : EReal) : EReal :=
  Ideal.ofBits .f32 0x3F000000#32 * v *
    (1 + Ideal.tanh (Ideal.ofBits .f32 0x3F4C422A#32 * (v + Ideal.ofBits .f32 0x3D372713#32 * (v * v * v))))

/-- The causal convolution over three steps at one channel: bias, then the token two before, one before and the token. -/
def conv (b w0 w1 w2 a2 a1 a0 : EReal) : EReal := b + w0 * a2 + w1 * a1 + w2 * a0

theorem pay2_apply (x0 : Vec Ideal S512x1024 .f32) (v1 : Vec Ideal S1x1024 .f32) (r : Fin 512) (c : Fin 1024) :
    k0_pay2 (F := Ideal) x0 v1 (ix2 r c) = hid (fun k => x0 (ix2 r k)) (fun k => v1 (ix2 0 k)) c := by
  pointwise [k0_pay2, hid]

theorem pay4_apply (x0 : Vec Ideal S512x1024 .f32) (v1 : Vec Ideal S1x1024 .f32) (w : Vec Ideal S1024x1408 .bf16) (r : Fin 512) (n : Fin 1408) :
    k0_pay4 (F := Ideal) x0 v1 w (ix2 r n) = ∑ k, hid (fun k => x0 (ix2 r k)) (fun k => v1 (ix2 0 k)) k * w (ix2 k n) := by
  pointwise [k0_pay4, pay2_apply]

theorem pay5_apply (x0 : Vec Ideal S512x1024 .f32) (v1 : Vec Ideal S1x1024 .f32) (w : Vec Ideal S1024x1408 .bf16) (r : Fin 512) (n : Fin 1408) :
    k0_pay5 (F := Ideal) x0 v1 w (ix2 r n) = ∑ k, hid (fun k => x0 (ix2 r k)) (fun k => v1 (ix2 0 k)) k * w (ix2 k n) := by
  pointwise [k0_pay5, pay2_apply]

/-- A select on a row number compared with a small literal is a choice on the row. -/
theorem select_row (v k : BitVec 32) (r l : ℕ) (hv : v = BitVec.ofNat 32 r) (hk : k = BitVec.ofNat 32 l) (hr : r < 512) (hl : l < 512) (a b : EReal) :
    Scalar.select (IntOp.cmpi .eq v k) a b = if r = l then a else b := by
  subst hv hk
  have h : (BitVec.ofNat 32 r = BitVec.ofNat 32 l) ↔ r = l := by
    constructor
    · intro h
      have h' := congrArg BitVec.toNat h
      simp only [BitVec.toNat_ofNat] at h'
      omega
    · rintro rfl; rfl
  by_cases e : r = l
  · rw [if_pos e]
    subst e
    simp [Scalar.select, IntOp.cmpi]
  · rw [if_neg e]
    have h2 : ¬ BitVec.ofNat 32 r = BitVec.ofNat 32 l := fun x => e (h.mp x)
    simp [Scalar.select, IntOp.cmpi, beq_eq_false_iff_ne.mpr h2]

/-- The row one before: the carried row at the tile's first row. -/
def sh1 {N : ℕ} (p : Fin N → EReal) (a : Fin 512 → Fin N → EReal) (r : Fin 512) (n : Fin N) : EReal :=
  if r.val = 0 then p n else a ⟨r.val - 1, by omega⟩ n

/-- The row two before: the carried rows at the tile's first two rows. -/
def sh2 {N : ℕ} (p1 p2 : Fin N → EReal) (a : Fin 512 → Fin N → EReal) (r : Fin 512) (n : Fin N) : EReal :=
  if r.val = 0 then p2 n else if r.val = 1 then p1 n else a ⟨r.val - 2, by omega⟩ n

theorem pay6_apply (v29 : IVec S512x1 32) (hv : ∀ r : Fin 512, v29 (ix2 r 0) = BitVec.ofNat 32 r.val) (a : FVec Ideal S512x1408 .f32) (p : Vec Ideal S1x1408 .f32) (r : Fin 512) (n : Fin 1408) :
    k0_pay6 (F := Ideal) v29 a p (ix2 r n) = sh1 (fun n => p (ix2 0 n)) (fun r n => a (ix2 r n)) r n := by
  pointwise [k0_pay6]
  rw [select_row _ _ r.val 0 (hv r) rfl r.isLt (by omega)]
  unfold sh1
  split_ifs with h
  · rfl
  · congr 2; exact Fin.ext (by show (r.val + 512 - 1) % 512 = r.val - 1; omega)

theorem pay9_apply (v29 : IVec S512x1 32) (hv : ∀ r : Fin 512, v29 (ix2 r 0) = BitVec.ofNat 32 r.val) (a : FVec Ideal S512x1408 .f32) (p1 p2 b w : Vec Ideal S1x1408 .f32) (r : Fin 512) (n : Fin 1408) :
    k0_pay9 (F := Ideal) v29 a p1 p2 b w (ix2 r n) = b (ix2 0 n) + w (ix2 0 n) *
      sh2 (fun n => p1 (ix2 0 n)) (fun n => p2 (ix2 0 n)) (fun r n => a (ix2 r n)) r n := by
  pointwise [k0_pay9]
  rw [select_row _ _ r.val 0 (hv r) rfl r.isLt (by omega), select_row _ _ r.val 1 (hv r) rfl r.isLt (by omega)]
  unfold sh2
  congr 2
  split_ifs with h h'
  · rfl
  · rfl
  · congr 2; exact Fin.ext (by show (r.val + 512 - 2) % 512 = r.val - 2; omega)

theorem pay7_apply (a : FVec Ideal S512x1408 .f32) (r : Fin 8) (n : Fin 1408) :
    k0_pay7 (F := Ideal) a (ix2 r n) = a (ix2 ⟨504 + r.val, by omega⟩ n) := by
  pointwise [k0_pay7]

theorem pay8_apply (a : FVec Ideal S512x1408 .f32) (z : Fin 1) (r : Fin 8) (n : Fin 1408) :
    k0_pay8 (F := Ideal) a (ix3 z r n) = a (ix2 ⟨504 + r.val, by omega⟩ n) := by
  pointwise [k0_pay8]

theorem pay10_apply (x : Vec Ideal S512x1024 .f32) (a g a1 s : FVec Ideal S512x1408 .f32) (w1 w2 : Vec Ideal S1x1408 .f32) (wd : Vec Ideal S1408x1024 .bf16) (r : Fin 512) (c : Fin 1024) :
    k0_pay10 (F := Ideal) x a g a1 s w1 w2 wd (ix2 r c) = x (ix2 r c) +
      ∑ n, gelu (s (ix2 r n) + w1 (ix2 0 n) * a1 (ix2 r n) + w2 (ix2 0 n) * a (ix2 r n)) * g (ix2 r n) * wd (ix2 n c) := by
  pointwise [k0_pay10, gelu]

theorem pay11_apply (h : FVec Ideal S512x1024 .bf16) (w : Vec Ideal S1024x1408 .bf16) (r : Fin 512) (n : Fin 1408) :
    k0_pay11 (F := Ideal) h w (ix2 r n) = ∑ k, h (ix2 r k) * w (ix2 k n) := by
  pointwise [k0_pay11]

theorem pay12_apply (h : FVec Ideal S512x1024 .bf16) (w : Vec Ideal S1024x1408 .bf16) (r : Fin 512) (n : Fin 1408) :
    k0_pay12 (F := Ideal) h w (ix2 r n) = ∑ k, h (ix2 r k) * w (ix2 k n) := by
  pointwise [k0_pay12]

theorem pay15_apply (a : FVec Ideal S512x1408 .f32) (r : Fin 8) (n : Fin 1408) :
    k0_pay15 (F := Ideal) a (ix2 r n) = a (ix2 ⟨504 + r.val, by omega⟩ n) := by
  pointwise [k0_pay15]

theorem pay16_apply (a : FVec Ideal S512x1408 .f32) (z : Fin 1) (r : Fin 8) (n : Fin 1408) :
    k0_pay16 (F := Ideal) a (ix3 z r n) = a (ix2 ⟨504 + r.val, by omega⟩ n) := by
  pointwise [k0_pay16]

theorem pay17_apply (v29 : IVec S512x1 32) (hv : ∀ r : Fin 512, v29 (ix2 r 0) = BitVec.ofNat 32 r.val) (h : FVec Ideal S512x1024 .bf16)
    (a : FVec Ideal S512x1408 .f32) (w : Vec Ideal S1024x1408 .bf16) (p1 p2 b w0 w1 : Vec Ideal S1x1408 .f32)
    (ha : ∀ r n, ∑ k, h (ix2 r k) * w (ix2 k n) = a (ix2 r n)) (r : Fin 512) (n : Fin 1408) :
    k0_pay17 (F := Ideal) v29 a p1 p2 (k0_pay13 v29) (k0_pay14 h w) b w0 w1 (ix2 r n) = b (ix2 0 n) + w0 (ix2 0 n) *
      sh2 (fun n => p1 (ix2 0 n)) (fun n => p2 (ix2 0 n)) (fun r n => a (ix2 r n)) r n
      + w1 (ix2 0 n) * sh1 (fun n => p1 (ix2 0 n)) (fun r n => a (ix2 r n)) r n := by
  pointwise [k0_pay17, k0_pay13, k0_pay14, pay11_apply]
  rw [select_row _ _ r.val 0 (hv r) rfl r.isLt (by omega), select_row _ _ r.val 1 (hv r) rfl r.isLt (by omega),
    select_row _ _ r.val 0 (hv r) rfl r.isLt (by omega)]
  simp only [ha]
  unfold sh2 sh1
  congr 2
  · congr 1
    split_ifs with h h'
    · rfl
    · rfl
    · congr 2; exact Fin.ext (by show (r.val + 512 - 2) % 512 = r.val - 2; omega)
  · split_ifs with h
    · rfl
    · congr 2; exact Fin.ext (by show (r.val + 512 - 1) % 512 = r.val - 1; omega)

theorem pay18_apply (a : FVec Ideal S512x1408 .f32) (w : Vec Ideal S1x1408 .f32) (r : Fin 512) (n : Fin 1408) :
    k0_pay18 (F := Ideal) a w (ix2 r n) = w (ix2 0 n) * a (ix2 r n) := by
  pointwise [k0_pay18]

theorem pay1_apply (y : FVec Ideal S512x1024 .f32) (g s a : FVec Ideal S512x1408 .f32) (wd : Vec Ideal S1408x1024 .bf16) (r : Fin 512) (c : Fin 1024) :
    k0_pay1 (F := Ideal) y g s a wd (ix2 r c) = y (ix2 r c) + ∑ n, gelu (s (ix2 r n) + a (ix2 r n)) * g (ix2 r n) * wd (ix2 n c) := by
  pointwise [k0_pay1, gelu]

end Cert.FfnIdeal.Hand

end
-- ==== Proof.Ffn.Tile.lean ====
module

public import proofs.«01_k».proof.Proof.Ffn.Tok

@[expose] public section

set_option maxRecDepth 16384

noncomputable section

namespace Cert.FfnIdeal.Hand

open Cert.FfnIdeal Cert.FfnIdeal.Gen Idealize.ShloMosaic

/-- Column `n` of the gate half of the up projection. -/
def gcol (n : Fin 2816) : Fin 5632 := ⟨2816 + n.val, by omega⟩
/-- Column `n` of the activation half of the up projection. -/
def acol (n : Fin 2816) : Fin 5632 := ⟨n.val, by omega⟩
/-- Column `n` of the first half of the channels. -/
def lo (n : Fin 1408) : Fin 2816 := ⟨n.val, by omega⟩
/-- Column `n` of the second half of the channels. -/
def hi (n : Fin 1408) : Fin 2816 := ⟨1408 + n.val, by omega⟩

/-- The sum over the channels is the sum over their two halves. -/
theorem sum_halves (f : Fin 2816 → EReal) : ∑ n, f n = ∑ n, f (lo n) + ∑ n, f (hi n) :=
  Fin.sum_univ_add (a := 1408) (b := 1408) f

/-- One token of the channel mixer: the gated activation projected down and added to the token's own channel. -/
def mix (x : EReal) (b w0 w1 w2 a2 a1 a0 g wd : Fin 2816 → EReal) : EReal :=
  x + ∑ n, gelu (conv (b n) (w0 n) (w1 n) (w2 n) (a2 n) (a1 n) (a0 n)) * g n * wd n

variable (x0 : Vec Ideal S512x1024 .f32) (x1 : Vec Ideal S1x1024 .f32) (x2 : Vec Ideal S1024x5632 .bf16)
  (x3 : Vec Ideal S3x2816 .f32) (x4 : Vec Ideal S1x2816 .f32) (x5 : Vec Ideal S2816x1024 .bf16)

/-- A tile's up projection. -/
def up (r : Fin 512) (n : Fin 5632) : EReal := ∑ k, hid (fun k => x0 (ix2 r k)) (fun k => x1 (ix2 0 k)) k * x2 (ix2 k n)

/-- The row numbers of the tile. -/
def rows : IVec S512x1 32 := iota Kind.tc S512x1 32 [0] iota_S512x1_d0_w32

theorem rows_apply (r : Fin 512) : rows (ix2 r 0) = BitVec.ofNat 32 r.val := by
  unfold rows; pointwise

/-- The activation half of the up projection on the first 1408 channels, as the body computes it. -/
def aL : FVec Ideal S512x1408 .f32 := k0_pay4 x0 x1 (View.ld x2 (Rect.unit ![0, 0] ![1024, 1408] inb_S1024x5632_S1024x1408_0_0))
/-- The gate half on the first 1408 channels. -/
def gL : FVec Ideal S512x1408 .f32 := k0_pay5 x0 x1 (View.ld x2 (Rect.unit ![0, 2816] ![1024, 1408] inb_S1024x5632_S1024x1408_0_2816))
/-- The activation half on the last 1408 channels. -/
def aR : FVec Ideal S512x1408 .f32 := k0_pay11 (k0_pay2 x0 x1) (View.ld x2 (Rect.unit ![0, 1408] ![1024, 1408] inb_S1024x5632_S1024x1408_0_1408))
/-- The gate half on the last 1408 channels. -/
def gR : FVec Ideal S512x1408 .f32 := k0_pay12 (k0_pay2 x0 x1) (View.ld x2 (Rect.unit ![0, 4224] ![1024, 1408] inb_S1024x5632_S1024x1408_0_4224))

theorem aL_apply (r : Fin 512) (n : Fin 1408) : aL x0 x1 x2 (ix2 r n) = up x0 x1 x2 r (acol (lo n)) := by
  unfold aL; rw [pay4_apply]; unfold up acol lo; pointwise
theorem gL_apply (r : Fin 512) (n : Fin 1408) : gL x0 x1 x2 (ix2 r n) = up x0 x1 x2 r (gcol (lo n)) := by
  unfold gL; rw [pay5_apply]; unfold up gcol lo; pointwise
theorem aR_apply (r : Fin 512) (n : Fin 1408) : aR x0 x1 x2 (ix2 r n) = up x0 x1 x2 r (acol (hi n)) := by
  unfold aR; rw [pay11_apply]; simp only [pay2_apply]; unfold up acol hi; pointwise
theorem gR_apply (r : Fin 512) (n : Fin 1408) : gR x0 x1 x2 (ix2 r n) = up x0 x1 x2 r (gcol (hi n)) := by
  unfold gR; rw [pay12_apply]; simp only [pay2_apply]; unfold up gcol hi; pointwise
  simp only [← Nat.add_assoc, Nat.reduceAdd]

/-- What the body stores for a tile, over the carried rows it read. -/
def tile (pl1 pl2 pr1 pr2 : Vec Ideal S1x1408 .f32) : FVec Ideal S512x1024 .f32 :=
  k0_pay1
    (k0_pay10 x0 (aL x0 x1 x2) (gL x0 x1 x2) (k0_pay6 rows (aL x0 x1 x2) pl1)
      (k0_pay9 rows (aL x0 x1 x2) pl1 pl2 (View.ld x4 (Rect.unit ![0, 0] ![1, 1408] inb_S1x2816_S1x1408_0_0))
        (View.ld x3 (Rect.unit ![0, 0] ![1, 1408] inb_S3x2816_S1x1408_0_0)))
      (View.ld x3 (Rect.unit ![1, 0] ![1, 1408] inb_S3x2816_S1x1408_1_0))
      (View.ld x3 (Rect.unit ![2, 0] ![1, 1408] inb_S3x2816_S1x1408_2_0))
      (View.ld x5 (Rect.unit ![0, 0] ![1408, 1024] inb_S2816x1024_S1408x1024_0_0)))
    (gR x0 x1 x2)
    (k0_pay17 rows (aR x0 x1 x2) pr1 pr2 (k0_pay13 rows)
      (k0_pay14 (k0_pay2 x0 x1) (View.ld x2 (Rect.unit ![0, 1408] ![1024, 1408] inb_S1024x5632_S1024x1408_0_1408)))
      (View.ld x4 (Rect.unit ![0, 1408] ![1, 1408] inb_S1x2816_S1x1408_0_1408))
      (View.ld x3 (Rect.unit ![0, 1408] ![1, 1408] inb_S3x2816_S1x1408_0_1408))
      (View.ld x3 (Rect.unit ![1, 1408] ![1, 1408] inb_S3x2816_S1x1408_1_1408)))
    (k0_pay18 (aR x0 x1 x2) (View.ld x3 (Rect.unit ![2, 1408] ![1, 1408] inb_S3x2816_S1x1408_2_1408)))
    (View.ld x5 (Rect.unit ![1408, 0] ![1408, 1024] inb_S2816x1024_S1408x1024_1408_0))

theorem tile_apply (pl1 pl2 pr1 pr2 : Vec Ideal S1x1408 .f32) (p1 p2 : Fin 2816 → EReal)
    (hl1 : ∀ n, pl1 (ix2 0 n) = p1 (lo n)) (hl2 : ∀ n, pl2 (ix2 0 n) = p2 (lo n))
    (hr1 : ∀ n, pr1 (ix2 0 n) = p1 (hi n)) (hr2 : ∀ n, pr2 (ix2 0 n) = p2 (hi n)) (r : Fin 512) (d : Fin 1024) :
    tile x0 x1 x2 x3 x4 x5 pl1 pl2 pr1 pr2 (ix2 r d) =
      mix (x0 (ix2 r d)) (fun n => x4 (ix2 0 n)) (fun n => x3 (ix2 0 n)) (fun n => x3 (ix2 1 n)) (fun n => x3 (ix2 2 n))
        (sh2 p1 p2 (fun r n => up x0 x1 x2 r (acol n)) r) (sh1 p1 (fun r n => up x0 x1 x2 r (acol n)) r)
        (fun n => up x0 x1 x2 r (acol n)) (fun n => up x0 x1 x2 r (gcol n)) (fun n => x5 (ix2 n d)) := by
  unfold tile mix conv
  rw [pay1_apply, pay10_apply, sum_halves, add_assoc]
  simp only [pay6_apply _ rows_apply, pay9_apply _ rows_apply, pay18_apply,
    pay17_apply _ rows_apply _ (aR x0 x1 x2) _ _ _ _ _ _ (fun _ _ => (pay11_apply _ _ _ _).symm), aL_apply, gL_apply, aR_apply, gR_apply]
  simp only [sh1, sh2, hl1, hl2, hr1, hr2]
  pointwise [lo, hi]

end Cert.FfnIdeal.Hand

end
-- ==== Proof.Ffn.Carry.lean ====
module

public import proofs.«01_k».proof.Proof.Ffn.Tile
public import Idealize.ShloMosaic.Lib.Pipeline.ValueKit
public import Idealize.ShloMosaic.Lib.Pipeline.ReadBack

@[expose] public section

set_option maxRecDepth 16384

noncomputable section

namespace Cert.FfnIdeal.Hand

open Cert.FfnIdeal Cert.FfnIdeal.Gen Idealize.ShloMosaic Idealize.ShloMosaic.TcCoe Idealize.SL.Sem

variable (m : (ℓ : Loc nD τ sig) → Buf (Elt Ideal) ℓ)

/-- Two stores of eight rows, one per half of the channels, are the rows they agree with. -/
theorem canon_rows (F : Fin 8 → Fin 2816 → EReal) (w0 w1 : S8x1408.Idx → EReal) (L : List (View.Piece (Elt Ideal) S8x2816 .f32))
    (h0 : ∀ s n, w0 (ix2 s n) = F s (lo n)) (h1 : ∀ s n, w1 (ix2 s n) = F s (hi n)) (s : Fin 8) (n : Fin 2816) :
    View.canon (Val := Elt Ideal) (⟨Rect.unit ![0, 1408] ![8, 1408] inb_S8x2816_S8x1408_0_1408, w1⟩
      :: ⟨Rect.unit ![0, 0] ![8, 1408] inb_S8x2816_S8x1408_0_0, w0⟩ :: L) (ix2 s n) = F s n := by
  by_cases h : n.val < 1408
  · rw [View.canon_cons_of_not_mem _ _ (by rw [Rect.mem_set_unit]; intro hh; have := (hh 1).1; simp at this; omega)]
    have e : (ix2 s n : S8x2816.Idx) = (Rect.unit ![0, 0] ![8, 1408] inb_S8x2816_S8x1408_0_0).emb (ix2 s ⟨n.val, h⟩) := by
      funext a; apply Fin.ext; fin_cases a <;> simp [Rect.emb_apply]
    rw [e, View.canon_cons_emb]
    exact h0 s _
  · have e : (ix2 s n : S8x2816.Idx) = (Rect.unit ![0, 1408] ![8, 1408] inb_S8x2816_S8x1408_0_1408).emb (ix2 s ⟨n.val - 1408, by omega⟩) := by
      funext a; apply Fin.ext; fin_cases a <;> simp [Rect.emb_apply]
      omega
    rw [e, View.canon_cons_emb, h1]
    congr 1; apply Fin.ext; simp [hi]; omega

/-- The same two stores under a unit axis. -/
theorem canon_rows3 (F : Fin 8 → Fin 2816 → EReal) (w0 w1 : S1x8x1408.Idx → EReal) (L : List (View.Piece (Elt Ideal) S1x8x2816 .f32))
    (h0 : ∀ z s n, w0 (ix3 z s n) = F s (lo n)) (h1 : ∀ z s n, w1 (ix3 z s n) = F s (hi n)) (z : Fin 1) (s : Fin 8) (n : Fin 2816) :
    View.canon (Val := Elt Ideal) (⟨Rect.unit ![0, 0, 1408] ![1, 8, 1408] inb_S1x8x2816_S1x8x1408_0_0_1408, w1⟩
      :: ⟨Rect.unit ![0, 0, 0] ![1, 8, 1408] inb_S1x8x2816_S1x8x1408_0_0_0, w0⟩ :: L) (ix3 z s n) = F s n := by
  by_cases h : n.val < 1408
  · rw [View.canon_cons_of_not_mem _ _ (by rw [Rect.mem_set_unit]; intro hh; have := (hh 2).1; simp at this; omega)]
    have e : (ix3 z s n : S1x8x2816.Idx) = (Rect.unit ![0, 0, 0] ![1, 8, 1408] inb_S1x8x2816_S1x8x1408_0_0_0).emb (ix3 z s ⟨n.val, h⟩) := by
      funext a; apply Fin.ext; fin_cases a <;> simp [Rect.emb_apply]
    rw [e, View.canon_cons_emb]
    exact h0 z s _
  · have e : (ix3 z s n : S1x8x2816.Idx) = (Rect.unit ![0, 0, 1408] ![1, 8, 1408] inb_S1x8x2816_S1x8x1408_0_0_1408).emb (ix3 z s ⟨n.val - 1408, by omega⟩) := by
      funext a; apply Fin.ext; fin_cases a <;> simp [Rect.emb_apply]
      omega
    rw [e, View.canon_cons_emb, h1]
    congr 1; apply Fin.ext; simp [hi]; omega

/-- The tile's up projection at grid point `t`. -/
abbrev upt (c : Dev nD) (t : Fin cfg0.N) (r : Fin 512) (n : Fin 5632) : EReal := up (iblk m c 0 t) (iblk m c 1 t) (iblk m c 2 t) r n

/-- The scratch after any point: the last eight rows of the tile's activation half. -/
theorem carried (c : Dev nD) (t : Fin cfg0.N) (s : Fin 8) (n : Fin 2816) :
    (outsAt0 m c t.val t.isLt).2.2 (ix2 s n) = upt m c t ⟨504 + s.val, by omega⟩ (acol n) := by
  by_cases h : t.val % 16 = 0
  · rw [outsAt0_A m c t h]
    frame_out
    exact canon_rows (fun s n => upt m c t ⟨504 + s.val, by omega⟩ (acol n)) _ _ _
      (fun s n => (pay7_apply _ s n).trans (aL_apply ..)) (fun s n => (pay15_apply _ s n).trans (aR_apply ..)) s n
  · rw [outsAt0_B m c t h]
    frame_out
    exact canon_rows (fun s n => upt m c t ⟨504 + s.val, by omega⟩ (acol n)) _ _ _
      (fun s n => (pay7_apply _ s n).trans (aL_apply ..)) (fun s n => (pay15_apply _ s n).trans (aR_apply ..)) s n

/-- The tail block after any point: the same eight rows. -/
theorem tailed (c : Dev nD) (t : Fin cfg0.N) (z : Fin 1) (s : Fin 8) (n : Fin 2816) :
    (outsAt0 m c t.val t.isLt).2.1 (ix3 z s n) = upt m c t ⟨504 + s.val, by omega⟩ (acol n) := by
  by_cases h : t.val % 16 = 0
  · rw [outsAt0_A m c t h]
    frame_out
    exact canon_rows3 (fun s n => upt m c t ⟨504 + s.val, by omega⟩ (acol n)) _ _ _
      (fun z s n => (pay8_apply _ z s n).trans (aL_apply ..)) (fun z s n => (pay16_apply _ z s n).trans (aR_apply ..)) z s n
  · rw [outsAt0_B m c t h]
    frame_out
    exact canon_rows3 (fun s n => upt m c t ⟨504 + s.val, by omega⟩ (acol n)) _ _ _
      (fun z s n => (pay8_apply _ z s n).trans (aL_apply ..)) (fun z s n => (pay16_apply _ z s n).trans (aR_apply ..)) z s n

/-- The row `7 - l` the tile before left, zero at a sequence's first tile. -/
def before (c : Dev nD) (t : Fin cfg0.N) (s : Fin 8) (n : Fin 2816) : EReal :=
  if t.val % 16 = 0 then 0 else upt m c ⟨t.val - 1, by omega⟩ ⟨504 + s.val, by omega⟩ (acol n)

/-- The output block after any point. -/
theorem mixed (c : Dev nD) (t : Fin cfg0.N) (r : Fin 512) (d : Fin 1024) :
    (outsAt0 m c t.val t.isLt).1 (ix2 r d) =
      mix (iblk m c 0 t (ix2 r d)) (fun n => iblk m c 4 t (ix2 0 n)) (fun n => iblk m c 3 t (ix2 0 n)) (fun n => iblk m c 3 t (ix2 1 n))
        (fun n => iblk m c 3 t (ix2 2 n)) (sh2 (before m c t 7) (before m c t 6) (fun r n => upt m c t r (acol n)) r)
        (sh1 (before m c t 7) (fun r n => upt m c t r (acol n)) r)
        (fun n => upt m c t r (acol n)) (fun n => upt m c t r (gcol n)) (fun n => iblk m c 5 t (ix2 n d)) := by
  by_cases h : t.val % 16 = 0
  · rw [outsAt0_A m c t h]
    frame_open
    simp (disch := decide) only [↓ View.readCov_skip, ↓ View.readCov_cons_toLoadRect, ↓ View.readCov_fill]
    frame_out
    refine tile_apply (iblk m c 0 t) (iblk m c 1 t) (iblk m c 2 t) (iblk m c 3 t) (iblk m c 4 t) (iblk m c 5 t) _ _ _ _ _ _ ?_ ?_ ?_ ?_ r d
    all_goals
      intro n
      unfold before
      rw [if_pos h]
      pointwise [k0_pay3]
  · have hp : t.val - 1 < cfg0.N := by omega
    rw [outsAt0_B m c t h]
    frame_out
    simp only [read_unread_whole]
    refine tile_apply (iblk m c 0 t) (iblk m c 1 t) (iblk m c 2 t) (iblk m c 3 t) (iblk m c 4 t) (iblk m c 5 t) _ _ _ _ _ _ ?_ ?_ ?_ ?_ r d
    all_goals
      intro n
      unfold before
      rw [if_neg h]
      refine Eq.trans ?_ (carried m c ⟨t.val - 1, hp⟩ _ _)
      pointwise [lo, hi]

end Cert.FfnIdeal.Hand

end
-- ==== Proof.Ffn.Array.lean ====
module

public import proofs.«01_k».proof.Proof.Ffn.Carry

@[expose] public section

set_option maxRecDepth 16384

noncomputable section

namespace Cert.FfnIdeal.Hand

open Cert.FfnIdeal Cert.FfnIdeal.Gen Idealize.ShloMosaic Idealize.ShloMosaic.TcCoe Idealize.SL.Sem

variable (m : (ℓ : Loc nD τ sig) → Buf (Elt Ideal) ℓ)

/-- The block index of every window at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val / 16, 0, 0] :=
  (by decide +kernel : ∀ t : Fin grid0.N, _)

theorem cover6 : (cfg0.win 6).Covers := by decide +kernel
theorem cover7 : (cfg0.win 7).Covers := by decide +kernel

/-- The up projection of token `i`, column `n`. -/
def U (c : Dev nD) (i : Fin 16384) (n : Fin 5632) : EReal :=
  ∑ k, hid (fun k => m ((c : Thread nD τ).loc main_arg0) (ix2 i k)) (fun k => m ((c : Thread nD τ).loc main_arg1) (ix1 k)) k
    * m ((c : Thread nD τ).loc main_arg2) (ix2 k n)

/-- The activation half of the token `s` steps before, zero before the sequence's start. -/
def ago (c : Dev nD) (s : ℕ) (i : Fin 16384) (n : Fin 2816) : EReal :=
  if i.val % 8192 < s then 0 else U m c ⟨i.val - s, by omega⟩ (acol n)

/-- The mixed token stream as one function of the arguments. -/
def G6 (c : Dev nD) : S16384x1024.Idx → EReal := fun i =>
  mix (m ((c : Thread nD τ).loc main_arg0) (ix2 (i 0) (i 1))) (fun n => m ((c : Thread nD τ).loc main_arg4) (ix1 n))
    (fun n => m ((c : Thread nD τ).loc main_arg3) (ix2 0 n)) (fun n => m ((c : Thread nD τ).loc main_arg3) (ix2 1 n))
    (fun n => m ((c : Thread nD τ).loc main_arg3) (ix2 2 n)) (ago m c 2 (i 0)) (ago m c 1 (i 0))
    (fun n => U m c (i 0) (acol n)) (fun n => U m c (i 0) (gcol n)) (fun n => m ((c : Thread nD τ).loc main_arg5) (ix2 n (i 1)))

/-- The last eight rows of the activation half of each sequence. -/
def G7 (c : Dev nD) : S2x8x2816.Idx → EReal := fun i =>
  U m c ⟨8192 * (i 0).val + 8184 + (i 1).val, by have h0 : (i 0).val < 2 := (i 0).isLt; have h1 : (i 1).val < 8 := (i 1).isLt; omega⟩ (acol (i 2))

/-- The gain as the region finds it: the argument under a unit axis. -/
theorem gain_apply (c : Dev nD) (a : Fin 1) (k : Fin 1024) :
    V m c main_v0 (ix2 a k) = m ((c : Thread nD τ).loc main_arg1) (ix1 k) := by
  unfold V; after_reads_at

/-- The convolution's bias as the region finds it: the argument under a unit axis. -/
theorem bias_apply (c : Dev nD) (a : Fin 1) (k : Fin 2816) :
    V m c main_v2 (ix2 a k) = m ((c : Thread nD τ).loc main_arg4) (ix1 k) := by
  unfold V; after_reads_at

/-- A tile's up projection is the stream's at the tile's rows. -/
theorem upt_eq (c : Dev nD) (t : Fin cfg0.N) (r : Fin 512) (n : Fin 5632) (i : Fin 16384) (hi : i.val = 512 * t.val + r.val) :
    upt m c t r n = U m c i n := by
  have hx : (fun k => iblk m c 0 t (ix2 r k)) = fun k => m ((c : Thread nD τ).loc main_arg0) (ix2 i k) := by
    funext k; blk_ext [iblk, V, idx t]
  have hg : (fun k => iblk m c 1 t (ix2 0 k)) = fun k => m ((c : Thread nD τ).loc main_arg1) (ix1 k) := by
    funext k; refine Eq.trans ?_ (gain_apply m c 0 k); blk_ext [iblk, idx t]
  have hw : ∀ k, iblk m c 2 t (ix2 k n) = m ((c : Thread nD τ).loc main_arg2) (ix2 k n) := by
    intro k; blk_ext [iblk, V, idx t]
  unfold upt up U
  simp only [hx, hg, hw]

/-- The tail window writes back at each sequence's last tile only. -/
theorem flush7_iff : ∀ t : Fin cfg0.N, (cfg0.win 7).flush t = true ↔ t.val % 16 = 15 :=
  (by decide +kernel : ∀ t : Fin grid0.N, _)

/-- The row one before, in a tile and in the stream. -/
theorem sh1_eq (c : Dev nD) (t : Fin cfg0.N) (r : Fin 512) (i : Fin 16384) (hi : i.val = 512 * t.val + r.val) :
    sh1 (before m c t 7) (fun r n => upt m c t r (acol n)) r = ago m c 1 i := by
  have ht : t.val < 32 := t.isLt
  funext n
  unfold sh1 ago before
  by_cases h : r.val = 0
  · rw [if_pos h]
    by_cases h' : t.val % 16 = 0
    · rw [if_pos h', if_pos (by omega)]
    · rw [if_neg h', if_neg (by omega)]
      exact upt_eq m c _ _ _ _ (by simp; omega)
  · rw [if_neg h, if_neg (by omega)]
    exact upt_eq m c _ _ _ _ (by simp; omega)

/-- The row two before, in a tile and in the stream. -/
theorem sh2_eq (c : Dev nD) (t : Fin cfg0.N) (r : Fin 512) (i : Fin 16384) (hi : i.val = 512 * t.val + r.val) :
    sh2 (before m c t 7) (before m c t 6) (fun r n => upt m c t r (acol n)) r = ago m c 2 i := by
  have ht : t.val < 32 := t.isLt
  funext n
  unfold sh2 ago before
  by_cases h : r.val = 0
  · rw [if_pos h]
    by_cases h' : t.val % 16 = 0
    · rw [if_pos h', if_pos (by omega)]
    · rw [if_neg h', if_neg (by omega)]
      exact upt_eq m c _ _ _ _ (by simp; omega)
  · rw [if_neg h]
    by_cases h1 : r.val = 1
    · rw [if_pos h1]
      by_cases h' : t.val % 16 = 0
      · rw [if_pos h', if_pos (by omega)]
      · rw [if_neg h', if_neg (by omega)]
        exact upt_eq m c _ _ _ _ (by simp; omega)
    · rw [if_neg h1, if_neg (by omega)]
      exact upt_eq m c _ _ _ _ (by simp; omega)

/-- The token function of equal arguments. -/
theorem mix_congr {x x' : EReal} {b b' w0 w0' w1 w1' w2 w2' a2 a2' a1 a1' a0 a0' g g' wd wd' : Fin 2816 → EReal} (hx : x = x')
    (hb : ∀ n, b n = b' n) (h0 : ∀ n, w0 n = w0' n) (h1 : ∀ n, w1 n = w1' n) (h2 : ∀ n, w2 n = w2' n) (ha2 : ∀ n, a2 n = a2' n)
    (ha1 : ∀ n, a1 n = a1' n) (ha0 : ∀ n, a0 n = a0' n) (hg : ∀ n, g n = g' n) (hd : ∀ n, wd n = wd' n) :
    mix x b w0 w1 w2 a2 a1 a0 g wd = mix x' b' w0' w1' w2' a2' a1' a0' g' wd' := by
  unfold mix
  simp only [hx, hb, h0, h1, h2, ha2, ha1, ha0, hg, hd]

/-- The output array after the run is `G6`. -/
theorem final6 (c : Dev nD) : (dats m 0 c).arrAt 6 cfg0.N = G6 m c := by
  refine (dats m 0 c).arrAt_eq_of_covers 6 _ cover6 fun t hf y => ?_
  blk_simp
  rw [after0_6]
  idx_vars y
  rw [mixed]
  have ht : t.val < 32 := t.isLt
  have he : ((View.whole main_v4_0).slice (win0_6.rect t)).emb (ix2 y0 y1) = ix2 ⟨512 * t.val + y0.val, by omega⟩ y1 := by
    blk_ext [idx t]
  rw [he]
  exact mix_congr (by blk_ext [iblk, V, idx t])
    (fun n => by refine Eq.trans ?_ (bias_apply m c 0 n); blk_ext [iblk, idx t])
    (fun n => by blk_ext [iblk, V, idx t]) (fun n => by blk_ext [iblk, V, idx t]) (fun n => by blk_ext [iblk, V, idx t])
    (fun n => congrFun (sh2_eq m c t y0 ⟨512 * t.val + y0.val, by omega⟩ rfl) n)
    (fun n => congrFun (sh1_eq m c t y0 ⟨512 * t.val + y0.val, by omega⟩ rfl) n)
    (fun n => upt_eq m c t y0 _ _ rfl) (fun n => upt_eq m c t y0 _ _ rfl) (fun n => by blk_ext [iblk, V, idx t])

/-- The tail array after the run is `G7`. -/
theorem final7 (c : Dev nD) : (dats m 0 c).arrAt 7 cfg0.N = G7 m c := by
  refine (dats m 0 c).arrAt_eq_of_covers 7 _ cover7 fun t hf y => ?_
  have ht : t.val < 32 := t.isLt
  have hm : t.val % 16 = 15 := (flush7_iff t).mp hf
  blk_simp
  rw [after0_7]
  idx_vars y
  rw [tailed]
  have he : ((View.whole main_v4_1).slice (win0_7.rect t)).emb (ix3 y0 y1 y2) = ix3 ⟨t.val / 16, by omega⟩ y1 y2 := by
    blk_ext [idx t]
  rw [he]
  unfold G7
  exact upt_eq m c t _ _ _ (by show 8192 * (t.val / 16) + 8184 + y1.val = 512 * t.val + (504 + y1.val); omega)

end Cert.FfnIdeal.Hand

end
-- ==== Proof.Ffn.Reference.lean ====
module

public import proofs.«01_k».proof.Proof.Ffn.Array
public import proofs.«01_k».proof.Proof.Gen.FfnRefIdeal.Run
public import proofs.«01_k».proof.Proof.Gen.FfnRefIdeal.Read

@[expose] public section

set_option maxRecDepth 16384

noncomputable section

namespace Cert.FfnRefIdeal.Hand

open Cert.FfnRefIdeal Cert.FfnRefIdeal.Read Idealize.ShloMosaic
open Cert.FfnIdeal.Hand (hid gelu conv mix acol gcol)

variable (x0 : (⟨S16384x1024, .f32⟩ : BufTy).Contents (Elt Ideal)) (x1 : (⟨S1024, .f32⟩ : BufTy).Contents (Elt Ideal))
  (x2 : (⟨S1024x5632, .f32⟩ : BufTy).Contents (Elt Ideal)) (x3 : (⟨S3x2816, .f32⟩ : BufTy).Contents (Elt Ideal))
  (x4 : (⟨S2816, .f32⟩ : BufTy).Contents (Elt Ideal)) (x5 : (⟨S2816x1024, .f32⟩ : BufTy).Contents (Elt Ideal))

/-- The up projection of token `i`, column `n`. -/
def U (i : Fin 16384) (n : Fin 5632) : EReal :=
  ∑ k, hid (fun k => x0 (ix2 i k)) (fun k => x1 (ix1 k)) k * x2 (ix2 k n)

/-- Token `l` of sequence `b` in the stream. -/
def at_ (b : Fin 2) (l : Fin 8192) : Fin 16384 := ⟨b.val * 8192 + l.val, by omega⟩

/-- The reference's normalised token. -/
theorem h_apply (b : Fin 2) (l : Fin 8192) (k : Fin 1024) :
    val_main_v13 (F := Ideal) x0 x1 (ix3 b l k) = hid (fun k => x0 (ix2 (at_ b l) k)) (fun k => x1 (ix1 k)) k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, hid, at_]

/-- The reference's up projection. -/
theorem up_apply (b : Fin 2) (l : Fin 8192) (n : Fin 5632) :
    val_main_v14 (F := Ideal) x0 x1 x2 (ix3 b l n) = U x0 x1 x2 (at_ b l) n := by
  unfold U
  pointwise [val_main_v14, h_apply]

theorem a_apply (b : Fin 2) (l : Fin 8192) (n : Fin 2816) :
    val_main_v15 (F := Ideal) x0 x1 x2 (ix3 b l n) = U x0 x1 x2 (at_ b l) (acol n) := by
  pointwise [val_main_v15, up_apply, acol]

theorem g_apply (b : Fin 2) (l : Fin 8192) (n : Fin 2816) :
    val_main_v16 (F := Ideal) x0 x1 x2 (ix3 b l n) = U x0 x1 x2 (at_ b l) (gcol n) := by
  pointwise [val_main_v16, up_apply, gcol]

/-- The activation half under two rows of zeros. -/
theorem ext_apply (b : Fin 2) (l : Fin 8194) (n : Fin 2816) :
    val_main_v18 (F := Ideal) x0 x1 x2 (ix3 b l n) =
      if h : l.val < 2 then 0 else U x0 x1 x2 (at_ b ⟨l.val - 2, by omega⟩) (acol n) := by
  pointwise [val_main_v18, val_main_v17, val_main_cst_2, a_apply]

/-- The reference's convolution. -/
theorem conv_apply (b : Fin 2) (l : Fin 8192) (n : Fin 2816) :
    val_main_v43 (F := Ideal) x0 x1 x2 x3 x4 (ix3 b l n) =
      x4 (ix1 n) + (0 + x3 (ix2 0 n) * val_main_v18 (F := Ideal) x0 x1 x2 (ix3 b ⟨l.val, by omega⟩ n)
        + x3 (ix2 1 n) * val_main_v18 (F := Ideal) x0 x1 x2 (ix3 b ⟨1 + l.val, by omega⟩ n)
        + x3 (ix2 2 n) * val_main_v18 (F := Ideal) x0 x1 x2 (ix3 b ⟨2 + l.val, by omega⟩ n)) := by
  pointwise [val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26,
    val_main_v25, val_main_v24, val_main_v23, val_main_v22, val_main_v21, val_main_v20, val_main_v19, val_main_cst_3]

/-- The activation half of the token `s` steps before, zero before the sequence's start. -/
def ago (s : ℕ) (i : Fin 16384) (n : Fin 2816) : EReal :=
  if i.val % 8192 < s then 0 else U x0 x1 x2 ⟨i.val - s, by omega⟩ (acol n)

theorem ext_ago (b : Fin 2) (l : Fin 8192) (s : ℕ) (j : Fin 8194) (hj : j.val + s = l.val + 2) (n : Fin 2816) :
    val_main_v18 (F := Ideal) x0 x1 x2 (ix3 b j n) = ago x0 x1 x2 s (at_ b l) n := by
  rw [ext_apply]
  unfold ago
  have hm : (at_ b l).val % 8192 = l.val := by simp only [at_]; omega
  by_cases h : l.val < s
  · rw [dif_pos (by omega), if_pos (by omega)]
  · rw [dif_neg (by omega), if_neg (by omega)]
    congr 1
    apply Fin.ext
    simp only [at_]
    omega

/-- The reference's convolution, by the steps it looks back. -/
theorem conv_ago (b : Fin 2) (l : Fin 8192) (n : Fin 2816) :
    val_main_v43 (F := Ideal) x0 x1 x2 x3 x4 (ix3 b l n) =
      conv (x4 (ix1 n)) (x3 (ix2 0 n)) (x3 (ix2 1 n)) (x3 (ix2 2 n)) (ago x0 x1 x2 2 (at_ b l) n) (ago x0 x1 x2 1 (at_ b l) n)
        (U x0 x1 x2 (at_ b l) (acol n)) := by
  have h0 : U x0 x1 x2 (at_ b l) (acol n) = ago x0 x1 x2 0 (at_ b l) n := by
    unfold ago; rw [if_neg (by omega)]; rfl
  rw [h0, conv_apply, ext_ago x0 x1 x2 b l 2 _ (by simp), ext_ago x0 x1 x2 b l 1 _ (by simp; omega),
    ext_ago x0 x1 x2 b l 0 _ (by simp; omega), zero_add, ← add_assoc, ← add_assoc]
  rfl

/-- The reference's mixed token. -/
theorem out_apply (i : Fin 16384) (d : Fin 1024) :
    val_main_v60 (F := Ideal) x0 x1 x2 x3 x4 x5 (ix2 i d) =
      mix (x0 (ix2 i d)) (fun n => x4 (ix1 n)) (fun n => x3 (ix2 0 n)) (fun n => x3 (ix2 1 n)) (fun n => x3 (ix2 2 n))
        (ago x0 x1 x2 2 i) (ago x0 x1 x2 1 i) (fun n => U x0 x1 x2 i (acol n)) (fun n => U x0 x1 x2 i (gcol n)) (fun n => x5 (ix2 n d)) := by
  obtain ⟨b, l, rfl⟩ : ∃ (b : Fin 2) (l : Fin 8192), i = at_ b l :=
    ⟨⟨i.val / 8192, by omega⟩, ⟨i.val % 8192, by omega⟩, by apply Fin.ext; simp only [at_]; omega⟩
  have hd : (at_ b l).val / 8192 = b.val := by simp only [at_]; omega
  have hm : (at_ b l).val % 8192 = l.val := by simp only [at_]; omega
  pointwise [val_main_v60, val_main_v59, val_main_v58, val_main_v57, val_main_v56, val_main_v55, val_main_v54, val_main_v53, val_main_v52,
    val_main_v51, val_main_v50, val_main_v49, val_main_v48, val_main_v47, val_main_v46, val_main_v45, val_main_v44,
    val_main_cst_4, val_main_cst_5, val_main_cst_6, val_main_cst_7]
  simp only [hd, hm, Fin.eta]
  unfold mix
  congr 1
  refine Finset.sum_congr rfl fun n _ => ?_
  rw [g_apply, conv_ago]
  unfold gelu
  rw [mul_left_comm, ← mul_assoc]

/-- The reference's tail. -/
theorem tail_apply (b : Fin 2) (s : Fin 8) (n : Fin 2816) :
    val_main_v61 (F := Ideal) x0 x1 x2 (ix3 b s n) = U x0 x1 x2 ⟨8192 * b.val + 8184 + s.val, by omega⟩ (acol n) := by
  pointwise [val_main_v61, ext_apply]
  rw [dif_neg (by omega)]
  congr 1
  apply Fin.ext
  simp only [at_]
  omega

end Cert.FfnRefIdeal.Hand

end
-- ==== Proof.Ffn.Claim.lean ====
module

public import proofs.«01_k».proof.Defs
public import proofs.«01_k».proof.Proof.Ffn.Array
public import proofs.«01_k».proof.Proof.Ffn.Reference
public import proofs.«01_k».proof.Proof.Gen.Ffn.Frame

@[expose] public section

set_option maxRecDepth 16384

noncomputable section

namespace Cert.Proof.Ffn

open Idealize.ShloMosaic Idealize.ShloMosaic.TcCoe Idealize.SL.Sem

/-- Index by index, the reference's stream of the kernel's arguments is the kernel's. -/
theorem out_eq (m : (ℓ : Loc Cert.FfnIdeal.nD Cert.FfnIdeal.τ Cert.FfnIdeal.sig) → Buf (Elt Ideal) ℓ) (c : Dev Cert.FfnIdeal.nD) :
    Cert.FfnRefIdeal.Read.val_main_v60 (F := Ideal) (m ((c : Thread Cert.FfnIdeal.nD Cert.FfnIdeal.τ).loc Cert.FfnIdeal.main_arg0)) (m ((c : Thread Cert.FfnIdeal.nD Cert.FfnIdeal.τ).loc Cert.FfnIdeal.main_arg1)) (m ((c : Thread Cert.FfnIdeal.nD Cert.FfnIdeal.τ).loc Cert.FfnIdeal.main_arg2)) (m ((c : Thread Cert.FfnIdeal.nD Cert.FfnIdeal.τ).loc Cert.FfnIdeal.main_arg3)) (m ((c : Thread Cert.FfnIdeal.nD Cert.FfnIdeal.τ).loc Cert.FfnIdeal.main_arg4)) (m ((c : Thread Cert.FfnIdeal.nD Cert.FfnIdeal.τ).loc Cert.FfnIdeal.main_arg5))
      = Cert.FfnIdeal.Hand.G6 m c := by
  funext i
  idx_vars i
  exact Cert.FfnRefIdeal.Hand.out_apply ..

/-- Index by index, the reference's tail of the kernel's arguments is the kernel's. -/
theorem tail_eq (m : (ℓ : Loc Cert.FfnIdeal.nD Cert.FfnIdeal.τ Cert.FfnIdeal.sig) → Buf (Elt Ideal) ℓ) (c : Dev Cert.FfnIdeal.nD) :
    Cert.FfnRefIdeal.Read.val_main_v61 (F := Ideal) (m ((c : Thread Cert.FfnIdeal.nD Cert.FfnIdeal.τ).loc Cert.FfnIdeal.main_arg0)) (m ((c : Thread Cert.FfnIdeal.nD Cert.FfnIdeal.τ).loc Cert.FfnIdeal.main_arg1)) (m ((c : Thread Cert.FfnIdeal.nD Cert.FfnIdeal.τ).loc Cert.FfnIdeal.main_arg2))
      = Cert.FfnIdeal.Hand.G7 m c := by
  funext i
  idx_vars i
  exact Cert.FfnRefIdeal.Hand.tail_apply ..

theorem algebraic : Cert.algebraic_FfnIdeal_FfnRefIdeal (hFfnIdeal := Cert.FfnIdeal.Gen.facts) (hFfnRefIdeal := Cert.FfnRefIdeal.Gen.facts) := by
  intro m g m' g' _ hagree
  refine ⟨fun c => Cert.FfnIdeal.Hand.G6 m c, fun c => Cert.FfnIdeal.Hand.G7 m c, ?_, ?_⟩
  · refine (θ_run _ _ _).mono (fun r h c => ⟨(h c).1.trans (Cert.FfnIdeal.Hand.final6 m c),
      (h c).2.1.trans (Cert.FfnIdeal.Hand.final7 m c), (h c).2.2⟩) (Cert.FfnIdeal.Value.run_blocks m g)
  · refine (θ_run _ _ _).mono (fun r h c => ⟨?_, ?_, (h c).2.2⟩) (Cert.FfnRefIdeal.Value.run m' g')
    · obtain ⟨h0, h1, h2, h3, h4, h5⟩ := hagree c
      rw [(h c).1, Cert.FfnRefIdeal.Read.val_main_v60_eq, h0, h1, h2, h3, h4, h5]
      exact out_eq m c
    · obtain ⟨h0, h1, h2, h3, h4, h5⟩ := hagree c
      rw [(h c).2.1, h0, h1, h2]
      exact (Cert.FfnRefIdeal.Read.val_main_v61_eq ..).trans (tail_eq m c)

end Cert.Proof.Ffn

end
-- ==== Proof.FfnSample.Tok.lean ====
module

public import proofs.«01_k».proof.Proof.Ffn.Array
public import proofs.«01_k».proof.Proof.Gen.FfnsIdeal.Value
public import Idealize.ShloMosaic.Lib.Pointwise
public import Idealize.ShloMosaic.Lib.StableHlo.ReadAt

@[expose] public section

set_option maxRecDepth 16384

noncomputable section

namespace Cert.FfnsIdeal.Hand

open Cert.FfnsIdeal Cert.FfnsIdeal.Gen Idealize.ShloMosaic
open Cert.FfnIdeal.Hand (hid gelu conv mix acol gcol lo hi sum_halves)

theorem pay2_apply (x0 : Vec Ideal S32x1024 .f32) (v1 : Vec Ideal S1x1024 .f32) (r : Fin 32) (c : Fin 1024) :
    k0_pay2 (F := Ideal) x0 v1 (ix2 r c) = hid (fun k => x0 (ix2 r k)) (fun k => v1 (ix2 0 k)) c := by
  pointwise [k0_pay2, hid]

theorem pay3_apply (x0 : Vec Ideal S32x1024 .f32) (v1 : Vec Ideal S1x1024 .f32) (w : Vec Ideal S1024x1408 .bf16) (r : Fin 32) (n : Fin 1408) :
    k0_pay3 (F := Ideal) x0 v1 w (ix2 r n) = ∑ k, hid (fun k => x0 (ix2 r k)) (fun k => v1 (ix2 0 k)) k * w (ix2 k n) := by
  pointwise [k0_pay3, pay2_apply]

theorem pay4_apply (x0 : Vec Ideal S32x1024 .f32) (v1 : Vec Ideal S1x1024 .f32) (w : Vec Ideal S1024x1408 .bf16) (r : Fin 32) (n : Fin 1408) :
    k0_pay4 (F := Ideal) x0 v1 w (ix2 r n) = ∑ k, hid (fun k => x0 (ix2 r k)) (fun k => v1 (ix2 0 k)) k * w (ix2 k n) := by
  pointwise [k0_pay4, pay2_apply]

theorem pay8_apply (h : FVec Ideal S32x1024 .bf16) (w : Vec Ideal S1024x1408 .bf16) (r : Fin 32) (n : Fin 1408) :
    k0_pay8 (F := Ideal) h w (ix2 r n) = ∑ k, h (ix2 r k) * w (ix2 k n) := by
  pointwise [k0_pay8]

theorem pay9_apply (h : FVec Ideal S32x1024 .bf16) (w : Vec Ideal S1024x1408 .bf16) (r : Fin 32) (n : Fin 1408) :
    k0_pay9 (F := Ideal) h w (ix2 r n) = ∑ k, h (ix2 r k) * w (ix2 k n) := by
  pointwise [k0_pay9]

theorem pay5_apply (v : Vec Ideal S32x1408 .f32) (r : Fin 32) (n : Fin 1408) : k0_pay5 (F := Ideal) v (ix2 r n) = v (ix2 r n) := by
  pointwise [k0_pay5]

theorem pay10_apply (v : Vec Ideal S32x1408 .f32) (r : Fin 32) (n : Fin 1408) : k0_pay10 (F := Ideal) v (ix2 r n) = v (ix2 r n) := by
  pointwise [k0_pay10]

theorem pay11_apply (v : Vec Ideal S32x1408 .f32) (r : Fin 32) (n : Fin 1408) : k0_pay11 (F := Ideal) v (ix2 r n) = v (ix2 r n) := by
  pointwise [k0_pay11]

theorem pay6_apply (v : Vec Ideal S32x1408 .f32) (b w : Vec Ideal S1x1408 .f32) (r : Fin 32) (n : Fin 1408) :
    k0_pay6 (F := Ideal) v b w (ix2 r n) = b (ix2 0 n) + w (ix2 0 n) * v (ix2 r n) := by
  pointwise [k0_pay6]

theorem pay7_apply (x : Vec Ideal S32x1024 .f32) (a g a1 s : FVec Ideal S32x1408 .f32) (w1 w2 : Vec Ideal S1x1408 .f32) (wd : Vec Ideal S1408x1024 .bf16) (r : Fin 32) (c : Fin 1024) :
    k0_pay7 (F := Ideal) x a g a1 s w1 w2 wd (ix2 r c) = x (ix2 r c) +
      ∑ n, gelu (s (ix2 r n) + w1 (ix2 0 n) * a1 (ix2 r n) + w2 (ix2 0 n) * a (ix2 r n)) * g (ix2 r n) * wd (ix2 n c) := by
  pointwise [k0_pay7, gelu]

theorem pay1_apply (y : FVec Ideal S32x1024 .f32) (a g a1 a2 : FVec Ideal S32x1408 .f32) (b w0 w1 w2 : Vec Ideal S1x1408 .f32) (wd : Vec Ideal S1408x1024 .bf16) (r : Fin 32) (c : Fin 1024) :
    k0_pay1 (F := Ideal) y a g a1 a2 b w0 w1 w2 wd (ix2 r c) = y (ix2 r c) +
      ∑ n, gelu (conv (b (ix2 0 n)) (w0 (ix2 0 n)) (w1 (ix2 0 n)) (w2 (ix2 0 n)) (a2 (ix2 r n)) (a1 (ix2 r n)) (a (ix2 r n))) * g (ix2 r n) * wd (ix2 n c) := by
  pointwise [k0_pay1, gelu, conv]

variable (x0 : Vec Ideal S32x1024 .f32) (x1 : Vec Ideal S1x1024 .f32) (x2 : Vec Ideal S1024x5632 .bf16)
  (x3 : Vec Ideal S3x2816 .f32) (x4 : Vec Ideal S1x2816 .f32) (x5 : Vec Ideal S2816x1024 .bf16) (x6 x7 : Vec Ideal S32x2816 .f32)

/-- The samples' up projection. -/
def up (r : Fin 32) (n : Fin 5632) : EReal := ∑ k, hid (fun k => x0 (ix2 r k)) (fun k => x1 (ix2 0 k)) k * x2 (ix2 k n)

theorem pay12_apply (r : Fin 32) (c : Fin 1024) :
    k0_pay12 (F := Ideal) x0 x1 x2 x3 x4 x5 x6 x7 (ix2 r c) = hid (fun k => x0 (ix2 r k)) (fun k => x1 (ix2 0 k)) c := by
  unfold k0_pay12; rw [pay2_apply]; pointwise

theorem aR_apply (r : Fin 32) (n : Fin 1408) :
    k0_pay13 (F := Ideal) x0 x1 x2 x3 x4 x5 x6 x7 (ix2 r n) = up x0 x1 x2 r (acol (hi n)) := by
  unfold k0_pay13 up acol hi; rw [pay8_apply]; simp only [pay12_apply]; pointwise

theorem gR_apply (r : Fin 32) (n : Fin 1408) :
    k0_pay9 (F := Ideal) (k0_pay12 x0 x1 x2 x3 x4 x5 x6 x7) (View.ld x2 r0_11) (ix2 r n) = up x0 x1 x2 r (gcol (hi n)) := by
  unfold up gcol hi; rw [pay9_apply]; simp only [pay12_apply]; pointwise
  simp only [← Nat.add_assoc, Nat.reduceAdd]

theorem aL_apply (r : Fin 32) (n : Fin 1408) :
    k0_pay3 (F := Ideal) (View.ld x0 r0_0) (View.ld x1 r0_1) (View.ld x2 r0_2) (ix2 r n) = up x0 x1 x2 r (acol (lo n)) := by
  rw [pay3_apply]; unfold up acol lo; pointwise

theorem gL_apply (r : Fin 32) (n : Fin 1408) :
    k0_pay4 (F := Ideal) (View.ld x0 r0_0) (View.ld x1 r0_1) (View.ld x2 r0_3) (ix2 r n) = up x0 x1 x2 r (gcol (lo n)) := by
  rw [pay4_apply]; unfold up gcol lo; pointwise

/-- The mixed samples. -/
theorem out8_apply (r : Fin 32) (d : Fin 1024) :
    out0_8 (F := Ideal) x0 x1 x2 x3 x4 x5 x6 x7 (ix2 r d) =
      mix (x0 (ix2 r d)) (fun n => x4 (ix2 0 n)) (fun n => x3 (ix2 0 n)) (fun n => x3 (ix2 1 n)) (fun n => x3 (ix2 2 n))
        (fun n => x6 (ix2 r n)) (fun n => x7 (ix2 r n)) (fun n => up x0 x1 x2 r (acol n)) (fun n => up x0 x1 x2 r (gcol n))
        (fun n => x5 (ix2 n d)) := by
  unfold out0_8
  rw [View.canon_unit_zero (by funext a; fin_cases a <;> rfl)]
  rw [pay1_apply, pay7_apply]
  simp only [aL_apply, gL_apply, aR_apply, gR_apply, pay5_apply, pay6_apply, pay10_apply, pay11_apply]
  unfold mix conv
  rw [sum_halves, add_assoc]
  pointwise [lo, hi]

/-- The activation half of the samples' up projection. -/
theorem out9_apply (r : Fin 32) (n : Fin 2816) :
    out0_9 (F := Ideal) x0 x1 x2 x3 x4 x5 x6 x7 (ix2 r n) = up x0 x1 x2 r (acol n) := by
  unfold out0_9
  by_cases h : n.val < 1408
  · rw [View.canon_cons_of_not_mem _ _ (by rw [Rect.mem_set_unit]; intro hh; have := (hh 1).1; simp at this; omega)]
    have e : (ix2 r n : S32x2816.Idx) = r0_4.emb (ix2 r ⟨n.val, h⟩) := by
      funext a; apply Fin.ext; fin_cases a <;> simp [Rect.emb_apply]
    rw [e, View.canon_cons_emb, aL_apply]
    rfl
  · have e : (ix2 r n : S32x2816.Idx) = r0_12.emb (ix2 r ⟨n.val - 1408, by omega⟩) := by
      funext a; apply Fin.ext; fin_cases a <;> simp [Rect.emb_apply]; omega
    rw [e, View.canon_cons_emb, aR_apply]
    unfold acol hi
    congr 1
    apply Fin.ext
    simp; omega

end Cert.FfnsIdeal.Hand

end
-- ==== Proof.FfnSample.Array.lean ====
module

public import proofs.«01_k».proof.Proof.FfnSample.Tok
public import Idealize.ShloMosaic.Lib.Pipeline.ValueKit

@[expose] public section

set_option maxRecDepth 16384

noncomputable section

namespace Cert.FfnsIdeal.Hand

open Cert.FfnsIdeal Cert.FfnsIdeal.Gen Idealize.ShloMosaic Idealize.ShloMosaic.TcCoe Idealize.SL.Sem
open Cert.FfnIdeal.Hand (hid mix acol gcol mix_congr)

variable (m : (ℓ : Loc nD τ sig) → Buf (Elt Ideal) ℓ)

/-- The block index of every window at the only grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

theorem cover8 : (cfg0.win 8).Covers := by decide +kernel
theorem cover9 : (cfg0.win 9).Covers := by decide +kernel

/-- The up projection of sample `i`, column `n`. -/
def U (c : Dev nD) (i : Fin 32) (n : Fin 5632) : EReal :=
  ∑ k, hid (fun k => m ((c : Thread nD τ).loc main_arg0) (ix2 i k)) (fun k => m ((c : Thread nD τ).loc main_arg1) (ix1 k)) k
    * m ((c : Thread nD τ).loc main_arg2) (ix2 k n)

/-- The mixed samples as one function of the arguments. -/
def G8 (c : Dev nD) : S32x1024.Idx → EReal := fun i =>
  mix (m ((c : Thread nD τ).loc main_arg0) (ix2 (i 0) (i 1))) (fun n => m ((c : Thread nD τ).loc main_arg4) (ix1 n))
    (fun n => m ((c : Thread nD τ).loc main_arg3) (ix2 0 n)) (fun n => m ((c : Thread nD τ).loc main_arg3) (ix2 1 n))
    (fun n => m ((c : Thread nD τ).loc main_arg3) (ix2 2 n)) (fun n => m ((c : Thread nD τ).loc main_arg6) (ix3 (i 0) 0 n))
    (fun n => m ((c : Thread nD τ).loc main_arg6) (ix3 (i 0) 1 n))
    (fun n => U m c (i 0) (acol n)) (fun n => U m c (i 0) (gcol n)) (fun n => m ((c : Thread nD τ).loc main_arg5) (ix2 n (i 1)))

/-- The activation half: the row each sample's convolution state takes in. -/
def G9 (c : Dev nD) : S32x2816.Idx → EReal := fun i => U m c (i 0) (acol (i 1))

theorem gain_apply (c : Dev nD) (a : Fin 1) (k : Fin 1024) :
    V m c main_v0 (ix2 a k) = m ((c : Thread nD τ).loc main_arg1) (ix1 k) := by
  unfold V; after_reads_at

theorem bias_apply (c : Dev nD) (a : Fin 1) (k : Fin 2816) :
    V m c main_v2 (ix2 a k) = m ((c : Thread nD τ).loc main_arg4) (ix1 k) := by
  unfold V; after_reads_at

/-- The state's older row as the region finds it. -/
theorem old_apply (c : Dev nD) (r : Fin 32) (n : Fin 2816) :
    V m c main_v5 (ix2 r n) = m ((c : Thread nD τ).loc main_arg6) (ix3 r 0 n) := by
  unfold V; after_reads_at

/-- The state's newer row as the region finds it. -/
theorem new_apply (c : Dev nD) (r : Fin 32) (n : Fin 2816) :
    V m c main_v7 (ix2 r n) = m ((c : Thread nD τ).loc main_arg6) (ix3 r 1 n) := by
  unfold V; after_reads_at

/-- The block's up projection is the samples'. -/
theorem upt_eq (c : Dev nD) (t : Fin cfg0.N) (r : Fin 32) (n : Fin 5632) :
    up (iblk m c 0 t) (iblk m c 1 t) (iblk m c 2 t) r n = U m c r n := by
  have ht : t.val < 1 := t.isLt
  have hx : (fun k => iblk m c 0 t (ix2 r k)) = fun k => m ((c : Thread nD τ).loc main_arg0) (ix2 r k) := by
    funext k; blk_ext [iblk, V, idx t]
  have hg : (fun k => iblk m c 1 t (ix2 0 k)) = fun k => m ((c : Thread nD τ).loc main_arg1) (ix1 k) := by
    funext k; refine Eq.trans ?_ (gain_apply m c 0 k); blk_ext [iblk, idx t]
  unfold up U
  rw [hx, hg]
  refine Finset.sum_congr rfl fun k _ => ?_
  congr 1
  blk_ext [iblk, V, idx t]

/-- The mixed samples after the run are `G8`. -/
theorem final8 (c : Dev nD) : (dats m 0 c).arrAt 8 cfg0.N = G8 m c := by
  refine (dats m 0 c).arrAt_eq_of_covers 8 _ cover8 fun t hf y => ?_
  have ht : t.val < 1 := t.isLt
  blk_simp
  rw [after0_8]
  idx_vars y
  rw [out8_apply]
  have he : ((View.whole main_v8_0).slice (win0_8.rect t)).emb (ix2 y0 y1) = ix2 y0 y1 := by
    blk_ext [idx t]
  rw [he]
  exact mix_congr (by blk_ext [iblk, V, idx t])
    (fun n => by refine Eq.trans ?_ (bias_apply m c 0 n); blk_ext [iblk, idx t])
    (fun n => by blk_ext [iblk, V, idx t]) (fun n => by blk_ext [iblk, V, idx t]) (fun n => by blk_ext [iblk, V, idx t])
    (fun n => by refine Eq.trans ?_ (old_apply m c y0 n); blk_ext [iblk, idx t])
    (fun n => by refine Eq.trans ?_ (new_apply m c y0 n); blk_ext [iblk, idx t])
    (fun n => upt_eq m c t y0 _) (fun n => upt_eq m c t y0 _) (fun n => by blk_ext [iblk, V, idx t])

/-- The activation half after the run is `G9`. -/
theorem final9 (c : Dev nD) : (dats m 0 c).arrAt 9 cfg0.N = G9 m c := by
  refine (dats m 0 c).arrAt_eq_of_covers 9 _ cover9 fun t hf y => ?_
  have ht : t.val < 1 := t.isLt
  blk_simp
  rw [after0_9]
  idx_vars y
  rw [out9_apply]
  have he : ((View.whole main_v8_1).slice (win0_9.rect t)).emb (ix2 y0 y1) = ix2 y0 y1 := by
    blk_ext [idx t]
  rw [he]
  unfold G9
  exact upt_eq m c t _ _

end Cert.FfnsIdeal.Hand

end
-- ==== Proof.FfnSample.Reference.lean ====
module

public import proofs.«01_k».proof.Proof.FfnSample.Array
public import proofs.«01_k».proof.Proof.Gen.FfnsRefIdeal.Run
public import proofs.«01_k».proof.Proof.Gen.FfnsRefIdeal.Read

@[expose] public section

set_option maxRecDepth 16384

noncomputable section

namespace Cert.FfnsRefIdeal.Hand

open Cert.FfnsRefIdeal Cert.FfnsRefIdeal.Read Idealize.ShloMosaic
open Cert.FfnIdeal.Hand (hid gelu conv mix acol gcol)

variable (x0 : (⟨S32x1024, .f32⟩ : BufTy).Contents (Elt Ideal)) (x1 : (⟨S1024, .f32⟩ : BufTy).Contents (Elt Ideal))
  (x2 : (⟨S1024x5632, .f32⟩ : BufTy).Contents (Elt Ideal)) (x3 : (⟨S3x2816, .f32⟩ : BufTy).Contents (Elt Ideal))
  (x4 : (⟨S2816, .f32⟩ : BufTy).Contents (Elt Ideal)) (x5 : (⟨S2816x1024, .f32⟩ : BufTy).Contents (Elt Ideal))
  (x6 : (⟨S32x2x2816, .f32⟩ : BufTy).Contents (Elt Ideal))

/-- The up projection of sample `i`, column `n`. -/
def U (i : Fin 32) (n : Fin 5632) : EReal :=
  ∑ k, hid (fun k => x0 (ix2 i k)) (fun k => x1 (ix1 k)) k * x2 (ix2 k n)

/-- The reference's normalised sample. -/
theorem h_apply (b : Fin 32) (l : Fin 1) (k : Fin 1024) :
    val_main_v13 (F := Ideal) x0 x1 (ix3 b l k) = hid (fun k => x0 (ix2 b k)) (fun k => x1 (ix1 k)) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, hid]

theorem up_apply (b : Fin 32) (l : Fin 1) (n : Fin 5632) :
    val_main_v14 (F := Ideal) x0 x1 x2 (ix3 b l n) = U x0 x1 x2 b n := by
  unfold U
  pointwise [val_main_v14, h_apply]

theorem a_apply (b : Fin 32) (l : Fin 1) (n : Fin 2816) :
    val_main_v15 (F := Ideal) x0 x1 x2 (ix3 b l n) = U x0 x1 x2 b (acol n) := by
  pointwise [val_main_v15, up_apply, acol]

theorem g_apply (b : Fin 32) (l : Fin 1) (n : Fin 2816) :
    val_main_v16 (F := Ideal) x0 x1 x2 (ix3 b l n) = U x0 x1 x2 b (gcol n) := by
  pointwise [val_main_v16, up_apply, gcol]

/-- The activation half after the two rows of the state. -/
theorem ext_apply (b : Fin 32) (l : Fin 3) (n : Fin 2816) :
    val_main_v17 (F := Ideal) x0 x1 x2 x6 (ix3 b l n) =
      if h : l.val < 2 then x6 (ix3 b ⟨l.val, h⟩ n) else U x0 x1 x2 b (acol n) := by
  pointwise [val_main_v17, a_apply]

/-- The reference's convolution. -/
theorem conv_apply (b : Fin 32) (l : Fin 1) (n : Fin 2816) :
    val_main_v42 (F := Ideal) x0 x1 x2 x3 x4 x6 (ix3 b l n) =
      conv (x4 (ix1 n)) (x3 (ix2 0 n)) (x3 (ix2 1 n)) (x3 (ix2 2 n)) (x6 (ix3 b 0 n)) (x6 (ix3 b 1 n)) (U x0 x1 x2 b (acol n)) := by
  obtain rfl : l = 0 := Subsingleton.elim _ _
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst_2, ext_apply]
  unfold conv
  simp [zero_add, ← add_assoc]

/-- The reference's mixed sample. -/
theorem out_apply (i : Fin 32) (d : Fin 1024) :
    val_main_v59 (F := Ideal) x0 x1 x2 x3 x4 x5 x6 (ix2 i d) =
      mix (x0 (ix2 i d)) (fun n => x4 (ix1 n)) (fun n => x3 (ix2 0 n)) (fun n => x3 (ix2 1 n)) (fun n => x3 (ix2 2 n))
        (fun n => x6 (ix3 i 0 n)) (fun n => x6 (ix3 i 1 n)) (fun n => U x0 x1 x2 i (acol n)) (fun n => U x0 x1 x2 i (gcol n)) (fun n => x5 (ix2 n d)) := by
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_cst_3, val_main_cst_4, val_main_cst_5, val_main_cst_6]
  unfold mix
  congr 1
  refine Finset.sum_congr rfl fun n _ => ?_
  rw [g_apply, conv_apply]
  unfold gelu
  rw [mul_left_comm, ← mul_assoc]

/-- The reference's newest row of the state. -/
theorem tail_apply (b : Fin 32) (n : Fin 2816) :
    val_main_v61 (F := Ideal) x0 x1 x2 x6 (ix2 b n) = U x0 x1 x2 b (acol n) := by
  pointwise [val_main_v61, val_main_v60, ext_apply]

end Cert.FfnsRefIdeal.Hand

end
-- ==== Proof.FfnSample.Claim.lean ====
module

public import proofs.«01_k».proof.Defs
public import proofs.«01_k».proof.Proof.FfnSample.Array
public import proofs.«01_k».proof.Proof.FfnSample.Reference
public import proofs.«01_k».proof.Proof.Gen.Ffns.Frame

@[expose] public section

set_option maxRecDepth 16384

noncomputable section

namespace Cert.Proof.FfnSample

open Idealize.ShloMosaic Idealize.ShloMosaic.TcCoe Idealize.SL.Sem

/-- Index by index, the reference's mixed samples of the kernel's arguments is the kernel's. -/
theorem out_eq (m : (ℓ : Loc Cert.FfnsIdeal.nD Cert.FfnsIdeal.τ Cert.FfnsIdeal.sig) → Buf (Elt Ideal) ℓ) (c : Dev Cert.FfnsIdeal.nD) :
    Cert.FfnsRefIdeal.Read.val_main_v59 (F := Ideal) (m ((c : Thread Cert.FfnsIdeal.nD Cert.FfnsIdeal.τ).loc Cert.FfnsIdeal.main_arg0)) (m ((c : Thread Cert.FfnsIdeal.nD Cert.FfnsIdeal.τ).loc Cert.FfnsIdeal.main_arg1)) (m ((c : Thread Cert.FfnsIdeal.nD Cert.FfnsIdeal.τ).loc Cert.FfnsIdeal.main_arg2)) (m ((c : Thread Cert.FfnsIdeal.nD Cert.FfnsIdeal.τ).loc Cert.FfnsIdeal.main_arg3)) (m ((c : Thread Cert.FfnsIdeal.nD Cert.FfnsIdeal.τ).loc Cert.FfnsIdeal.main_arg4)) (m ((c : Thread Cert.FfnsIdeal.nD Cert.FfnsIdeal.τ).loc Cert.FfnsIdeal.main_arg5)) (m ((c : Thread Cert.FfnsIdeal.nD Cert.FfnsIdeal.τ).loc Cert.FfnsIdeal.main_arg6))
      = Cert.FfnsIdeal.Hand.G8 m c := by
  funext i
  idx_vars i
  exact Cert.FfnsRefIdeal.Hand.out_apply ..

/-- Index by index, the reference's newest row of the kernel's arguments is the kernel's. -/
theorem tail_eq (m : (ℓ : Loc Cert.FfnsIdeal.nD Cert.FfnsIdeal.τ Cert.FfnsIdeal.sig) → Buf (Elt Ideal) ℓ) (c : Dev Cert.FfnsIdeal.nD) :
    Cert.FfnsRefIdeal.Read.val_main_v61 (F := Ideal) (m ((c : Thread Cert.FfnsIdeal.nD Cert.FfnsIdeal.τ).loc Cert.FfnsIdeal.main_arg0)) (m ((c : Thread Cert.FfnsIdeal.nD Cert.FfnsIdeal.τ).loc Cert.FfnsIdeal.main_arg1)) (m ((c : Thread Cert.FfnsIdeal.nD Cert.FfnsIdeal.τ).loc Cert.FfnsIdeal.main_arg2)) (m ((c : Thread Cert.FfnsIdeal.nD Cert.FfnsIdeal.τ).loc Cert.FfnsIdeal.main_arg6))
      = Cert.FfnsIdeal.Hand.G9 m c := by
  funext i
  idx_vars i
  exact Cert.FfnsRefIdeal.Hand.tail_apply ..

theorem algebraic : Cert.algebraic_FfnsIdeal_FfnsRefIdeal (hFfnsIdeal := Cert.FfnsIdeal.Gen.facts) (hFfnsRefIdeal := Cert.FfnsRefIdeal.Gen.facts) := by
  intro m g m' g' _ hagree
  refine ⟨fun c => Cert.FfnsIdeal.Hand.G8 m c, fun c => Cert.FfnsIdeal.Hand.G9 m c, ?_, ?_⟩
  · refine (θ_run _ _ _).mono (fun r h c => ⟨(h c).1.trans (Cert.FfnsIdeal.Hand.final8 m c),
      (h c).2.1.trans (Cert.FfnsIdeal.Hand.final9 m c), (h c).2.2⟩) (Cert.FfnsIdeal.Value.run_blocks m g)
  · refine (θ_run _ _ _).mono (fun r h c => ⟨?_, ?_, (h c).2.2⟩) (Cert.FfnsRefIdeal.Value.run m' g')
    · obtain ⟨h0, h1, h2, h3, h4, h5, h6⟩ := hagree c
      rw [(h c).1, Cert.FfnsRefIdeal.Read.val_main_v59_eq, h0, h1, h2, h3, h4, h5, h6]
      exact out_eq m c
    · obtain ⟨h0, h1, h2, h3, h4, h5, h6⟩ := hagree c
      rw [(h c).2.1, h0, h1, h2, h6]
      exact (Cert.FfnsRefIdeal.Read.val_main_v61_eq ..).trans (tail_eq m c)

end Cert.Proof.FfnSample

end
-- ==== Proof.Norm.Prompt.lean ====
module

public import proofs.«01_k».proof.Defs
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Proof.Norm

open Cert.NormIdeal Cert.NormIdeal.Gen Idealize.ShloMosaic Idealize.ShloMosaic.TcCoe Idealize.SL.Sem

/-- Channel `k` of a token normalised by the root mean square of its 1024 channels, times the gain `g`. -/
def hid (x g : Fin 1024 → EReal) (k : Fin 1024) : EReal :=
  x k * Ideal.rsqrt (Ideal.div (∑ a, x a * x a) (Ideal.ofBits .f32 0x44800000#32) + Ideal.ofBits .f32 0x358637BD#32) * g k

theorem out_apply (x0 : Vec Ideal S512x1024 .f32) (x1 : Vec Ideal S1x1024 .f32) (r : Fin 512) (c : Fin 1024) :
    out0_2 (F := Ideal) x0 x1 (ix2 r c) = hid (fun k => x0 (ix2 r k)) (fun k => x1 (ix2 0 k)) c := by
  unfold out0_2
  rw [View.canon_unit_zero (by funext a; fin_cases a <;> rfl)]
  pointwise [k0_pay1, hid]

/-- The reference's normalised token. -/
theorem ref_apply (x0 : (⟨Cert.NormRefIdeal.S16384x1024, .f32⟩ : BufTy).Contents (Elt Ideal)) (x1 : (⟨Cert.NormRefIdeal.S1024, .f32⟩ : BufTy).Contents (Elt Ideal))
    (i : Fin 16384) (k : Fin 1024) :
    Cert.NormRefIdeal.Read.val_main_v12 (F := Ideal) x0 x1 (ix2 i k) = hid (fun k => x0 (ix2 i k)) (fun k => x1 (ix1 k)) k := by
  pointwise [Cert.NormRefIdeal.Read.val_main_v12, Cert.NormRefIdeal.Read.val_main_v11, Cert.NormRefIdeal.Read.val_main_v10, Cert.NormRefIdeal.Read.val_main_v9, Cert.NormRefIdeal.Read.val_main_v8, Cert.NormRefIdeal.Read.val_main_v7, Cert.NormRefIdeal.Read.val_main_v6, Cert.NormRefIdeal.Read.val_main_v5, Cert.NormRefIdeal.Read.val_main_v4, Cert.NormRefIdeal.Read.val_main_v3, Cert.NormRefIdeal.Read.val_main_v2, Cert.NormRefIdeal.Read.val_main_v1, Cert.NormRefIdeal.Read.val_main_v0, Cert.NormRefIdeal.Read.val_main_cst,
    Cert.NormRefIdeal.Read.val_main_cst_0, Cert.NormRefIdeal.Read.val_main_cst_1, hid]

variable (m : (ℓ : Loc nD τ sig) → Buf (Elt Ideal) ℓ)

/-- The block index of every window at every grid point. -/
theorem idx : ∀ t : Fin cfg0.N, win0_0.index t = ![t.val, 0] ∧ win0_1.index t = ![0, 0] ∧ win0_2.index t = ![t.val, 0] :=
  (by decide +kernel : ∀ t : Fin grid0.N, _)

theorem cover : (cfg0.win 2).Covers := by decide +kernel

/-- The normalised stream as one function of the arguments. -/
def G (c : Dev nD) : S16384x1024.Idx → EReal := fun i =>
  hid (fun k => m ((c : Thread nD τ).loc main_arg0) (ix2 (i 0) k)) (fun k => m ((c : Thread nD τ).loc main_arg1) (ix1 k)) (i 1)

/-- The gain as the region finds it: the argument under a unit axis. -/
theorem gain_apply (c : Dev nD) (a : Fin 1) (k : Fin 1024) :
    V m c main_v0 (ix2 a k) = m ((c : Thread nD τ).loc main_arg1) (ix1 k) := by
  unfold V; after_reads_at

/-- The normalised token of equal rows. -/
theorem hid_congr {x x' g g' : Fin 1024 → EReal} {k k' : Fin 1024} (hx : ∀ k, x k = x' k) (hg : ∀ k, g k = g' k) (hk : k = k') :
    hid x g k = hid x' g' k' := by
  unfold hid
  simp only [hx, hg, hk]

/-- The output array after the run is `G`. -/
theorem final (c : Dev nD) : (dats m 0 c).arrAt 2 cfg0.N = G m c := by
  refine (dats m 0 c).arrAt_eq_of_covers 2 _ cover fun t hf y => ?_
  blk_simp
  rw [after0_2]
  idx_vars y
  rw [out_apply]
  unfold G
  refine hid_congr (fun k => ?_) (fun k => ?_) ?_
  · blk_ext [iblk, V, idx t]
  · refine Eq.trans ?_ (gain_apply m c 0 k)
    blk_ext [iblk, idx t]
  · apply Fin.ext
    blk_simp [idx t]

/-- Index by index, the reference's term of the kernel's arguments is the kernel's array. -/
theorem ref_eq (c : Dev nD) :
    Cert.NormRefIdeal.Read.val_main_v12 (F := Ideal) (m ((c : Thread nD τ).loc main_arg0)) (m ((c : Thread nD τ).loc main_arg1)) = G m c := by
  funext i
  idx_vars i
  exact ref_apply ..

theorem algebraic : Cert.algebraic_NormIdeal_NormRefIdeal (hNormIdeal := Cert.NormIdeal.Gen.facts) (hNormRefIdeal := Cert.NormRefIdeal.Gen.facts) := by
  intro m g m' g' _ hagree
  refine ⟨fun c => G m c, ?_, ?_⟩
  · refine (θ_run _ _ _).mono (fun r h c => ⟨(h c).1.trans (final m c), (h c).2⟩) (Cert.NormIdeal.Value.run_blocks m g)
  · refine (θ_run _ _ _).mono (fun r h c => ⟨?_, (h c).2⟩) (Cert.NormRefIdeal.Value.run m' g')
    obtain ⟨h0, h1⟩ := hagree c
    rw [(h c).1, h0, h1]
    exact (Cert.NormRefIdeal.Read.val_main_v12_eq ..).trans (ref_eq m c)

end Cert.Proof.Norm

end
-- ==== Proof.Norm.Sample.lean ====
module

public import proofs.«01_k».proof.Defs
public import proofs.«01_k».proof.Proof.Gen.Norms.Frame
public import proofs.«01_k».proof.Proof.Gen.NormsIdeal.Value
public import proofs.«01_k».proof.Proof.Gen.NormsRefIdeal.Run
public import proofs.«01_k».proof.Proof.Gen.NormsRefIdeal.Read
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Proof.Norms

open Cert.NormsIdeal Cert.NormsIdeal.Gen Idealize.ShloMosaic Idealize.ShloMosaic.TcCoe Idealize.SL.Sem

/-- Channel `k` of a token normalised by the root mean square of its 1024 channels, times the gain `g`. -/
def hid (x g : Fin 1024 → EReal) (k : Fin 1024) : EReal :=
  x k * Ideal.rsqrt (Ideal.div (∑ a, x a * x a) (Ideal.ofBits .f32 0x44800000#32) + Ideal.ofBits .f32 0x358637BD#32) * g k

theorem out_apply (x0 : Vec Ideal S32x1024 .f32) (x1 : Vec Ideal S1x1024 .f32) (r : Fin 32) (c : Fin 1024) :
    out0_2 (F := Ideal) x0 x1 (ix2 r c) = hid (fun k => x0 (ix2 r k)) (fun k => x1 (ix2 0 k)) c := by
  unfold out0_2
  rw [View.canon_unit_zero (by funext a; fin_cases a <;> rfl)]
  pointwise [k0_pay1, hid]

/-- The reference's normalised token. -/
theorem ref_apply (x0 : (⟨Cert.NormsRefIdeal.S32x1024, .f32⟩ : BufTy).Contents (Elt Ideal)) (x1 : (⟨Cert.NormsRefIdeal.S1024, .f32⟩ : BufTy).Contents (Elt Ideal))
    (i : Fin 32) (k : Fin 1024) :
    Cert.NormsRefIdeal.Read.val_main_v12 (F := Ideal) x0 x1 (ix2 i k) = hid (fun k => x0 (ix2 i k)) (fun k => x1 (ix1 k)) k := by
  pointwise [Cert.NormsRefIdeal.Read.val_main_v12, Cert.NormsRefIdeal.Read.val_main_v11, Cert.NormsRefIdeal.Read.val_main_v10, Cert.NormsRefIdeal.Read.val_main_v9, Cert.NormsRefIdeal.Read.val_main_v8, Cert.NormsRefIdeal.Read.val_main_v7, Cert.NormsRefIdeal.Read.val_main_v6, Cert.NormsRefIdeal.Read.val_main_v5, Cert.NormsRefIdeal.Read.val_main_v4, Cert.NormsRefIdeal.Read.val_main_v3, Cert.NormsRefIdeal.Read.val_main_v2, Cert.NormsRefIdeal.Read.val_main_v1, Cert.NormsRefIdeal.Read.val_main_v0, Cert.NormsRefIdeal.Read.val_main_cst,
    Cert.NormsRefIdeal.Read.val_main_cst_0, Cert.NormsRefIdeal.Read.val_main_cst_1, hid]

variable (m : (ℓ : Loc nD τ sig) → Buf (Elt Ideal) ℓ)

/-- The block index of every window at every grid point. -/
theorem idx : ∀ t : Fin cfg0.N, win0_0.index t = ![t.val, 0] ∧ win0_1.index t = ![0, 0] ∧ win0_2.index t = ![t.val, 0] :=
  (by decide +kernel : ∀ t : Fin grid0.N, _)

theorem cover : (cfg0.win 2).Covers := by decide +kernel

/-- The normalised stream as one function of the arguments. -/
def G (c : Dev nD) : S32x1024.Idx → EReal := fun i =>
  hid (fun k => m ((c : Thread nD τ).loc main_arg0) (ix2 (i 0) k)) (fun k => m ((c : Thread nD τ).loc main_arg1) (ix1 k)) (i 1)

/-- The gain as the region finds it: the argument under a unit axis. -/
theorem gain_apply (c : Dev nD) (a : Fin 1) (k : Fin 1024) :
    V m c main_v0 (ix2 a k) = m ((c : Thread nD τ).loc main_arg1) (ix1 k) := by
  unfold V; after_reads_at

/-- The normalised token of equal rows. -/
theorem hid_congr {x x' g g' : Fin 1024 → EReal} {k k' : Fin 1024} (hx : ∀ k, x k = x' k) (hg : ∀ k, g k = g' k) (hk : k = k') :
    hid x g k = hid x' g' k' := by
  unfold hid
  simp only [hx, hg, hk]

/-- The output array after the run is `G`. -/
theorem final (c : Dev nD) : (dats m 0 c).arrAt 2 cfg0.N = G m c := by
  refine (dats m 0 c).arrAt_eq_of_covers 2 _ cover fun t hf y => ?_
  blk_simp
  rw [after0_2]
  idx_vars y
  rw [out_apply]
  unfold G
  refine hid_congr (fun k => ?_) (fun k => ?_) ?_
  · blk_ext [iblk, V, idx t]
  · refine Eq.trans ?_ (gain_apply m c 0 k)
    blk_ext [iblk, idx t]
  · apply Fin.ext
    blk_simp [idx t]

/-- Index by index, the reference's term of the kernel's arguments is the kernel's array. -/
theorem ref_eq (c : Dev nD) :
    Cert.NormsRefIdeal.Read.val_main_v12 (F := Ideal) (m ((c : Thread nD τ).loc main_arg0)) (m ((c : Thread nD τ).loc main_arg1)) = G m c := by
  funext i
  idx_vars i
  exact ref_apply ..

theorem algebraic : Cert.algebraic_NormsIdeal_NormsRefIdeal (hNormsIdeal := Cert.NormsIdeal.Gen.facts) (hNormsRefIdeal := Cert.NormsRefIdeal.Gen.facts) := by
  intro m g m' g' _ hagree
  refine ⟨fun c => G m c, ?_, ?_⟩
  · refine (θ_run _ _ _).mono (fun r h c => ⟨(h c).1.trans (final m c), (h c).2⟩) (Cert.NormsIdeal.Value.run_blocks m g)
  · refine (θ_run _ _ _).mono (fun r h c => ⟨?_, (h c).2⟩) (Cert.NormsRefIdeal.Value.run m' g')
    obtain ⟨h0, h1⟩ := hagree c
    rw [(h c).1, h0, h1]
    exact (Cert.NormsRefIdeal.Read.val_main_v12_eq ..).trans (ref_eq m c)

end Cert.Proof.Norms

end
-- ==== Proof.Inproj.Spec.lean ====
module

public import proofs.«01_k».proof.Proof.Ffn.Tok

@[expose] public section

set_option maxRecDepth 16384

noncomputable section

namespace Cert.Inproj

open Idealize.ShloMosaic
open Cert.FfnIdeal.Hand (hid)

/-! ## The logarithm of the sigmoid, in the two forms the programs use -/

/-- `log (sigmoid x)` as the smaller of `x` and zero less `log (1 + exp (-|x|))`. -/
def logsig (x : EReal) : EReal := min x 0 - Ideal.log (1 + Ideal.exp (0 - max x (-x)))

theorem zero_less (x : EReal) : 0 - x = -x := by
  rw [sub_eq_add_neg, zero_add]

/-- `log (1 + exp y)` is never the bottom. -/
theorem log_one_exp_ne_bot (y : EReal) : Ideal.log (1 + Ideal.exp y) ≠ ⊥ := by
  induction y with
  | bot =>
    have h : (1 : EReal) + Ideal.exp ⊥ = ((1 : ℝ) : EReal) := by show (1 : EReal) + 0 = _; simp
    rw [h]
    show (if (1 : ℝ) ≤ 0 then (⊥ : EReal) else (Real.log 1 : EReal)) ≠ ⊥
    rw [if_neg (by norm_num)]
    exact EReal.coe_ne_bot _
  | top =>
    have h : (1 : EReal) + Ideal.exp ⊤ = ⊤ := by show (1 : EReal) + ⊤ = ⊤; exact EReal.add_top_of_ne_bot (by decide)
    rw [h]
    show (⊤ : EReal) ≠ ⊥
    decide
  | coe r =>
    have h : (1 : EReal) + Ideal.exp (r : EReal) = ((1 + Real.exp r : ℝ) : EReal) := by
      show (1 : EReal) + (Real.exp r : EReal) = _
      rw [EReal.coe_add, EReal.coe_one]
    rw [h]
    show (if (1 + Real.exp r : ℝ) ≤ 0 then (⊥ : EReal) else (Real.log (1 + Real.exp r) : EReal)) ≠ ⊥
    rw [if_neg (by have := Real.exp_pos r; linarith)]
    exact EReal.coe_ne_bot _

/-- Less the softplus of `-x` is the logarithm of the sigmoid of `x`. -/
theorem neg_softplus (x : EReal) :
    -(max (-x) 0 + Ideal.log1p (Ideal.exp (-max (-x) (- -x)))) = logsig x := by
  unfold logsig Ideal.log1p
  rw [zero_less, neg_neg, max_comm (-x) x]
  have h0 : max (-x) 0 = -min x 0 := by
    rcases le_total x 0 with h | h
    · rw [min_eq_left h, max_eq_left (by simpa using EReal.neg_le_neg_iff.mpr h)]
    · rw [min_eq_right h, max_eq_right (by simpa using EReal.neg_le_neg_iff.mpr h), neg_zero]
  rw [h0, EReal.neg_add (Or.inl ?_) (Or.inr (log_one_exp_ne_bot _)), neg_neg]
  rcases le_total x 0 with h | h
  · rw [min_eq_left h]
    intro e
    rw [EReal.neg_eq_bot_iff] at e
    rw [e] at h
    exact absurd h (by decide)
  · rw [min_eq_right h]; simp

/-! ## Scaling by a finite factor that is not negative -/

/-- A common factor leaves a sum. -/
theorem sum_scale {n : ℕ} (s : EReal) (h0 : 0 ≤ s) (h1 : s ≠ ⊤) (f : Fin n → EReal) : ∑ i, f i * s = (∑ i, f i) * s := by
  classical
  induction n with
  | zero => simp
  | succ n ih => rw [Fin.sum_univ_succ, Fin.sum_univ_succ, EReal.right_distrib_of_nonneg_of_ne_top h0 h1, ih]

/-- A common factor leaves a difference. -/
theorem sub_scale (s : EReal) (h0 : 0 ≤ s) (h1 : s ≠ ⊤) (a b : EReal) : a * s - b * s = (a - b) * s := by
  rw [sub_eq_add_neg, sub_eq_add_neg, EReal.right_distrib_of_nonneg_of_ne_top h0 h1, EReal.neg_mul]

/-- One eighth, as it prints. -/
abbrev eighth : EReal := Ideal.ofBits .f32 0x3E000000#32

theorem eighth_eq : eighth = ((1 / 8 : ℝ) : EReal) := by
  simp [eighth, Ideal.ofBits, Ideal.ieee]
  norm_num
  rw [← EReal.coe_mul]
  norm_num

theorem eighth_nonneg : 0 ≤ eighth := by rw [eighth_eq]; exact_mod_cast (by norm_num : (0 : ℝ) ≤ 1 / 8)
theorem eighth_ne_top : eighth ≠ ⊤ := by rw [eighth_eq]; exact EReal.coe_ne_top _

/-- Dividing by sixteen is scaling by a sixteenth. -/
theorem div_sixteen (x : EReal) : Ideal.div x (Ideal.ofBits .f32 0x41800000#32) = x * Ideal.ofBits .f32 0x3D800000#32 := by
  have h : Ideal.ofBits .f32 0x41800000#32 = ((16 : ℝ) : EReal) := by
    simp [Ideal.ofBits, Ideal.ieee]
    norm_num
    rw [← EReal.coe_mul]
    norm_num
  have h' : Ideal.ofBits .f32 0x3D800000#32 = ((16⁻¹ : ℝ) : EReal) := by
    simp [Ideal.ofBits, Ideal.ieee]
    norm_num
    rw [← EReal.coe_mul]
    norm_num
  rw [h, h']
  unfold Ideal.div
  rw [if_neg (by exact_mod_cast (by norm_num : (16 : ℝ) ≠ 0)), EReal.coe_inv]

/-! ## One token's combined projection and what the layer takes from it -/

/-- Column `n` of the combined projection of a token. -/
def prj (x g : Fin 1024 → EReal) (w : Fin 1024 → Fin 2836 → EReal) (n : Fin 2836) : EReal := ∑ k, hid x g k * w k n

/-- Column `l` of half `h` of the heads of the queries (`b = 0`) or the keys (`b = 1`). -/
def colA (b h : Fin 2) (l : Fin 128) : Fin 2836 := ⟨256 * b.val + (64 * (l.val / 32) + 32 * h.val + l.val % 32), by omega⟩

/-- The rotated queries and keys by halves, the values and the gate. -/
def pret (p : Fin 2836 → EReal) (cs sn : Fin 128 → EReal) (n : Fin 1024) : EReal :=
  if h : n.val < 128 then p (colA 0 0 ⟨n.val, h⟩) * cs ⟨n.val, h⟩ - p (colA 0 1 ⟨n.val, h⟩) * sn ⟨n.val, h⟩
  else if h : n.val < 256 then
    p (colA 0 0 ⟨n.val - 128, by omega⟩) * sn ⟨n.val - 128, by omega⟩ + p (colA 0 1 ⟨n.val - 128, by omega⟩) * cs ⟨n.val - 128, by omega⟩
  else if h : n.val < 384 then
    (p (colA 1 0 ⟨n.val - 256, by omega⟩) * cs ⟨n.val - 256, by omega⟩ - p (colA 1 1 ⟨n.val - 256, by omega⟩) * sn ⟨n.val - 256, by omega⟩) * eighth
  else if h : n.val < 512 then
    (p (colA 1 0 ⟨n.val - 384, by omega⟩) * sn ⟨n.val - 384, by omega⟩ + p (colA 1 1 ⟨n.val - 384, by omega⟩) * cs ⟨n.val - 384, by omega⟩) * eighth
  else p ⟨n.val, by omega⟩

/-- The gated branch's values, gate, queries, scaled keys and logarithms of its forget gates. -/
def pgla (p : Fin 2836 → EReal) (a2 : Fin 16 → Fin 128 → EReal) (ba : Fin 128 → EReal) (n : Fin 896) : EReal :=
  if h : n.val < 512 then p ⟨1536 + n.val, by omega⟩
  else if h : n.val < 640 then p ⟨768 + n.val, by omega⟩
  else if h : n.val < 768 then p ⟨768 + n.val, by omega⟩ * Ideal.ofBits .f32 0x3E3504F3#32
  else logsig ((∑ j, p ⟨2048 + j.val, by omega⟩ * a2 j ⟨n.val - 768, by omega⟩) + ba ⟨n.val - 768, by omega⟩) * Ideal.ofBits .f32 0x3D800000#32

/-- The logarithms of the forget gates of the four attention heads, under lanes of zeros. -/
def flog (p : Fin 2836 → EReal) (bf : Fin 4 → EReal) (n : Fin 128) : EReal :=
  if h : n.val < 4 then logsig (p ⟨2832 + n.val, by omega⟩ + bf ⟨n.val, h⟩) else 0

/-! ## The packed projection the kernel multiplies by -/

/-- `W` holds the columns of `w` in the kernel's order: the queries and keys by halves, the keys and the attention's queries scaled, and the
    small gate columns under lanes of zeros. -/
structure Packed (W : Fin 2944 → EReal) (w : Fin 2836 → EReal) : Prop where
  q : ∀ (h : Fin 2) (l : Fin 128), W ⟨128 * h.val + l.val, by omega⟩ = w (colA 0 h l)
  k : ∀ (h : Fin 2) (l : Fin 128), W ⟨256 + (128 * h.val + l.val), by omega⟩ = w (colA 1 h l) * eighth
  mid : ∀ n : Fin 1536, W ⟨512 + n.val, by omega⟩ = w ⟨512 + n.val, by omega⟩
  fq : ∀ n : Fin 256, W ⟨2048 + n.val, by omega⟩ = w ⟨2064 + n.val, by omega⟩ * eighth
  fkv : ∀ n : Fin 512, W ⟨2304 + n.val, by omega⟩ = w ⟨2320 + n.val, by omega⟩
  ff : ∀ n : Fin 4, W ⟨2816 + n.val, by omega⟩ = w ⟨2832 + n.val, by omega⟩
  ga : ∀ n : Fin 16, W ⟨2820 + n.val, by omega⟩ = w ⟨2048 + n.val, by omega⟩
  pad : ∀ n : Fin 108, W ⟨2836 + n.val, by omega⟩ = 0

/-- A projection by packed columns is the packed projection. -/
theorem packed_prj (x g : Fin 1024 → EReal) (W : Fin 1024 → Fin 2944 → EReal) (w : Fin 1024 → Fin 2836 → EReal)
    (h : ∀ k, Packed (W k) (w k)) : Packed (fun n => ∑ k, hid x g k * W k n) (prj x g w) where
  q a l := by simp only [(h _).q, prj]
  k a l := by
    simp only [(h _).k, prj, ← mul_assoc]
    exact sum_scale _ eighth_nonneg eighth_ne_top _
  mid n := by simp only [(h _).mid, prj]
  fq n := by
    simp only [(h _).fq, prj, ← mul_assoc]
    exact sum_scale _ eighth_nonneg eighth_ne_top _
  fkv n := by simp only [(h _).fkv, prj]
  ff n := by simp only [(h _).ff, prj]
  ga n := by simp only [(h _).ga, prj]
  pad n := by simp only [(h _).pad, mul_zero, Finset.sum_const_zero]

end Cert.Inproj

end
-- ==== Proof.Inproj.Scatter.lean ====
module

public import Idealize.ShloMosaic.Lib.Pointwise
public import Idealize.ShloMosaic.Lib.Routing.OpsSet
public import Idealize.ShloMosaic.Lib.Routing.OpsPair

@[expose] public section

set_option maxRecDepth 16384

noncomputable section

namespace Cert.Inproj

open Idealize.ShloMosaic Idealize.ShloMosaic.Routing

/-! A block written into an array at one offset along one axis, read at an entry. -/

variable {α : Type} {A B C U : ℕ}

/-- Where the block's offset lies along the last of three axes. -/
theorem lands_last (d : ScatterDims ⟨3, ![A, B, C]⟩ ⟨1, ![1]⟩ ⟨3, ![A, B, U]⟩) (huw : d.updateWindowDims = [0, 1, 2])
    (hiw : d.insertedWindowDims = []) (hsd : d.scatterDimsToOperandDims = [2]) (idx : IVec ⟨1, ![1]⟩ 32) (o : ℕ)
    (ho : (idx (ix1 0)).toInt = (o : Int)) (a a' : Fin A) (b b' : Fin B) (u : Fin U) (e : Fin C) :
    d.resultIdx? (ix3 a b u) idx = some (ix3 a' b' e) ↔ a = a' ∧ b = b' ∧ o + u.val = e.val := by
  have hk : d.sKept = [0, 1, 2] := by
    show Shape.kept ⟨3, ![A, B, C]⟩ d.insertedWindowDims = _
    rw [hiw]; rfl
  have hw : ∀ q : Fin 3, d.window (ix3 a b u) q = (ix3 a b u q).val := by
    intro q
    have hq : q ∈ d.sKept := by rw [hk]; fin_cases q <;> simp
    unfold ScatterDims.window
    rw [dif_pos hq]
    have e : d.updateWindowDims[d.sKept.idxOf q]'(by rw [d.window_length]; exact List.idxOf_lt_length_iff.2 hq) = q := by
      simp only [huw, hk]
      fin_cases q <;> rfl
    rw [e]
  have hs : ∀ q : Fin 3, d.start (ix3 a b u) idx q = if q = 2 then (o : Int) else 0 := by
    intro q
    unfold ScatterDims.start
    by_cases h : q = 2
    · subst h
      rw [dif_pos (by rw [hsd]; exact List.mem_singleton.2 rfl), if_pos rfl, ← ho]
      congr 2
      funext x
      match x with
      | ⟨0, _⟩ => exact Subsingleton.elim (α := Fin 1) _ _
    · rw [dif_neg (by rw [hsd]; simpa using h), if_neg h]
  rw [resultIdx?_eq_some]
  constructor
  · intro h
    have h0 := h 0; have h1 := h 1; have h2 := h 2
    rw [hs, hw] at h0 h1 h2
    refine ⟨Fin.ext ?_, Fin.ext ?_, ?_⟩
    · have : ((0 : Int) + (a.val : Int)) = (a'.val : Int) := h0
      omega
    · have : ((0 : Int) + (b.val : Int)) = (b'.val : Int) := h1
      omega
    · have : ((o : Int) + (u.val : Int)) = (e.val : Int) := h2
      omega
  · rintro ⟨rfl, rfl, h⟩ q
    rw [hs, hw]
    fin_cases q
    · show ((0 : Int) + (a.val : Int)) = (a.val : Int); omega
    · show ((0 : Int) + (b.val : Int)) = (b.val : Int); omega
    · show ((o : Int) + (u.val : Int)) = (e.val : Int); omega

/-- A block of `U` columns written at column `o`, read at an entry. -/
theorem scatter_last (d : ScatterDims ⟨3, ![A, B, C]⟩ ⟨1, ![1]⟩ ⟨3, ![A, B, U]⟩) (huw : d.updateWindowDims = [0, 1, 2])
    (hiw : d.insertedWindowDims = []) (hsd : d.scatterDimsToOperandDims = [2]) (x : (⟨3, ![A, B, C]⟩ : Shape).Idx → α)
    (idx : IVec ⟨1, ![1]⟩ 32) (v : (⟨3, ![A, B, U]⟩ : Shape).Idx → α) (o : ℕ) (ho : (idx (ix1 0)).toInt = (o : Int))
    (a : Fin A) (b : Fin B) (e : Fin C) :
    Host.scatter d (fun _ b => b) x idx v (ix3 a b e) =
      if h : o ≤ e.val ∧ e.val < o + U then v (ix3 a b ⟨e.val - o, by omega⟩) else x (ix3 a b e) := by
  have lands := fun (k : (⟨3, ![A, B, U]⟩ : Shape).Idx) (hk : d.resultIdx? k idx = some (ix3 a b e)) =>
    (lands_last d huw hiw hsd idx o ho (k 0) a (k 1) b (k 2) e).1 ((congrArg (fun t => d.resultIdx? t idx) (eq_ix3 k).symm).trans hk)
  by_cases h : o ≤ e.val ∧ e.val < o + U
  · rw [dif_pos h]
    refine scatter_set_hit d x idx v _ _ (fun k hk => ?_) (ix3 a b ⟨e.val - o, by omega⟩)
      ((lands_last d huw hiw hsd idx o ho a a b b _ e).2 ⟨rfl, rfl, by show o + (e.val - o) = e.val; omega⟩)
    obtain ⟨h0, h1, h2⟩ := lands k hk
    rw [eq_ix3 k, h0, h1]
    exact congrArg (fun t => v (ix3 a b t)) (Fin.ext (by show (k 2).val = e.val - o; omega))
  · rw [dif_neg h]
    refine scatter_set_miss d x idx v _ fun k hk => h ?_
    have h2 := (lands k hk).2.2
    have hlt : (k 2).val < U := (k 2).isLt
    omega

/-- Where the block's offset lies along the middle of three axes. -/
theorem lands_middle (d : ScatterDims ⟨3, ![A, B, C]⟩ ⟨1, ![1]⟩ ⟨3, ![A, U, C]⟩) (huw : d.updateWindowDims = [0, 1, 2])
    (hiw : d.insertedWindowDims = []) (hsd : d.scatterDimsToOperandDims = [1]) (idx : IVec ⟨1, ![1]⟩ 32) (o : ℕ)
    (ho : (idx (ix1 0)).toInt = (o : Int)) (a a' : Fin A) (b : Fin B) (u : Fin U) (e e' : Fin C) :
    d.resultIdx? (ix3 a u e) idx = some (ix3 a' b e') ↔ a = a' ∧ o + u.val = b.val ∧ e = e' := by
  have hk : d.sKept = [0, 1, 2] := by
    show Shape.kept ⟨3, ![A, B, C]⟩ d.insertedWindowDims = _
    rw [hiw]; rfl
  have hw : ∀ q : Fin 3, d.window (ix3 a u e) q = (ix3 a u e q).val := by
    intro q
    have hq : q ∈ d.sKept := by rw [hk]; fin_cases q <;> simp
    unfold ScatterDims.window
    rw [dif_pos hq]
    have e : d.updateWindowDims[d.sKept.idxOf q]'(by rw [d.window_length]; exact List.idxOf_lt_length_iff.2 hq) = q := by
      simp only [huw, hk]
      fin_cases q <;> rfl
    rw [e]
  have hs : ∀ q : Fin 3, d.start (ix3 a u e) idx q = if q = 1 then (o : Int) else 0 := by
    intro q
    unfold ScatterDims.start
    by_cases h : q = 1
    · subst h
      rw [dif_pos (by rw [hsd]; exact List.mem_singleton.2 rfl), if_pos rfl, ← ho]
      congr 2
      funext x
      match x with
      | ⟨0, _⟩ => exact Subsingleton.elim (α := Fin 1) _ _
    · rw [dif_neg (by rw [hsd]; simpa using h), if_neg h]
  rw [resultIdx?_eq_some]
  constructor
  · intro h
    have h0 := h 0; have h1 := h 1; have h2 := h 2
    rw [hs, hw] at h0 h1 h2
    refine ⟨Fin.ext ?_, ?_, Fin.ext ?_⟩
    · have : ((0 : Int) + (a.val : Int)) = (a'.val : Int) := h0
      omega
    · have : ((o : Int) + (u.val : Int)) = (b.val : Int) := h1
      omega
    · have : ((0 : Int) + (e.val : Int)) = (e'.val : Int) := h2
      omega
  · rintro ⟨rfl, h, rfl⟩ q
    rw [hs, hw]
    fin_cases q
    · show ((0 : Int) + (a.val : Int)) = (a.val : Int); omega
    · show ((o : Int) + (u.val : Int)) = (b.val : Int); omega
    · show ((0 : Int) + (e.val : Int)) = (e.val : Int); omega

/-- A block of `U` rows written at row `o`, read at an entry. -/
theorem scatter_middle (d : ScatterDims ⟨3, ![A, B, C]⟩ ⟨1, ![1]⟩ ⟨3, ![A, U, C]⟩) (huw : d.updateWindowDims = [0, 1, 2])
    (hiw : d.insertedWindowDims = []) (hsd : d.scatterDimsToOperandDims = [1]) (x : (⟨3, ![A, B, C]⟩ : Shape).Idx → α)
    (idx : IVec ⟨1, ![1]⟩ 32) (v : (⟨3, ![A, U, C]⟩ : Shape).Idx → α) (o : ℕ) (ho : (idx (ix1 0)).toInt = (o : Int))
    (a : Fin A) (b : Fin B) (e : Fin C) :
    Host.scatter d (fun _ b => b) x idx v (ix3 a b e) =
      if h : o ≤ b.val ∧ b.val < o + U then v (ix3 a ⟨b.val - o, by omega⟩ e) else x (ix3 a b e) := by
  have lands := fun (k : (⟨3, ![A, U, C]⟩ : Shape).Idx) (hk : d.resultIdx? k idx = some (ix3 a b e)) =>
    (lands_middle d huw hiw hsd idx o ho (k 0) a b (k 1) (k 2) e).1 ((congrArg (fun t => d.resultIdx? t idx) (eq_ix3 k).symm).trans hk)
  by_cases h : o ≤ b.val ∧ b.val < o + U
  · rw [dif_pos h]
    refine scatter_set_hit d x idx v _ _ (fun k hk => ?_) (ix3 a ⟨b.val - o, by omega⟩ e)
      ((lands_middle d huw hiw hsd idx o ho a a b _ e e).2 ⟨rfl, by show o + (b.val - o) = b.val; omega, rfl⟩)
    obtain ⟨h0, h1, h2⟩ := lands k hk
    rw [eq_ix3 k, h0, h2]
    exact congrArg (fun t => v (ix3 a t e)) (Fin.ext (by show (k 1).val = b.val - o; omega))
  · rw [dif_neg h]
    refine scatter_set_miss d x idx v _ fun k hk => h ?_
    have h1 := (lands k hk).2.1
    have hlt : (k 1).val < U := (k 1).isLt
    omega

/-- Where a row's offset lies, when the middle axis is named by the index too. -/
theorem lands_row (d : ScatterDims ⟨3, ![A, B, C]⟩ ⟨1, ![2]⟩ ⟨2, ![A, U]⟩) (huw : d.updateWindowDims = [0, 1])
    (hiw : d.insertedWindowDims = [1]) (hsd : d.scatterDimsToOperandDims = [1, 2]) (hv : d.indexVectorDim = 0) (idx : IVec ⟨1, ![2]⟩ 32)
    (o1 o2 : ℕ) (h1 : (idx (ix1 0)).toInt = (o1 : Int)) (h2 : (idx (ix1 1)).toInt = (o2 : Int))
    (a a' : Fin A) (b : Fin B) (u : Fin U) (e : Fin C) :
    d.resultIdx? (ix2 a u) idx = some (ix3 a' b e) ↔ a = a' ∧ o1 = b.val ∧ o2 + u.val = e.val := by
  have hk : d.sKept = [0, 2] := by
    show Shape.kept ⟨3, ![A, B, C]⟩ d.insertedWindowDims = _
    rw [hiw]; rfl
  have w0 : d.window (ix2 a u) 0 = a.val := by
    have hq : (0 : Fin 3) ∈ d.sKept := by rw [hk]; simp
    unfold ScatterDims.window
    rw [dif_pos hq]
    have e : d.updateWindowDims[d.sKept.idxOf (0 : Fin 3)]'(by rw [d.window_length]; exact List.idxOf_lt_length_iff.2 hq) = 0 := by
      simp only [huw, hk]; rfl
    rw [e]
    rfl
  have w1 : d.window (ix2 a u) 1 = 0 := by
    unfold ScatterDims.window
    rw [dif_neg (by rw [hk]; exact (by decide : (1 : Fin 3) ∉ [(0 : Fin 3), 2]))]
  have w2 : d.window (ix2 a u) 2 = u.val := by
    have hq : (2 : Fin 3) ∈ d.sKept := by rw [hk]; simp
    unfold ScatterDims.window
    rw [dif_pos hq]
    have e : d.updateWindowDims[d.sKept.idxOf (2 : Fin 3)]'(by rw [d.window_length]; exact List.idxOf_lt_length_iff.2 hq) = 1 := by
      simp only [huw, hk]; rfl
    rw [e]
    rfl
  have s0 : d.start (ix2 a u) idx 0 = 0 := by
    unfold ScatterDims.start
    rw [dif_neg (by rw [hsd]; exact (by decide : (0 : Fin 3) ∉ [(1 : Fin 3), 2]))]
  have si : ∀ (j) (q : Fin d.scatterDimsToOperandDims.length) (i : Fin 2), q.val = i.val → d.siIdx j q = ix1 i := by
    intro j q i hq
    funext x
    obtain rfl : x = (0 : Fin 1) := Subsingleton.elim (α := Fin 1) _ _
    apply Fin.ext
    unfold ScatterDims.siIdx
    rw [dif_pos (by rw [hv]; rfl)]
    exact hq
  have s1 : d.start (ix2 a u) idx 1 = o1 := by
    have hq : (1 : Fin 3) ∈ d.scatterDimsToOperandDims := by rw [hsd]; simp
    unfold ScatterDims.start
    rw [dif_pos hq, ← h1, si _ _ 0 (by simp only [hsd]; rfl)]
  have s2 : d.start (ix2 a u) idx 2 = o2 := by
    have hq : (2 : Fin 3) ∈ d.scatterDimsToOperandDims := by rw [hsd]; simp
    unfold ScatterDims.start
    rw [dif_pos hq, ← h2, si _ _ 1 (by simp only [hsd]; rfl)]
  rw [resultIdx?_eq_some]
  constructor
  · intro h
    have h0 := h 0; have h1 := h 1; have h2 := h 2
    rw [s0, w0] at h0
    rw [s1, w1] at h1
    rw [s2, w2] at h2
    refine ⟨Fin.ext ?_, ?_, ?_⟩
    · have : ((0 : Int) + (a.val : Int)) = (a'.val : Int) := h0
      omega
    · have : ((o1 : Int) + ((0 : ℕ) : Int)) = (b.val : Int) := h1
      omega
    · have : ((o2 : Int) + (u.val : Int)) = (e.val : Int) := h2
      omega
  · rintro ⟨rfl, h, h'⟩ q
    fin_cases q
    · show d.start (ix2 a u) idx 0 + (d.window (ix2 a u) 0 : Int) = (a.val : Int)
      rw [s0, w0]; omega
    · show d.start (ix2 a u) idx 1 + (d.window (ix2 a u) 1 : Int) = (b.val : Int)
      rw [s1, w1]; omega
    · show d.start (ix2 a u) idx 2 + (d.window (ix2 a u) 2 : Int) = (e.val : Int)
      rw [s2, w2]; omega

/-- A row of `U` lanes written at the middle index 0 and lane 0, read at an entry. -/
theorem scatter_row (d : ScatterDims ⟨3, ![A, 1, C]⟩ ⟨1, ![2]⟩ ⟨2, ![A, U]⟩) (huw : d.updateWindowDims = [0, 1])
    (hiw : d.insertedWindowDims = [1]) (hsd : d.scatterDimsToOperandDims = [1, 2]) (hv : d.indexVectorDim = 0)
    (x : (⟨3, ![A, 1, C]⟩ : Shape).Idx → α) (idx : IVec ⟨1, ![2]⟩ 32) (v : (⟨2, ![A, U]⟩ : Shape).Idx → α)
    (h1 : (idx (ix1 0)).toInt = 0) (h2 : (idx (ix1 1)).toInt = 0) (a : Fin A) (e : Fin C) :
    Host.scatter d (fun _ b => b) x idx v (ix3 a 0 e) = if h : e.val < U then v (ix2 a ⟨e.val, h⟩) else x (ix3 a 0 e) := by
  have lands := fun (k : (⟨2, ![A, U]⟩ : Shape).Idx) (hk : d.resultIdx? k idx = some (ix3 a 0 e)) =>
    (lands_row d huw hiw hsd hv idx 0 0 h1 h2 (k 0) a 0 (k 1) e).1 ((congrArg (fun t => d.resultIdx? t idx) (eq_ix2 k).symm).trans hk)
  by_cases h : e.val < U
  · rw [dif_pos h]
    refine scatter_set_hit d x idx v _ _ (fun k hk => ?_) (ix2 a ⟨e.val, h⟩)
      ((lands_row d huw hiw hsd hv idx 0 0 h1 h2 a a 0 _ e).2 ⟨rfl, rfl, Nat.zero_add _⟩)
    obtain ⟨h0, -, h2⟩ := lands k hk
    rw [eq_ix2 k, h0]
    exact congrArg (fun t => v (ix2 a t)) (Fin.ext (by show (k 1).val = e.val; omega))
  · rw [dif_neg h]
    refine scatter_set_miss d x idx v _ fun k hk => h ?_
    have h2 := (lands k hk).2.2
    have hlt : (k 1).val < U := (k 1).isLt
    omega

end Cert.Inproj

end
-- ==== Proof.Inproj.Weights.lean ====
module

public import proofs.«01_k».proof.Proof.Gen.InprojIdeal.Value
public import proofs.«01_k».proof.Proof.Inproj.Spec
public import proofs.«01_k».proof.Proof.Inproj.Scatter
public import Idealize.ShloMosaic.Lib.Pointwise
public import Idealize.ShloMosaic.Lib.StableHlo.ReadAt

@[expose] public section

set_option maxRecDepth 16384

noncomputable section

namespace Cert.InprojIdeal.Hand

open Cert.InprojIdeal Cert.InprojIdeal.Gen Idealize.ShloMosaic Idealize.ShloMosaic.TcCoe Idealize.SL.Sem Cert.Inproj

variable (m : (ℓ : Loc nD τ sig) → Buf (Elt Ideal) ℓ) (c : Dev nD)

/-- The projection's columns as the call finds them. -/
abbrev wt (k : Fin 1024) (n : Fin 2836) : EReal := m ((c : Thread nD τ).loc main_arg2) (ix2 k n)

/-- The packed columns the kernel reads. -/
abbrev pk (k : Fin 1024) (n : Fin 2944) : EReal := V m c main_v26 (ix2 k n)

theorem wt_congr (k : Fin 1024) {a b : Fin 2836} (h : a.val = b.val) : wt m c k a = wt m c k b := congrArg (wt m c k) (Fin.ext h)

theorem w_q (k : Fin 1024) (h : Fin 2) (l : Fin 128) : pk m c k ⟨128 * h.val + l.val, by omega⟩ = wt m c k (colA 0 h l) := by
  have hl := l.isLt
  have hh := h.isLt
  unfold pk V
  after_reads_at
  pointwise
  repeat (first | rw [dif_pos (by omega)] | rw [dif_neg (by omega)])
  after_reads_at
  pointwise
  exact wt_congr m c k (by simp only [colA]; show _ = 256 * 0 + _; omega)

theorem w_k (k : Fin 1024) (h : Fin 2) (l : Fin 128) :
    pk m c k ⟨256 + (128 * h.val + l.val), by omega⟩ = wt m c k (colA 1 h l) * eighth := by
  have hl := l.isLt
  have hh := h.isLt
  unfold pk V
  after_reads_at
  pointwise
  repeat (first | rw [dif_pos (by omega)] | rw [dif_neg (by omega)])
  after_reads_at
  pointwise
  exact congrArg (· * eighth) (wt_congr m c k (by simp only [colA]; show _ = 256 * 1 + _; omega))

theorem w_mid (k : Fin 1024) (n : Fin 1536) : pk m c k ⟨512 + n.val, by omega⟩ = wt m c k ⟨512 + n.val, by omega⟩ := by
  have hn := n.isLt
  by_cases h : n.val < 768
  · unfold pk V
    after_reads_at
    pointwise
    repeat (first | rw [dif_pos (by omega)] | rw [dif_neg (by omega)])
    after_reads_at
    pointwise
    exact wt_congr m c k (by dsimp only; omega)
  · unfold pk V
    after_reads_at
    pointwise
    repeat (first | rw [dif_pos (by omega)] | rw [dif_neg (by omega)])
    after_reads_at
    pointwise
    exact wt_congr m c k (by dsimp only; omega)

theorem w_fq (k : Fin 1024) (n : Fin 256) : pk m c k ⟨2048 + n.val, by omega⟩ = wt m c k ⟨2064 + n.val, by omega⟩ * eighth := by
  have hn := n.isLt
  unfold pk V
  after_reads_at
  pointwise
  repeat (first | rw [dif_pos (by omega)] | rw [dif_neg (by omega)])
  after_reads_at
  pointwise
  exact congrArg (· * eighth) (wt_congr m c k (by dsimp only; omega))

theorem w_fkv (k : Fin 1024) (n : Fin 512) : pk m c k ⟨2304 + n.val, by omega⟩ = wt m c k ⟨2320 + n.val, by omega⟩ := by
  have hn := n.isLt
  unfold pk V
  after_reads_at
  pointwise
  repeat (first | rw [dif_pos (by omega)] | rw [dif_neg (by omega)])
  after_reads_at
  pointwise
  exact wt_congr m c k (by dsimp only; omega)

theorem w_ff (k : Fin 1024) (n : Fin 4) : pk m c k ⟨2816 + n.val, by omega⟩ = wt m c k ⟨2832 + n.val, by omega⟩ := by
  have hn := n.isLt
  unfold pk V
  after_reads_at
  pointwise
  repeat (first | rw [dif_pos (by omega)] | rw [dif_neg (by omega)])
  after_reads_at
  rw [scatter_last _ rfl rfl rfl _ _ _ 4 rfl, dif_neg (by dsimp only; omega), scatter_last _ rfl rfl rfl _ _ _ 0 rfl, dif_pos (by dsimp only; omega)]
  pointwise
  exact wt_congr m c k (by dsimp only; omega)

theorem w_ga (k : Fin 1024) (n : Fin 16) : pk m c k ⟨2820 + n.val, by omega⟩ = wt m c k ⟨2048 + n.val, by omega⟩ := by
  have hn := n.isLt
  unfold pk V
  after_reads_at
  pointwise
  repeat (first | rw [dif_pos (by omega)] | rw [dif_neg (by omega)])
  after_reads_at
  rw [scatter_last _ rfl rfl rfl _ _ _ 4 rfl, dif_pos (by dsimp only; omega)]
  pointwise
  exact wt_congr m c k (by dsimp only; omega)

theorem w_pad (k : Fin 1024) (n : Fin 108) : pk m c k ⟨2836 + n.val, by omega⟩ = 0 := by
  have hn := n.isLt
  unfold pk V
  after_reads_at
  pointwise
  repeat (first | rw [dif_pos (by omega)] | rw [dif_neg (by omega)])
  after_reads_at
  rw [scatter_last _ rfl rfl rfl _ _ _ 4 rfl, dif_neg (by dsimp only; omega), scatter_last _ rfl rfl rfl _ _ _ 0 rfl, dif_neg (by dsimp only; omega)]
  pointwise

/-- The kernel's operand holds the projection's columns in the kernel's order. -/
theorem packed (k : Fin 1024) : Packed (pk m c k) (wt m c k) :=
  ⟨w_q m c k, w_k m c k, w_mid m c k, w_fq m c k, w_fkv m c k, w_ff m c k, w_ga m c k, w_pad m c k⟩

/-- The second factor of the gates: sixteen rows under the attention's four, the other rows zeros. -/
theorem a2_apply (k : Fin 128) (n : Fin 128) :
    V m c main_v32 (ix2 k n) =
      if h : 4 ≤ k.val ∧ k.val < 4 + 16 then (m ((c : Thread nD τ).loc main_arg3) (ix2 ⟨k.val - 4, by omega⟩ n) : EReal) else (0 : EReal) := by
  unfold V
  after_reads_at
  pointwise
  rw [scatter_middle _ rfl rfl rfl _ _ _ 4 rfl]
  pointwise

/-- The attention's gate bias: four lanes, the others zeros. -/
theorem bf_apply (a : Fin 1) (n : Fin 128) :
    V m c main_v39 (ix2 a n) = if h : n.val < 4 then (m ((c : Thread nD τ).loc main_arg5) (ix1 ⟨n.val, h⟩) : EReal) else (0 : EReal) := by
  unfold V
  after_reads_at
  pointwise
  rw [scatter_row _ rfl rfl rfl rfl _ _ _ rfl rfl]
  pointwise

/-- The angle of lane `n` of a half at a position. -/
def angle (t : Fin 8192) (n : Fin 128) : EReal :=
  FloatOps.sitofp (F := Ideal) .f32 (BitVec.ofNat 32 t.val) * m ((c : Thread nD τ).loc main_arg6) (ix1 ⟨n.val % 32, by omega⟩)

theorem cos_apply (t : Fin 8192) (n : Fin 128) : V m c main_v50 (ix2 t n) = Ideal.cos (angle m c t n) := by
  unfold V angle
  after_reads_at

theorem sin_apply (t : Fin 8192) (n : Fin 128) : V m c main_v54 (ix2 t n) = Ideal.sin (angle m c t n) := by
  unfold V angle
  after_reads_at

/-- The gain under a unit axis. -/
theorem gain_apply (a : Fin 1) (k : Fin 1024) : V m c main_v55 (ix2 a k) = m ((c : Thread nD τ).loc main_arg1) (ix1 k) := by
  unfold V; after_reads_at

/-- The gates' bias under a unit axis. -/
theorem ba_apply (a : Fin 1) (k : Fin 128) : V m c main_v56 (ix2 a k) = m ((c : Thread nD τ).loc main_arg4) (ix1 k) := by
  unfold V; after_reads_at

end Cert.InprojIdeal.Hand

end
-- ==== Proof.Inproj.Pieces.lean ====
module

public import Idealize.ShloMosaic.Lib.Pipeline.ValueKit

@[expose] public section

noncomputable section

namespace Cert.Inproj

open Idealize.ShloMosaic

/-- An entry of an array stored by column blocks: of the last block stored where its column lies there, of the blocks before it otherwise. -/
theorem canon_cols {e : EltTy} {R C W o : ℕ} (inb : ∀ a, (![0, o] : Fin 2 → ℕ) a + (![R, W] : Fin 2 → ℕ) a ≤ (![R, C] : Fin 2 → ℕ) a)
    (f : (⟨2, ![R, W]⟩ : Shape).Idx → Elt Ideal e) (L : List (View.Piece (Elt Ideal) ⟨2, ![R, C]⟩ e)) (r : Fin R) (n : Fin C) :
    View.canon (Val := Elt Ideal) (⟨Rect.unit (s := ⟨2, ![R, C]⟩) ![0, o] ![R, W] inb, f⟩ :: L) (ix2 r n) =
      if h : o ≤ n.val ∧ n.val < o + W then f (ix2 r ⟨n.val - o, by omega⟩) else View.canon L (ix2 r n) := by
  by_cases h : o ≤ n.val ∧ n.val < o + W
  · rw [dif_pos h]
    have e : (ix2 r n : (⟨2, ![R, C]⟩ : Shape).Idx) =
        (Rect.unit (s := ⟨2, ![R, C]⟩) ![0, o] ![R, W] inb).emb (ix2 r (⟨n.val - o, by omega⟩ : Fin W)) := by
      funext a; apply Fin.ext; fin_cases a <;> simp [Rect.emb_apply]
      omega
    rw [e]
    exact View.canon_cons_emb _ _ _ _
  · rw [dif_neg h, View.canon_cons_of_not_mem _ _ (by
      rw [Rect.mem_set_unit]; intro hh; have h1 := (hh 1).1; have h2 := (hh 1).2; simp at h1 h2; omega)]

/-- Whether a lane is one of the first four. -/
theorem lane_lt (n : Fin 128) : IntOp.cmpi .slt (BitVec.ofNat 32 n.val) 4#32 = if n.val < 4 then 1#1 else 0#1 := by
  revert n; decide +kernel

end Cert.Inproj

end
-- ==== Proof.Inproj.Tok.lean ====
module

public import proofs.«01_k».proof.Proof.Inproj.Weights
public import proofs.«01_k».proof.Proof.Inproj.Pieces

@[expose] public section

set_option maxRecDepth 16384

noncomputable section

namespace Cert.InprojIdeal.Hand

open Cert.InprojIdeal Cert.InprojIdeal.Gen Idealize.ShloMosaic Cert.Inproj
open Cert.FfnIdeal.Hand (hid)

variable (x : Vec Ideal S512x1024 .f32) (g : Vec Ideal S1x1024 .f32) (w : Vec Ideal S1024x2944 .bf16)
  (cs sn : Vec Ideal S512x128 .f32)

/-- The tile's combined projection in the kernel's order of columns. -/
def pj (r : Fin 512) (n : Fin 2944) : EReal := ∑ k, hid (fun k => x (ix2 r k)) (fun k => g (ix2 0 k)) k * w (ix2 k n)

theorem pay4_apply (r : Fin 512) (n : Fin 2944) : k0_pay4 (F := Ideal) x g w (ix2 r n) = pj x g w r n := by
  pointwise [k0_pay4, pj, hid]

theorem pay5_apply (r : Fin 512) (n : Fin 128) : k0_pay5 (F := Ideal) cs (ix2 r n) = cs (ix2 r n) := by pointwise [k0_pay5]
theorem pay6_apply (r : Fin 512) (n : Fin 128) : k0_pay6 (F := Ideal) cs (ix2 r n) = cs (ix2 r n) := by pointwise [k0_pay6]

theorem pay7_apply (r : Fin 512) (n : Fin 128) : k0_pay7 (F := Ideal) x g w (ix2 r n) = pj x g w r ⟨n.val, by omega⟩ := by
  pointwise [k0_pay7, pay4_apply]
theorem pay8_apply (r : Fin 512) (n : Fin 128) : k0_pay8 (F := Ideal) x g w (ix2 r n) = pj x g w r ⟨128 + n.val, by omega⟩ := by
  pointwise [k0_pay8, pay4_apply]
theorem pay11_apply (r : Fin 512) (n : Fin 128) : k0_pay11 (F := Ideal) x g w (ix2 r n) = pj x g w r ⟨256 + n.val, by omega⟩ := by
  pointwise [k0_pay11, pay4_apply]
theorem pay12_apply (r : Fin 512) (n : Fin 128) : k0_pay12 (F := Ideal) x g w (ix2 r n) = pj x g w r ⟨384 + n.val, by omega⟩ := by
  pointwise [k0_pay12, pay4_apply]

theorem pay9_apply (r : Fin 512) (n : Fin 128) : k0_pay9 (F := Ideal) x g w cs sn (ix2 r n) =
    pj x g w r ⟨n.val, by omega⟩ * cs (ix2 r n) - pj x g w r ⟨128 + n.val, by omega⟩ * sn (ix2 r n) := by
  pointwise [k0_pay9, pay5_apply, pay6_apply, pay7_apply, pay8_apply]
theorem pay10_apply (r : Fin 512) (n : Fin 128) : k0_pay10 (F := Ideal) x g w cs sn (ix2 r n) =
    pj x g w r ⟨n.val, by omega⟩ * sn (ix2 r n) + pj x g w r ⟨128 + n.val, by omega⟩ * cs (ix2 r n) := by
  pointwise [k0_pay10, pay5_apply, pay6_apply, pay7_apply, pay8_apply]
theorem pay13_apply (r : Fin 512) (n : Fin 128) : k0_pay13 (F := Ideal) x g w cs sn (ix2 r n) =
    pj x g w r ⟨256 + n.val, by omega⟩ * cs (ix2 r n) - pj x g w r ⟨384 + n.val, by omega⟩ * sn (ix2 r n) := by
  pointwise [k0_pay13, pay5_apply, pay6_apply, pay11_apply, pay12_apply]
theorem pay14_apply (v20 v22 v33 v34 : FVec Ideal S512x128 .f32) (r : Fin 512) (n : Fin 128) :
    k0_pay14 (F := Ideal) v20 v22 v33 v34 (ix2 r n) = v33 (ix2 r n) * v22 (ix2 r n) + v34 (ix2 r n) * v20 (ix2 r n) := by
  pointwise [k0_pay14]

variable (v : FVec Ideal S512x2944 .f32)

theorem pay15_apply (r : Fin 512) (n : Fin 512) : k0_pay15 (F := Ideal) v (ix2 r n) = v (ix2 r ⟨512 + n.val, by omega⟩) := by
  pointwise [k0_pay15]
theorem pay16_apply (r : Fin 512) (n : Fin 256) : k0_pay16 (F := Ideal) v (ix2 r n) = v (ix2 r ⟨1024 + n.val, by omega⟩) := by
  pointwise [k0_pay16]
theorem pay17_apply (r : Fin 512) (n : Fin 128) : k0_pay17 (F := Ideal) v (ix2 r n) = v (ix2 r ⟨2816 + n.val, by omega⟩) := by
  pointwise [k0_pay17]
theorem pay19_apply (r : Fin 512) (n : Fin 512) : k0_pay19 (F := Ideal) v (ix2 r n) = v (ix2 r ⟨1536 + n.val, by omega⟩) := by
  pointwise [k0_pay19]
theorem pay20_apply (r : Fin 512) (n : Fin 128) : k0_pay20 (F := Ideal) v (ix2 r n) = v (ix2 r ⟨1280 + n.val, by omega⟩) := by
  pointwise [k0_pay20]
theorem pay21_apply (r : Fin 512) (n : Fin 128) :
    k0_pay21 (F := Ideal) v (ix2 r n) = v (ix2 r ⟨1408 + n.val, by omega⟩) * Ideal.ofBits .f32 0x3E3504F3#32 := by
  pointwise [k0_pay21]
theorem pay23_apply (r : Fin 512) (n : Fin 256) : k0_pay23 (F := Ideal) v (ix2 r n) = v (ix2 r ⟨2304 + n.val, by omega⟩) := by
  pointwise [k0_pay23]
theorem pay24_apply (r : Fin 512) (n : Fin 256) : k0_pay24 (F := Ideal) v (ix2 r n) = v (ix2 r ⟨2560 + n.val, by omega⟩) := by
  pointwise [k0_pay24]

theorem pay18_apply (a : Vec Ideal S128x128 .bf16) (b : Vec Ideal S1x128 .f32) (r : Fin 512) (n : Fin 128) :
    k0_pay18 (F := Ideal) v a b (ix2 r n) =
      logsig ((∑ j : Fin 128, v (ix2 r ⟨2816 + j.val, by omega⟩) * a (ix2 j n)) + b (ix2 0 n)) * Ideal.ofBits .f32 0x3D800000#32 := by
  pointwise [k0_pay18, pay17_apply, logsig]
  rfl

theorem pay22_apply (v47 : FVec Ideal S512x128 .f32) (b : Vec Ideal S1x128 .f32) (r : Fin 512) (n : Fin 128) :
    k0_pay22 (F := Ideal) v47 b (ix2 r n) = if n.val < 4 then logsig (v47 (ix2 r n) + b (ix2 0 n)) else 0 := by
  pointwise [k0_pay22, logsig]
  rw [lane_lt]
  split
  · exact if_pos rfl
  · exact if_neg (by decide)

/-! ## What the tile stores, from the projection's own columns -/

variable (r : Fin 512) (p : Fin 2836 → EReal) (hp : Packed (pj x g w r) p)
include hp

/-- The tile's rotated queries and keys, values and gate. -/
theorem ret_tile (n : Fin 1024) :
    View.canon (Val := Elt Ideal) (e := .f32)
      [⟨Rect.unit ![0, 512] ![512, 512] inb_S512x1024_S512x512_0_512, k0_pay15 (k0_pay4 x g w)⟩,
        ⟨Rect.unit ![0, 384] ![512, 128] inb_S512x1024_S512x128_0_384,
          k0_pay14 (k0_pay5 cs) (k0_pay6 sn) (k0_pay11 x g w) (k0_pay12 x g w)⟩,
        ⟨Rect.unit ![0, 256] ![512, 128] inb_S512x1024_S512x128_0_256, k0_pay13 x g w cs sn⟩,
        ⟨Rect.unit ![0, 128] ![512, 128] inb_S512x1024_S512x128_0_128, k0_pay10 x g w cs sn⟩,
        ⟨Rect.unit ![0, 0] ![512, 128] inb_S512x1024_S512x128_0_0, k0_pay9 x g w cs sn⟩]
      (ix2 r n) = pret p (fun l => cs (ix2 r l)) (fun l => sn (ix2 r l)) n := by
  have hn := n.isLt
  have q0 : ∀ l : Fin 128, pj x g w r ⟨l.val, by omega⟩ = p (colA 0 0 l) := fun l => by
    rw [← hp.q 0 l]; exact congrArg _ (Fin.ext (by show l.val = 128 * 0 + l.val; omega))
  have q1 : ∀ l : Fin 128, pj x g w r ⟨128 + l.val, by omega⟩ = p (colA 0 1 l) := fun l => by
    rw [← hp.q 1 l]; exact congrArg _ (Fin.ext (by show 128 + l.val = 128 * 1 + l.val; omega))
  have k0 : ∀ l : Fin 128, pj x g w r ⟨256 + l.val, by omega⟩ = p (colA 1 0 l) * eighth := fun l => by
    rw [← hp.k 0 l]; exact congrArg _ (Fin.ext (by show 256 + l.val = 256 + (128 * 0 + l.val); omega))
  have k1 : ∀ l : Fin 128, pj x g w r ⟨384 + l.val, by omega⟩ = p (colA 1 1 l) * eighth := fun l => by
    rw [← hp.k 1 l]; exact congrArg _ (Fin.ext (by show 384 + l.val = 256 + (128 * 1 + l.val); omega))
  refine (canon_cols _ _ _ r n).trans ?_
  unfold pret
  by_cases h4 : 512 ≤ n.val
  · rw [dif_pos (by omega), dif_neg (by omega), dif_neg (by omega), dif_neg (by omega), dif_neg (by omega), pay15_apply, pay4_apply]
    refine (hp.mid ⟨n.val - 512, by omega⟩).trans (congrArg p (Fin.ext ?_))
    show 512 + (n.val - 512) = n.val
    omega
  rw [dif_neg (by omega)]
  refine (canon_cols _ _ _ r n).trans ?_
  by_cases h3 : 384 ≤ n.val
  · rw [dif_pos (by omega), dif_neg (by omega), dif_neg (by omega), dif_neg (by omega), dif_pos (by omega), pay14_apply, pay5_apply, pay6_apply,
      pay11_apply, pay12_apply, k0, k1, mul_right_comm, mul_right_comm (p _) eighth, EReal.right_distrib_of_nonneg_of_ne_top eighth_nonneg eighth_ne_top]
  rw [dif_neg (by omega)]
  refine (canon_cols _ _ _ r n).trans ?_
  by_cases h2 : 256 ≤ n.val
  · rw [dif_pos (by omega), dif_neg (by omega), dif_neg (by omega), dif_pos (by omega), pay13_apply, k0, k1, mul_right_comm,
      mul_right_comm (p _) eighth, sub_scale _ eighth_nonneg eighth_ne_top]
  rw [dif_neg (by omega)]
  refine (canon_cols _ _ _ r n).trans ?_
  by_cases h1 : 128 ≤ n.val
  · rw [dif_pos (by omega), dif_neg (by omega), dif_pos (by omega), pay10_apply, q0, q1]
  rw [dif_neg (by omega)]
  refine (canon_cols _ _ _ r n).trans ?_
  rw [dif_pos (by omega), dif_pos (by omega), pay9_apply, q0, q1]
  rfl

/-- The tile's columns of the gated branch. -/
theorem gla_tile (a : Vec Ideal S128x128 .bf16) (b : Vec Ideal S1x128 .f32) (a2 : Fin 16 → Fin 128 → EReal)
    (ha : ∀ k l, a (ix2 k l) = if h : 4 ≤ k.val ∧ k.val < 4 + 16 then a2 ⟨k.val - 4, by omega⟩ l else (0 : EReal)) (n : Fin 896) :
    View.canon (Val := Elt Ideal) (e := .f32)
      [⟨Rect.unit ![0, 768] ![512, 128] inb_S512x896_S512x128_0_768, k0_pay18 (k0_pay4 x g w) a b⟩,
        ⟨Rect.unit ![0, 640] ![512, 128] inb_S512x896_S512x128_0_640, k0_pay21 (k0_pay4 x g w)⟩,
        ⟨Rect.unit ![0, 512] ![512, 128] inb_S512x896_S512x128_0_512, k0_pay20 (k0_pay4 x g w)⟩,
        ⟨Rect.unit ![0, 0] ![512, 512] inb_S512x896_S512x512_0_0, k0_pay19 (k0_pay4 x g w)⟩]
      (ix2 r n) = pgla p a2 (fun l => b (ix2 0 l)) n := by
  have hn := n.isLt
  refine (canon_cols _ _ _ r n).trans ?_
  unfold pgla
  by_cases h3 : 768 ≤ n.val
  · rw [dif_pos (by omega), dif_neg (by omega), dif_neg (by omega), dif_neg (by omega), pay18_apply]
    have e : ∀ l : Fin 128, (∑ j : Fin 128, k0_pay4 (F := Ideal) x g w (ix2 r ⟨2816 + j.val, by omega⟩) * a (ix2 j l)) =
        ∑ j : Fin 16, p ⟨2048 + j.val, by omega⟩ * a2 j l := by
      intro l
      have e1 := Fin.sum_univ_add (a := 4) (b := 124) (fun j : Fin 128 => k0_pay4 (F := Ideal) x g w (ix2 r ⟨2816 + j.val, by omega⟩) * a (ix2 j l))
      have e2 := Fin.sum_univ_add (a := 16) (b := 108)
        (fun j : Fin 124 => k0_pay4 (F := Ideal) x g w (ix2 r ⟨2816 + (4 + j.val), by omega⟩) * a (ix2 (⟨4 + j.val, by omega⟩ : Fin 128) l))
      refine e1.trans ?_
      rw [Finset.sum_eq_zero (fun j _ => by
        rw [ha, dif_neg (by rintro ⟨h, -⟩; have := j.isLt; simp at h; omega), mul_zero]), zero_add]
      refine e2.trans ?_
      rw [Finset.sum_eq_zero (s := (Finset.univ : Finset (Fin 108))) (fun j _ => by
        rw [ha, dif_neg (by rintro ⟨-, h⟩; simp at h; omega), mul_zero]), add_zero]
      refine Finset.sum_congr rfl fun j _ => ?_
      rw [ha, dif_pos ⟨by simp, by simp; omega⟩, pay4_apply]
      refine congrArg₂ (· * ·) ((congrArg (pj x g w r) (Fin.ext ?_)).trans (hp.ga j)) (congrArg (a2 · l) (Fin.ext ?_))
      · simp; omega
      · simp
    rw [e]
  rw [dif_neg (by omega)]
  refine (canon_cols _ _ _ r n).trans ?_
  by_cases h2 : 640 ≤ n.val
  · rw [dif_pos (by omega), dif_neg (by omega), dif_neg (by omega), dif_pos (by omega), pay21_apply, pay4_apply]
    refine congrArg (· * _) (((congrArg (pj x g w r) (Fin.ext ?_)).trans (hp.mid ⟨n.val + 256, by omega⟩)).trans (congrArg p (Fin.ext ?_)))
    · show 1408 + (n.val - 640) = 512 + (n.val + 256); omega
    · show 512 + (n.val + 256) = 768 + n.val; omega
  rw [dif_neg (by omega)]
  refine (canon_cols _ _ _ r n).trans ?_
  by_cases h1 : 512 ≤ n.val
  · rw [dif_pos (by omega), dif_neg (by omega), dif_pos (by omega), pay20_apply, pay4_apply]
    refine ((congrArg (pj x g w r) (Fin.ext ?_)).trans (hp.mid ⟨n.val + 256, by omega⟩)).trans (congrArg p (Fin.ext ?_))
    · show 1280 + (n.val - 512) = 512 + (n.val + 256); omega
    · show 512 + (n.val + 256) = 768 + n.val; omega
  rw [dif_neg (by omega)]
  refine (canon_cols _ _ _ r n).trans ?_
  rw [dif_pos (by omega), dif_pos (by omega), pay19_apply, pay4_apply]
  refine ((congrArg (pj x g w r) (Fin.ext ?_)).trans (hp.mid ⟨n.val + 1024, by omega⟩)).trans (congrArg p (Fin.ext ?_))
  · show 1536 + (n.val - 0) = 512 + (n.val + 1024); omega
  · show 512 + (n.val + 1024) = 1536 + n.val; omega

/-- The tile's inputs of the state space branch. -/
theorem su_tile (n : Fin 256) : k0_pay16 (F := Ideal) (k0_pay4 x g w) (ix2 r n) = p ⟨1024 + n.val, by omega⟩ := by
  rw [pay16_apply, pay4_apply]
  refine ((congrArg (pj x g w r) (Fin.ext ?_)).trans (hp.mid ⟨n.val + 512, by omega⟩)).trans (congrArg p (Fin.ext ?_))
  · show 1024 + n.val = 512 + (n.val + 512); omega
  · show 512 + (n.val + 512) = 1024 + n.val; omega

/-- The tile's keys of the attention. -/
theorem fk_tile (n : Fin 256) : k0_pay23 (F := Ideal) (k0_pay4 x g w) (ix2 r n) = p ⟨2320 + n.val, by omega⟩ := by
  rw [pay23_apply, pay4_apply]
  exact hp.fkv ⟨n.val, by omega⟩

/-- The tile's values of the attention. -/
theorem fv_tile (n : Fin 256) : k0_pay24 (F := Ideal) (k0_pay4 x g w) (ix2 r n) = p ⟨2576 + n.val, by omega⟩ := by
  rw [pay24_apply, pay4_apply]
  refine ((congrArg (pj x g w r) (Fin.ext ?_)).trans (hp.fkv ⟨n.val + 256, by omega⟩)).trans (congrArg p (Fin.ext ?_))
  · show 2560 + n.val = 2304 + (n.val + 256); omega
  · show 2320 + (n.val + 256) = 2576 + n.val; omega

/-- The tile's logarithms of the attention's forget gates. -/
theorem lf_tile (b : Vec Ideal S1x128 .f32) (bf : Fin 4 → EReal)
    (hb : ∀ l : Fin 128, b (ix2 0 l) = if h : l.val < 4 then bf ⟨l.val, h⟩ else (0 : EReal)) (n : Fin 128) :
    k0_pay22 (F := Ideal) (k0_pay17 (k0_pay4 x g w)) b (ix2 r n) = flog p bf n := by
  rw [pay22_apply]
  unfold flog
  by_cases h : n.val < 4
  · rw [if_pos h, dif_pos h, pay17_apply, pay4_apply, hb, dif_pos h]
    refine congrArg (fun t => logsig (t + _)) ((congrArg (pj x g w r) (Fin.ext ?_)).trans (hp.ff ⟨n.val, h⟩))
    rfl
  · rw [if_neg h, dif_neg h]

end Cert.InprojIdeal.Hand

end
-- ==== Proof.Inproj.Array.lean ====
module

public import proofs.«01_k».proof.Proof.Inproj.Tok

@[expose] public section

set_option maxRecDepth 16384

noncomputable section

namespace Cert.InprojIdeal.Hand

open Cert.InprojIdeal Cert.InprojIdeal.Gen Idealize.ShloMosaic Idealize.ShloMosaic.TcCoe Idealize.SL.Sem Cert.Inproj
open Cert.FfnIdeal.Hand (hid)

variable (m : (ℓ : Loc nD τ sig) → Buf (Elt Ideal) ℓ) (c : Dev nD)

/-- The block index of every window at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val % 16, 0]
    ∧ win0_7.index t = ![t.val % 16, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] :=
  (by decide +kernel : ∀ t : Fin grid0.N, _)

theorem cover11 : (cfg0.win 11).Covers := by decide +kernel
theorem cover12 : (cfg0.win 12).Covers := by decide +kernel
theorem cover13 : (cfg0.win 13).Covers := by decide +kernel
theorem cover14 : (cfg0.win 14).Covers := by decide +kernel
theorem cover15 : (cfg0.win 15).Covers := by decide +kernel
theorem cover16 : (cfg0.win 16).Covers := by decide +kernel

/-- The combined projection of token `i`. -/
def P (i : Fin 16384) : Fin 2836 → EReal :=
  prj (fun k => m ((c : Thread nD τ).loc main_arg0) (ix2 i k)) (fun k => m ((c : Thread nD τ).loc main_arg1) (ix1 k)) (wt m c)

/-- The stream's row at row `r` of tile `t`. -/
def row (t : Fin cfg0.N) (r : Fin 512) : Fin 16384 := ⟨512 * t.val + r.val, by have ht : t.val < 32 := t.isLt; omega⟩

/-- The position of token `i` in its sequence. -/
def pos (i : Fin 16384) : Fin 8192 := ⟨i.val % 8192, by omega⟩

theorem tile_x (t : Fin cfg0.N) (r : Fin 512) :
    (fun k => iblk m c 0 t (ix2 r k)) = fun k => m ((c : Thread nD τ).loc main_arg0) (ix2 (row t r) k) := by
  funext k
  refine Eq.trans ?_ (congrFun (V_main_arg0 m c) (ix2 (row t r) k))
  unfold row
  blk_ext [iblk, idx t]

theorem tile_g (t : Fin cfg0.N) : (fun k => iblk m c 1 t (ix2 0 k)) = fun k => m ((c : Thread nD τ).loc main_arg1) (ix1 k) := by
  funext k; refine Eq.trans ?_ (gain_apply m c 0 k); blk_ext [iblk, idx t]

theorem tile_w (t : Fin cfg0.N) (k : Fin 1024) (n : Fin 2944) : iblk m c 2 t (ix2 k n) = V m c main_v26 (ix2 k n) := by
  blk_ext [iblk, idx t]

theorem pj_congr {x : Vec Ideal S512x1024 .f32} {g : Vec Ideal S1x1024 .f32} (w : Vec Ideal S1024x2944 .bf16) (r : Fin 512)
    (X G : Fin 1024 → EReal) (W : Fin 1024 → Fin 2944 → EReal) (hx : (fun k => x (ix2 r k)) = X) (hg : (fun k => g (ix2 0 k)) = G)
    (hw : ∀ k n, w (ix2 k n) = W k n) : pj x g w r = fun n => ∑ k, hid X G k * W k n := by
  funext n
  unfold pj
  rw [hx, hg]
  exact Finset.sum_congr rfl fun k _ => congrArg _ (hw k n)

/-- A tile's combined projection is the stream's at the tile's rows, packed. -/
theorem tile_packed (t : Fin cfg0.N) (r : Fin 512) : Packed (pj (iblk m c 0 t) (iblk m c 1 t) (iblk m c 2 t) r) (P m c (row t r)) := by
  rw [pj_congr (iblk m c 2 t) r _ _ _ (tile_x m c t r) (tile_g m c t) (tile_w m c t)]
  exact packed_prj _ _ (pk m c) _ (packed m c)

theorem tile_cos (t : Fin cfg0.N) (r : Fin 512) : (fun l => iblk m c 6 t (ix2 r l)) = fun l => Ideal.cos (angle m c (pos (row t r)) l) := by
  have ht : t.val < 32 := t.isLt
  funext l
  refine Eq.trans ?_ (cos_apply m c _ l)
  unfold pos row
  blk_ext [iblk, idx t]

theorem tile_sin (t : Fin cfg0.N) (r : Fin 512) : (fun l => iblk m c 7 t (ix2 r l)) = fun l => Ideal.sin (angle m c (pos (row t r)) l) := by
  have ht : t.val < 32 := t.isLt
  funext l
  refine Eq.trans ?_ (sin_apply m c _ l)
  unfold pos row
  blk_ext [iblk, idx t]

/-- The gates' second factor. -/
def a2 (j : Fin 16) (l : Fin 128) : EReal := m ((c : Thread nD τ).loc main_arg3) (ix2 j l)
/-- The gates' bias. -/
def ba (l : Fin 128) : EReal := m ((c : Thread nD τ).loc main_arg4) (ix1 l)
/-- The attention's gate bias. -/
def bf (l : Fin 4) : EReal := m ((c : Thread nD τ).loc main_arg5) (ix1 l)

theorem tile_a2 (t : Fin cfg0.N) (k l : Fin 128) : iblk m c 3 t (ix2 k l) =
    if h : 4 ≤ k.val ∧ k.val < 4 + 16 then a2 m c ⟨k.val - 4, by omega⟩ l else (0 : EReal) := by
  refine Eq.trans ?_ (a2_apply m c k l)
  blk_ext [iblk, idx t]

theorem tile_ba (t : Fin cfg0.N) : (fun l => iblk m c 4 t (ix2 0 l)) = ba m c := by
  funext l; refine Eq.trans ?_ (ba_apply m c 0 l); blk_ext [iblk, idx t]

theorem tile_bf (t : Fin cfg0.N) (l : Fin 128) : iblk m c 5 t (ix2 0 l) = if h : l.val < 4 then bf m c ⟨l.val, h⟩ else (0 : EReal) := by
  refine Eq.trans ?_ (bf_apply m c 0 l)
  blk_ext [iblk, idx t]

/-! ## The arrays after the run -/

/-- The rotated queries and keys, the values and the gate of the retention. -/
def R11 : S16384x1024.Idx → EReal := fun i =>
  pret (P m c (i 0)) (fun l => Ideal.cos (angle m c (pos (i 0)) l)) (fun l => Ideal.sin (angle m c (pos (i 0)) l)) (i 1)
/-- The inputs of the state space branch. -/
def R12 : S16384x256.Idx → EReal := fun i => P m c (i 0) ⟨1024 + (i 1).val, by have h : (i 1).val < 256 := (i 1).isLt; omega⟩
/-- The columns of the gated branch. -/
def R13 : S16384x896.Idx → EReal := fun i => pgla (P m c (i 0)) (a2 m c) (ba m c) (i 1)
/-- The keys of the attention. -/
def R14 : S16384x256.Idx → EReal := fun i => P m c (i 0) ⟨2320 + (i 1).val, by have h : (i 1).val < 256 := (i 1).isLt; omega⟩
/-- The values of the attention. -/
def R15 : S16384x256.Idx → EReal := fun i => P m c (i 0) ⟨2576 + (i 1).val, by have h : (i 1).val < 256 := (i 1).isLt; omega⟩
/-- The logarithms of the attention's forget gates. -/
def R16 : S16384x128.Idx → EReal := fun i => flog (P m c (i 0)) (bf m c) (i 1)

/-- What grid point `t` stores in output 0. -/
theorem stored11 (t : Fin cfg0.N) (r : Fin 512) (n : Fin 1024) : (outsAt0 m c t.val t.isLt).1 (ix2 r n) =
    pret (P m c (row t r)) (fun l => iblk m c 6 t (ix2 r l)) (fun l => iblk m c 7 t (ix2 r l)) n := by
  by_cases h : t.val % 16 = 0
  · rw [outsAt0_A m c t h]
    dsimp only
    frame_out
    exact ret_tile _ _ _ _ _ r _ (tile_packed m c t r) n
  · rw [outsAt0_B m c t h]
    dsimp only
    frame_out
    exact ret_tile _ _ _ _ _ r _ (tile_packed m c t r) n

/-- Output 0's array after the run. -/
theorem final11 : (dats m 0 c).arrAt 11 cfg0.N = R11 m c := by
  refine (dats m 0 c).arrAt_eq_of_covers 11 _ cover11 fun t hf y => ?_
  blk_simp
  rw [after0_11]
  idx_vars y
  rw [stored11, tile_cos, tile_sin]
  have ht : t.val < 32 := t.isLt
  have he : ((View.whole main_v57_0).slice (win0_11.rect t)).emb (ix2 y0 y1) = ix2 (row t y0) y1 := by
    unfold row
    blk_ext [idx t]
  rw [he]
  rfl

/-- What grid point `t` stores in output 1. -/
theorem stored12 (t : Fin cfg0.N) (r : Fin 512) (n : Fin 256) : (outsAt0 m c t.val t.isLt).2.1 (ix2 r n) =
    P m c (row t r) ⟨1024 + n.val, by omega⟩ := by
  by_cases h : t.val % 16 = 0
  · rw [outsAt0_A m c t h]
    dsimp only
    frame_out
    exact su_tile _ _ _ r _ (tile_packed m c t r) n
  · rw [outsAt0_B m c t h]
    dsimp only
    frame_out
    exact su_tile _ _ _ r _ (tile_packed m c t r) n

/-- Output 1's array after the run. -/
theorem final12 : (dats m 0 c).arrAt 12 cfg0.N = R12 m c := by
  refine (dats m 0 c).arrAt_eq_of_covers 12 _ cover12 fun t hf y => ?_
  blk_simp
  rw [after0_12]
  idx_vars y
  rw [stored12]
  have ht : t.val < 32 := t.isLt
  have he : ((View.whole main_v57_1).slice (win0_12.rect t)).emb (ix2 y0 y1) = ix2 (row t y0) y1 := by
    unfold row
    blk_ext [idx t]
  rw [he]
  rfl

/-- What grid point `t` stores in output 2. -/
theorem stored13 (t : Fin cfg0.N) (r : Fin 512) (n : Fin 896) : (outsAt0 m c t.val t.isLt).2.2.1 (ix2 r n) =
    pgla (P m c (row t r)) (a2 m c) (fun l => iblk m c 4 t (ix2 0 l)) n := by
  by_cases h : t.val % 16 = 0
  · rw [outsAt0_A m c t h]
    dsimp only
    frame_out
    exact gla_tile _ _ _ r _ (tile_packed m c t r) _ _ (a2 m c) (tile_a2 m c t) n
  · rw [outsAt0_B m c t h]
    dsimp only
    frame_out
    exact gla_tile _ _ _ r _ (tile_packed m c t r) _ _ (a2 m c) (tile_a2 m c t) n

/-- Output 2's array after the run. -/
theorem final13 : (dats m 0 c).arrAt 13 cfg0.N = R13 m c := by
  refine (dats m 0 c).arrAt_eq_of_covers 13 _ cover13 fun t hf y => ?_
  blk_simp
  rw [after0_13]
  idx_vars y
  rw [stored13, tile_ba]
  have ht : t.val < 32 := t.isLt
  have he : ((View.whole main_v57_2).slice (win0_13.rect t)).emb (ix2 y0 y1) = ix2 (row t y0) y1 := by
    unfold row
    blk_ext [idx t]
  rw [he]
  rfl

/-- What grid point `t` stores in output 3. -/
theorem stored14 (t : Fin cfg0.N) (r : Fin 512) (n : Fin 256) : (outsAt0 m c t.val t.isLt).2.2.2.1 (ix2 r n) =
    P m c (row t r) ⟨2320 + n.val, by omega⟩ := by
  by_cases h : t.val % 16 = 0
  · rw [outsAt0_A m c t h]
    dsimp only
    frame_out
    exact fk_tile _ _ _ r _ (tile_packed m c t r) n
  · rw [outsAt0_B m c t h]
    dsimp only
    frame_out
    exact fk_tile _ _ _ r _ (tile_packed m c t r) n

/-- Output 3's array after the run. -/
theorem final14 : (dats m 0 c).arrAt 14 cfg0.N = R14 m c := by
  refine (dats m 0 c).arrAt_eq_of_covers 14 _ cover14 fun t hf y => ?_
  blk_simp
  rw [after0_14]
  idx_vars y
  rw [stored14]
  have ht : t.val < 32 := t.isLt
  have he : ((View.whole main_v57_3).slice (win0_14.rect t)).emb (ix2 y0 y1) = ix2 (row t y0) y1 := by
    unfold row
    blk_ext [idx t]
  rw [he]
  rfl

/-- What grid point `t` stores in output 4. -/
theorem stored15 (t : Fin cfg0.N) (r : Fin 512) (n : Fin 256) : (outsAt0 m c t.val t.isLt).2.2.2.2.1 (ix2 r n) =
    P m c (row t r) ⟨2576 + n.val, by omega⟩ := by
  by_cases h : t.val % 16 = 0
  · rw [outsAt0_A m c t h]
    dsimp only
    frame_out
    exact fv_tile _ _ _ r _ (tile_packed m c t r) n
  · rw [outsAt0_B m c t h]
    dsimp only
    frame_out
    exact fv_tile _ _ _ r _ (tile_packed m c t r) n

/-- Output 4's array after the run. -/
theorem final15 : (dats m 0 c).arrAt 15 cfg0.N = R15 m c := by
  refine (dats m 0 c).arrAt_eq_of_covers 15 _ cover15 fun t hf y => ?_
  blk_simp
  rw [after0_15]
  idx_vars y
  rw [stored15]
  have ht : t.val < 32 := t.isLt
  have he : ((View.whole main_v57_4).slice (win0_15.rect t)).emb (ix2 y0 y1) = ix2 (row t y0) y1 := by
    unfold row
    blk_ext [idx t]
  rw [he]
  rfl

/-- What grid point `t` stores in output 5. -/
theorem stored16 (t : Fin cfg0.N) (r : Fin 512) (n : Fin 128) : (outsAt0 m c t.val t.isLt).2.2.2.2.2.1 (ix2 r n) =
    flog (P m c (row t r)) (bf m c) n := by
  by_cases h : t.val % 16 = 0
  · rw [outsAt0_A m c t h]
    dsimp only
    frame_out
    exact lf_tile _ _ _ r _ (tile_packed m c t r) _ (bf m c) (tile_bf m c t) n
  · rw [outsAt0_B m c t h]
    dsimp only
    frame_out
    exact lf_tile _ _ _ r _ (tile_packed m c t r) _ (bf m c) (tile_bf m c t) n

/-- Output 5's array after the run. -/
theorem final16 : (dats m 0 c).arrAt 16 cfg0.N = R16 m c := by
  refine (dats m 0 c).arrAt_eq_of_covers 16 _ cover16 fun t hf y => ?_
  blk_simp
  rw [after0_16]
  idx_vars y
  rw [stored16]
  have ht : t.val < 32 := t.isLt
  have he : ((View.whole main_v57_5).slice (win0_16.rect t)).emb (ix2 y0 y1) = ix2 (row t y0) y1 := by
    unfold row
    blk_ext [idx t]
  rw [he]
  rfl

end Cert.InprojIdeal.Hand

end
-- ==== Proof.Inproj.Reference.lean ====
module

public import proofs.«01_k».proof.Proof.Inproj.Spec
public import proofs.«01_k».proof.Proof.Gen.InprojRefIdeal.Run
public import proofs.«01_k».proof.Proof.Gen.InprojRefIdeal.Read
public import Idealize.ShloMosaic.Lib.Pointwise

@[expose] public section

set_option maxRecDepth 16384

noncomputable section

namespace Cert.InprojRefIdeal.Hand

open Cert.InprojRefIdeal Cert.InprojRefIdeal.Read Idealize.ShloMosaic Cert.Inproj
open Cert.FfnIdeal.Hand (hid)

variable (x0 : (⟨S16384x1024, .f32⟩ : BufTy).Contents (Elt Ideal)) (x1 : (⟨S1024, .f32⟩ : BufTy).Contents (Elt Ideal))
  (x2 : (⟨S1024x2836, .f32⟩ : BufTy).Contents (Elt Ideal)) (x3 : (⟨S16x128, .f32⟩ : BufTy).Contents (Elt Ideal))
  (x4 : (⟨S128, .f32⟩ : BufTy).Contents (Elt Ideal)) (x5 : (⟨S4, .f32⟩ : BufTy).Contents (Elt Ideal))
  (x6 : (⟨S32, .f32⟩ : BufTy).Contents (Elt Ideal))

/-- Token `l` of sequence `b` in the stream. -/
def at_ (b : Fin 2) (l : Fin 8192) : Fin 16384 := ⟨b.val * 8192 + l.val, by omega⟩

/-- The combined projection of token `i`. -/
def P (i : Fin 16384) : Fin 2836 → EReal := prj (fun k => x0 (ix2 i k)) (fun k => x1 (ix1 k)) (fun k n => x2 (ix2 k n))

/-- The reference's normalised token. -/
theorem h_apply (b : Fin 2) (l : Fin 8192) (k : Fin 1024) :
    val_main_v14 (F := Ideal) x0 x1 (ix3 b l k) = hid (fun k => x0 (ix2 (at_ b l) k)) (fun k => x1 (ix1 k)) k := by
  pointwise [val_main_v14, val_main_v13, val_main_v12, val_main_v11, val_main_v10, val_main_v9, val_main_v8, val_main_v7, val_main_v6, val_main_v5,
    val_main_v4, val_main_v3, val_main_v2, val_main_v0, val_main_cst, val_main_cst_0, val_main_cst_1, hid, at_]

/-- The reference's combined projection. -/
theorem p_apply (b : Fin 2) (l : Fin 8192) (n : Fin 2836) :
    val_main_v15 (F := Ideal) x0 x1 x2 (ix3 b l n) = P x0 x1 x2 (at_ b l) n := by
  unfold P prj
  pointwise [val_main_v15, h_apply]

/-- Lane `d` of the angles at a position. -/
def ang (t : Fin 8192) (d : Fin 32) : EReal := FloatOps.sitofp (F := Ideal) .f32 (BitVec.ofNat 32 t.val) * x6 (ix1 d)

theorem qlo_apply (b : Fin 2) (l : Fin 8192) (h : Fin 4) (d : Fin 32) :
    val_main_v41 (F := Ideal) x0 x1 x2 (ix4 b l h d) = P x0 x1 x2 (at_ b l) ⟨h.val * 64 + d.val, by omega⟩ := by
  pointwise [val_main_v41, val_main_v30, val_main_v16, p_apply]

theorem qhi_apply (b : Fin 2) (l : Fin 8192) (h : Fin 4) (d : Fin 32) :
    val_main_v42 (F := Ideal) x0 x1 x2 (ix4 b l h d) = P x0 x1 x2 (at_ b l) ⟨h.val * 64 + (32 + d.val), by omega⟩ := by
  pointwise [val_main_v42, val_main_v30, val_main_v16, p_apply]

theorem qcos_apply (a : Fin 1) (l : Fin 8192) (h : Fin 1) (d : Fin 32) :
    val_main_v38 (F := Ideal) x6 (ix4 a l h d) = Ideal.cos (ang x6 l d) := by
  pointwise [val_main_v38, val_main_v37, val_main_v36, val_main_v35, val_main_v34, val_main_v33, val_main_v32, val_main_v31, val_main_v1, ang]

theorem qsin_apply (a : Fin 1) (l : Fin 8192) (h : Fin 1) (d : Fin 32) :
    val_main_v40 (F := Ideal) x6 (ix4 a l h d) = Ideal.sin (ang x6 l d) := by
  pointwise [val_main_v40, val_main_v39, val_main_v36, val_main_v35, val_main_v34, val_main_v33, val_main_v32, val_main_v31, val_main_v1, ang]

/-- The rotated queries, first halves. -/
theorem qrot0_apply (b : Fin 2) (l : Fin 8192) (h : Fin 4) (d : Fin 32) :
    val_main_v47 (F := Ideal) x0 x1 x2 x6 (ix4 b l h d) =
      P x0 x1 x2 (at_ b l) ⟨h.val * 64 + d.val, by omega⟩ * Ideal.cos (ang x6 l d)
        - P x0 x1 x2 (at_ b l) ⟨h.val * 64 + (32 + d.val), by omega⟩ * Ideal.sin (ang x6 l d) := by
  pointwise [val_main_v47, val_main_v46, val_main_v45, val_main_v44, val_main_v43, qlo_apply, qhi_apply, qcos_apply, qsin_apply]

/-- The rotated queries, second halves. -/
theorem qrot1_apply (b : Fin 2) (l : Fin 8192) (h : Fin 4) (d : Fin 32) :
    val_main_v52 (F := Ideal) x0 x1 x2 x6 (ix4 b l h d) =
      P x0 x1 x2 (at_ b l) ⟨h.val * 64 + d.val, by omega⟩ * Ideal.sin (ang x6 l d)
        + P x0 x1 x2 (at_ b l) ⟨h.val * 64 + (32 + d.val), by omega⟩ * Ideal.cos (ang x6 l d) := by
  pointwise [val_main_v52, val_main_v51, val_main_v50, val_main_v49, val_main_v48, qlo_apply, qhi_apply, qcos_apply, qsin_apply]

theorem klo_apply (b : Fin 2) (l : Fin 8192) (h : Fin 4) (d : Fin 32) :
    val_main_v65 (F := Ideal) x0 x1 x2 (ix4 b l h d) = P x0 x1 x2 (at_ b l) ⟨256 + (h.val * 64 + d.val), by omega⟩ := by
  pointwise [val_main_v65, val_main_v54, val_main_v17, p_apply]

theorem khi_apply (b : Fin 2) (l : Fin 8192) (h : Fin 4) (d : Fin 32) :
    val_main_v66 (F := Ideal) x0 x1 x2 (ix4 b l h d) = P x0 x1 x2 (at_ b l) ⟨256 + (h.val * 64 + (32 + d.val)), by omega⟩ := by
  pointwise [val_main_v66, val_main_v54, val_main_v17, p_apply]

theorem kcos_apply (a : Fin 1) (l : Fin 8192) (h : Fin 1) (d : Fin 32) :
    val_main_v62 (F := Ideal) x6 (ix4 a l h d) = Ideal.cos (ang x6 l d) := by
  pointwise [val_main_v62, val_main_v61, val_main_v60, val_main_v59, val_main_v58, val_main_v57, val_main_v56, val_main_v55, val_main_v1, ang]

theorem ksin_apply (a : Fin 1) (l : Fin 8192) (h : Fin 1) (d : Fin 32) :
    val_main_v64 (F := Ideal) x6 (ix4 a l h d) = Ideal.sin (ang x6 l d) := by
  pointwise [val_main_v64, val_main_v63, val_main_v60, val_main_v59, val_main_v58, val_main_v57, val_main_v56, val_main_v55, val_main_v1, ang]

/-- The rotated keys, first halves. -/
theorem krot0_apply (b : Fin 2) (l : Fin 8192) (h : Fin 4) (d : Fin 32) :
    val_main_v71 (F := Ideal) x0 x1 x2 x6 (ix4 b l h d) =
      P x0 x1 x2 (at_ b l) ⟨256 + (h.val * 64 + d.val), by omega⟩ * Ideal.cos (ang x6 l d)
        - P x0 x1 x2 (at_ b l) ⟨256 + (h.val * 64 + (32 + d.val)), by omega⟩ * Ideal.sin (ang x6 l d) := by
  pointwise [val_main_v71, val_main_v70, val_main_v69, val_main_v68, val_main_v67, klo_apply, khi_apply, kcos_apply, ksin_apply]

/-- The rotated keys, second halves. -/
theorem krot1_apply (b : Fin 2) (l : Fin 8192) (h : Fin 4) (d : Fin 32) :
    val_main_v76 (F := Ideal) x0 x1 x2 x6 (ix4 b l h d) =
      P x0 x1 x2 (at_ b l) ⟨256 + (h.val * 64 + d.val), by omega⟩ * Ideal.sin (ang x6 l d)
        + P x0 x1 x2 (at_ b l) ⟨256 + (h.val * 64 + (32 + d.val)), by omega⟩ * Ideal.cos (ang x6 l d) := by
  pointwise [val_main_v76, val_main_v75, val_main_v74, val_main_v73, val_main_v72, klo_apply, khi_apply, kcos_apply, ksin_apply]

theorem qt_apply (b : Fin 2) (l : Fin 8192) (a : Fin 2) (h : Fin 4) (d : Fin 32) :
    val_main_v94 (F := Ideal) x0 x1 x2 x6 (ix5 b l a h d) = val_main_v93 (F := Ideal) x0 x1 x2 x6 (ix5 b l h a d) := by
  rw [val_main_v94_apply]
  refine congrArg _ ?_
  funext a
  match a with
  | ⟨0, _⟩ => rfl
  | ⟨1, _⟩ => rfl
  | ⟨2, _⟩ => rfl
  | ⟨3, _⟩ => rfl
  | ⟨4, _⟩ => rfl

theorem kt_apply (b : Fin 2) (l : Fin 8192) (a : Fin 2) (h : Fin 4) (d : Fin 32) :
    val_main_v97 (F := Ideal) x0 x1 x2 x6 (ix5 b l a h d) = val_main_v96 (F := Ideal) x0 x1 x2 x6 (ix5 b l h a d) := by
  rw [val_main_v97_apply]
  refine congrArg _ ?_
  funext a
  match a with
  | ⟨0, _⟩ => rfl
  | ⟨1, _⟩ => rfl
  | ⟨2, _⟩ => rfl
  | ⟨3, _⟩ => rfl
  | ⟨4, _⟩ => rfl

theorem ix4_congr (b : Fin 2) (l : Fin 8192) (h : Fin 4) {d d' : Fin 32} (e : d.val = d'.val) :
    (ix4 b l h d : S2x8192x4x32.Idx) = ix4 b l h d' := by rw [Fin.ext e]

/-- The packed queries, in terms of the rotated ones. -/
theorem q_apply (b : Fin 2) (l : Fin 8192) (n : Fin 256) :
    val_main_v95 (F := Ideal) x0 x1 x2 x6 (ix3 b l n) = if h : n.val < 128 then
        val_main_v47 (F := Ideal) x0 x1 x2 x6 (ix4 b l ⟨n.val / 32 % 4, by omega⟩ ⟨n.val % 32, by omega⟩)
      else val_main_v52 (F := Ideal) x0 x1 x2 x6 (ix4 b l ⟨n.val / 32 % 4, by omega⟩ ⟨n.val % 32, by omega⟩) := by
  have e : val_main_v95 (F := Ideal) x0 x1 x2 x6 (ix3 b l n) =
      val_main_v53 (F := Ideal) x0 x1 x2 x6 (ix4 b l ⟨n.val / 32 % 4, by omega⟩ ⟨n.val / 128 * 32 + n.val % 32, by omega⟩) := by
    pointwise [val_main_v95, qt_apply, val_main_v93]
  rw [e]
  pointwise [val_main_v53]
  by_cases h : n.val < 128
  · rw [dif_pos (by omega), dif_pos h]
    exact congrArg (val_main_v47 (F := Ideal) x0 x1 x2 x6) (ix4_congr b l _ (by show n.val / 128 * 32 + n.val % 32 = n.val % 32; omega))
  · rw [dif_neg (by omega), dif_neg h]
    exact congrArg (val_main_v52 (F := Ideal) x0 x1 x2 x6) (ix4_congr b l _ (by show n.val / 128 * 32 + n.val % 32 - 32 = n.val % 32; omega))

/-- The packed keys, in terms of the rotated ones. -/
theorem k_apply (b : Fin 2) (l : Fin 8192) (n : Fin 256) :
    val_main_v98 (F := Ideal) x0 x1 x2 x6 (ix3 b l n) = if h : n.val < 128 then
        val_main_v71 (F := Ideal) x0 x1 x2 x6 (ix4 b l ⟨n.val / 32 % 4, by omega⟩ ⟨n.val % 32, by omega⟩) * eighth
      else val_main_v76 (F := Ideal) x0 x1 x2 x6 (ix4 b l ⟨n.val / 32 % 4, by omega⟩ ⟨n.val % 32, by omega⟩) * eighth := by
  have e : val_main_v98 (F := Ideal) x0 x1 x2 x6 (ix3 b l n) =
      val_main_v79 (F := Ideal) x0 x1 x2 x6 (ix4 b l ⟨n.val / 32 % 4, by omega⟩ ⟨n.val / 128 * 32 + n.val % 32, by omega⟩) := by
    pointwise [val_main_v98, kt_apply, val_main_v96]
  rw [e]
  pointwise [val_main_v79, val_main_v78, val_main_cst_2, val_main_v77]
  by_cases h : n.val < 128
  · rw [dif_pos (by omega), dif_pos h]
    exact congrArg (· * eighth) (congrArg (val_main_v71 (F := Ideal) x0 x1 x2 x6) (ix4_congr b l _ (by show n.val / 128 * 32 + n.val % 32 = n.val % 32; omega)))
  · rw [dif_neg (by omega), dif_neg h]
    exact congrArg (· * eighth) (congrArg (val_main_v76 (F := Ideal) x0 x1 x2 x6) (ix4_congr b l _ (by show n.val / 128 * 32 + n.val % 32 - 32 = n.val % 32; omega)))

/-- The gates' sums. -/
theorem gs_apply (b : Fin 2) (l : Fin 8192) (n : Fin 128) :
    val_main_v85 (F := Ideal) x0 x1 x2 x3 x4 (ix3 b l n) =
      (∑ j : Fin 16, P x0 x1 x2 (at_ b l) ⟨2048 + j.val, by omega⟩ * x3 (ix2 j n)) + x4 (ix1 n) := by
  pointwise [val_main_v85, val_main_v84, val_main_v83, val_main_v82, val_main_v25, p_apply]

theorem c0v3_apply (b : Fin 2) (l : Fin 8192) (n : Fin 128) :
    val_main_call0_call0_v3 (F := Ideal) x0 x1 x2 x3 x4 (ix3 b l n) = -val_main_v85 (F := Ideal) x0 x1 x2 x3 x4 (ix3 b l n) := by
  pointwise [val_main_call0_call0_v3, val_main_call0_call0_v2, val_main_call0_call0_cst, val_main_call0_v0]

theorem c0v11_apply (b : Fin 2) (l : Fin 8192) (n : Fin 128) :
    val_main_call0_call0_v11 (F := Ideal) x0 x1 x2 x3 x4 (ix3 b l n) = max (-val_main_v85 (F := Ideal) x0 x1 x2 x3 x4 (ix3 b l n)) 0
      + Ideal.log1p (Ideal.exp (-max (-val_main_v85 (F := Ideal) x0 x1 x2 x3 x4 (ix3 b l n)) (- -val_main_v85 (F := Ideal) x0 x1 x2 x3 x4 (ix3 b l n)))) := by
  pointwise [val_main_call0_call0_v11, val_main_call0_call0_v10, val_main_call0_call0_v9, val_main_call0_call0_v8, val_main_call0_call0_v7, val_main_call0_call0_v1, val_main_call0_call0_v0, val_main_call0_call0_cst, c0v3_apply, val_main_call0_v0]
  rfl

theorem c0v4_apply (b : Fin 2) (l : Fin 8192) (n : Fin 128) : val_main_call0_call0_v4 (F := Ideal) x0 x1 x2 x3 x4 (ix3 b l n) = 0#1 := by
  rw [val_main_call0_call0_v4_apply]
  generalize val_main_call0_call0_v3 (F := Ideal) x0 x1 x2 x3 x4 (ix3 b l n) = v
  simp [FloatOps.cmpf, Ideal.cmp]

/-- The logarithms of the gates. -/
theorem la_apply (b : Fin 2) (l : Fin 8192) (n : Fin 128) :
    val_main_v88 (F := Ideal) x0 x1 x2 x3 x4 (ix3 b l n) =
      logsig (val_main_v85 (F := Ideal) x0 x1 x2 x3 x4 (ix3 b l n)) * Ideal.ofBits .f32 0x3D800000#32 := by
  have e : val_main_call0_v1 (F := Ideal) x0 x1 x2 x3 x4 (ix3 b l n) = val_main_call0_call0_v11 (F := Ideal) x0 x1 x2 x3 x4 (ix3 b l n) := by
    rw [val_main_call0_v1_apply, c0v4_apply]; rfl
  pointwise [val_main_v88, val_main_v87, val_main_v86, val_main_cst_4, e, c0v11_apply]
  rw [div_sixteen, neg_softplus]

theorem c1v3_apply (b : Fin 2) (l : Fin 8192) (n : Fin 4) :
    val_main_call1_call0_v3 (F := Ideal) x0 x1 x2 x5 (ix3 b l n) = -val_main_v91 (F := Ideal) x0 x1 x2 x5 (ix3 b l n) := by
  pointwise [val_main_call1_call0_v3, val_main_call1_call0_v2, val_main_call1_call0_cst, val_main_call1_v0]

theorem c1v11_apply (b : Fin 2) (l : Fin 8192) (n : Fin 4) :
    val_main_call1_call0_v11 (F := Ideal) x0 x1 x2 x5 (ix3 b l n) = max (-val_main_v91 (F := Ideal) x0 x1 x2 x5 (ix3 b l n)) 0
      + Ideal.log1p (Ideal.exp (-max (-val_main_v91 (F := Ideal) x0 x1 x2 x5 (ix3 b l n)) (- -val_main_v91 (F := Ideal) x0 x1 x2 x5 (ix3 b l n)))) := by
  pointwise [val_main_call1_call0_v11, val_main_call1_call0_v10, val_main_call1_call0_v9, val_main_call1_call0_v8, val_main_call1_call0_v7, val_main_call1_call0_v1, val_main_call1_call0_v0, val_main_call1_call0_cst, c1v3_apply, val_main_call1_v0]
  rfl

theorem c1v4_apply (b : Fin 2) (l : Fin 8192) (n : Fin 4) : val_main_call1_call0_v4 (F := Ideal) x0 x1 x2 x5 (ix3 b l n) = 0#1 := by
  rw [val_main_call1_call0_v4_apply]
  generalize val_main_call1_call0_v3 (F := Ideal) x0 x1 x2 x5 (ix3 b l n) = v
  simp [FloatOps.cmpf, Ideal.cmp]

/-! ## The results -/

theorem at_div (b : Fin 2) (l : Fin 8192) : (at_ b l).val / 8192 = b.val := by simp only [at_]; omega
theorem at_mod (b : Fin 2) (l : Fin 8192) : (at_ b l).val % 8192 = l.val := by simp only [at_]; omega

/-- Every token of the stream is a token of a sequence. -/
theorem at_surj (i : Fin 16384) : ∃ (b : Fin 2) (l : Fin 8192), i = at_ b l :=
  ⟨⟨i.val / 8192, by omega⟩, ⟨i.val % 8192, by omega⟩, by apply Fin.ext; simp only [at_]; omega⟩

theorem su_apply (b : Fin 2) (l : Fin 8192) (n : Fin 256) :
    val_main_v106 (F := Ideal) x0 x1 x2 (ix2 (at_ b l) n) = P x0 x1 x2 (at_ b l) ⟨1024 + n.val, by omega⟩ := by
  pointwise [val_main_v106, val_main_v20]
  simp only [at_div, at_mod, Fin.eta]
  rw [p_apply]

theorem fk_apply (b : Fin 2) (l : Fin 8192) (n : Fin 256) :
    val_main_v107 (F := Ideal) x0 x1 x2 (ix2 (at_ b l) n) = P x0 x1 x2 (at_ b l) ⟨2320 + n.val, by omega⟩ := by
  pointwise [val_main_v107, val_main_v27]
  simp only [at_div, at_mod, Fin.eta]
  rw [p_apply]

theorem fv_apply (b : Fin 2) (l : Fin 8192) (n : Fin 256) :
    val_main_v108 (F := Ideal) x0 x1 x2 (ix2 (at_ b l) n) = P x0 x1 x2 (at_ b l) ⟨2576 + n.val, by omega⟩ := by
  pointwise [val_main_v108, val_main_v28]
  simp only [at_div, at_mod, Fin.eta]
  rw [p_apply]

theorem lf4_apply (b : Fin 2) (l : Fin 8192) (n : Fin 4) :
    val_main_v92 (F := Ideal) x0 x1 x2 x5 (ix3 b l n) = logsig (P x0 x1 x2 (at_ b l) ⟨2832 + n.val, by omega⟩ + x5 (ix1 n)) := by
  have e : val_main_call1_v1 (F := Ideal) x0 x1 x2 x5 (ix3 b l n) = val_main_call1_call0_v11 (F := Ideal) x0 x1 x2 x5 (ix3 b l n) := by
    rw [val_main_call1_v1_apply, c1v4_apply]; rfl
  have e' : val_main_v91 (F := Ideal) x0 x1 x2 x5 (ix3 b l n) = P x0 x1 x2 (at_ b l) ⟨2832 + n.val, by omega⟩ + x5 (ix1 n) := by
    pointwise [val_main_v91, val_main_v90, val_main_v89, val_main_v29, p_apply]
  pointwise [val_main_v92, e, c1v11_apply]
  rw [neg_softplus, e']

theorem lf_apply (b : Fin 2) (l : Fin 8192) (n : Fin 128) :
    val_main_v105 (F := Ideal) x0 x1 x2 x5 (ix2 (at_ b l) n) = flog (P x0 x1 x2 (at_ b l)) (fun j => x5 (ix1 j)) n := by
  have e : val_main_v105 (F := Ideal) x0 x1 x2 x5 (ix2 (at_ b l) n) = val_main_v104 (F := Ideal) x0 x1 x2 x5 (ix3 b l n) := by
    pointwise [val_main_v105]
    simp only [at_div, at_mod, Fin.eta]
  rw [e]
  unfold flog
  pointwise [val_main_v104, val_main_v103, val_main_cst_5, lf4_apply]

theorem gla_apply (b : Fin 2) (l : Fin 8192) (n : Fin 896) :
    val_main_v102 (F := Ideal) x0 x1 x2 x3 x4 (ix2 (at_ b l) n) =
      pgla (P x0 x1 x2 (at_ b l)) (fun j k => x3 (ix2 j k)) (fun k => x4 (ix1 k)) n := by
  have hn := n.isLt
  have e : val_main_v102 (F := Ideal) x0 x1 x2 x3 x4 (ix2 (at_ b l) n) = val_main_v101 (F := Ideal) x0 x1 x2 x3 x4 (ix3 b l n) := by
    pointwise [val_main_v102]
    simp only [at_div, at_mod, Fin.eta]
  rw [e]
  unfold pgla
  pointwise [val_main_v101, val_main_v23, val_main_v24, val_main_v21, val_main_v81, val_main_v80, val_main_cst_3, val_main_v22, p_apply]
  have pc : ∀ {u v : Fin 2836}, u.val = v.val → P x0 x1 x2 (at_ b l) u = P x0 x1 x2 (at_ b l) v := fun h => congrArg _ (Fin.ext h)
  by_cases h0 : n.val < 256
  · repeat (first | rw [dif_pos (by omega)] | rw [dif_neg (by omega)])
  by_cases h1 : n.val < 512
  · repeat (first | rw [dif_pos (by omega)] | rw [dif_neg (by omega)])
    exact pc (by dsimp only; omega)
  by_cases h2 : n.val < 640
  · repeat (first | rw [dif_pos (by omega)] | rw [dif_neg (by omega)])
    exact pc (by dsimp only; omega)
  by_cases h3 : n.val < 768
  · repeat (first | rw [dif_pos (by omega)] | rw [dif_neg (by omega)])
    exact congrArg (· * _) (pc (by dsimp only; omega))
  repeat (first | rw [dif_pos (by omega)] | rw [dif_neg (by omega)])
  rw [la_apply, gs_apply]
  have e2 : (⟨n.val - 256 - 256 - 128 - 128, by omega⟩ : Fin 128) = ⟨n.val - 768, by omega⟩ := Fin.ext (by dsimp only; omega)
  rw [e2]

theorem ret_apply (b : Fin 2) (l : Fin 8192) (n : Fin 1024) :
    val_main_v100 (F := Ideal) x0 x1 x2 x6 (ix2 (at_ b l) n) =
      pret (P x0 x1 x2 (at_ b l)) (fun k => Ideal.cos (ang x6 l ⟨k.val % 32, by omega⟩)) (fun k => Ideal.sin (ang x6 l ⟨k.val % 32, by omega⟩)) n := by
  have hn := n.isLt
  have e : val_main_v100 (F := Ideal) x0 x1 x2 x6 (ix2 (at_ b l) n) = val_main_v99 (F := Ideal) x0 x1 x2 x6 (ix3 b l n) := by
    pointwise [val_main_v100]
    simp only [at_div, at_mod, Fin.eta]
  rw [e]
  unfold pret
  pointwise [val_main_v99, val_main_v18, val_main_v19, p_apply]
  have pc : ∀ {u v : Fin 2836}, u.val = v.val → P x0 x1 x2 (at_ b l) u = P x0 x1 x2 (at_ b l) v := fun h => congrArg _ (Fin.ext h)
  have ac : ∀ {u v : Fin 32}, u.val = v.val → ang x6 l u = ang x6 l v := fun h => congrArg _ (Fin.ext h)
  by_cases h0 : n.val < 128
  · repeat (first | rw [dif_pos (by omega)] | rw [dif_neg (by omega)])
    rw [q_apply]
    repeat (first | rw [dif_pos (by omega)] | rw [dif_neg (by omega)])
    rw [qrot0_apply]
    exact congrArg₂ (· - ·) (congrArg₂ (· * ·) (pc (by first | omega | (simp only [colA]; omega))) (congrArg Ideal.cos (ac (by first | rfl | omega | (dsimp only; omega)))))
      (congrArg₂ (· * ·) (pc (by first | omega | (simp only [colA]; omega))) (congrArg Ideal.sin (ac (by first | rfl | omega | (dsimp only; omega)))))
  by_cases h1 : n.val < 256
  · repeat (first | rw [dif_pos (by omega)] | rw [dif_neg (by omega)])
    rw [q_apply]
    repeat (first | rw [dif_pos (by omega)] | rw [dif_neg (by omega)])
    rw [qrot1_apply]
    exact congrArg₂ (· + ·) (congrArg₂ (· * ·) (pc (by first | omega | (simp only [colA]; omega))) (congrArg Ideal.sin (ac (by first | omega | (dsimp only; omega)))))
      (congrArg₂ (· * ·) (pc (by first | omega | (simp only [colA]; omega))) (congrArg Ideal.cos (ac (by first | omega | (dsimp only; omega)))))
  by_cases h2 : n.val < 384
  · repeat (first | rw [dif_pos (by omega)] | rw [dif_neg (by omega)])
    rw [k_apply]
    dsimp only
    repeat (first | rw [dif_pos (by omega)] | rw [dif_neg (by omega)])
    rw [krot0_apply]
    refine congrArg (· * eighth) ?_
    exact congrArg₂ (· - ·) (congrArg₂ (· * ·) (pc (by first | omega | (simp only [colA]; omega))) (congrArg Ideal.cos (ac (by first | rfl | omega | (dsimp only; omega)))))
      (congrArg₂ (· * ·) (pc (by first | omega | (simp only [colA]; omega))) (congrArg Ideal.sin (ac (by first | rfl | omega | (dsimp only; omega)))))
  by_cases h3 : n.val < 512
  · repeat (first | rw [dif_pos (by omega)] | rw [dif_neg (by omega)])
    rw [k_apply]
    dsimp only
    repeat (first | rw [dif_pos (by omega)] | rw [dif_neg (by omega)])
    rw [krot1_apply]
    refine congrArg (· * eighth) ?_
    exact congrArg₂ (· + ·) (congrArg₂ (· * ·) (pc (by first | omega | (simp only [colA]; omega))) (congrArg Ideal.sin (ac (by first | omega | (dsimp only; omega)))))
      (congrArg₂ (· * ·) (pc (by first | omega | (simp only [colA]; omega))) (congrArg Ideal.cos (ac (by first | omega | (dsimp only; omega)))))
  by_cases h4 : n.val < 768
  · repeat (first | rw [dif_pos (by omega)] | rw [dif_neg (by omega)])
    exact pc (by dsimp only; omega)
  repeat (first | rw [dif_pos (by omega)] | rw [dif_neg (by omega)])
  exact pc (by dsimp only; omega)

end Cert.InprojRefIdeal.Hand

end
-- ==== Proof.Inproj.Claim.lean ====
module

public import proofs.«01_k».proof.Defs
public import proofs.«01_k».proof.Proof.Inproj.Array
public import proofs.«01_k».proof.Proof.Inproj.Reference
public import proofs.«01_k».proof.Proof.Gen.Inproj.Frame

@[expose] public section

set_option maxRecDepth 16384

noncomputable section

namespace Cert.Proof.Inproj

open Idealize.ShloMosaic Idealize.ShloMosaic.TcCoe Idealize.SL.Sem
open Cert.InprojIdeal.Hand (R11 R12 R13 R14 R15 R16)
open Cert.InprojRefIdeal.Hand (at_ at_surj at_mod)
open Cert.InprojIdeal (nD τ sig main_arg0 main_arg1 main_arg2 main_arg3 main_arg4 main_arg5 main_arg6)
open Cert.Inproj (pret)

variable (m : (ℓ : Loc nD τ sig) → Buf (Elt Ideal) ℓ) (c : Dev nD)

/-- The position of a token, by its sequence and its place there. -/
theorem pos_at (b : Fin 2) (l : Fin 8192) : Cert.InprojIdeal.Hand.pos (at_ b l) = l := Fin.ext (at_mod b l)

/-- The rotated queries and keys, the values and the gate: the reference's are the kernel's. -/
theorem out11 : Cert.InprojRefIdeal.Read.val_main_v100 (F := Ideal) (m ((c : Thread nD τ).loc main_arg0)) (m ((c : Thread nD τ).loc main_arg1)) (m ((c : Thread nD τ).loc main_arg2)) (m ((c : Thread nD τ).loc main_arg6)) = R11 m c := by
  have e : ∀ (i : Fin 16384) (n : Fin 1024), Cert.InprojRefIdeal.Read.val_main_v100 (F := Ideal) (m ((c : Thread nD τ).loc main_arg0)) (m ((c : Thread nD τ).loc main_arg1)) (m ((c : Thread nD τ).loc main_arg2)) (m ((c : Thread nD τ).loc main_arg6)) (ix2 i n) = R11 m c (ix2 i n) := by
    intro i n
    obtain ⟨b, l, rfl⟩ := at_surj i
    refine (Cert.InprojRefIdeal.Hand.ret_apply _ _ _ _ b l n).trans ?_
    show _ = pret _ (fun l' => Ideal.cos (Cert.InprojIdeal.Hand.angle m c (Cert.InprojIdeal.Hand.pos (at_ b l)) l'))
      (fun l' => Ideal.sin (Cert.InprojIdeal.Hand.angle m c (Cert.InprojIdeal.Hand.pos (at_ b l)) l')) n
    rw [pos_at]
    rfl
  funext i
  idx_vars i
  exact e _ _

/-- The inputs of the state space branch: the reference's are the kernel's. -/
theorem out12 : Cert.InprojRefIdeal.Read.val_main_v106 (F := Ideal) (m ((c : Thread nD τ).loc main_arg0)) (m ((c : Thread nD τ).loc main_arg1)) (m ((c : Thread nD τ).loc main_arg2)) = R12 m c := by
  have e : ∀ (i : Fin 16384) (n : Fin 256), Cert.InprojRefIdeal.Read.val_main_v106 (F := Ideal) (m ((c : Thread nD τ).loc main_arg0)) (m ((c : Thread nD τ).loc main_arg1)) (m ((c : Thread nD τ).loc main_arg2)) (ix2 i n) = R12 m c (ix2 i n) := by
    intro i n
    obtain ⟨b, l, rfl⟩ := at_surj i
    refine (Cert.InprojRefIdeal.Hand.su_apply _ _ _ b l n).trans ?_
    rfl
  funext i
  idx_vars i
  exact e _ _

/-- The columns of the gated branch: the reference's are the kernel's. -/
theorem out13 : Cert.InprojRefIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = R13 m c := by
  have e : ∀ (i : Fin 16384) (n : Fin 896), Cert.InprojRefIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 i n) = R13 m c (ix2 i n) := by
    intro i n
    obtain ⟨b, l, rfl⟩ := at_surj i
    refine (Cert.InprojRefIdeal.Hand.gla_apply _ _ _ _ _ b l n).trans ?_
    rfl
  funext i
  idx_vars i
  exact e _ _

/-- The keys of the attention: the reference's are the kernel's. -/
theorem out14 : Cert.InprojRefIdeal.Read.val_main_v107 (F := Ideal) (m ((c : Thread nD τ).loc main_arg0)) (m ((c : Thread nD τ).loc main_arg1)) (m ((c : Thread nD τ).loc main_arg2)) = R14 m c := by
  have e : ∀ (i : Fin 16384) (n : Fin 256), Cert.InprojRefIdeal.Read.val_main_v107 (F := Ideal) (m ((c : Thread nD τ).loc main_arg0)) (m ((c : Thread nD τ).loc main_arg1)) (m ((c : Thread nD τ).loc main_arg2)) (ix2 i n) = R14 m c (ix2 i n) := by
    intro i n
    obtain ⟨b, l, rfl⟩ := at_surj i
    refine (Cert.InprojRefIdeal.Hand.fk_apply _ _ _ b l n).trans ?_
    rfl
  funext i
  idx_vars i
  exact e _ _

/-- The values of the attention: the reference's are the kernel's. -/
theorem out15 : Cert.InprojRefIdeal.Read.val_main_v108 (F := Ideal) (m ((c : Thread nD τ).loc main_arg0)) (m ((c : Thread nD τ).loc main_arg1)) (m ((c : Thread nD τ).loc main_arg2)) = R15 m c := by
  have e : ∀ (i : Fin 16384) (n : Fin 256), Cert.InprojRefIdeal.Read.val_main_v108 (F := Ideal) (m ((c : Thread nD τ).loc main_arg0)) (m ((c : Thread nD τ).loc main_arg1)) (m ((c : Thread nD τ).loc main_arg2)) (ix2 i n) = R15 m c (ix2 i n) := by
    intro i n
    obtain ⟨b, l, rfl⟩ := at_surj i
    refine (Cert.InprojRefIdeal.Hand.fv_apply _ _ _ b l n).trans ?_
    rfl
  funext i
  idx_vars i
  exact e _ _

/-- The logarithms of the forget gates: the reference's are the kernel's. -/
theorem out16 : Cert.InprojRefIdeal.Read.val_main_v105 (F := Ideal) (m ((c : Thread nD τ).loc main_arg0)) (m ((c : Thread nD τ).loc main_arg1)) (m ((c : Thread nD τ).loc main_arg2)) (m ((c : Thread nD τ).loc main_arg5)) = R16 m c := by
  have e : ∀ (i : Fin 16384) (n : Fin 128), Cert.InprojRefIdeal.Read.val_main_v105 (F := Ideal) (m ((c : Thread nD τ).loc main_arg0)) (m ((c : Thread nD τ).loc main_arg1)) (m ((c : Thread nD τ).loc main_arg2)) (m ((c : Thread nD τ).loc main_arg5)) (ix2 i n) = R16 m c (ix2 i n) := by
    intro i n
    obtain ⟨b, l, rfl⟩ := at_surj i
    refine (Cert.InprojRefIdeal.Hand.lf_apply _ _ _ _ b l n).trans ?_
    rfl
  funext i
  idx_vars i
  exact e _ _

/-- The kernel's results are the reference's. -/
theorem algebraic : Cert.algebraic_InprojIdeal_InprojRefIdeal (hInprojIdeal := Cert.InprojIdeal.Gen.facts) (hInprojRefIdeal := Cert.InprojRefIdeal.Gen.facts) := by
  intro m g m' g' _ hagree
  refine ⟨fun c => R11 m c, fun c => R12 m c, fun c => R13 m c, fun c => R14 m c, fun c => R15 m c, fun c => R16 m c, ?_, ?_⟩
  · exact (θ_run _ _ _).mono (fun r h c => ⟨(h c).1.trans (Cert.InprojIdeal.Hand.final11 m c),
      (h c).2.1.trans (Cert.InprojIdeal.Hand.final12 m c), (h c).2.2.1.trans (Cert.InprojIdeal.Hand.final13 m c),
      (h c).2.2.2.1.trans (Cert.InprojIdeal.Hand.final14 m c), (h c).2.2.2.2.1.trans (Cert.InprojIdeal.Hand.final15 m c),
      (h c).2.2.2.2.2.1.trans (Cert.InprojIdeal.Hand.final16 m c), (h c).2.2.2.2.2.2.2.2.2⟩) (Cert.InprojIdeal.Value.run_blocks m g)
  · refine (θ_run _ _ _).mono (fun r h c => ⟨?_, ?_, ?_, ?_, ?_, ?_, (h c).2.2.2.2.2.2⟩) (Cert.InprojRefIdeal.Value.run m' g')
    all_goals obtain ⟨h0, h1, h2, h3, h4, h5, h6, -⟩ := hagree c
    · rw [(h c).1, Cert.InprojRefIdeal.Read.val_main_v100_eq, h0, h1, h2, h6]
      exact out11 m c
    · rw [(h c).2.1, h0, h1, h2]
      exact (Cert.InprojRefIdeal.Read.val_main_v106_eq ..).trans (out12 m c)
    · rw [(h c).2.2.1, Cert.InprojRefIdeal.Read.val_main_v102_eq, h0, h1, h2, h3, h4]
      exact out13 m c
    · rw [(h c).2.2.2.1, h0, h1, h2]
      exact (Cert.InprojRefIdeal.Read.val_main_v107_eq ..).trans (out14 m c)
    · rw [(h c).2.2.2.2.1, h0, h1, h2]
      exact (Cert.InprojRefIdeal.Read.val_main_v108_eq ..).trans (out15 m c)
    · rw [(h c).2.2.2.2.2.1, Cert.InprojRefIdeal.Read.val_main_v105_eq, h0, h1, h2, h5]
      exact out16 m c

end Cert.Proof.Inproj

end

end
-- ==== Proof.InprojSample.Weights.lean ====
module

public import proofs.«01_k».proof.Proof.Gen.InprojsIdeal.Value
public import proofs.«01_k».proof.Proof.Inproj.Spec
public import proofs.«01_k».proof.Proof.Inproj.Scatter
public import Idealize.ShloMosaic.Lib.Pointwise
public import Idealize.ShloMosaic.Lib.StableHlo.ReadAt

@[expose] public section

set_option maxRecDepth 16384

noncomputable section

namespace Cert.InprojsIdeal.Hand

open Cert.InprojsIdeal Cert.InprojsIdeal.Gen Idealize.ShloMosaic Idealize.ShloMosaic.TcCoe Idealize.SL.Sem Cert.Inproj

variable (m : (ℓ : Loc nD τ sig) → Buf (Elt Ideal) ℓ) (c : Dev nD)

/-- The projection's columns as the call finds them. -/
abbrev wt (k : Fin 1024) (n : Fin 2836) : EReal := m ((c : Thread nD τ).loc main_arg2) (ix2 k n)

/-- The packed columns the kernel reads. -/
abbrev pk (k : Fin 1024) (n : Fin 2944) : EReal := V m c main_v26 (ix2 k n)

theorem wt_congr (k : Fin 1024) {a b : Fin 2836} (h : a.val = b.val) : wt m c k a = wt m c k b := congrArg (wt m c k) (Fin.ext h)

theorem w_q (k : Fin 1024) (h : Fin 2) (l : Fin 128) : pk m c k ⟨128 * h.val + l.val, by omega⟩ = wt m c k (colA 0 h l) := by
  have hl := l.isLt
  have hh := h.isLt
  unfold pk V
  after_reads_at
  pointwise
  repeat (first | rw [dif_pos (by omega)] | rw [dif_neg (by omega)])
  after_reads_at
  pointwise
  exact wt_congr m c k (by simp only [colA]; show _ = 256 * 0 + _; omega)

theorem w_k (k : Fin 1024) (h : Fin 2) (l : Fin 128) :
    pk m c k ⟨256 + (128 * h.val + l.val), by omega⟩ = wt m c k (colA 1 h l) * eighth := by
  have hl := l.isLt
  have hh := h.isLt
  unfold pk V
  after_reads_at
  pointwise
  repeat (first | rw [dif_pos (by omega)] | rw [dif_neg (by omega)])
  after_reads_at
  pointwise
  exact congrArg (· * eighth) (wt_congr m c k (by simp only [colA]; show _ = 256 * 1 + _; omega))

theorem w_mid (k : Fin 1024) (n : Fin 1536) : pk m c k ⟨512 + n.val, by omega⟩ = wt m c k ⟨512 + n.val, by omega⟩ := by
  have hn := n.isLt
  by_cases h : n.val < 768
  · unfold pk V
    after_reads_at
    pointwise
    repeat (first | rw [dif_pos (by omega)] | rw [dif_neg (by omega)])
    after_reads_at
    pointwise
    exact wt_congr m c k (by dsimp only; omega)
  · unfold pk V
    after_reads_at
    pointwise
    repeat (first | rw [dif_pos (by omega)] | rw [dif_neg (by omega)])
    after_reads_at
    pointwise
    exact wt_congr m c k (by dsimp only; omega)

theorem w_fq (k : Fin 1024) (n : Fin 256) : pk m c k ⟨2048 + n.val, by omega⟩ = wt m c k ⟨2064 + n.val, by omega⟩ * eighth := by
  have hn := n.isLt
  unfold pk V
  after_reads_at
  pointwise
  repeat (first | rw [dif_pos (by omega)] | rw [dif_neg (by omega)])
  after_reads_at
  pointwise
  exact congrArg (· * eighth) (wt_congr m c k (by dsimp only; omega))

theorem w_fkv (k : Fin 1024) (n : Fin 512) : pk m c k ⟨2304 + n.val, by omega⟩ = wt m c k ⟨2320 + n.val, by omega⟩ := by
  have hn := n.isLt
  unfold pk V
  after_reads_at
  pointwise
  repeat (first | rw [dif_pos (by omega)] | rw [dif_neg (by omega)])
  after_reads_at
  pointwise
  exact wt_congr m c k (by dsimp only; omega)

theorem w_ff (k : Fin 1024) (n : Fin 4) : pk m c k ⟨2816 + n.val, by omega⟩ = wt m c k ⟨2832 + n.val, by omega⟩ := by
  have hn := n.isLt
  unfold pk V
  after_reads_at
  pointwise
  repeat (first | rw [dif_pos (by omega)] | rw [dif_neg (by omega)])
  after_reads_at
  rw [scatter_last _ rfl rfl rfl _ _ _ 4 rfl, dif_neg (by dsimp only; omega), scatter_last _ rfl rfl rfl _ _ _ 0 rfl, dif_pos (by dsimp only; omega)]
  pointwise
  exact wt_congr m c k (by dsimp only; omega)

theorem w_ga (k : Fin 1024) (n : Fin 16) : pk m c k ⟨2820 + n.val, by omega⟩ = wt m c k ⟨2048 + n.val, by omega⟩ := by
  have hn := n.isLt
  unfold pk V
  after_reads_at
  pointwise
  repeat (first | rw [dif_pos (by omega)] | rw [dif_neg (by omega)])
  after_reads_at
  rw [scatter_last _ rfl rfl rfl _ _ _ 4 rfl, dif_pos (by dsimp only; omega)]
  pointwise
  exact wt_congr m c k (by dsimp only; omega)

theorem w_pad (k : Fin 1024) (n : Fin 108) : pk m c k ⟨2836 + n.val, by omega⟩ = 0 := by
  have hn := n.isLt
  unfold pk V
  after_reads_at
  pointwise
  repeat (first | rw [dif_pos (by omega)] | rw [dif_neg (by omega)])
  after_reads_at
  rw [scatter_last _ rfl rfl rfl _ _ _ 4 rfl, dif_neg (by dsimp only; omega), scatter_last _ rfl rfl rfl _ _ _ 0 rfl, dif_neg (by dsimp only; omega)]
  pointwise

/-- The kernel's operand holds the projection's columns in the kernel's order. -/
theorem packed (k : Fin 1024) : Packed (pk m c k) (wt m c k) :=
  ⟨w_q m c k, w_k m c k, w_mid m c k, w_fq m c k, w_fkv m c k, w_ff m c k, w_ga m c k, w_pad m c k⟩

/-- The second factor of the gates: sixteen rows under the attention's four, the other rows zeros. -/
theorem a2_apply (k : Fin 128) (n : Fin 128) :
    V m c main_v32 (ix2 k n) =
      if h : 4 ≤ k.val ∧ k.val < 4 + 16 then (m ((c : Thread nD τ).loc main_arg3) (ix2 ⟨k.val - 4, by omega⟩ n) : EReal) else (0 : EReal) := by
  unfold V
  after_reads_at
  pointwise
  rw [scatter_middle _ rfl rfl rfl _ _ _ 4 rfl]
  pointwise

/-- The attention's gate bias: four lanes, the others zeros. -/
theorem bf_apply (a : Fin 1) (n : Fin 128) :
    V m c main_v39 (ix2 a n) = if h : n.val < 4 then (m ((c : Thread nD τ).loc main_arg5) (ix1 ⟨n.val, h⟩) : EReal) else (0 : EReal) := by
  unfold V
  after_reads_at
  pointwise
  rw [scatter_row _ rfl rfl rfl rfl _ _ _ rfl rfl]
  pointwise

/-- The angle of lane `n` of a half, at the samples' position. -/
def angle (n : Fin 128) : EReal :=
  FloatOps.sitofp (F := Ideal) .f32 8192#32 * m ((c : Thread nD τ).loc main_arg6) (ix1 ⟨n.val % 32, by omega⟩)

theorem cos_apply (t : Fin 32) (n : Fin 128) : V m c main_v50 (ix2 t n) = Ideal.cos (angle m c n) := by
  unfold V angle
  after_reads_at

theorem sin_apply (t : Fin 32) (n : Fin 128) : V m c main_v54 (ix2 t n) = Ideal.sin (angle m c n) := by
  unfold V angle
  after_reads_at

/-- The gain under a unit axis. -/
theorem gain_apply (a : Fin 1) (k : Fin 1024) : V m c main_v55 (ix2 a k) = m ((c : Thread nD τ).loc main_arg1) (ix1 k) := by
  unfold V; after_reads_at

/-- The gates' bias under a unit axis. -/
theorem ba_apply (a : Fin 1) (k : Fin 128) : V m c main_v56 (ix2 a k) = m ((c : Thread nD τ).loc main_arg4) (ix1 k) := by
  unfold V; after_reads_at

end Cert.InprojsIdeal.Hand

end
-- ==== Proof.InprojSample.Tok.lean ====
module

public import proofs.«01_k».proof.Proof.InprojSample.Weights
public import proofs.«01_k».proof.Proof.Inproj.Pieces

@[expose] public section

set_option maxRecDepth 16384

noncomputable section

namespace Cert.InprojsIdeal.Hand

open Cert.InprojsIdeal Cert.InprojsIdeal.Gen Idealize.ShloMosaic Cert.Inproj
open Cert.FfnIdeal.Hand (hid)

variable (x : Vec Ideal S32x1024 .f32) (g : Vec Ideal S1x1024 .f32) (w : Vec Ideal S1024x2944 .bf16)
  (cs sn : Vec Ideal S32x128 .f32)

/-- The tile's combined projection in the kernel's order of columns. -/
def pj (r : Fin 32) (n : Fin 2944) : EReal := ∑ k, hid (fun k => x (ix2 r k)) (fun k => g (ix2 0 k)) k * w (ix2 k n)

theorem pay6_apply (r : Fin 32) (n : Fin 2944) : k0_pay6 (F := Ideal) x g w (ix2 r n) = pj x g w r n := by
  pointwise [k0_pay6, pj, hid]

theorem pay7_apply (r : Fin 32) (n : Fin 128) : k0_pay7 (F := Ideal) cs (ix2 r n) = cs (ix2 r n) := by pointwise [k0_pay7]
theorem pay8_apply (r : Fin 32) (n : Fin 128) : k0_pay8 (F := Ideal) cs (ix2 r n) = cs (ix2 r n) := by pointwise [k0_pay8]

theorem pay9_apply (r : Fin 32) (n : Fin 128) : k0_pay9 (F := Ideal) x g w (ix2 r n) = pj x g w r ⟨n.val, by omega⟩ := by
  pointwise [k0_pay9, pay6_apply]
theorem pay10_apply (r : Fin 32) (n : Fin 128) : k0_pay10 (F := Ideal) x g w (ix2 r n) = pj x g w r ⟨128 + n.val, by omega⟩ := by
  pointwise [k0_pay10, pay6_apply]
theorem pay13_apply (r : Fin 32) (n : Fin 128) : k0_pay13 (F := Ideal) x g w (ix2 r n) = pj x g w r ⟨256 + n.val, by omega⟩ := by
  pointwise [k0_pay13, pay6_apply]
theorem pay14_apply (r : Fin 32) (n : Fin 128) : k0_pay14 (F := Ideal) x g w (ix2 r n) = pj x g w r ⟨384 + n.val, by omega⟩ := by
  pointwise [k0_pay14, pay6_apply]

theorem pay11_apply (r : Fin 32) (n : Fin 128) : k0_pay11 (F := Ideal) x g w cs sn (ix2 r n) =
    pj x g w r ⟨n.val, by omega⟩ * cs (ix2 r n) - pj x g w r ⟨128 + n.val, by omega⟩ * sn (ix2 r n) := by
  pointwise [k0_pay11, pay7_apply, pay8_apply, pay9_apply, pay10_apply]
theorem pay12_apply (r : Fin 32) (n : Fin 128) : k0_pay12 (F := Ideal) x g w cs sn (ix2 r n) =
    pj x g w r ⟨n.val, by omega⟩ * sn (ix2 r n) + pj x g w r ⟨128 + n.val, by omega⟩ * cs (ix2 r n) := by
  pointwise [k0_pay12, pay7_apply, pay8_apply, pay9_apply, pay10_apply]
theorem pay15_apply (r : Fin 32) (n : Fin 128) : k0_pay15 (F := Ideal) x g w cs sn (ix2 r n) =
    pj x g w r ⟨256 + n.val, by omega⟩ * cs (ix2 r n) - pj x g w r ⟨384 + n.val, by omega⟩ * sn (ix2 r n) := by
  pointwise [k0_pay15, pay7_apply, pay8_apply, pay13_apply, pay14_apply]
theorem pay16_apply (v20 v22 v33 v34 : FVec Ideal S32x128 .f32) (r : Fin 32) (n : Fin 128) :
    k0_pay16 (F := Ideal) v20 v22 v33 v34 (ix2 r n) = v33 (ix2 r n) * v22 (ix2 r n) + v34 (ix2 r n) * v20 (ix2 r n) := by
  pointwise [k0_pay16]

variable (v : FVec Ideal S32x2944 .f32)

theorem pay17_apply (r : Fin 32) (n : Fin 512) : k0_pay17 (F := Ideal) v (ix2 r n) = v (ix2 r ⟨512 + n.val, by omega⟩) := by
  pointwise [k0_pay17]
theorem pay18_apply (r : Fin 32) (n : Fin 256) : k0_pay18 (F := Ideal) v (ix2 r n) = v (ix2 r ⟨1024 + n.val, by omega⟩) := by
  pointwise [k0_pay18]
theorem pay19_apply (r : Fin 32) (n : Fin 128) : k0_pay19 (F := Ideal) v (ix2 r n) = v (ix2 r ⟨2816 + n.val, by omega⟩) := by
  pointwise [k0_pay19]
theorem pay21_apply (r : Fin 32) (n : Fin 512) : k0_pay21 (F := Ideal) v (ix2 r n) = v (ix2 r ⟨1536 + n.val, by omega⟩) := by
  pointwise [k0_pay21]
theorem pay22_apply (r : Fin 32) (n : Fin 128) : k0_pay22 (F := Ideal) v (ix2 r n) = v (ix2 r ⟨1280 + n.val, by omega⟩) := by
  pointwise [k0_pay22]
theorem pay1_apply (r : Fin 32) (n : Fin 128) :
    k0_pay1 (F := Ideal) v (ix2 r n) = v (ix2 r ⟨1408 + n.val, by omega⟩) * Ideal.ofBits .f32 0x3E3504F3#32 := by
  pointwise [k0_pay1]
theorem pay3_apply (r : Fin 32) (n : Fin 256) : k0_pay3 (F := Ideal) v (ix2 r n) = v (ix2 r ⟨2304 + n.val, by omega⟩) := by
  pointwise [k0_pay3]
theorem pay4_apply (r : Fin 32) (n : Fin 256) : k0_pay4 (F := Ideal) v (ix2 r n) = v (ix2 r ⟨2560 + n.val, by omega⟩) := by
  pointwise [k0_pay4]

theorem pay5_apply (r : Fin 32) (n : Fin 256) : k0_pay5 (F := Ideal) v (ix2 r n) = v (ix2 r ⟨2048 + n.val, by omega⟩) := by
  pointwise [k0_pay5]

theorem pay20_apply (a : Vec Ideal S128x128 .bf16) (b : Vec Ideal S1x128 .f32) (r : Fin 32) (n : Fin 128) :
    k0_pay20 (F := Ideal) v a b (ix2 r n) =
      logsig ((∑ j : Fin 128, v (ix2 r ⟨2816 + j.val, by omega⟩) * a (ix2 j n)) + b (ix2 0 n)) * Ideal.ofBits .f32 0x3D800000#32 := by
  pointwise [k0_pay20, pay19_apply, logsig]
  rfl

theorem pay2_apply (v47 : FVec Ideal S32x128 .f32) (b : Vec Ideal S1x128 .f32) (r : Fin 32) (n : Fin 128) :
    k0_pay2 (F := Ideal) v47 b (ix2 r n) = if n.val < 4 then logsig (v47 (ix2 r n) + b (ix2 0 n)) else 0 := by
  pointwise [k0_pay2, logsig]
  rw [lane_lt]
  split
  · exact if_pos rfl
  · exact if_neg (by decide)

/-! ## What the tile stores, from the projection's own columns -/

variable (r : Fin 32) (p : Fin 2836 → EReal) (hp : Packed (pj x g w r) p)
include hp

/-- The tile's rotated queries and keys, values and gate. -/
theorem ret_tile (n : Fin 1024) :
    View.canon (Val := Elt Ideal) (e := .f32)
      [⟨Rect.unit ![0, 512] ![32, 512] inb_S32x1024_S32x512_0_512, k0_pay17 (k0_pay6 x g w)⟩,
        ⟨Rect.unit ![0, 384] ![32, 128] inb_S32x1024_S32x128_0_384,
          k0_pay16 (k0_pay7 cs) (k0_pay8 sn) (k0_pay13 x g w) (k0_pay14 x g w)⟩,
        ⟨Rect.unit ![0, 256] ![32, 128] inb_S32x1024_S32x128_0_256, k0_pay15 x g w cs sn⟩,
        ⟨Rect.unit ![0, 128] ![32, 128] inb_S32x1024_S32x128_0_128, k0_pay12 x g w cs sn⟩,
        ⟨Rect.unit ![0, 0] ![32, 128] inb_S32x1024_S32x128_0_0, k0_pay11 x g w cs sn⟩]
      (ix2 r n) = pret p (fun l => cs (ix2 r l)) (fun l => sn (ix2 r l)) n := by
  have hn := n.isLt
  have q0 : ∀ l : Fin 128, pj x g w r ⟨l.val, by omega⟩ = p (colA 0 0 l) := fun l => by
    rw [← hp.q 0 l]; exact congrArg _ (Fin.ext (by show l.val = 128 * 0 + l.val; omega))
  have q1 : ∀ l : Fin 128, pj x g w r ⟨128 + l.val, by omega⟩ = p (colA 0 1 l) := fun l => by
    rw [← hp.q 1 l]; exact congrArg _ (Fin.ext (by show 128 + l.val = 128 * 1 + l.val; omega))
  have k0 : ∀ l : Fin 128, pj x g w r ⟨256 + l.val, by omega⟩ = p (colA 1 0 l) * eighth := fun l => by
    rw [← hp.k 0 l]; exact congrArg _ (Fin.ext (by show 256 + l.val = 256 + (128 * 0 + l.val); omega))
  have k1 : ∀ l : Fin 128, pj x g w r ⟨384 + l.val, by omega⟩ = p (colA 1 1 l) * eighth := fun l => by
    rw [← hp.k 1 l]; exact congrArg _ (Fin.ext (by show 384 + l.val = 256 + (128 * 1 + l.val); omega))
  refine (canon_cols _ _ _ r n).trans ?_
  unfold pret
  by_cases h4 : 512 ≤ n.val
  · rw [dif_pos (by omega), dif_neg (by omega), dif_neg (by omega), dif_neg (by omega), dif_neg (by omega), pay17_apply, pay6_apply]
    refine (hp.mid ⟨n.val - 512, by omega⟩).trans (congrArg p (Fin.ext ?_))
    show 512 + (n.val - 512) = n.val
    omega
  rw [dif_neg (by omega)]
  refine (canon_cols _ _ _ r n).trans ?_
  by_cases h3 : 384 ≤ n.val
  · rw [dif_pos (by omega), dif_neg (by omega), dif_neg (by omega), dif_neg (by omega), dif_pos (by omega), pay16_apply, pay7_apply, pay8_apply,
      pay13_apply, pay14_apply, k0, k1, mul_right_comm, mul_right_comm (p _) eighth, EReal.right_distrib_of_nonneg_of_ne_top eighth_nonneg eighth_ne_top]
  rw [dif_neg (by omega)]
  refine (canon_cols _ _ _ r n).trans ?_
  by_cases h2 : 256 ≤ n.val
  · rw [dif_pos (by omega), dif_neg (by omega), dif_neg (by omega), dif_pos (by omega), pay15_apply, k0, k1, mul_right_comm,
      mul_right_comm (p _) eighth, sub_scale _ eighth_nonneg eighth_ne_top]
  rw [dif_neg (by omega)]
  refine (canon_cols _ _ _ r n).trans ?_
  by_cases h1 : 128 ≤ n.val
  · rw [dif_pos (by omega), dif_neg (by omega), dif_pos (by omega), pay12_apply, q0, q1]
  rw [dif_neg (by omega)]
  refine (canon_cols _ _ _ r n).trans ?_
  rw [dif_pos (by omega), dif_pos (by omega), pay11_apply, q0, q1]
  rfl

/-- The tile's columns of the gated branch. -/
theorem gla_tile (a : Vec Ideal S128x128 .bf16) (b : Vec Ideal S1x128 .f32) (a2 : Fin 16 → Fin 128 → EReal)
    (ha : ∀ k l, a (ix2 k l) = if h : 4 ≤ k.val ∧ k.val < 4 + 16 then a2 ⟨k.val - 4, by omega⟩ l else (0 : EReal)) (n : Fin 896) :
    View.canon (Val := Elt Ideal) (e := .f32)
      [⟨Rect.unit ![0, 768] ![32, 128] inb_S32x896_S32x128_0_768, k0_pay20 (k0_pay6 x g w) a b⟩,
        ⟨Rect.unit ![0, 640] ![32, 128] inb_S32x896_S32x128_0_640, k0_pay1 (k0_pay6 x g w)⟩,
        ⟨Rect.unit ![0, 512] ![32, 128] inb_S32x896_S32x128_0_512, k0_pay22 (k0_pay6 x g w)⟩,
        ⟨Rect.unit ![0, 0] ![32, 512] inb_S32x896_S32x512_0_0, k0_pay21 (k0_pay6 x g w)⟩]
      (ix2 r n) = pgla p a2 (fun l => b (ix2 0 l)) n := by
  have hn := n.isLt
  refine (canon_cols _ _ _ r n).trans ?_
  unfold pgla
  by_cases h3 : 768 ≤ n.val
  · rw [dif_pos (by omega), dif_neg (by omega), dif_neg (by omega), dif_neg (by omega), pay20_apply]
    have e : ∀ l : Fin 128, (∑ j : Fin 128, k0_pay6 (F := Ideal) x g w (ix2 r ⟨2816 + j.val, by omega⟩) * a (ix2 j l)) =
        ∑ j : Fin 16, p ⟨2048 + j.val, by omega⟩ * a2 j l := by
      intro l
      have e1 := Fin.sum_univ_add (a := 4) (b := 124) (fun j : Fin 128 => k0_pay6 (F := Ideal) x g w (ix2 r ⟨2816 + j.val, by omega⟩) * a (ix2 j l))
      have e2 := Fin.sum_univ_add (a := 16) (b := 108)
        (fun j : Fin 124 => k0_pay6 (F := Ideal) x g w (ix2 r ⟨2816 + (4 + j.val), by omega⟩) * a (ix2 (⟨4 + j.val, by omega⟩ : Fin 128) l))
      refine e1.trans ?_
      rw [Finset.sum_eq_zero (fun j _ => by
        rw [ha, dif_neg (by rintro ⟨h, -⟩; have := j.isLt; simp at h; omega), mul_zero]), zero_add]
      refine e2.trans ?_
      rw [Finset.sum_eq_zero (s := (Finset.univ : Finset (Fin 108))) (fun j _ => by
        rw [ha, dif_neg (by rintro ⟨-, h⟩; simp at h; omega), mul_zero]), add_zero]
      refine Finset.sum_congr rfl fun j _ => ?_
      rw [ha, dif_pos ⟨by simp, by simp; omega⟩, pay6_apply]
      refine congrArg₂ (· * ·) ((congrArg (pj x g w r) (Fin.ext ?_)).trans (hp.ga j)) (congrArg (a2 · l) (Fin.ext ?_))
      · simp; omega
      · simp
    rw [e]
  rw [dif_neg (by omega)]
  refine (canon_cols _ _ _ r n).trans ?_
  by_cases h2 : 640 ≤ n.val
  · rw [dif_pos (by omega), dif_neg (by omega), dif_neg (by omega), dif_pos (by omega), pay1_apply, pay6_apply]
    refine congrArg (· * _) (((congrArg (pj x g w r) (Fin.ext ?_)).trans (hp.mid ⟨n.val + 256, by omega⟩)).trans (congrArg p (Fin.ext ?_)))
    · show 1408 + (n.val - 640) = 512 + (n.val + 256); omega
    · show 512 + (n.val + 256) = 768 + n.val; omega
  rw [dif_neg (by omega)]
  refine (canon_cols _ _ _ r n).trans ?_
  by_cases h1 : 512 ≤ n.val
  · rw [dif_pos (by omega), dif_neg (by omega), dif_pos (by omega), pay22_apply, pay6_apply]
    refine ((congrArg (pj x g w r) (Fin.ext ?_)).trans (hp.mid ⟨n.val + 256, by omega⟩)).trans (congrArg p (Fin.ext ?_))
    · show 1280 + (n.val - 512) = 512 + (n.val + 256); omega
    · show 512 + (n.val + 256) = 768 + n.val; omega
  rw [dif_neg (by omega)]
  refine (canon_cols _ _ _ r n).trans ?_
  rw [dif_pos (by omega), dif_pos (by omega), pay21_apply, pay6_apply]
  refine ((congrArg (pj x g w r) (Fin.ext ?_)).trans (hp.mid ⟨n.val + 1024, by omega⟩)).trans (congrArg p (Fin.ext ?_))
  · show 1536 + (n.val - 0) = 512 + (n.val + 1024); omega
  · show 512 + (n.val + 1024) = 1536 + n.val; omega

/-- The tile's inputs of the state space branch. -/
theorem su_tile (n : Fin 256) : k0_pay18 (F := Ideal) (k0_pay6 x g w) (ix2 r n) = p ⟨1024 + n.val, by omega⟩ := by
  rw [pay18_apply, pay6_apply]
  refine ((congrArg (pj x g w r) (Fin.ext ?_)).trans (hp.mid ⟨n.val + 512, by omega⟩)).trans (congrArg p (Fin.ext ?_))
  · show 1024 + n.val = 512 + (n.val + 512); omega
  · show 512 + (n.val + 512) = 1024 + n.val; omega

/-- The tile's keys of the attention. -/
theorem fk_tile (n : Fin 256) : k0_pay3 (F := Ideal) (k0_pay6 x g w) (ix2 r n) = p ⟨2320 + n.val, by omega⟩ := by
  rw [pay3_apply, pay6_apply]
  exact hp.fkv ⟨n.val, by omega⟩

/-- The tile's values of the attention. -/
theorem fv_tile (n : Fin 256) : k0_pay4 (F := Ideal) (k0_pay6 x g w) (ix2 r n) = p ⟨2576 + n.val, by omega⟩ := by
  rw [pay4_apply, pay6_apply]
  refine ((congrArg (pj x g w r) (Fin.ext ?_)).trans (hp.fkv ⟨n.val + 256, by omega⟩)).trans (congrArg p (Fin.ext ?_))
  · show 2560 + n.val = 2304 + (n.val + 256); omega
  · show 2320 + (n.val + 256) = 2576 + n.val; omega

/-- The tile's queries of the attention, scaled. -/
theorem fq_tile (n : Fin 256) : k0_pay5 (F := Ideal) (k0_pay6 x g w) (ix2 r n) = p ⟨2064 + n.val, by omega⟩ * eighth := by
  rw [pay5_apply, pay6_apply]
  exact hp.fq n

/-- The tile's logarithms of the attention's forget gates. -/
theorem lf_tile (b : Vec Ideal S1x128 .f32) (bf : Fin 4 → EReal)
    (hb : ∀ l : Fin 128, b (ix2 0 l) = if h : l.val < 4 then bf ⟨l.val, h⟩ else (0 : EReal)) (n : Fin 128) :
    k0_pay2 (F := Ideal) (k0_pay19 (k0_pay6 x g w)) b (ix2 r n) = flog p bf n := by
  rw [pay2_apply]
  unfold flog
  by_cases h : n.val < 4
  · rw [if_pos h, dif_pos h, pay19_apply, pay6_apply, hb, dif_pos h]
    refine congrArg (fun t => logsig (t + _)) ((congrArg (pj x g w r) (Fin.ext ?_)).trans (hp.ff ⟨n.val, h⟩))
    rfl
  · rw [if_neg h, dif_neg h]

end Cert.InprojsIdeal.Hand

end
-- ==== Proof.InprojSample.Array.lean ====
module

public import proofs.«01_k».proof.Proof.InprojSample.Tok

@[expose] public section

set_option maxRecDepth 16384

noncomputable section

namespace Cert.InprojsIdeal.Hand

open Cert.InprojsIdeal Cert.InprojsIdeal.Gen Idealize.ShloMosaic Idealize.ShloMosaic.TcCoe Idealize.SL.Sem Cert.Inproj
open Cert.FfnIdeal.Hand (hid)

variable (m : (ℓ : Loc nD τ sig) → Buf (Elt Ideal) ℓ) (c : Dev nD)

/-- The block index of every window at every grid point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] :=
  (by decide +kernel : ∀ t : Fin grid0.N, _)

theorem cover8 : (cfg0.win 8).Covers := by decide +kernel
theorem cover9 : (cfg0.win 9).Covers := by decide +kernel
theorem cover10 : (cfg0.win 10).Covers := by decide +kernel
theorem cover11 : (cfg0.win 11).Covers := by decide +kernel
theorem cover12 : (cfg0.win 12).Covers := by decide +kernel
theorem cover13 : (cfg0.win 13).Covers := by decide +kernel
theorem cover14 : (cfg0.win 14).Covers := by decide +kernel

/-- The combined projection of token `i`. -/
def P (i : Fin 32) : Fin 2836 → EReal :=
  prj (fun k => m ((c : Thread nD τ).loc main_arg0) (ix2 i k)) (fun k => m ((c : Thread nD τ).loc main_arg1) (ix1 k)) (wt m c)

theorem tile_x (t : Fin cfg0.N) (r : Fin 32) :
    (fun k => iblk m c 0 t (ix2 r k)) = fun k => m ((c : Thread nD τ).loc main_arg0) (ix2 r k) := by
  funext k
  refine Eq.trans ?_ (congrFun (V_main_arg0 m c) (ix2 r k))
  blk_ext [iblk, idx t]

theorem tile_g (t : Fin cfg0.N) : (fun k => iblk m c 1 t (ix2 0 k)) = fun k => m ((c : Thread nD τ).loc main_arg1) (ix1 k) := by
  funext k; refine Eq.trans ?_ (gain_apply m c 0 k); blk_ext [iblk, idx t]

theorem tile_w (t : Fin cfg0.N) (k : Fin 1024) (n : Fin 2944) : iblk m c 2 t (ix2 k n) = V m c main_v26 (ix2 k n) := by
  blk_ext [iblk, idx t]

theorem pj_congr {x : Vec Ideal S32x1024 .f32} {g : Vec Ideal S1x1024 .f32} (w : Vec Ideal S1024x2944 .bf16) (r : Fin 32)
    (X G : Fin 1024 → EReal) (W : Fin 1024 → Fin 2944 → EReal) (hx : (fun k => x (ix2 r k)) = X) (hg : (fun k => g (ix2 0 k)) = G)
    (hw : ∀ k n, w (ix2 k n) = W k n) : pj x g w r = fun n => ∑ k, hid X G k * W k n := by
  funext n
  unfold pj
  rw [hx, hg]
  exact Finset.sum_congr rfl fun k _ => congrArg _ (hw k n)

/-- A tile's combined projection is the stream's at the tile's rows, packed. -/
theorem tile_packed (t : Fin cfg0.N) (r : Fin 32) : Packed (pj (iblk m c 0 t) (iblk m c 1 t) (iblk m c 2 t) r) (P m c r) := by
  rw [pj_congr (iblk m c 2 t) r _ _ _ (tile_x m c t r) (tile_g m c t) (tile_w m c t)]
  exact packed_prj _ _ (pk m c) _ (packed m c)

theorem tile_cos (t : Fin cfg0.N) (r : Fin 32) : (fun l => iblk m c 6 t (ix2 r l)) = fun l => Ideal.cos (angle m c l) := by
  funext l
  refine Eq.trans ?_ (cos_apply m c r l)
  blk_ext [iblk, idx t]

theorem tile_sin (t : Fin cfg0.N) (r : Fin 32) : (fun l => iblk m c 7 t (ix2 r l)) = fun l => Ideal.sin (angle m c l) := by
  funext l
  refine Eq.trans ?_ (sin_apply m c r l)
  blk_ext [iblk, idx t]

/-- The gates' second factor. -/
def a2 (j : Fin 16) (l : Fin 128) : EReal := m ((c : Thread nD τ).loc main_arg3) (ix2 j l)
/-- The gates' bias. -/
def ba (l : Fin 128) : EReal := m ((c : Thread nD τ).loc main_arg4) (ix1 l)
/-- The attention's gate bias. -/
def bf (l : Fin 4) : EReal := m ((c : Thread nD τ).loc main_arg5) (ix1 l)

theorem tile_a2 (t : Fin cfg0.N) (k l : Fin 128) : iblk m c 3 t (ix2 k l) =
    if h : 4 ≤ k.val ∧ k.val < 4 + 16 then a2 m c ⟨k.val - 4, by omega⟩ l else (0 : EReal) := by
  refine Eq.trans ?_ (a2_apply m c k l)
  blk_ext [iblk, idx t]

theorem tile_ba (t : Fin cfg0.N) : (fun l => iblk m c 4 t (ix2 0 l)) = ba m c := by
  funext l; refine Eq.trans ?_ (ba_apply m c 0 l); blk_ext [iblk, idx t]

theorem tile_bf (t : Fin cfg0.N) (l : Fin 128) : iblk m c 5 t (ix2 0 l) = if h : l.val < 4 then bf m c ⟨l.val, h⟩ else (0 : EReal) := by
  refine Eq.trans ?_ (bf_apply m c 0 l)
  blk_ext [iblk, idx t]

/-! ## The arrays after the run -/

/-- The rotated queries and keys, the values and the gate of the retention. -/
def R8 : S32x1024.Idx → EReal := fun i =>
  pret (P m c (i 0)) (fun l => Ideal.cos (angle m c l)) (fun l => Ideal.sin (angle m c l)) (i 1)
/-- The inputs of the state space branch. -/
def R9 : S32x256.Idx → EReal := fun i => P m c (i 0) ⟨1024 + (i 1).val, by have h : (i 1).val < 256 := (i 1).isLt; omega⟩
/-- The columns of the gated branch. -/
def R10 : S32x896.Idx → EReal := fun i => pgla (P m c (i 0)) (a2 m c) (ba m c) (i 1)
/-- The keys of the attention. -/
def R11 : S32x256.Idx → EReal := fun i => P m c (i 0) ⟨2320 + (i 1).val, by have h : (i 1).val < 256 := (i 1).isLt; omega⟩
/-- The values of the attention. -/
def R12 : S32x256.Idx → EReal := fun i => P m c (i 0) ⟨2576 + (i 1).val, by have h : (i 1).val < 256 := (i 1).isLt; omega⟩
/-- The logarithms of the attention's forget gates. -/
def R13 : S32x128.Idx → EReal := fun i => flog (P m c (i 0)) (bf m c) (i 1)
/-- The scaled queries of the attention. -/
def R14 : S32x256.Idx → EReal := fun i => P m c (i 0) ⟨2064 + (i 1).val, by have h : (i 1).val < 256 := (i 1).isLt; omega⟩ * eighth

/-- What the body stores in output 0. -/
theorem stored8 (t : Fin cfg0.N) (r : Fin 32) (n : Fin 1024) : (outsAt0 m c t).1 (ix2 r n) =
    pret (P m c r) (fun l => iblk m c 6 t (ix2 r l)) (fun l => iblk m c 7 t (ix2 r l)) n := by
  unfold outsAt0
  dsimp only
  frame_out
  exact ret_tile _ _ _ _ _ r _ (tile_packed m c t r) n

/-- Output 0's array after the run. -/
theorem final8 : (dats m 0 c).arrAt 8 cfg0.N = R8 m c := by
  refine (dats m 0 c).arrAt_eq_of_covers 8 _ cover8 fun t hf y => ?_
  blk_simp
  rw [after0_8]
  idx_vars y
  rw [stored8, tile_cos, tile_sin]
  have he : ((View.whole main_v57_0).slice (win0_8.rect t)).emb (ix2 y0 y1) = ix2 y0 y1 := by
    blk_ext [idx t]
  rw [he]
  rfl

/-- What the body stores in output 1. -/
theorem stored9 (t : Fin cfg0.N) (r : Fin 32) (n : Fin 256) : (outsAt0 m c t).2.1 (ix2 r n) =
    P m c r ⟨1024 + n.val, by omega⟩ := by
  unfold outsAt0
  dsimp only
  frame_out
  exact su_tile _ _ _ r _ (tile_packed m c t r) n

/-- Output 1's array after the run. -/
theorem final9 : (dats m 0 c).arrAt 9 cfg0.N = R9 m c := by
  refine (dats m 0 c).arrAt_eq_of_covers 9 _ cover9 fun t hf y => ?_
  blk_simp
  rw [after0_9]
  idx_vars y
  rw [stored9]
  have he : ((View.whole main_v57_1).slice (win0_9.rect t)).emb (ix2 y0 y1) = ix2 y0 y1 := by
    blk_ext [idx t]
  rw [he]
  rfl

/-- What the body stores in output 2. -/
theorem stored10 (t : Fin cfg0.N) (r : Fin 32) (n : Fin 896) : (outsAt0 m c t).2.2.1 (ix2 r n) =
    pgla (P m c r) (a2 m c) (fun l => iblk m c 4 t (ix2 0 l)) n := by
  unfold outsAt0
  dsimp only
  frame_out
  exact gla_tile _ _ _ r _ (tile_packed m c t r) _ _ (a2 m c) (tile_a2 m c t) n

/-- Output 2's array after the run. -/
theorem final10 : (dats m 0 c).arrAt 10 cfg0.N = R10 m c := by
  refine (dats m 0 c).arrAt_eq_of_covers 10 _ cover10 fun t hf y => ?_
  blk_simp
  rw [after0_10]
  idx_vars y
  rw [stored10, tile_ba]
  have he : ((View.whole main_v57_2).slice (win0_10.rect t)).emb (ix2 y0 y1) = ix2 y0 y1 := by
    blk_ext [idx t]
  rw [he]
  rfl

/-- What the body stores in output 3. -/
theorem stored11 (t : Fin cfg0.N) (r : Fin 32) (n : Fin 256) : (outsAt0 m c t).2.2.2.1 (ix2 r n) =
    P m c r ⟨2320 + n.val, by omega⟩ := by
  unfold outsAt0
  dsimp only
  frame_out
  exact fk_tile _ _ _ r _ (tile_packed m c t r) n

/-- Output 3's array after the run. -/
theorem final11 : (dats m 0 c).arrAt 11 cfg0.N = R11 m c := by
  refine (dats m 0 c).arrAt_eq_of_covers 11 _ cover11 fun t hf y => ?_
  blk_simp
  rw [after0_11]
  idx_vars y
  rw [stored11]
  have he : ((View.whole main_v57_3).slice (win0_11.rect t)).emb (ix2 y0 y1) = ix2 y0 y1 := by
    blk_ext [idx t]
  rw [he]
  rfl

/-- What the body stores in output 4. -/
theorem stored12 (t : Fin cfg0.N) (r : Fin 32) (n : Fin 256) : (outsAt0 m c t).2.2.2.2.1 (ix2 r n) =
    P m c r ⟨2576 + n.val, by omega⟩ := by
  unfold outsAt0
  dsimp only
  frame_out
  exact fv_tile _ _ _ r _ (tile_packed m c t r) n

/-- Output 4's array after the run. -/
theorem final12 : (dats m 0 c).arrAt 12 cfg0.N = R12 m c := by
  refine (dats m 0 c).arrAt_eq_of_covers 12 _ cover12 fun t hf y => ?_
  blk_simp
  rw [after0_12]
  idx_vars y
  rw [stored12]
  have he : ((View.whole main_v57_4).slice (win0_12.rect t)).emb (ix2 y0 y1) = ix2 y0 y1 := by
    blk_ext [idx t]
  rw [he]
  rfl

/-- What the body stores in output 5. -/
theorem stored13 (t : Fin cfg0.N) (r : Fin 32) (n : Fin 128) : (outsAt0 m c t).2.2.2.2.2.1 (ix2 r n) =
    flog (P m c r) (bf m c) n := by
  unfold outsAt0
  dsimp only
  frame_out
  exact lf_tile _ _ _ r _ (tile_packed m c t r) _ (bf m c) (tile_bf m c t) n

/-- Output 5's array after the run. -/
theorem final13 : (dats m 0 c).arrAt 13 cfg0.N = R13 m c := by
  refine (dats m 0 c).arrAt_eq_of_covers 13 _ cover13 fun t hf y => ?_
  blk_simp
  rw [after0_13]
  idx_vars y
  rw [stored13]
  have he : ((View.whole main_v57_5).slice (win0_13.rect t)).emb (ix2 y0 y1) = ix2 y0 y1 := by
    blk_ext [idx t]
  rw [he]
  rfl

/-- What the body stores in output 6. -/
theorem stored14 (t : Fin cfg0.N) (r : Fin 32) (n : Fin 256) : (outsAt0 m c t).2.2.2.2.2.2 (ix2 r n) =
    P m c r ⟨2064 + n.val, by omega⟩ * eighth := by
  unfold outsAt0
  dsimp only
  frame_out
  exact fq_tile _ _ _ r _ (tile_packed m c t r) n

/-- Output 6's array after the run. -/
theorem final14 : (dats m 0 c).arrAt 14 cfg0.N = R14 m c := by
  refine (dats m 0 c).arrAt_eq_of_covers 14 _ cover14 fun t hf y => ?_
  blk_simp
  rw [after0_14]
  idx_vars y
  rw [stored14]
  have he : ((View.whole main_v57_6).slice (win0_14.rect t)).emb (ix2 y0 y1) = ix2 y0 y1 := by
    blk_ext [idx t]
  rw [he]
  rfl

end Cert.InprojsIdeal.Hand

end
-- ==== Proof.InprojSample.Reference.lean ====
module

public import proofs.«01_k».proof.Proof.Inproj.Spec
public import proofs.«01_k».proof.Proof.Gen.InprojsRefIdeal.Run
public import proofs.«01_k».proof.Proof.Gen.InprojsRefIdeal.Read
public import Idealize.ShloMosaic.Lib.Pointwise

@[expose] public section

set_option maxRecDepth 16384

noncomputable section

namespace Cert.InprojsRefIdeal.Hand

open Cert.InprojsRefIdeal Cert.InprojsRefIdeal.Read Idealize.ShloMosaic Cert.Inproj
open Cert.FfnIdeal.Hand (hid)

variable (x0 : (⟨S32x1024, .f32⟩ : BufTy).Contents (Elt Ideal)) (x1 : (⟨S1024, .f32⟩ : BufTy).Contents (Elt Ideal))
  (x2 : (⟨S1024x2836, .f32⟩ : BufTy).Contents (Elt Ideal)) (x3 : (⟨S16x128, .f32⟩ : BufTy).Contents (Elt Ideal))
  (x4 : (⟨S128, .f32⟩ : BufTy).Contents (Elt Ideal)) (x5 : (⟨S4, .f32⟩ : BufTy).Contents (Elt Ideal))
  (x6 : (⟨S32, .f32⟩ : BufTy).Contents (Elt Ideal))

/-- The combined projection of token `i`. -/
def P (i : Fin 32) : Fin 2836 → EReal := prj (fun k => x0 (ix2 i k)) (fun k => x1 (ix1 k)) (fun k n => x2 (ix2 k n))

/-- The reference's normalised token. -/
theorem h_apply (b : Fin 32) (l : Fin 1) (k : Fin 1024) :
    val_main_v14 (F := Ideal) x0 x1 (ix3 b l k) = hid (fun k => x0 (ix2 b k)) (fun k => x1 (ix1 k)) k := by
  pointwise [val_main_v14, val_main_v13, val_main_v12, val_main_v11, val_main_v10, val_main_v9, val_main_v8, val_main_v7, val_main_v6, val_main_v5,
    val_main_v4, val_main_v3, val_main_v2, val_main_v0, val_main_cst, val_main_cst_0, val_main_cst_1, hid]

/-- The reference's combined projection. -/
theorem p_apply (b : Fin 32) (l : Fin 1) (n : Fin 2836) :
    val_main_v15 (F := Ideal) x0 x1 x2 (ix3 b l n) = P x0 x1 x2 b n := by
  unfold P prj
  pointwise [val_main_v15, h_apply]

/-- Lane `d` of the angles at the samples' position. -/
def ang (d : Fin 32) : EReal := FloatOps.sitofp (F := Ideal) .f32 8192#32 * x6 (ix1 d)

theorem qlo_apply (b : Fin 32) (l : Fin 1) (h : Fin 4) (d : Fin 32) :
    val_main_v40 (F := Ideal) x0 x1 x2 (ix4 b l h d) = P x0 x1 x2 b ⟨h.val * 64 + d.val, by omega⟩ := by
  pointwise [val_main_v40, val_main_v30, val_main_v16, p_apply]

theorem qhi_apply (b : Fin 32) (l : Fin 1) (h : Fin 4) (d : Fin 32) :
    val_main_v41 (F := Ideal) x0 x1 x2 (ix4 b l h d) = P x0 x1 x2 b ⟨h.val * 64 + (32 + d.val), by omega⟩ := by
  pointwise [val_main_v41, val_main_v30, val_main_v16, p_apply]

theorem qcos_apply (a : Fin 1) (l : Fin 1) (h : Fin 1) (d : Fin 32) :
    val_main_v37 (F := Ideal) x6 (ix4 a l h d) = Ideal.cos (ang x6 d) := by
  pointwise [val_main_v37, val_main_v36, val_main_v35, val_main_v34, val_main_v33, val_main_v32, val_main_v31, val_main_v1, val_main_c, ang]

theorem qsin_apply (a : Fin 1) (l : Fin 1) (h : Fin 1) (d : Fin 32) :
    val_main_v39 (F := Ideal) x6 (ix4 a l h d) = Ideal.sin (ang x6 d) := by
  pointwise [val_main_v39, val_main_v38, val_main_v35, val_main_v34, val_main_v33, val_main_v32, val_main_v31, val_main_v1, val_main_c, ang]

/-- The rotated queries, first halves. -/
theorem qrot0_apply (b : Fin 32) (l : Fin 1) (h : Fin 4) (d : Fin 32) :
    val_main_v46 (F := Ideal) x0 x1 x2 x6 (ix4 b l h d) =
      P x0 x1 x2 b ⟨h.val * 64 + d.val, by omega⟩ * Ideal.cos (ang x6 d)
        - P x0 x1 x2 b ⟨h.val * 64 + (32 + d.val), by omega⟩ * Ideal.sin (ang x6 d) := by
  pointwise [val_main_v46, val_main_v45, val_main_v44, val_main_v43, val_main_v42, qlo_apply, qhi_apply, qcos_apply, qsin_apply]

/-- The rotated queries, second halves. -/
theorem qrot1_apply (b : Fin 32) (l : Fin 1) (h : Fin 4) (d : Fin 32) :
    val_main_v51 (F := Ideal) x0 x1 x2 x6 (ix4 b l h d) =
      P x0 x1 x2 b ⟨h.val * 64 + d.val, by omega⟩ * Ideal.sin (ang x6 d)
        + P x0 x1 x2 b ⟨h.val * 64 + (32 + d.val), by omega⟩ * Ideal.cos (ang x6 d) := by
  pointwise [val_main_v51, val_main_v50, val_main_v49, val_main_v48, val_main_v47, qlo_apply, qhi_apply, qcos_apply, qsin_apply]

theorem klo_apply (b : Fin 32) (l : Fin 1) (h : Fin 4) (d : Fin 32) :
    val_main_v63 (F := Ideal) x0 x1 x2 (ix4 b l h d) = P x0 x1 x2 b ⟨256 + (h.val * 64 + d.val), by omega⟩ := by
  pointwise [val_main_v63, val_main_v53, val_main_v17, p_apply]

theorem khi_apply (b : Fin 32) (l : Fin 1) (h : Fin 4) (d : Fin 32) :
    val_main_v64 (F := Ideal) x0 x1 x2 (ix4 b l h d) = P x0 x1 x2 b ⟨256 + (h.val * 64 + (32 + d.val)), by omega⟩ := by
  pointwise [val_main_v64, val_main_v53, val_main_v17, p_apply]

theorem kcos_apply (a : Fin 1) (l : Fin 1) (h : Fin 1) (d : Fin 32) :
    val_main_v60 (F := Ideal) x6 (ix4 a l h d) = Ideal.cos (ang x6 d) := by
  pointwise [val_main_v60, val_main_v59, val_main_v58, val_main_v57, val_main_v56, val_main_v55, val_main_v54, val_main_v1, val_main_c, ang]

theorem ksin_apply (a : Fin 1) (l : Fin 1) (h : Fin 1) (d : Fin 32) :
    val_main_v62 (F := Ideal) x6 (ix4 a l h d) = Ideal.sin (ang x6 d) := by
  pointwise [val_main_v62, val_main_v61, val_main_v58, val_main_v57, val_main_v56, val_main_v55, val_main_v54, val_main_v1, val_main_c, ang]

/-- The rotated keys, first halves. -/
theorem krot0_apply (b : Fin 32) (l : Fin 1) (h : Fin 4) (d : Fin 32) :
    val_main_v69 (F := Ideal) x0 x1 x2 x6 (ix4 b l h d) =
      P x0 x1 x2 b ⟨256 + (h.val * 64 + d.val), by omega⟩ * Ideal.cos (ang x6 d)
        - P x0 x1 x2 b ⟨256 + (h.val * 64 + (32 + d.val)), by omega⟩ * Ideal.sin (ang x6 d) := by
  pointwise [val_main_v69, val_main_v68, val_main_v67, val_main_v66, val_main_v65, klo_apply, khi_apply, kcos_apply, ksin_apply]

/-- The rotated keys, second halves. -/
theorem krot1_apply (b : Fin 32) (l : Fin 1) (h : Fin 4) (d : Fin 32) :
    val_main_v74 (F := Ideal) x0 x1 x2 x6 (ix4 b l h d) =
      P x0 x1 x2 b ⟨256 + (h.val * 64 + d.val), by omega⟩ * Ideal.sin (ang x6 d)
        + P x0 x1 x2 b ⟨256 + (h.val * 64 + (32 + d.val)), by omega⟩ * Ideal.cos (ang x6 d) := by
  pointwise [val_main_v74, val_main_v73, val_main_v72, val_main_v71, val_main_v70, klo_apply, khi_apply, kcos_apply, ksin_apply]

theorem qt_apply (b : Fin 32) (l : Fin 1) (a : Fin 2) (h : Fin 4) (d : Fin 32) :
    val_main_v92 (F := Ideal) x0 x1 x2 x6 (ix5 b l a h d) = val_main_v91 (F := Ideal) x0 x1 x2 x6 (ix5 b l h a d) := by
  rw [val_main_v92_apply]
  refine congrArg _ ?_
  funext a
  match a with
  | ⟨0, _⟩ => rfl
  | ⟨1, _⟩ => rfl
  | ⟨2, _⟩ => rfl
  | ⟨3, _⟩ => rfl
  | ⟨4, _⟩ => rfl

theorem kt_apply (b : Fin 32) (l : Fin 1) (a : Fin 2) (h : Fin 4) (d : Fin 32) :
    val_main_v95 (F := Ideal) x0 x1 x2 x6 (ix5 b l a h d) = val_main_v94 (F := Ideal) x0 x1 x2 x6 (ix5 b l h a d) := by
  rw [val_main_v95_apply]
  refine congrArg _ ?_
  funext a
  match a with
  | ⟨0, _⟩ => rfl
  | ⟨1, _⟩ => rfl
  | ⟨2, _⟩ => rfl
  | ⟨3, _⟩ => rfl
  | ⟨4, _⟩ => rfl

theorem ix4_congr (b : Fin 32) (l : Fin 1) (h : Fin 4) {d d' : Fin 32} (e : d.val = d'.val) :
    (ix4 b l h d : S32x1x4x32.Idx) = ix4 b l h d' := by rw [Fin.ext e]

/-- The packed queries, in terms of the rotated ones. -/
theorem q_apply (b : Fin 32) (l : Fin 1) (n : Fin 256) :
    val_main_v93 (F := Ideal) x0 x1 x2 x6 (ix3 b l n) = if h : n.val < 128 then
        val_main_v46 (F := Ideal) x0 x1 x2 x6 (ix4 b l ⟨n.val / 32 % 4, by omega⟩ ⟨n.val % 32, by omega⟩)
      else val_main_v51 (F := Ideal) x0 x1 x2 x6 (ix4 b l ⟨n.val / 32 % 4, by omega⟩ ⟨n.val % 32, by omega⟩) := by
  obtain rfl : l = 0 := Subsingleton.elim _ _
  have e : val_main_v93 (F := Ideal) x0 x1 x2 x6 (ix3 b 0 n) =
      val_main_v52 (F := Ideal) x0 x1 x2 x6 (ix4 b 0 ⟨n.val / 32 % 4, by omega⟩ ⟨n.val / 128 * 32 + n.val % 32, by omega⟩) := by
    pointwise [val_main_v93, qt_apply, val_main_v91]
  rw [e]
  pointwise [val_main_v52]
  by_cases h : n.val < 128
  · rw [dif_pos (by omega), dif_pos h]
    exact congrArg (val_main_v46 (F := Ideal) x0 x1 x2 x6) (ix4_congr b 0 _ (by show n.val / 128 * 32 + n.val % 32 = n.val % 32; omega))
  · rw [dif_neg (by omega), dif_neg h]
    exact congrArg (val_main_v51 (F := Ideal) x0 x1 x2 x6) (ix4_congr b 0 _ (by show n.val / 128 * 32 + n.val % 32 - 32 = n.val % 32; omega))

/-- The packed keys, in terms of the rotated ones. -/
theorem k_apply (b : Fin 32) (l : Fin 1) (n : Fin 256) :
    val_main_v96 (F := Ideal) x0 x1 x2 x6 (ix3 b l n) = if h : n.val < 128 then
        val_main_v69 (F := Ideal) x0 x1 x2 x6 (ix4 b l ⟨n.val / 32 % 4, by omega⟩ ⟨n.val % 32, by omega⟩) * eighth
      else val_main_v74 (F := Ideal) x0 x1 x2 x6 (ix4 b l ⟨n.val / 32 % 4, by omega⟩ ⟨n.val % 32, by omega⟩) * eighth := by
  obtain rfl : l = 0 := Subsingleton.elim _ _
  have e : val_main_v96 (F := Ideal) x0 x1 x2 x6 (ix3 b 0 n) =
      val_main_v77 (F := Ideal) x0 x1 x2 x6 (ix4 b 0 ⟨n.val / 32 % 4, by omega⟩ ⟨n.val / 128 * 32 + n.val % 32, by omega⟩) := by
    pointwise [val_main_v96, kt_apply, val_main_v94]
  rw [e]
  pointwise [val_main_v77, val_main_v76, val_main_cst_2, val_main_v75]
  by_cases h : n.val < 128
  · rw [dif_pos (by omega), dif_pos h]
    exact congrArg (· * eighth) (congrArg (val_main_v69 (F := Ideal) x0 x1 x2 x6) (ix4_congr b 0 _ (by show n.val / 128 * 32 + n.val % 32 = n.val % 32; omega)))
  · rw [dif_neg (by omega), dif_neg h]
    exact congrArg (· * eighth) (congrArg (val_main_v74 (F := Ideal) x0 x1 x2 x6) (ix4_congr b 0 _ (by show n.val / 128 * 32 + n.val % 32 - 32 = n.val % 32; omega)))

/-- The gates' sums. -/
theorem gs_apply (b : Fin 32) (l : Fin 1) (n : Fin 128) :
    val_main_v83 (F := Ideal) x0 x1 x2 x3 x4 (ix3 b l n) =
      (∑ j : Fin 16, P x0 x1 x2 b ⟨2048 + j.val, by omega⟩ * x3 (ix2 j n)) + x4 (ix1 n) := by
  pointwise [val_main_v83, val_main_v82, val_main_v81, val_main_v80, val_main_v25, p_apply]

theorem c0v3_apply (b : Fin 32) (l : Fin 1) (n : Fin 128) :
    val_main_call0_call0_v3 (F := Ideal) x0 x1 x2 x3 x4 (ix3 b l n) = -val_main_v83 (F := Ideal) x0 x1 x2 x3 x4 (ix3 b l n) := by
  pointwise [val_main_call0_call0_v3, val_main_call0_call0_v2, val_main_call0_call0_cst, val_main_call0_v0]

theorem c0v11_apply (b : Fin 32) (l : Fin 1) (n : Fin 128) :
    val_main_call0_call0_v11 (F := Ideal) x0 x1 x2 x3 x4 (ix3 b l n) = max (-val_main_v83 (F := Ideal) x0 x1 x2 x3 x4 (ix3 b l n)) 0
      + Ideal.log1p (Ideal.exp (-max (-val_main_v83 (F := Ideal) x0 x1 x2 x3 x4 (ix3 b l n)) (- -val_main_v83 (F := Ideal) x0 x1 x2 x3 x4 (ix3 b l n)))) := by
  pointwise [val_main_call0_call0_v11, val_main_call0_call0_v10, val_main_call0_call0_v9, val_main_call0_call0_v8, val_main_call0_call0_v7, val_main_call0_call0_v1, val_main_call0_call0_v0, val_main_call0_call0_cst, c0v3_apply, val_main_call0_v0]
  rfl

theorem c0v4_apply (b : Fin 32) (l : Fin 1) (n : Fin 128) : val_main_call0_call0_v4 (F := Ideal) x0 x1 x2 x3 x4 (ix3 b l n) = 0#1 := by
  rw [val_main_call0_call0_v4_apply]
  generalize val_main_call0_call0_v3 (F := Ideal) x0 x1 x2 x3 x4 (ix3 b l n) = v
  simp [FloatOps.cmpf, Ideal.cmp]

/-- The logarithms of the gates. -/
theorem la_apply (b : Fin 32) (l : Fin 1) (n : Fin 128) :
    val_main_v86 (F := Ideal) x0 x1 x2 x3 x4 (ix3 b l n) =
      logsig (val_main_v83 (F := Ideal) x0 x1 x2 x3 x4 (ix3 b l n)) * Ideal.ofBits .f32 0x3D800000#32 := by
  have e : val_main_call0_v1 (F := Ideal) x0 x1 x2 x3 x4 (ix3 b l n) = val_main_call0_call0_v11 (F := Ideal) x0 x1 x2 x3 x4 (ix3 b l n) := by
    rw [val_main_call0_v1_apply, c0v4_apply]; rfl
  pointwise [val_main_v86, val_main_v85, val_main_v84, val_main_cst_4, e, c0v11_apply]
  rw [div_sixteen, neg_softplus]

theorem c1v3_apply (b : Fin 32) (l : Fin 1) (n : Fin 4) :
    val_main_call1_call0_v3 (F := Ideal) x0 x1 x2 x5 (ix3 b l n) = -val_main_v89 (F := Ideal) x0 x1 x2 x5 (ix3 b l n) := by
  pointwise [val_main_call1_call0_v3, val_main_call1_call0_v2, val_main_call1_call0_cst, val_main_call1_v0]

theorem c1v11_apply (b : Fin 32) (l : Fin 1) (n : Fin 4) :
    val_main_call1_call0_v11 (F := Ideal) x0 x1 x2 x5 (ix3 b l n) = max (-val_main_v89 (F := Ideal) x0 x1 x2 x5 (ix3 b l n)) 0
      + Ideal.log1p (Ideal.exp (-max (-val_main_v89 (F := Ideal) x0 x1 x2 x5 (ix3 b l n)) (- -val_main_v89 (F := Ideal) x0 x1 x2 x5 (ix3 b l n)))) := by
  pointwise [val_main_call1_call0_v11, val_main_call1_call0_v10, val_main_call1_call0_v9, val_main_call1_call0_v8, val_main_call1_call0_v7, val_main_call1_call0_v1, val_main_call1_call0_v0, val_main_call1_call0_cst, c1v3_apply, val_main_call1_v0]
  rfl

theorem c1v4_apply (b : Fin 32) (l : Fin 1) (n : Fin 4) : val_main_call1_call0_v4 (F := Ideal) x0 x1 x2 x5 (ix3 b l n) = 0#1 := by
  rw [val_main_call1_call0_v4_apply]
  generalize val_main_call1_call0_v3 (F := Ideal) x0 x1 x2 x5 (ix3 b l n) = v
  simp [FloatOps.cmpf, Ideal.cmp]

/-! ## The results -/

theorem su_apply (b : Fin 32) (l : Fin 1) (n : Fin 256) :
    val_main_v104 (F := Ideal) x0 x1 x2 (ix2 b n) = P x0 x1 x2 b ⟨1024 + n.val, by omega⟩ := by
  pointwise [val_main_v104, val_main_v20]
  rw [p_apply]

theorem fk_apply (b : Fin 32) (l : Fin 1) (n : Fin 256) :
    val_main_v105 (F := Ideal) x0 x1 x2 (ix2 b n) = P x0 x1 x2 b ⟨2320 + n.val, by omega⟩ := by
  pointwise [val_main_v105, val_main_v27]
  rw [p_apply]

theorem fv_apply (b : Fin 32) (l : Fin 1) (n : Fin 256) :
    val_main_v106 (F := Ideal) x0 x1 x2 (ix2 b n) = P x0 x1 x2 b ⟨2576 + n.val, by omega⟩ := by
  pointwise [val_main_v106, val_main_v28]
  rw [p_apply]

theorem fq_apply (b : Fin 32) (l : Fin 1) (n : Fin 256) :
    val_main_v109 (F := Ideal) x0 x1 x2 (ix2 b n) = P x0 x1 x2 b ⟨2064 + n.val, by omega⟩ * eighth := by
  pointwise [val_main_v109, val_main_v108, val_main_cst_6, val_main_v107, val_main_v26, p_apply, eighth]

theorem lf4_apply (b : Fin 32) (l : Fin 1) (n : Fin 4) :
    val_main_v90 (F := Ideal) x0 x1 x2 x5 (ix3 b l n) = logsig (P x0 x1 x2 b ⟨2832 + n.val, by omega⟩ + x5 (ix1 n)) := by
  have e : val_main_call1_v1 (F := Ideal) x0 x1 x2 x5 (ix3 b l n) = val_main_call1_call0_v11 (F := Ideal) x0 x1 x2 x5 (ix3 b l n) := by
    rw [val_main_call1_v1_apply, c1v4_apply]; rfl
  have e' : val_main_v89 (F := Ideal) x0 x1 x2 x5 (ix3 b l n) = P x0 x1 x2 b ⟨2832 + n.val, by omega⟩ + x5 (ix1 n) := by
    pointwise [val_main_v89, val_main_v88, val_main_v87, val_main_v29, p_apply]
  pointwise [val_main_v90, e, c1v11_apply]
  rw [neg_softplus, e']

theorem lf_apply (b : Fin 32) (l : Fin 1) (n : Fin 128) :
    val_main_v103 (F := Ideal) x0 x1 x2 x5 (ix2 b n) = flog (P x0 x1 x2 b) (fun j => x5 (ix1 j)) n := by
  obtain rfl : l = 0 := Subsingleton.elim _ _
  have e : val_main_v103 (F := Ideal) x0 x1 x2 x5 (ix2 b n) = val_main_v102 (F := Ideal) x0 x1 x2 x5 (ix3 b 0 n) := by
    pointwise [val_main_v103]
  rw [e]
  unfold flog
  pointwise [val_main_v102, val_main_v101, val_main_cst_5, lf4_apply]

theorem gla_apply (b : Fin 32) (l : Fin 1) (n : Fin 896) :
    val_main_v100 (F := Ideal) x0 x1 x2 x3 x4 (ix2 b n) =
      pgla (P x0 x1 x2 b) (fun j k => x3 (ix2 j k)) (fun k => x4 (ix1 k)) n := by
  obtain rfl : l = 0 := Subsingleton.elim _ _
  have hn := n.isLt
  have e : val_main_v100 (F := Ideal) x0 x1 x2 x3 x4 (ix2 b n) = val_main_v99 (F := Ideal) x0 x1 x2 x3 x4 (ix3 b 0 n) := by
    pointwise [val_main_v100]
  rw [e]
  unfold pgla
  pointwise [val_main_v99, val_main_v23, val_main_v24, val_main_v21, val_main_v79, val_main_v78, val_main_cst_3, val_main_v22, p_apply]
  have pc : ∀ {u v : Fin 2836}, u.val = v.val → P x0 x1 x2 b u = P x0 x1 x2 b v := fun h => congrArg _ (Fin.ext h)
  by_cases h0 : n.val < 256
  · repeat (first | rw [dif_pos (by omega)] | rw [dif_neg (by omega)])
  by_cases h1 : n.val < 512
  · repeat (first | rw [dif_pos (by omega)] | rw [dif_neg (by omega)])
    exact pc (by dsimp only; omega)
  by_cases h2 : n.val < 640
  · repeat (first | rw [dif_pos (by omega)] | rw [dif_neg (by omega)])
    exact pc (by dsimp only; omega)
  by_cases h3 : n.val < 768
  · repeat (first | rw [dif_pos (by omega)] | rw [dif_neg (by omega)])
    exact congrArg (· * _) (pc (by dsimp only; omega))
  repeat (first | rw [dif_pos (by omega)] | rw [dif_neg (by omega)])
  rw [la_apply, gs_apply]
  have e2 : (⟨n.val - 256 - 256 - 128 - 128, by omega⟩ : Fin 128) = ⟨n.val - 768, by omega⟩ := Fin.ext (by dsimp only; omega)
  rw [e2]

theorem ret_apply (b : Fin 32) (l : Fin 1) (n : Fin 1024) :
    val_main_v98 (F := Ideal) x0 x1 x2 x6 (ix2 b n) =
      pret (P x0 x1 x2 b) (fun k => Ideal.cos (ang x6 ⟨k.val % 32, by omega⟩)) (fun k => Ideal.sin (ang x6 ⟨k.val % 32, by omega⟩)) n := by
  obtain rfl : l = 0 := Subsingleton.elim _ _
  have hn := n.isLt
  have e : val_main_v98 (F := Ideal) x0 x1 x2 x6 (ix2 b n) = val_main_v97 (F := Ideal) x0 x1 x2 x6 (ix3 b 0 n) := by
    pointwise [val_main_v98]
  rw [e]
  unfold pret
  pointwise [val_main_v97, val_main_v18, val_main_v19, p_apply]
  have pc : ∀ {u v : Fin 2836}, u.val = v.val → P x0 x1 x2 b u = P x0 x1 x2 b v := fun h => congrArg _ (Fin.ext h)
  have ac : ∀ {u v : Fin 32}, u.val = v.val → ang x6 u = ang x6 v := fun h => congrArg _ (Fin.ext h)
  by_cases h0 : n.val < 128
  · repeat (first | rw [dif_pos (by omega)] | rw [dif_neg (by omega)])
    rw [q_apply]
    repeat (first | rw [dif_pos (by omega)] | rw [dif_neg (by omega)])
    rw [qrot0_apply]
    exact congrArg₂ (· - ·) (congrArg₂ (· * ·) (pc (by first | omega | (simp only [colA]; omega))) (congrArg Ideal.cos (ac (by first | rfl | omega | (dsimp only; omega)))))
      (congrArg₂ (· * ·) (pc (by first | omega | (simp only [colA]; omega))) (congrArg Ideal.sin (ac (by first | rfl | omega | (dsimp only; omega)))))
  by_cases h1 : n.val < 256
  · repeat (first | rw [dif_pos (by omega)] | rw [dif_neg (by omega)])
    rw [q_apply]
    repeat (first | rw [dif_pos (by omega)] | rw [dif_neg (by omega)])
    rw [qrot1_apply]
    exact congrArg₂ (· + ·) (congrArg₂ (· * ·) (pc (by first | omega | (simp only [colA]; omega))) (congrArg Ideal.sin (ac (by first | omega | (dsimp only; omega)))))
      (congrArg₂ (· * ·) (pc (by first | omega | (simp only [colA]; omega))) (congrArg Ideal.cos (ac (by first | omega | (dsimp only; omega)))))
  by_cases h2 : n.val < 384
  · repeat (first | rw [dif_pos (by omega)] | rw [dif_neg (by omega)])
    rw [k_apply]
    dsimp only
    repeat (first | rw [dif_pos (by omega)] | rw [dif_neg (by omega)])
    rw [krot0_apply]
    refine congrArg (· * eighth) ?_
    exact congrArg₂ (· - ·) (congrArg₂ (· * ·) (pc (by first | omega | (simp only [colA]; omega))) (congrArg Ideal.cos (ac (by first | rfl | omega | (dsimp only; omega)))))
      (congrArg₂ (· * ·) (pc (by first | omega | (simp only [colA]; omega))) (congrArg Ideal.sin (ac (by first | rfl | omega | (dsimp only; omega)))))
  by_cases h3 : n.val < 512
  · repeat (first | rw [dif_pos (by omega)] | rw [dif_neg (by omega)])
    rw [k_apply]
    dsimp only
    repeat (first | rw [dif_pos (by omega)] | rw [dif_neg (by omega)])
    rw [krot1_apply]
    refine congrArg (· * eighth) ?_
    exact congrArg₂ (· + ·) (congrArg₂ (· * ·) (pc (by first | omega | (simp only [colA]; omega))) (congrArg Ideal.sin (ac (by first | omega | (dsimp only; omega)))))
      (congrArg₂ (· * ·) (pc (by first | omega | (simp only [colA]; omega))) (congrArg Ideal.cos (ac (by first | omega | (dsimp only; omega)))))
  by_cases h4 : n.val < 768
  · repeat (first | rw [dif_pos (by omega)] | rw [dif_neg (by omega)])
    exact pc (by dsimp only; omega)
  repeat (first | rw [dif_pos (by omega)] | rw [dif_neg (by omega)])
  exact pc (by dsimp only; omega)

end Cert.InprojsRefIdeal.Hand

end
-- ==== Proof.InprojSample.Claim.lean ====
module

public import proofs.«01_k».proof.Defs
public import proofs.«01_k».proof.Proof.InprojSample.Array
public import proofs.«01_k».proof.Proof.InprojSample.Reference
public import proofs.«01_k».proof.Proof.Gen.Inprojs.Frame

@[expose] public section

set_option maxRecDepth 16384

noncomputable section

namespace Cert.Proof.Inprojs

open Idealize.ShloMosaic Idealize.ShloMosaic.TcCoe Idealize.SL.Sem
open Cert.InprojsIdeal.Hand (R8 R9 R10 R11 R12 R13 R14)
open Cert.InprojsIdeal (nD τ sig main_arg0 main_arg1 main_arg2 main_arg3 main_arg4 main_arg5 main_arg6)

variable (m : (ℓ : Loc nD τ sig) → Buf (Elt Ideal) ℓ) (c : Dev nD)

/-- The rotated queries and keys, the values and the gate: the reference's are the kernel's. -/
theorem out8 : Cert.InprojsRefIdeal.Read.val_main_v98 (F := Ideal) (m ((c : Thread nD τ).loc main_arg0)) (m ((c : Thread nD τ).loc main_arg1)) (m ((c : Thread nD τ).loc main_arg2)) (m ((c : Thread nD τ).loc main_arg6)) = R8 m c := by
  have e : ∀ (i : Fin 32) (n : Fin 1024), Cert.InprojsRefIdeal.Read.val_main_v98 (F := Ideal) (m ((c : Thread nD τ).loc main_arg0)) (m ((c : Thread nD τ).loc main_arg1)) (m ((c : Thread nD τ).loc main_arg2)) (m ((c : Thread nD τ).loc main_arg6)) (ix2 i n) = R8 m c (ix2 i n) := by
    intro i n
    refine (Cert.InprojsRefIdeal.Hand.ret_apply _ _ _ _ i 0 n).trans ?_
    rfl
  funext i
  idx_vars i
  exact e _ _

/-- The inputs of the state space branch: the reference's are the kernel's. -/
theorem out9 : Cert.InprojsRefIdeal.Read.val_main_v104 (F := Ideal) (m ((c : Thread nD τ).loc main_arg0)) (m ((c : Thread nD τ).loc main_arg1)) (m ((c : Thread nD τ).loc main_arg2)) = R9 m c := by
  have e : ∀ (i : Fin 32) (n : Fin 256), Cert.InprojsRefIdeal.Read.val_main_v104 (F := Ideal) (m ((c : Thread nD τ).loc main_arg0)) (m ((c : Thread nD τ).loc main_arg1)) (m ((c : Thread nD τ).loc main_arg2)) (ix2 i n) = R9 m c (ix2 i n) := by
    intro i n
    refine (Cert.InprojsRefIdeal.Hand.su_apply _ _ _ i 0 n).trans ?_
    rfl
  funext i
  idx_vars i
  exact e _ _

/-- The columns of the gated branch: the reference's are the kernel's. -/
theorem out10 : Cert.InprojsRefIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = R10 m c := by
  have e : ∀ (i : Fin 32) (n : Fin 896), Cert.InprojsRefIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 i n) = R10 m c (ix2 i n) := by
    intro i n
    refine (Cert.InprojsRefIdeal.Hand.gla_apply _ _ _ _ _ i 0 n).trans ?_
    rfl
  funext i
  idx_vars i
  exact e _ _

/-- The keys of the attention: the reference's are the kernel's. -/
theorem out11 : Cert.InprojsRefIdeal.Read.val_main_v105 (F := Ideal) (m ((c : Thread nD τ).loc main_arg0)) (m ((c : Thread nD τ).loc main_arg1)) (m ((c : Thread nD τ).loc main_arg2)) = R11 m c := by
  have e : ∀ (i : Fin 32) (n : Fin 256), Cert.InprojsRefIdeal.Read.val_main_v105 (F := Ideal) (m ((c : Thread nD τ).loc main_arg0)) (m ((c : Thread nD τ).loc main_arg1)) (m ((c : Thread nD τ).loc main_arg2)) (ix2 i n) = R11 m c (ix2 i n) := by
    intro i n
    refine (Cert.InprojsRefIdeal.Hand.fk_apply _ _ _ i 0 n).trans ?_
    rfl
  funext i
  idx_vars i
  exact e _ _

/-- The values of the attention: the reference's are the kernel's. -/
theorem out12 : Cert.InprojsRefIdeal.Read.val_main_v106 (F := Ideal) (m ((c : Thread nD τ).loc main_arg0)) (m ((c : Thread nD τ).loc main_arg1)) (m ((c : Thread nD τ).loc main_arg2)) = R12 m c := by
  have e : ∀ (i : Fin 32) (n : Fin 256), Cert.InprojsRefIdeal.Read.val_main_v106 (F := Ideal) (m ((c : Thread nD τ).loc main_arg0)) (m ((c : Thread nD τ).loc main_arg1)) (m ((c : Thread nD τ).loc main_arg2)) (ix2 i n) = R12 m c (ix2 i n) := by
    intro i n
    refine (Cert.InprojsRefIdeal.Hand.fv_apply _ _ _ i 0 n).trans ?_
    rfl
  funext i
  idx_vars i
  exact e _ _

/-- The logarithms of the forget gates: the reference's are the kernel's. -/
theorem out13 : Cert.InprojsRefIdeal.Read.val_main_v103 (F := Ideal) (m ((c : Thread nD τ).loc main_arg0)) (m ((c : Thread nD τ).loc main_arg1)) (m ((c : Thread nD τ).loc main_arg2)) (m ((c : Thread nD τ).loc main_arg5)) = R13 m c := by
  have e : ∀ (i : Fin 32) (n : Fin 128), Cert.InprojsRefIdeal.Read.val_main_v103 (F := Ideal) (m ((c : Thread nD τ).loc main_arg0)) (m ((c : Thread nD τ).loc main_arg1)) (m ((c : Thread nD τ).loc main_arg2)) (m ((c : Thread nD τ).loc main_arg5)) (ix2 i n) = R13 m c (ix2 i n) := by
    intro i n
    refine (Cert.InprojsRefIdeal.Hand.lf_apply _ _ _ _ i 0 n).trans ?_
    rfl
  funext i
  idx_vars i
  exact e _ _

/-- The scaled queries of the attention: the reference's are the kernel's. -/
theorem out14 : Cert.InprojsRefIdeal.Read.val_main_v109 (F := Ideal) (m ((c : Thread nD τ).loc main_arg0)) (m ((c : Thread nD τ).loc main_arg1)) (m ((c : Thread nD τ).loc main_arg2)) = R14 m c := by
  have e : ∀ (i : Fin 32) (n : Fin 256), Cert.InprojsRefIdeal.Read.val_main_v109 (F := Ideal) (m ((c : Thread nD τ).loc main_arg0)) (m ((c : Thread nD τ).loc main_arg1)) (m ((c : Thread nD τ).loc main_arg2)) (ix2 i n) = R14 m c (ix2 i n) := by
    intro i n
    refine (Cert.InprojsRefIdeal.Hand.fq_apply _ _ _ i 0 n).trans ?_
    rfl
  funext i
  idx_vars i
  exact e _ _

/-- The kernel's results are the reference's. -/
theorem algebraic : Cert.algebraic_InprojsIdeal_InprojsRefIdeal (hInprojsIdeal := Cert.InprojsIdeal.Gen.facts) (hInprojsRefIdeal := Cert.InprojsRefIdeal.Gen.facts) := by
  intro m g m' g' _ hagree
  refine ⟨fun c => R8 m c, fun c => R9 m c, fun c => R10 m c, fun c => R11 m c, fun c => R12 m c, fun c => R13 m c, fun c => R14 m c, ?_, ?_⟩
  · exact (θ_run _ _ _).mono (fun r h c => ⟨(h c).1.trans (Cert.InprojsIdeal.Hand.final8 m c), (h c).2.1.trans (Cert.InprojsIdeal.Hand.final9 m c), (h c).2.2.1.trans (Cert.InprojsIdeal.Hand.final10 m c), (h c).2.2.2.1.trans (Cert.InprojsIdeal.Hand.final11 m c), (h c).2.2.2.2.1.trans (Cert.InprojsIdeal.Hand.final12 m c), (h c).2.2.2.2.2.1.trans (Cert.InprojsIdeal.Hand.final13 m c), (h c).2.2.2.2.2.2.1.trans (Cert.InprojsIdeal.Hand.final14 m c),
      (h c).2.2.2.2.2.2.2⟩) (Cert.InprojsIdeal.Value.run_blocks m g)
  · refine (θ_run _ _ _).mono (fun r h c => ⟨?_, ?_, ?_, ?_, ?_, ?_, ?_, (h c).2.2.2.2.2.2.2⟩) (Cert.InprojsRefIdeal.Value.run m' g')
    all_goals obtain ⟨h0, h1, h2, h3, h4, h5, h6⟩ := hagree c
    · rw [(h c).1, Cert.InprojsRefIdeal.Read.val_main_v98_eq, h0, h1, h2, h6]
      exact out8 m c
    · rw [(h c).2.1, h0, h1, h2]
      exact (Cert.InprojsRefIdeal.Read.val_main_v104_eq ..).trans (out9 m c)
    · rw [(h c).2.2.1, Cert.InprojsRefIdeal.Read.val_main_v100_eq, h0, h1, h2, h3, h4]
      exact out10 m c
    · rw [(h c).2.2.2.1, h0, h1, h2]
      exact (Cert.InprojsRefIdeal.Read.val_main_v105_eq ..).trans (out11 m c)
    · rw [(h c).2.2.2.2.1, h0, h1, h2]
      exact (Cert.InprojsRefIdeal.Read.val_main_v106_eq ..).trans (out12 m c)
    · rw [(h c).2.2.2.2.2.1, Cert.InprojsRefIdeal.Read.val_main_v103_eq, h0, h1, h2, h5]
      exact out13 m c
    · rw [(h c).2.2.2.2.2.2.1, h0, h1, h2]
      exact (Cert.InprojsRefIdeal.Read.val_main_v109_eq ..).trans (out14 m c)

end Cert.Proof.Inprojs

end

end
-- ==== Proof.Mix.MixIdealFrame.lean ====
/- The frame of `MixIdeal`: the generated frame module, with a larger budget for the three theorems about its body, whose
   thirty windows exceed the default one. -/
module

public import proofs.«01_k».proof.Proof.Gen.MixIdeal.Launch
public import proofs.«01_k».proof.Proof.Gen.MixIdeal.Skeleton
public import proofs.«01_k».proof.Proof.Gen.MixIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1800000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_MixIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 13).trans (((dats 0 c).arrAt_in 13 rfl _).trans ((hA c 13).trans (V_main_arg2 m c))),
      ((h c).1 4).trans (((dats 0 c).arrAt_in 4 rfl _).trans ((hA c 4).trans (V_main_arg3 m c))),
      ((h c).1 11).trans (((dats 0 c).arrAt_in 11 rfl _).trans ((hA c 11).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) h

/-! ## The body's accesses -/

abbrev r0_0 : Rect S32x4x1x64 := Rect.unit (s := S32x4x1x64) ![0, 0, 0, 0] S32x4x1x64.size inb_S32x4x1x64_S32x4x1x64_0_0_0_0
abbrev r0_1 : Rect S32x4x64x64 := Rect.unit (s := S32x4x64x64) ![0, 0, 0, 0] S32x1x64x64.size inb_S32x4x64x64_S32x1x64x64_0_0_0_0
abbrev r0_2 : Rect S32x4x64x1 := Rect.unit (s := S32x4x64x1) ![0, 0, 0, 0] S32x1x64x1.size inb_S32x4x64x1_S32x1x64x1_0_0_0_0
abbrev r0_3 : Rect S32x4x64 := Rect.unit (s := S32x4x64) ![0, 0, 0] S32x1x64.size inb_S32x4x64_S32x1x64_0_0_0
abbrev r0_4 : Rect S4x1x64 := Rect.unit (s := S4x1x64) ![0, 0, 0] S1x1x64.size inb_S4x1x64_S1x1x64_0_0_0
abbrev r0_5 : Rect S32x4x64x64 := Rect.unit (s := S32x4x64x64) ![0, 1, 0, 0] S32x1x64x64.size inb_S32x4x64x64_S32x1x64x64_0_1_0_0
abbrev r0_6 : Rect S32x4x64x1 := Rect.unit (s := S32x4x64x1) ![0, 1, 0, 0] S32x1x64x1.size inb_S32x4x64x1_S32x1x64x1_0_1_0_0
abbrev r0_7 : Rect S32x4x64 := Rect.unit (s := S32x4x64) ![0, 1, 0] S32x1x64.size inb_S32x4x64_S32x1x64_0_1_0
abbrev r0_8 : Rect S4x1x64 := Rect.unit (s := S4x1x64) ![1, 0, 0] S1x1x64.size inb_S4x1x64_S1x1x64_1_0_0
abbrev r0_9 : Rect S32x4x64x64 := Rect.unit (s := S32x4x64x64) ![0, 2, 0, 0] S32x1x64x64.size inb_S32x4x64x64_S32x1x64x64_0_2_0_0
abbrev r0_10 : Rect S32x4x64x1 := Rect.unit (s := S32x4x64x1) ![0, 2, 0, 0] S32x1x64x1.size inb_S32x4x64x1_S32x1x64x1_0_2_0_0
abbrev r0_11 : Rect S32x4x64 := Rect.unit (s := S32x4x64) ![0, 2, 0] S32x1x64.size inb_S32x4x64_S32x1x64_0_2_0
abbrev r0_12 : Rect S4x1x64 := Rect.unit (s := S4x1x64) ![2, 0, 0] S1x1x64.size inb_S4x1x64_S1x1x64_2_0_0
abbrev r0_13 : Rect S32x4x64x64 := Rect.unit (s := S32x4x64x64) ![0, 3, 0, 0] S32x1x64x64.size inb_S32x4x64x64_S32x1x64x64_0_3_0_0
abbrev r0_14 : Rect S32x4x64x1 := Rect.unit (s := S32x4x64x1) ![0, 3, 0, 0] S32x1x64x1.size inb_S32x4x64x1_S32x1x64x1_0_3_0_0
abbrev r0_15 : Rect S32x4x64 := Rect.unit (s := S32x4x64) ![0, 3, 0] S32x1x64.size inb_S32x4x64_S32x1x64_0_3_0
abbrev r0_16 : Rect S4x1x64 := Rect.unit (s := S4x1x64) ![3, 0, 0] S1x1x64.size inb_S4x1x64_S1x1x64_3_0_0
abbrev r0_17 : Rect S32x4x32x1 := Rect.unit (s := S32x4x32x1) ![0, 0, 0, 0] S32x1x32x1.size inb_S32x4x32x1_S32x1x32x1_0_0_0_0
abbrev r0_18 : Rect S32x4x32x64 := Rect.unit (s := S32x4x32x64) ![0, 0, 0, 0] S32x1x32x64.size inb_S32x4x32x64_S32x1x32x64_0_0_0_0
abbrev r0_19 : Rect S32x4x32x1 := Rect.unit (s := S32x4x32x1) ![0, 1, 0, 0] S32x1x32x1.size inb_S32x4x32x1_S32x1x32x1_0_1_0_0
abbrev r0_20 : Rect S32x4x32x64 := Rect.unit (s := S32x4x32x64) ![0, 1, 0, 0] S32x1x32x64.size inb_S32x4x32x64_S32x1x32x64_0_1_0_0
abbrev r0_21 : Rect S32x4x32x1 := Rect.unit (s := S32x4x32x1) ![0, 2, 0, 0] S32x1x32x1.size inb_S32x4x32x1_S32x1x32x1_0_2_0_0
abbrev r0_22 : Rect S32x4x32x64 := Rect.unit (s := S32x4x32x64) ![0, 2, 0, 0] S32x1x32x64.size inb_S32x4x32x64_S32x1x32x64_0_2_0_0
abbrev r0_23 : Rect S32x4x32x1 := Rect.unit (s := S32x4x32x1) ![0, 3, 0, 0] S32x1x32x1.size inb_S32x4x32x1_S32x1x32x1_0_3_0_0
abbrev r0_24 : Rect S32x4x32x64 := Rect.unit (s := S32x4x32x64) ![0, 3, 0, 0] S32x1x32x64.size inb_S32x4x32x64_S32x1x32x64_0_3_0_0
abbrev r0_25 : Rect S32x256 := Rect.unit (s := S32x256) ![0, 0] S32x256.size inb_S32x256_S32x256_0_0
abbrev r0_26 : Rect S256x2048 := Rect.unit (s := S256x2048) ![0, 0] S256x2048.size inb_S256x2048_S256x2048_0_0
abbrev r0_27 : Rect S1x1024 := Rect.unit (s := S1x1024) ![0, 0] S1x1024.size inb_S1x1024_S1x1024_0_0
abbrev r0_28 : Rect S32x1024 := Rect.unit (s := S32x1024) ![0, 0] S32x1024.size inb_S32x1024_S32x1024_0_0
abbrev r0_29 : Rect S2048x256 := Rect.unit (s := S2048x256) ![0, 0] S2048x256.size inb_S2048x256_S2048x256_0_0
abbrev r0_30 : Rect S1x256 := Rect.unit (s := S1x256) ![0, 0] S1x256.size inb_S1x256_S1x256_0_0
abbrev r0_31 : Rect S256x256 := Rect.unit (s := S256x256) ![0, 0] S256x256.size inb_S256x256_S256x256_0_0

/-! ## What the body leaves in each output window's buffer -/

/-! ### Values of the body that the stores' payloads, spelt out, would write more than once

    Each is a vector the body binds (often a part call's result), stated over the input windows' blocks and
    numbered on from the skeleton's payload functions (`k0_pay56` …, after `k0_pay55`), so that
    `out0_W` and the values after it name it instead of spelling it out; the comment after each is the printed function's
    name for the value (a count appended where that name is bound again). -/

def k0_pay56 (x0 : Vec F S32x4x64x1 .f32) (x1 : Vec F S32x4x64x1 .f32) (x2 : Vec F S32x4x1x64 .f32) (x3 : Vec F S32x4x64 .f32) (x4 : Vec F S32x4x64x64 .f32) (x5 : Vec F S4x1x64 .f32) (x6 : Vec F S32x4x32x1 .f32) (x7 : Vec F S32x4x32x1 .f32) (x8 : Vec F S32x4x32x1 .f32) (x9 : Vec F S32x4x1x64 .f32) (x10 : Vec F S32x4x64 .f32) (x11 : Vec F S32x4x32x64 .f32) (x12 : Vec F S4x1x64 .f32) (x13 : Vec F S32x256 .f32) (x14 : Vec F S32x1024 .f32) (x15 : Vec F S32x1024 .f32) (x16 : Vec F S1x1024 .f32) (x17 : Vec F S1x1024 .f32) (x18 : Vec F S256x2048 .bf16) (x19 : Vec F S2048x256 .bf16) (x20 : Vec F S1x256 .f32) (x21 : Vec F S256x256 .bf16) (x22 : Vec F S1x256 .f32) : FVec F S32x4x1x64 .f32 :=
  k0_pay1 (View.ld x2 r0_0) -- `v1`
def k0_pay57 (x0 : Vec F S32x4x64x1 .f32) (x1 : Vec F S32x4x64x1 .f32) (x2 : Vec F S32x4x1x64 .f32) (x3 : Vec F S32x4x64 .f32) (x4 : Vec F S32x4x64x64 .f32) (x5 : Vec F S4x1x64 .f32) (x6 : Vec F S32x4x32x1 .f32) (x7 : Vec F S32x4x32x1 .f32) (x8 : Vec F S32x4x32x1 .f32) (x9 : Vec F S32x4x1x64 .f32) (x10 : Vec F S32x4x64 .f32) (x11 : Vec F S32x4x32x64 .f32) (x12 : Vec F S4x1x64 .f32) (x13 : Vec F S32x256 .f32) (x14 : Vec F S32x1024 .f32) (x15 : Vec F S32x1024 .f32) (x16 : Vec F S1x1024 .f32) (x17 : Vec F S1x1024 .f32) (x18 : Vec F S256x2048 .bf16) (x19 : Vec F S2048x256 .bf16) (x20 : Vec F S1x256 .f32) (x21 : Vec F S256x256 .bf16) (x22 : Vec F S1x256 .f32) : FVec F S32x64x64 .f32 :=
  k0_pay7 (k0_pay56 x0 x1 x2 x3 x4 x5 x6 x7 x8 x9 x10 x11 x12 x13 x14 x15 x16 x17 x18 x19 x20 x21 x22) (View.ld x4 r0_5) (View.ld x1 r0_6) -- `v67`
def k0_pay58 (x0 : Vec F S32x4x64x1 .f32) (x1 : Vec F S32x4x64x1 .f32) (x2 : Vec F S32x4x1x64 .f32) (x3 : Vec F S32x4x64 .f32) (x4 : Vec F S32x4x64x64 .f32) (x5 : Vec F S4x1x64 .f32) (x6 : Vec F S32x4x32x1 .f32) (x7 : Vec F S32x4x32x1 .f32) (x8 : Vec F S32x4x32x1 .f32) (x9 : Vec F S32x4x1x64 .f32) (x10 : Vec F S32x4x64 .f32) (x11 : Vec F S32x4x32x64 .f32) (x12 : Vec F S4x1x64 .f32) (x13 : Vec F S32x256 .f32) (x14 : Vec F S32x1024 .f32) (x15 : Vec F S32x1024 .f32) (x16 : Vec F S1x1024 .f32) (x17 : Vec F S1x1024 .f32) (x18 : Vec F S256x2048 .bf16) (x19 : Vec F S2048x256 .bf16) (x20 : Vec F S1x256 .f32) (x21 : Vec F S256x256 .bf16) (x22 : Vec F S1x256 .f32) : FVec F S32x64x64 .f32 :=
  k0_pay17 (k0_pay56 x0 x1 x2 x3 x4 x5 x6 x7 x8 x9 x10 x11 x12 x13 x14 x15 x16 x17 x18 x19 x20 x21 x22) (View.ld x4 r0_13) (View.ld x1 r0_14) -- `v175`
def k0_pay59 (x0 : Vec F S32x4x64x1 .f32) (x1 : Vec F S32x4x64x1 .f32) (x2 : Vec F S32x4x1x64 .f32) (x3 : Vec F S32x4x64 .f32) (x4 : Vec F S32x4x64x64 .f32) (x5 : Vec F S4x1x64 .f32) (x6 : Vec F S32x4x32x1 .f32) (x7 : Vec F S32x4x32x1 .f32) (x8 : Vec F S32x4x32x1 .f32) (x9 : Vec F S32x4x1x64 .f32) (x10 : Vec F S32x4x64 .f32) (x11 : Vec F S32x4x32x64 .f32) (x12 : Vec F S4x1x64 .f32) (x13 : Vec F S32x256 .f32) (x14 : Vec F S32x1024 .f32) (x15 : Vec F S32x1024 .f32) (x16 : Vec F S1x1024 .f32) (x17 : Vec F S1x1024 .f32) (x18 : Vec F S256x2048 .bf16) (x19 : Vec F S2048x256 .bf16) (x20 : Vec F S1x256 .f32) (x21 : Vec F S256x256 .bf16) (x22 : Vec F S1x256 .f32) : FVec F S32x4x1x64 .f32 :=
  k0_pay24 (View.ld x9 r0_0) -- `v219`
def k0_pay60 (x0 : Vec F S32x4x64x1 .f32) (x1 : Vec F S32x4x64x1 .f32) (x2 : Vec F S32x4x1x64 .f32) (x3 : Vec F S32x4x64 .f32) (x4 : Vec F S32x4x64x64 .f32) (x5 : Vec F S4x1x64 .f32) (x6 : Vec F S32x4x32x1 .f32) (x7 : Vec F S32x4x32x1 .f32) (x8 : Vec F S32x4x32x1 .f32) (x9 : Vec F S32x4x1x64 .f32) (x10 : Vec F S32x4x64 .f32) (x11 : Vec F S32x4x32x64 .f32) (x12 : Vec F S4x1x64 .f32) (x13 : Vec F S32x256 .f32) (x14 : Vec F S32x1024 .f32) (x15 : Vec F S32x1024 .f32) (x16 : Vec F S1x1024 .f32) (x17 : Vec F S1x1024 .f32) (x18 : Vec F S256x2048 .bf16) (x19 : Vec F S2048x256 .bf16) (x20 : Vec F S1x256 .f32) (x21 : Vec F S256x256 .bf16) (x22 : Vec F S1x256 .f32) : FVec F S32x32x64 .f32 :=
  k0_pay29 (View.ld x8 r0_19) (View.ld x11 r0_20) -- `v277`
def k0_pay61 (x0 : Vec F S32x4x64x1 .f32) (x1 : Vec F S32x4x64x1 .f32) (x2 : Vec F S32x4x1x64 .f32) (x3 : Vec F S32x4x64 .f32) (x4 : Vec F S32x4x64x64 .f32) (x5 : Vec F S4x1x64 .f32) (x6 : Vec F S32x4x32x1 .f32) (x7 : Vec F S32x4x32x1 .f32) (x8 : Vec F S32x4x32x1 .f32) (x9 : Vec F S32x4x1x64 .f32) (x10 : Vec F S32x4x64 .f32) (x11 : Vec F S32x4x32x64 .f32) (x12 : Vec F S4x1x64 .f32) (x13 : Vec F S32x256 .f32) (x14 : Vec F S32x1024 .f32) (x15 : Vec F S32x1024 .f32) (x16 : Vec F S1x1024 .f32) (x17 : Vec F S1x1024 .f32) (x18 : Vec F S256x2048 .bf16) (x19 : Vec F S2048x256 .bf16) (x20 : Vec F S1x256 .f32) (x21 : Vec F S256x256 .bf16) (x22 : Vec F S1x256 .f32) : FVec F S32x32x64 .f32 :=
  k0_pay41 (View.ld x8 r0_23) (View.ld x11 r0_24) -- `v379`

/-- Window 23's staging buffer after the body, from the input windows' blocks: its 4 stores as pieces, LAST
    FIRST (Lib/Pipeline/FrameBody.lean `View.canon`; the payloads are the skeleton's and the values stated above). -/
def out0_23 (x0 : Vec F S32x4x64x1 .f32) (x1 : Vec F S32x4x64x1 .f32) (x2 : Vec F S32x4x1x64 .f32) (x3 : Vec F S32x4x64 .f32) (x4 : Vec F S32x4x64x64 .f32) (x5 : Vec F S4x1x64 .f32) (x6 : Vec F S32x4x32x1 .f32) (x7 : Vec F S32x4x32x1 .f32) (x8 : Vec F S32x4x32x1 .f32) (x9 : Vec F S32x4x1x64 .f32) (x10 : Vec F S32x4x64 .f32) (x11 : Vec F S32x4x32x64 .f32) (x12 : Vec F S4x1x64 .f32) (x13 : Vec F S32x256 .f32) (x14 : Vec F S32x1024 .f32) (x15 : Vec F S32x1024 .f32) (x16 : Vec F S1x1024 .f32) (x17 : Vec F S1x1024 .f32) (x18 : Vec F S256x2048 .bf16) (x19 : Vec F S2048x256 .bf16) (x20 : Vec F S1x256 .f32) (x21 : Vec F S256x256 .bf16) (x22 : Vec F S1x256 .f32) : Vec F S32x4x64 .f32 :=
  View.canon [⟨r0_15, k0_pay23 (k0_pay19 (View.ld x3 r0_15)) (k0_pay20 (k0_pay58 x0 x1 x2 x3 x4 x5 x6 x7 x8 x9 x10 x11 x12 x13 x14 x15 x16 x17 x18 x19 x20 x21 x22) (View.ld x0 r0_14) (View.ld x5 r0_16)) (k0_pay21 (View.ld x3 r0_15)) (k0_pay22 (F := F))⟩,
    ⟨r0_11, k0_pay16 (k0_pay14 (k0_pay56 x0 x1 x2 x3 x4 x5 x6 x7 x8 x9 x10 x11 x12 x13 x14 x15 x16 x17 x18 x19 x20 x21 x22) (View.ld x4 r0_9) (View.ld x1 r0_10) (View.ld x0 r0_10)) (k0_pay15 (k0_pay56 x0 x1 x2 x3 x4 x5 x6 x7 x8 x9 x10 x11 x12 x13 x14 x15 x16 x17 x18 x19 x20 x21 x22) (View.ld x4 r0_9) (View.ld x1 r0_10) (View.ld x0 r0_10)) (Scalar.ofBits .f32 0x42800000#32) (View.ld x3 r0_11) (View.ld x5 r0_12)⟩,
    ⟨r0_7, k0_pay11 (k0_pay9 (k0_pay57 x0 x1 x2 x3 x4 x5 x6 x7 x8 x9 x10 x11 x12 x13 x14 x15 x16 x17 x18 x19 x20 x21 x22) (View.ld x0 r0_6) (View.ld x5 r0_8)) (k0_pay10 (View.ld x3 r0_7))⟩,
    ⟨r0_3, k0_pay6 (k0_pay4 (View.ld x2 r0_0) (View.ld x4 r0_1) (View.ld x1 r0_2) (View.ld x0 r0_2)) (k0_pay5 (View.ld x2 r0_0) (View.ld x4 r0_1) (View.ld x1 r0_2) (View.ld x0 r0_2)) (View.ld x3 r0_3) (View.ld x5 r0_4)⟩]

/-- Its stores tile the buffer (checked by evaluation), so they cover it. -/
theorem cover0_23 (p0 : Vec F S32x1x64 .f32) (p1 : Vec F S32x1x64 .f32) (p2 : Vec F S32x1x64 .f32) (p3 : Vec F S32x1x64 .f32) (y : S32x4x64.Idx) :
    ∃ pc ∈ ([⟨r0_15, p0⟩, ⟨r0_11, p1⟩, ⟨r0_7, p2⟩, ⟨r0_3, p3⟩] : List (View.Piece (Elt F) S32x4x64 .f32)), y ∈ pc.1.set :=
  View.cover_of_tiled [⟨r0_15, p0⟩, ⟨r0_11, p1⟩, ⟨r0_7, p2⟩, ⟨r0_3, p3⟩] S32x1x64.size (by rfl) y

/-- Window 24's staging buffer after the body, from the input windows' blocks: its 4 stores as pieces, LAST
    FIRST (Lib/Pipeline/FrameBody.lean `View.canon`; the payloads are the skeleton's and the values stated above). -/
def out0_24 (x0 : Vec F S32x4x64x1 .f32) (x1 : Vec F S32x4x64x1 .f32) (x2 : Vec F S32x4x1x64 .f32) (x3 : Vec F S32x4x64 .f32) (x4 : Vec F S32x4x64x64 .f32) (x5 : Vec F S4x1x64 .f32) (x6 : Vec F S32x4x32x1 .f32) (x7 : Vec F S32x4x32x1 .f32) (x8 : Vec F S32x4x32x1 .f32) (x9 : Vec F S32x4x1x64 .f32) (x10 : Vec F S32x4x64 .f32) (x11 : Vec F S32x4x32x64 .f32) (x12 : Vec F S4x1x64 .f32) (x13 : Vec F S32x256 .f32) (x14 : Vec F S32x1024 .f32) (x15 : Vec F S32x1024 .f32) (x16 : Vec F S1x1024 .f32) (x17 : Vec F S1x1024 .f32) (x18 : Vec F S256x2048 .bf16) (x19 : Vec F S2048x256 .bf16) (x20 : Vec F S1x256 .f32) (x21 : Vec F S256x256 .bf16) (x22 : Vec F S1x256 .f32) : Vec F S32x4x64x64 .f32 :=
  View.canon [⟨r0_13, k0_pay18 (k0_pay58 x0 x1 x2 x3 x4 x5 x6 x7 x8 x9 x10 x11 x12 x13 x14 x15 x16 x17 x18 x19 x20 x21 x22)⟩,
    ⟨r0_9, k0_pay13 (k0_pay56 x0 x1 x2 x3 x4 x5 x6 x7 x8 x9 x10 x11 x12 x13 x14 x15 x16 x17 x18 x19 x20 x21 x22) (View.ld x4 r0_9) (View.ld x1 r0_10)⟩,
    ⟨r0_5, k0_pay8 (k0_pay57 x0 x1 x2 x3 x4 x5 x6 x7 x8 x9 x10 x11 x12 x13 x14 x15 x16 x17 x18 x19 x20 x21 x22)⟩,
    ⟨r0_1, k0_pay3 (View.ld x2 r0_0) (View.ld x4 r0_1) (View.ld x1 r0_2)⟩]

/-- Its stores tile the buffer (checked by evaluation), so they cover it. -/
theorem cover0_24 (p0 : Vec F S32x1x64x64 .f32) (p1 : Vec F S32x1x64x64 .f32) (p2 : Vec F S32x1x64x64 .f32) (p3 : Vec F S32x1x64x64 .f32) (y : S32x4x64x64.Idx) :
    ∃ pc ∈ ([⟨r0_13, p0⟩, ⟨r0_9, p1⟩, ⟨r0_5, p2⟩, ⟨r0_1, p3⟩] : List (View.Piece (Elt F) S32x4x64x64 .f32)), y ∈ pc.1.set :=
  View.cover_of_tiled [⟨r0_13, p0⟩, ⟨r0_9, p1⟩, ⟨r0_5, p2⟩, ⟨r0_1, p3⟩] S32x1x64x64.size (by rfl) y

/-- Window 25's staging buffer after the body, from the input windows' blocks: its 4 stores as pieces, LAST
    FIRST (Lib/Pipeline/FrameBody.lean `View.canon`; the payloads are the skeleton's and the values stated above). -/
def out0_25 (x0 : Vec F S32x4x64x1 .f32) (x1 : Vec F S32x4x64x1 .f32) (x2 : Vec F S32x4x1x64 .f32) (x3 : Vec F S32x4x64 .f32) (x4 : Vec F S32x4x64x64 .f32) (x5 : Vec F S4x1x64 .f32) (x6 : Vec F S32x4x32x1 .f32) (x7 : Vec F S32x4x32x1 .f32) (x8 : Vec F S32x4x32x1 .f32) (x9 : Vec F S32x4x1x64 .f32) (x10 : Vec F S32x4x64 .f32) (x11 : Vec F S32x4x32x64 .f32) (x12 : Vec F S4x1x64 .f32) (x13 : Vec F S32x256 .f32) (x14 : Vec F S32x1024 .f32) (x15 : Vec F S32x1024 .f32) (x16 : Vec F S1x1024 .f32) (x17 : Vec F S1x1024 .f32) (x18 : Vec F S256x2048 .bf16) (x19 : Vec F S2048x256 .bf16) (x20 : Vec F S1x256 .f32) (x21 : Vec F S256x256 .bf16) (x22 : Vec F S1x256 .f32) : Vec F S32x4x64 .f32 :=
  View.canon [⟨r0_15, k0_pay47 (k0_pay44 (View.ld x10 r0_15)) (k0_pay45 (k0_pay59 x0 x1 x2 x3 x4 x5 x6 x7 x8 x9 x10 x11 x12 x13 x14 x15 x16 x17 x18 x19 x20 x21 x22) (k0_pay61 x0 x1 x2 x3 x4 x5 x6 x7 x8 x9 x10 x11 x12 x13 x14 x15 x16 x17 x18 x19 x20 x21 x22) (View.ld x7 r0_23) (View.ld x6 r0_23) (View.ld x12 r0_16)) (k0_pay46 (View.ld x10 r0_15))⟩,
    ⟨r0_11, k0_pay40 (k0_pay38 (k0_pay59 x0 x1 x2 x3 x4 x5 x6 x7 x8 x9 x10 x11 x12 x13 x14 x15 x16 x17 x18 x19 x20 x21 x22) (View.ld x8 r0_21) (View.ld x11 r0_22) (View.ld x7 r0_21) (View.ld x6 r0_21)) (k0_pay39 (k0_pay59 x0 x1 x2 x3 x4 x5 x6 x7 x8 x9 x10 x11 x12 x13 x14 x15 x16 x17 x18 x19 x20 x21 x22) (View.ld x8 r0_21) (View.ld x11 r0_22) (View.ld x7 r0_21) (View.ld x6 r0_21)) (View.ld x10 r0_11) (View.ld x12 r0_12)⟩,
    ⟨r0_7, k0_pay35 (k0_pay32 (View.ld x10 r0_7)) (k0_pay33 (k0_pay59 x0 x1 x2 x3 x4 x5 x6 x7 x8 x9 x10 x11 x12 x13 x14 x15 x16 x17 x18 x19 x20 x21 x22) (k0_pay60 x0 x1 x2 x3 x4 x5 x6 x7 x8 x9 x10 x11 x12 x13 x14 x15 x16 x17 x18 x19 x20 x21 x22) (View.ld x7 r0_19) (View.ld x6 r0_19) (View.ld x12 r0_8)) (k0_pay34 (View.ld x10 r0_7)) (Scalar.ofBits .f32 0x3F800000#32)⟩,
    ⟨r0_3, k0_pay28 (k0_pay27 (View.ld x9 r0_0) (View.ld x8 r0_17) (View.ld x11 r0_18) (View.ld x7 r0_17) (View.ld x6 r0_17)) (View.ld x10 r0_3) (View.ld x12 r0_4)⟩]

/-- Its stores tile the buffer (checked by evaluation), so they cover it. -/
theorem cover0_25 (p0 : Vec F S32x1x64 .f32) (p1 : Vec F S32x1x64 .f32) (p2 : Vec F S32x1x64 .f32) (p3 : Vec F S32x1x64 .f32) (y : S32x4x64.Idx) :
    ∃ pc ∈ ([⟨r0_15, p0⟩, ⟨r0_11, p1⟩, ⟨r0_7, p2⟩, ⟨r0_3, p3⟩] : List (View.Piece (Elt F) S32x4x64 .f32)), y ∈ pc.1.set :=
  View.cover_of_tiled [⟨r0_15, p0⟩, ⟨r0_11, p1⟩, ⟨r0_7, p2⟩, ⟨r0_3, p3⟩] S32x1x64.size (by rfl) y

/-- Window 26's staging buffer after the body, from the input windows' blocks: its 4 stores as pieces, LAST
    FIRST (Lib/Pipeline/FrameBody.lean `View.canon`; the payloads are the skeleton's and the values stated above). -/
def out0_26 (x0 : Vec F S32x4x64x1 .f32) (x1 : Vec F S32x4x64x1 .f32) (x2 : Vec F S32x4x1x64 .f32) (x3 : Vec F S32x4x64 .f32) (x4 : Vec F S32x4x64x64 .f32) (x5 : Vec F S4x1x64 .f32) (x6 : Vec F S32x4x32x1 .f32) (x7 : Vec F S32x4x32x1 .f32) (x8 : Vec F S32x4x32x1 .f32) (x9 : Vec F S32x4x1x64 .f32) (x10 : Vec F S32x4x64 .f32) (x11 : Vec F S32x4x32x64 .f32) (x12 : Vec F S4x1x64 .f32) (x13 : Vec F S32x256 .f32) (x14 : Vec F S32x1024 .f32) (x15 : Vec F S32x1024 .f32) (x16 : Vec F S1x1024 .f32) (x17 : Vec F S1x1024 .f32) (x18 : Vec F S256x2048 .bf16) (x19 : Vec F S2048x256 .bf16) (x20 : Vec F S1x256 .f32) (x21 : Vec F S256x256 .bf16) (x22 : Vec F S1x256 .f32) : Vec F S32x4x32x64 .f32 :=
  View.canon [⟨r0_24, k0_pay43 (k0_pay59 x0 x1 x2 x3 x4 x5 x6 x7 x8 x9 x10 x11 x12 x13 x14 x15 x16 x17 x18 x19 x20 x21 x22) (k0_pay61 x0 x1 x2 x3 x4 x5 x6 x7 x8 x9 x10 x11 x12 x13 x14 x15 x16 x17 x18 x19 x20 x21 x22) (View.ld x7 r0_23)⟩,
    ⟨r0_22, k0_pay37 (k0_pay59 x0 x1 x2 x3 x4 x5 x6 x7 x8 x9 x10 x11 x12 x13 x14 x15 x16 x17 x18 x19 x20 x21 x22) (View.ld x8 r0_21) (View.ld x11 r0_22) (View.ld x7 r0_21)⟩,
    ⟨r0_20, k0_pay31 (k0_pay59 x0 x1 x2 x3 x4 x5 x6 x7 x8 x9 x10 x11 x12 x13 x14 x15 x16 x17 x18 x19 x20 x21 x22) (k0_pay60 x0 x1 x2 x3 x4 x5 x6 x7 x8 x9 x10 x11 x12 x13 x14 x15 x16 x17 x18 x19 x20 x21 x22) (View.ld x7 r0_19)⟩,
    ⟨r0_18, k0_pay26 (View.ld x9 r0_0) (View.ld x8 r0_17) (View.ld x11 r0_18) (View.ld x7 r0_17)⟩]

/-- Its stores tile the buffer (checked by evaluation), so they cover it. -/
theorem cover0_26 (p0 : Vec F S32x1x32x64 .f32) (p1 : Vec F S32x1x32x64 .f32) (p2 : Vec F S32x1x32x64 .f32) (p3 : Vec F S32x1x32x64 .f32) (y : S32x4x32x64.Idx) :
    ∃ pc ∈ ([⟨r0_24, p0⟩, ⟨r0_22, p1⟩, ⟨r0_20, p2⟩, ⟨r0_18, p3⟩] : List (View.Piece (Elt F) S32x4x32x64 .f32)), y ∈ pc.1.set :=
  View.cover_of_tiled [⟨r0_24, p0⟩, ⟨r0_22, p1⟩, ⟨r0_20, p2⟩, ⟨r0_18, p3⟩] S32x1x32x64.size (by rfl) y

/-- Window 27's staging buffer after the body, from the input windows' blocks: its 1 store as pieces, LAST
    FIRST (Lib/Pipeline/FrameBody.lean `View.canon`; the payloads are the skeleton's and the values stated above). -/
def out0_27 (x0 : Vec F S32x4x64x1 .f32) (x1 : Vec F S32x4x64x1 .f32) (x2 : Vec F S32x4x1x64 .f32) (x3 : Vec F S32x4x64 .f32) (x4 : Vec F S32x4x64x64 .f32) (x5 : Vec F S4x1x64 .f32) (x6 : Vec F S32x4x32x1 .f32) (x7 : Vec F S32x4x32x1 .f32) (x8 : Vec F S32x4x32x1 .f32) (x9 : Vec F S32x4x1x64 .f32) (x10 : Vec F S32x4x64 .f32) (x11 : Vec F S32x4x32x64 .f32) (x12 : Vec F S4x1x64 .f32) (x13 : Vec F S32x256 .f32) (x14 : Vec F S32x1024 .f32) (x15 : Vec F S32x1024 .f32) (x16 : Vec F S1x1024 .f32) (x17 : Vec F S1x1024 .f32) (x18 : Vec F S256x2048 .bf16) (x19 : Vec F S2048x256 .bf16) (x20 : Vec F S1x256 .f32) (x21 : Vec F S256x256 .bf16) (x22 : Vec F S1x256 .f32) : Vec F S32x256 .f32 :=
  View.canon [⟨r0_25, k0_pay55 (View.ld x13 r0_25) (k0_pay53 (View.ld x13 r0_25) (View.ld x18 r0_26) (View.ld x16 r0_27) (View.ld x17 r0_27) (View.ld x14 r0_28) (View.ld x15 r0_28)) (k0_pay54 (View.ld x13 r0_25) (View.ld x18 r0_26) (View.ld x16 r0_27) (View.ld x17 r0_27) (View.ld x14 r0_28) (View.ld x15 r0_28)) (View.ld x19 r0_29) (View.ld x20 r0_30) (View.ld x21 r0_31) (View.ld x22 r0_30)⟩]

/-- Its stores tile the buffer (checked by evaluation), so they cover it. -/
theorem cover0_27 (p0 : Vec F S32x256 .f32) (y : S32x256.Idx) :
    ∃ pc ∈ ([⟨r0_25, p0⟩] : List (View.Piece (Elt F) S32x256 .f32)), y ∈ pc.1.set :=
  View.cover_of_tiled [⟨r0_25, p0⟩] S32x256.size (by rfl) y

/-- Window 28's staging buffer after the body, from the input windows' blocks: its 1 store as pieces, LAST
    FIRST (Lib/Pipeline/FrameBody.lean `View.canon`; the payloads are the skeleton's and the values stated above). -/
def out0_28 (x0 : Vec F S32x4x64x1 .f32) (x1 : Vec F S32x4x64x1 .f32) (x2 : Vec F S32x4x1x64 .f32) (x3 : Vec F S32x4x64 .f32) (x4 : Vec F S32x4x64x64 .f32) (x5 : Vec F S4x1x64 .f32) (x6 : Vec F S32x4x32x1 .f32) (x7 : Vec F S32x4x32x1 .f32) (x8 : Vec F S32x4x32x1 .f32) (x9 : Vec F S32x4x1x64 .f32) (x10 : Vec F S32x4x64 .f32) (x11 : Vec F S32x4x32x64 .f32) (x12 : Vec F S4x1x64 .f32) (x13 : Vec F S32x256 .f32) (x14 : Vec F S32x1024 .f32) (x15 : Vec F S32x1024 .f32) (x16 : Vec F S1x1024 .f32) (x17 : Vec F S1x1024 .f32) (x18 : Vec F S256x2048 .bf16) (x19 : Vec F S2048x256 .bf16) (x20 : Vec F S1x256 .f32) (x21 : Vec F S256x256 .bf16) (x22 : Vec F S1x256 .f32) : Vec F S32x1024 .f32 :=
  View.canon [⟨r0_28, k0_pay53 (View.ld x13 r0_25) (View.ld x18 r0_26) (View.ld x16 r0_27) (View.ld x17 r0_27) (View.ld x14 r0_28) (View.ld x15 r0_28)⟩]

/-- Its stores tile the buffer (checked by evaluation), so they cover it. -/
theorem cover0_28 (p0 : Vec F S32x1024 .f32) (y : S32x1024.Idx) :
    ∃ pc ∈ ([⟨r0_28, p0⟩] : List (View.Piece (Elt F) S32x1024 .f32)), y ∈ pc.1.set :=
  View.cover_of_tiled [⟨r0_28, p0⟩] S32x1024.size (by rfl) y

/-- Window 29's staging buffer after the body, from the input windows' blocks: its 1 store as pieces, LAST
    FIRST (Lib/Pipeline/FrameBody.lean `View.canon`; the payloads are the skeleton's and the values stated above). -/
def out0_29 (x0 : Vec F S32x4x64x1 .f32) (x1 : Vec F S32x4x64x1 .f32) (x2 : Vec F S32x4x1x64 .f32) (x3 : Vec F S32x4x64 .f32) (x4 : Vec F S32x4x64x64 .f32) (x5 : Vec F S4x1x64 .f32) (x6 : Vec F S32x4x32x1 .f32) (x7 : Vec F S32x4x32x1 .f32) (x8 : Vec F S32x4x32x1 .f32) (x9 : Vec F S32x4x1x64 .f32) (x10 : Vec F S32x4x64 .f32) (x11 : Vec F S32x4x32x64 .f32) (x12 : Vec F S4x1x64 .f32) (x13 : Vec F S32x256 .f32) (x14 : Vec F S32x1024 .f32) (x15 : Vec F S32x1024 .f32) (x16 : Vec F S1x1024 .f32) (x17 : Vec F S1x1024 .f32) (x18 : Vec F S256x2048 .bf16) (x19 : Vec F S2048x256 .bf16) (x20 : Vec F S1x256 .f32) (x21 : Vec F S256x256 .bf16) (x22 : Vec F S1x256 .f32) : Vec F S32x1024 .f32 :=
  View.canon [⟨r0_28, k0_pay54 (View.ld x13 r0_25) (View.ld x18 r0_26) (View.ld x16 r0_27) (View.ld x17 r0_27) (View.ld x14 r0_28) (View.ld x15 r0_28)⟩]

/-- Its stores tile the buffer (checked by evaluation), so they cover it. -/
theorem cover0_29 (p0 : Vec F S32x1024 .f32) (y : S32x1024.Idx) :
    ∃ pc ∈ ([⟨r0_28, p0⟩] : List (View.Piece (Elt F) S32x1024 .f32)), y ∈ pc.1.set :=
  View.cover_of_tiled [⟨r0_28, p0⟩] S32x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S32x4x64x1 .f32) (harg0 : arg0.IsWhole) (arg1 : Memref sig .tc .vmem S32x4x64x1 .f32) (harg1 : arg1.IsWhole) (arg2 : Memref sig .tc .vmem S32x4x1x64 .f32) (harg2 : arg2.IsWhole) (arg3 : Memref sig .tc .vmem S32x4x64 .f32) (harg3 : arg3.IsWhole) (arg4 : Memref sig .tc .vmem S32x4x64x64 .f32) (harg4 : arg4.IsWhole) (arg5 : Memref sig .tc .vmem S4x1x64 .f32) (harg5 : arg5.IsWhole) (arg6 : Memref sig .tc .vmem S32x4x32x1 .f32) (harg6 : arg6.IsWhole) (arg7 : Memref sig .tc .vmem S32x4x32x1 .f32) (harg7 : arg7.IsWhole) (arg8 : Memref sig .tc .vmem S32x4x32x1 .f32) (harg8 : arg8.IsWhole) (arg9 : Memref sig .tc .vmem S32x4x1x64 .f32) (harg9 : arg9.IsWhole) (arg10 : Memref sig .tc .vmem S32x4x64 .f32) (harg10 : arg10.IsWhole) (arg11 : Memref sig .tc .vmem S32x4x32x64 .f32) (harg11 : arg11.IsWhole) (arg12 : Memref sig .tc .vmem S4x1x64 .f32) (harg12 : arg12.IsWhole) (arg13 : Memref sig .tc .vmem S32x256 .f32) (harg13 : arg13.IsWhole) (arg14 : Memref sig .tc .vmem S32x1024 .f32) (harg14 : arg14.IsWhole) (arg15 : Memref sig .tc .vmem S32x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S256x2048 .bf16) (harg18 : arg18.IsWhole) (arg19 : Memref sig .tc .vmem S2048x256 .bf16) (harg19 : arg19.IsWhole) (arg20 : Memref sig .tc .vmem S1x256 .f32) (harg20 : arg20.IsWhole) (arg21 : Memref sig .tc .vmem S256x256 .bf16) (harg21 : arg21.IsWhole) (arg22 : Memref sig .tc .vmem S1x256 .f32) (harg22 : arg22.IsWhole) (arg23 : Memref sig .tc .vmem S32x4x64 .f32) (harg23 : arg23.IsWhole) (arg24 : Memref sig .tc .vmem S32x4x64x64 .f32) (harg24 : arg24.IsWhole) (arg25 : Memref sig .tc .vmem S32x4x64 .f32) (harg25 : arg25.IsWhole) (arg26 : Memref sig .tc .vmem S32x4x32x64 .f32) (harg26 : arg26.IsWhole) (arg27 : Memref sig .tc .vmem S32x256 .f32) (harg27 : arg27.IsWhole) (arg28 : Memref sig .tc .vmem S32x1024 .f32) (harg28 : arg28.IsWhole) (arg29 : Memref sig .tc .vmem S32x1024 .f32) (harg29 : arg29.IsWhole)
    (x0 : Vec F S32x4x64x1 .f32) (x1 : Vec F S32x4x64x1 .f32) (x2 : Vec F S32x4x1x64 .f32) (x3 : Vec F S32x4x64 .f32) (x4 : Vec F S32x4x64x64 .f32) (x5 : Vec F S4x1x64 .f32) (x6 : Vec F S32x4x32x1 .f32) (x7 : Vec F S32x4x32x1 .f32) (x8 : Vec F S32x4x32x1 .f32) (x9 : Vec F S32x4x1x64 .f32) (x10 : Vec F S32x4x64 .f32) (x11 : Vec F S32x4x32x64 .f32) (x12 : Vec F S4x1x64 .f32) (x13 : Vec F S32x256 .f32) (x14 : Vec F S32x1024 .f32) (x15 : Vec F S32x1024 .f32) (x16 : Vec F S1x1024 .f32) (x17 : Vec F S1x1024 .f32) (x18 : Vec F S256x2048 .bf16) (x19 : Vec F S2048x256 .bf16) (x20 : Vec F S1x256 .f32) (x21 : Vec F S256x256 .bf16) (x22 : Vec F S1x256 .f32) (K : PUnit → sProp (MT nD τ sig Unit (Elt F) ℕ (UR sig nD τ) ℕ)) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare (out0_23 x0 x1 x2 x3 x4 x5 x6 x7 x8 x9 x10 x11 x12 x13 x14 x15 x16 x17 x18 x19 x20 x21 x22) ∗ owns (c : Thread nD τ) arg24 fullShare (out0_24 x0 x1 x2 x3 x4 x5 x6 x7 x8 x9 x10 x11 x12 x13 x14 x15 x16 x17 x18 x19 x20 x21 x22) ∗ owns (c : Thread nD τ) arg25 fullShare (out0_25 x0 x1 x2 x3 x4 x5 x6 x7 x8 x9 x10 x11 x12 x13 x14 x15 x16 x17 x18 x19 x20 x21 x22) ∗ owns (c : Thread nD τ) arg26 fullShare (out0_26 x0 x1 x2 x3 x4 x5 x6 x7 x8 x9 x10 x11 x12 x13 x14 x15 x16 x17 x18 x19 x20 x21 x22) ∗ owns (c : Thread nD τ) arg27 fullShare (out0_27 x0 x1 x2 x3 x4 x5 x6 x7 x8 x9 x10 x11 x12 x13 x14 x15 x16 x17 x18 x19 x20 x21 x22) ∗ owns (c : Thread nD τ) arg28 fullShare (out0_28 x0 x1 x2 x3 x4 x5 x6 x7 x8 x9 x10 x11 x12 x13 x14 x15 x16 x17 x18 x19 x20 x21 x22) ∗ owns (c : Thread nD τ) arg29 fullShare (out0_29 x0 x1 x2 x3 x4 x5 x6 x7 x8 x9 x10 x11 x12 x13 x14 x15 x16 x17 x18 x19 x20 x21 x22)) -∗ K ⟨⟩))
      ⊢ wp frame (wpE (defs₀ (F := F)) Variants.none c none) E (cc0__sample_mix_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0__sample_mix_kernel_eq_skeleton]; unfold cc0__sample_mix_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists _; isplitr
    swap; · iexact H23
    ipureintro
    refine (View.read_writes_eq_canon _ _ _ (cover0_23 _ _ _ _)).trans ?_
    rfl
  isplitl [H24]
  · iexists _; isplitr
    swap; · iexact H24
    ipureintro
    refine (View.read_writes_eq_canon _ _ _ (cover0_24 _ _ _ _)).trans ?_
    rfl
  isplitl [H25]
  · iexists _; isplitr
    swap; · iexact H25
    ipureintro
    refine (View.read_writes_eq_canon _ _ _ (cover0_25 _ _ _ _)).trans ?_
    rfl
  isplitl [H26]
  · iexists _; isplitr
    swap; · iexact H26
    ipureintro
    refine (View.read_writes_eq_canon _ _ _ (cover0_26 _ _ _ _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  iexists _; isplitr
  swap; · iexact H29
  ipureintro
  refine (View.read_writes_eq_canon _ _ _ (cover0_29 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨_ + 30, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t))

set_option maxHeartbeats 8000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

set_option maxHeartbeats 8000000 in
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- THE FRAME: `Cert.quiescent_MixIdeal`'s statement (Defs.lean) at any `F` — Proof.lean cites it at `Bits`:
    `theorem Cert.Proof.claim : Cert.Claim := ⟨Cert.MixIdeal.Gen.facts, fun m ρ _ => Cert.MixIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.MixIdeal.Gen

end
-- ==== Proof.Mix.MixIdealValue.lean ====
/- The arrays after the run of `MixIdeal`: each result is what the region writes there, each argument is unchanged. -/
module

public import proofs.«01_k».proof.Proof.Mix.MixIdealFrame
public import Idealize.ShloMosaic.Lib.Pipeline.Value

@[expose] public section

noncomputable section

namespace Cert.MixIdeal.Value

open Cert.MixIdeal Cert.MixIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 23's array: the body's result for that window (`Gen.out0_23`: its stores
    as pieces over the input windows' blocks), read through the window's block. -/
theorem flushed23 (c : Dev nD) (t : Fin cfg0.N) :
    (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  show (cfg0.win 23).cut (grid0.coords t) ((dats m 0 c).after 23 t) = _
  rw [after0_23]

/-- The index map sends distinct grid points to distinct block indices (decided over the 1 point). -/
theorem idx_inj23 : ∀ t t' : Fin cfg0.N, win0_23.index t = win0_23.index t' → t = t' :=
  (by decide +kernel : ∀ t t' : Fin grid0.N, win0_23.index t = win0_23.index t' → t = t')

/-- So two flushing points' blocks share no array index (Lib/Pipeline/Cells.lean `Window.disjoint_blk`). -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- BLOCK `t` OF THE FINAL ARRAY, read back through the window, is what point `t` wrote back (`flushed23`), for every
    point that writes back: no other point's block meets it. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- An index that no flushing point's block covers keeps output window 23's array contents at region entry. -/
theorem entry23 (c : Dev nD) (i : S32x4x64.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- WHAT POINT `t` WRITES BACK to output window 24's array: the body's result for that window (`Gen.out0_24`: its stores
    as pieces over the input windows' blocks), read through the window's block. -/
theorem flushed24 (c : Dev nD) (t : Fin cfg0.N) :
    (dats m 0 c).flushed 24 t = (cfg0.win 24).cut (grid0.coords t) (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  show (cfg0.win 24).cut (grid0.coords t) ((dats m 0 c).after 24 t) = _
  rw [after0_24]

/-- The index map sends distinct grid points to distinct block indices (decided over the 1 point). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S32x4x64x64.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- WHAT POINT `t` WRITES BACK to output window 25's array: the body's result for that window (`Gen.out0_25`: its stores
    as pieces over the input windows' blocks), read through the window's block. -/
theorem flushed25 (c : Dev nD) (t : Fin cfg0.N) :
    (dats m 0 c).flushed 25 t = (cfg0.win 25).cut (grid0.coords t) (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  show (cfg0.win 25).cut (grid0.coords t) ((dats m 0 c).after 25 t) = _
  rw [after0_25]

/-- The index map sends distinct grid points to distinct block indices (decided over the 1 point). -/
theorem idx_inj25 : ∀ t t' : Fin cfg0.N, win0_25.index t = win0_25.index t' → t = t' :=
  (by decide +kernel : ∀ t t' : Fin grid0.N, win0_25.index t = win0_25.index t' → t = t')

/-- So two flushing points' blocks share no array index (Lib/Pipeline/Cells.lean `Window.disjoint_blk`). -/
theorem disjoint25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne (idx_inj25 t t' h)

/-- BLOCK `t` OF THE FINAL ARRAY, read back through the window, is what point `t` wrote back (`flushed25`), for every
    point that writes back: no other point's block meets it. -/
theorem blocks25 (c : Dev nD) (t : Fin cfg0.N) (hf : (cfg0.win 25).flush t = true) :
    ((cfg0.win 25).blk t).view.read (Elt F) ((dats m 0 c).arrAt 25 cfg0.N) = (dats m 0 c).flushed 25 t :=
  (dats m 0 c).read_blk_arrAt_eq_flushed 25 disjoint25 cfg0.N t t.isLt hf

/-- An index that no flushing point's block covers keeps output window 25's array contents at region entry. -/
theorem entry25 (c : Dev nD) (i : S32x4x64.Idx) (h : ∀ t : Fin cfg0.N, (cfg0.win 25).flush t = true → i ∉ ((cfg0.win 25).blk t).view.set) :
    (dats m 0 c).arrAt 25 cfg0.N i = V m c (Pipeline.arrRef spec0 25) i := by
  rw [(dats m 0 c).arrAt_apply_of_forall_not_mem 25 cfg0.N i (fun t _ hf => h t hf), A_eq]

/-- WHAT POINT `t` WRITES BACK to output window 26's array: the body's result for that window (`Gen.out0_26`: its stores
    as pieces over the input windows' blocks), read through the window's block. -/
theorem flushed26 (c : Dev nD) (t : Fin cfg0.N) :
    (dats m 0 c).flushed 26 t = (cfg0.win 26).cut (grid0.coords t) (out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  show (cfg0.win 26).cut (grid0.coords t) ((dats m 0 c).after 26 t) = _
  rw [after0_26]

/-- The index map sends distinct grid points to distinct block indices (decided over the 1 point). -/
theorem idx_inj26 : ∀ t t' : Fin cfg0.N, win0_26.index t = win0_26.index t' → t = t' :=
  (by decide +kernel : ∀ t t' : Fin grid0.N, win0_26.index t = win0_26.index t' → t = t')

/-- So two flushing points' blocks share no array index (Lib/Pipeline/Cells.lean `Window.disjoint_blk`). -/
theorem disjoint26 : ∀ t t' : Fin cfg0.N, (cfg0.win 26).flush t = true → (cfg0.win 26).flush t' = true → t ≠ t' →
    Disjoint ((cfg0.win 26).blk t).view.set ((cfg0.win 26).blk t').view.set :=
  fun t t' _ _ hne => (cfg0.win 26).disjoint_blk fun h => hne (idx_inj26 t t' h)

/-- BLOCK `t` OF THE FINAL ARRAY, read back through the window, is what point `t` wrote back (`flushed26`), for every
    point that writes back: no other point's block meets it. -/
theorem blocks26 (c : Dev nD) (t : Fin cfg0.N) (hf : (cfg0.win 26).flush t = true) :
    ((cfg0.win 26).blk t).view.read (Elt F) ((dats m 0 c).arrAt 26 cfg0.N) = (dats m 0 c).flushed 26 t :=
  (dats m 0 c).read_blk_arrAt_eq_flushed 26 disjoint26 cfg0.N t t.isLt hf

/-- An index that no flushing point's block covers keeps output window 26's array contents at region entry. -/
theorem entry26 (c : Dev nD) (i : S32x4x32x64.Idx) (h : ∀ t : Fin cfg0.N, (cfg0.win 26).flush t = true → i ∉ ((cfg0.win 26).blk t).view.set) :
    (dats m 0 c).arrAt 26 cfg0.N i = V m c (Pipeline.arrRef spec0 26) i := by
  rw [(dats m 0 c).arrAt_apply_of_forall_not_mem 26 cfg0.N i (fun t _ hf => h t hf), A_eq]

/-- WHAT POINT `t` WRITES BACK to output window 27's array: the body's result for that window (`Gen.out0_27`: its stores
    as pieces over the input windows' blocks), read through the window's block. -/
theorem flushed27 (c : Dev nD) (t : Fin cfg0.N) :
    (dats m 0 c).flushed 27 t = (cfg0.win 27).cut (grid0.coords t) (out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  show (cfg0.win 27).cut (grid0.coords t) ((dats m 0 c).after 27 t) = _
  rw [after0_27]

/-- The index map sends distinct grid points to distinct block indices (decided over the 1 point). -/
theorem idx_inj27 : ∀ t t' : Fin cfg0.N, win0_27.index t = win0_27.index t' → t = t' :=
  (by decide +kernel : ∀ t t' : Fin grid0.N, win0_27.index t = win0_27.index t' → t = t')

/-- So two flushing points' blocks share no array index (Lib/Pipeline/Cells.lean `Window.disjoint_blk`). -/
theorem disjoint27 : ∀ t t' : Fin cfg0.N, (cfg0.win 27).flush t = true → (cfg0.win 27).flush t' = true → t ≠ t' →
    Disjoint ((cfg0.win 27).blk t).view.set ((cfg0.win 27).blk t').view.set :=
  fun t t' _ _ hne => (cfg0.win 27).disjoint_blk fun h => hne (idx_inj27 t t' h)

/-- BLOCK `t` OF THE FINAL ARRAY, read back through the window, is what point `t` wrote back (`flushed27`), for every
    point that writes back: no other point's block meets it. -/
theorem blocks27 (c : Dev nD) (t : Fin cfg0.N) (hf : (cfg0.win 27).flush t = true) :
    ((cfg0.win 27).blk t).view.read (Elt F) ((dats m 0 c).arrAt 27 cfg0.N) = (dats m 0 c).flushed 27 t :=
  (dats m 0 c).read_blk_arrAt_eq_flushed 27 disjoint27 cfg0.N t t.isLt hf

/-- An index that no flushing point's block covers keeps output window 27's array contents at region entry. -/
theorem entry27 (c : Dev nD) (i : S32x256.Idx) (h : ∀ t : Fin cfg0.N, (cfg0.win 27).flush t = true → i ∉ ((cfg0.win 27).blk t).view.set) :
    (dats m 0 c).arrAt 27 cfg0.N i = V m c (Pipeline.arrRef spec0 27) i := by
  rw [(dats m 0 c).arrAt_apply_of_forall_not_mem 27 cfg0.N i (fun t _ hf => h t hf), A_eq]

/-- WHAT POINT `t` WRITES BACK to output window 28's array: the body's result for that window (`Gen.out0_28`: its stores
    as pieces over the input windows' blocks), read through the window's block. -/
theorem flushed28 (c : Dev nD) (t : Fin cfg0.N) :
    (dats m 0 c).flushed 28 t = (cfg0.win 28).cut (grid0.coords t) (out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  show (cfg0.win 28).cut (grid0.coords t) ((dats m 0 c).after 28 t) = _
  rw [after0_28]

/-- The index map sends distinct grid points to distinct block indices (decided over the 1 point). -/
theorem idx_inj28 : ∀ t t' : Fin cfg0.N, win0_28.index t = win0_28.index t' → t = t' :=
  (by decide +kernel : ∀ t t' : Fin grid0.N, win0_28.index t = win0_28.index t' → t = t')

/-- So two flushing points' blocks share no array index (Lib/Pipeline/Cells.lean `Window.disjoint_blk`). -/
theorem disjoint28 : ∀ t t' : Fin cfg0.N, (cfg0.win 28).flush t = true → (cfg0.win 28).flush t' = true → t ≠ t' →
    Disjoint ((cfg0.win 28).blk t).view.set ((cfg0.win 28).blk t').view.set :=
  fun t t' _ _ hne => (cfg0.win 28).disjoint_blk fun h => hne (idx_inj28 t t' h)

/-- BLOCK `t` OF THE FINAL ARRAY, read back through the window, is what point `t` wrote back (`flushed28`), for every
    point that writes back: no other point's block meets it. -/
theorem blocks28 (c : Dev nD) (t : Fin cfg0.N) (hf : (cfg0.win 28).flush t = true) :
    ((cfg0.win 28).blk t).view.read (Elt F) ((dats m 0 c).arrAt 28 cfg0.N) = (dats m 0 c).flushed 28 t :=
  (dats m 0 c).read_blk_arrAt_eq_flushed 28 disjoint28 cfg0.N t t.isLt hf

/-- An index that no flushing point's block covers keeps output window 28's array contents at region entry. -/
theorem entry28 (c : Dev nD) (i : S32x1024.Idx) (h : ∀ t : Fin cfg0.N, (cfg0.win 28).flush t = true → i ∉ ((cfg0.win 28).blk t).view.set) :
    (dats m 0 c).arrAt 28 cfg0.N i = V m c (Pipeline.arrRef spec0 28) i := by
  rw [(dats m 0 c).arrAt_apply_of_forall_not_mem 28 cfg0.N i (fun t _ hf => h t hf), A_eq]

/-- WHAT POINT `t` WRITES BACK to output window 29's array: the body's result for that window (`Gen.out0_29`: its stores
    as pieces over the input windows' blocks), read through the window's block. -/
theorem flushed29 (c : Dev nD) (t : Fin cfg0.N) :
    (dats m 0 c).flushed 29 t = (cfg0.win 29).cut (grid0.coords t) (out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  show (cfg0.win 29).cut (grid0.coords t) ((dats m 0 c).after 29 t) = _
  rw [after0_29]

/-- The index map sends distinct grid points to distinct block indices (decided over the 1 point). -/
theorem idx_inj29 : ∀ t t' : Fin cfg0.N, win0_29.index t = win0_29.index t' → t = t' :=
  (by decide +kernel : ∀ t t' : Fin grid0.N, win0_29.index t = win0_29.index t' → t = t')

/-- So two flushing points' blocks share no array index (Lib/Pipeline/Cells.lean `Window.disjoint_blk`). -/
theorem disjoint29 : ∀ t t' : Fin cfg0.N, (cfg0.win 29).flush t = true → (cfg0.win 29).flush t' = true → t ≠ t' →
    Disjoint ((cfg0.win 29).blk t).view.set ((cfg0.win 29).blk t').view.set :=
  fun t t' _ _ hne => (cfg0.win 29).disjoint_blk fun h => hne (idx_inj29 t t' h)

/-- BLOCK `t` OF THE FINAL ARRAY, read back through the window, is what point `t` wrote back (`flushed29`), for every
    point that writes back: no other point's block meets it. -/
theorem blocks29 (c : Dev nD) (t : Fin cfg0.N) (hf : (cfg0.win 29).flush t = true) :
    ((cfg0.win 29).blk t).view.read (Elt F) ((dats m 0 c).arrAt 29 cfg0.N) = (dats m 0 c).flushed 29 t :=
  (dats m 0 c).read_blk_arrAt_eq_flushed 29 disjoint29 cfg0.N t t.isLt hf

/-- An index that no flushing point's block covers keeps output window 29's array contents at region entry. -/
theorem entry29 (c : Dev nD) (i : S32x1024.Idx) (h : ∀ t : Fin cfg0.N, (cfg0.win 29).flush t = true → i ∉ ((cfg0.win 29).blk t).view.set) :
    (dats m 0 c).arrAt 29 cfg0.N i = V m c (Pipeline.arrRef spec0 29) i := by
  rw [(dats m 0 c).arrAt_apply_of_forall_not_mem 29 cfg0.N i (fun t _ hf => h t hf), A_eq]

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v83_0) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v83_1) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v83_2) = (dats m 0 c).arrAt 25 cfg0.N :=
  (h c).1 25

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v83_3) = (dats m 0 c).arrAt 26 cfg0.N :=
  (h c).1 26

/-- After the frame run, output window 27's array is `(dats m 0 c).arrAt 27 N`. -/
theorem post27 (r : PUnit × MemSt nD τ sig (Elt F)) (h : Pipeline.FramePost cfgs (dats m) 0 (V m) r) (c : Dev nD) :
    r.2.mem ((c : Thread nD τ).loc main_v83_4) = (dats m 0 c).arrAt 27 cfg0.N :=
  (h c).1 27

/-- After the frame run, output window 28's array is `(dats m 0 c).arrAt 28 N`. -/
theorem post28 (r : PUnit × MemSt nD τ sig (Elt F)) (h : Pipeline.FramePost cfgs (dats m) 0 (V m) r) (c : Dev nD) :
    r.2.mem ((c : Thread nD τ).loc main_v83_5) = (dats m 0 c).arrAt 28 cfg0.N :=
  (h c).1 28

/-- After the frame run, output window 29's array is `(dats m 0 c).arrAt 29 N`. -/
theorem post29 (r : PUnit × MemSt nD τ sig (Elt F)) (h : Pipeline.FramePost cfgs (dats m) 0 (V m) r) (c : Dev nD) :
    r.2.mem ((c : Thread nD τ).loc main_v83_6) = (dats m 0 c).arrAt 29 cfg0.N :=
  (h c).1 29

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 13 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 13).trans (((dats m 0 c).arrAt_in 13 rfl _).trans ((A_eq m c 13).trans (V_main_arg2 m c)))

/-- After the frame run, argument `main_arg3` is as launched: input window 4 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- After the frame run, argument `main_arg4` is as launched: input window 11 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 11).trans (((dats m 0 c).arrAt_in 11 rfl _).trans ((A_eq m c 11).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

set_option maxHeartbeats 230460 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v83_0) = (dats m 0 c).arrAt 23 cfg0.N
      ∧ r.2.mem ((c : Thread nD τ).loc main_v83_1) = (dats m 0 c).arrAt 24 cfg0.N
      ∧ r.2.mem ((c : Thread nD τ).loc main_v83_2) = (dats m 0 c).arrAt 25 cfg0.N
      ∧ r.2.mem ((c : Thread nD τ).loc main_v83_3) = (dats m 0 c).arrAt 26 cfg0.N
      ∧ r.2.mem ((c : Thread nD τ).loc main_v83_4) = (dats m 0 c).arrAt 27 cfg0.N
      ∧ r.2.mem ((c : Thread nD τ).loc main_v83_5) = (dats m 0 c).arrAt 28 cfg0.N
      ∧ r.2.mem ((c : Thread nD τ).loc main_v83_6) = (dats m 0 c).arrAt 29 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨post23 m r h c,
      post24 m r h c,
      post25 m r h c,
      post26 m r h c,
      post27 m r h c,
      post28 m r h c,
      post29 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c⟩)
    (run_main m ρ)

end Cert.MixIdeal.Value

end
-- ==== Proof.Mix.Spec.lean ====
/- The samples' three recurrent states after a token, element by element: what both programs compute. -/
module

public import Idealize.ShloMosaic.Lib.Pointwise

@[expose] public section

noncomputable section

namespace Cert.Mix.Spec

open Idealize.ShloMosaic

/-- The retention's decay of a head, as the kernel's constants have it. -/
def decay : Fin 4 → EReal :=
  ![Ideal.ofBits .f32 0x3F780000#32, Ideal.ofBits .f32 0x3F7C0000#32, Ideal.ofBits .f32 0x3F7E0000#32, Ideal.ofBits .f32 0x3F7F0000#32]

/-- The retention's state of a sample `i` and head `h`: decayed, plus the outer product of the token's key (its halves lie 128 columns
    apart) and value. -/
def ret (p : Fin 32 → Fin 1024 → EReal) (s : Fin 32 → Fin 4 → Fin 64 → Fin 64 → EReal) (i : Fin 32) (h : Fin 4) (d e : Fin 64) : EReal :=
  decay h * s i h d e + p i ⟨256 + (d.val / 32 * 128 + h.val * 32 + d.val % 32), by omega⟩ * p i ⟨512 + (h.val * 64 + e.val), by omega⟩

/-- The gated branch's state: decayed by the token's gates, plus the outer product of its key and value. -/
def gla (p : Fin 32 → Fin 896 → EReal) (s : Fin 32 → Fin 4 → Fin 32 → Fin 64 → EReal) (i : Fin 32) (h : Fin 4) (d : Fin 32) (e : Fin 64) : EReal :=
  Ideal.exp (p i ⟨768 + (h.val * 32 + d.val), by omega⟩) * s i h d e + p i ⟨640 + (h.val * 32 + d.val), by omega⟩ * p i ⟨h.val * 64 + e.val, by omega⟩

/-- What the token adds to a state of the state space branch: its group's channels against the group's row of the input matrix. -/
def drive (u : Fin 32 → Fin 256 → EReal) (b : Fin 16 → Fin 16 → Fin 64 → EReal) (i : Fin 32) (g : Fin 16) (q : Fin 64) : EReal :=
  ∑ k : Fin 16, b g k q * u i ⟨g.val * 16 + k.val, by omega⟩

/-- The real part of a state of the state space branch. -/
def re (u : Fin 32 → Fin 256 → EReal) (b : Fin 16 → Fin 16 → Fin 64 → EReal) (ar ai : Fin 16 → Fin 64 → EReal)
    (sr si : Fin 32 → Fin 16 → Fin 64 → EReal) (i : Fin 32) (g : Fin 16) (q : Fin 64) : EReal :=
  drive u b i g q + (ar g q * sr i g q - ai g q * si i g q)

/-- The imaginary part of a state of the state space branch. -/
def im (u : Fin 32 → Fin 256 → EReal) (b : Fin 16 → Fin 16 → Fin 64 → EReal) (ar ai : Fin 16 → Fin 64 → EReal)
    (sr si : Fin 32 → Fin 16 → Fin 64 → EReal) (i : Fin 32) (g : Fin 16) (q : Fin 64) : EReal :=
  drive u b i g q + (ar g q * si i g q + ai g q * sr i g q)

/-- A sum of all channels against a block diagonal column keeps the channels of its group. -/
theorem diag_sum (u : Fin 256 → EReal) (b : Fin 16 → Fin 16 → EReal) (g : Fin 16) :
    ∑ k : Fin 256, u k * (b ⟨k.val / 16, by omega⟩ ⟨k.val % 16, by omega⟩ * if k.val / 16 = g.val then (1 : EReal) else 0) =
      ∑ k : Fin 16, b g k * u ⟨g.val * 16 + k.val, by omega⟩ := by
  rw [← (finProdFinEquiv (m := 16) (n := 16)).sum_comp, Fintype.sum_prod_type, Finset.sum_eq_single g]
  · refine Finset.sum_congr rfl fun k _ => ?_
    have h1 : (k.val + 16 * g.val) / 16 = g.val := by omega
    have h2 : (k.val + 16 * g.val) % 16 = k.val := by omega
    have h3 : k.val + 16 * g.val = g.val * 16 + k.val := by omega
    simp only [finProdFinEquiv_apply_val, h1, h2, if_true, mul_one, Fin.eta]
    rw [mul_comm]
    exact congrArg (b g k * u ·) (Fin.ext h3)
  · intro a _ ha
    refine Finset.sum_eq_zero fun k _ => ?_
    have h1 : ¬ (k.val + 16 * a.val) / 16 = g.val := fun h => ha (Fin.ext (by omega))
    simp only [finProdFinEquiv_apply_val, h1, if_false, mul_zero]
  · intro h
    exact absurd (Finset.mem_univ g) h

end Cert.Mix.Spec

end
-- ==== Proof.Mix.Stored.lean ====
/- What the samples' mixer stores in its four state outputs, element by element, from the blocks of its operands. -/
module

public import proofs.«01_k».proof.Proof.Mix.MixIdealFrame
public import proofs.«01_k».proof.Proof.Mix.Spec
public import Idealize.ShloMosaic.Lib.Pointwise
public import Idealize.ShloMosaic.Lib.Pipeline.ValueKit

@[expose] public section

set_option maxRecDepth 16384

noncomputable section

namespace Cert.MixIdeal.Hand

open Cert.MixIdeal Cert.MixIdeal.Gen Idealize.ShloMosaic Idealize.ShloMosaic.TcCoe Idealize.SL.Sem Cert.Mix.Spec

/-- The retention's new state: the decayed one and the product of the token's key and value. -/
def retNew (k : Vec Ideal S32x4x64x1 .f32) (v : Vec Ideal S32x4x1x64 .f32) (s : Vec Ideal S32x4x64x64 .f32) : S32x4x64x64.Idx → EReal := fun y =>
  decay (y 1) * s y + k (ix4 (y 0) (y 1) (y 2) 0) * v (ix4 (y 0) (y 1) 0 (y 3))

/-- The gated branch's new state: the one decayed by the token's gates and the product of its key and value. -/
def glaNew (k a : Vec Ideal S32x4x32x1 .f32) (v : Vec Ideal S32x4x1x64 .f32) (s : Vec Ideal S32x4x32x64 .f32) : S32x4x32x64.Idx → EReal := fun y =>
  Ideal.exp (a (ix4 (y 0) (y 1) (y 2) 0)) * s y + k (ix4 (y 0) (y 1) (y 2) 0) * v (ix4 (y 0) (y 1) 0 (y 3))

theorem ret_store0 (v : Vec Ideal S32x4x1x64 .f32) (s : Vec Ideal S32x1x64x64 .f32) (k : Vec Ideal S32x1x64x1 .f32) (i : Fin 32) (d e : Fin 64) :
    k0_pay3 v s k (ix4 i 0 d e) = decay 0 * s (ix4 i 0 d e) + k (ix4 i 0 d 0) * v (ix4 i 0 0 e) := by
  pointwise [k0_pay3, k0_pay2, k0_pay1]
  rfl

theorem ret_store1 (v : Vec Ideal S32x4x1x64 .f32) (s : Vec Ideal S32x1x64x64 .f32) (k : Vec Ideal S32x1x64x1 .f32) (i : Fin 32) (d e : Fin 64) :
    k0_pay8 (k0_pay7 (k0_pay1 v) s k) (ix4 i 0 d e) = decay 1 * s (ix4 i 0 d e) + k (ix4 i 0 d 0) * v (ix4 i 1 0 e) := by
  pointwise [k0_pay8, k0_pay7, k0_pay1]
  rfl

theorem ret_store2 (v : Vec Ideal S32x4x1x64 .f32) (s : Vec Ideal S32x1x64x64 .f32) (k : Vec Ideal S32x1x64x1 .f32) (i : Fin 32) (d e : Fin 64) :
    k0_pay13 (k0_pay1 v) s k (ix4 i 0 d e) = decay 2 * s (ix4 i 0 d e) + k (ix4 i 0 d 0) * v (ix4 i 2 0 e) := by
  pointwise [k0_pay13, k0_pay12, k0_pay1]
  rfl

theorem ret_store3 (v : Vec Ideal S32x4x1x64 .f32) (s : Vec Ideal S32x1x64x64 .f32) (k : Vec Ideal S32x1x64x1 .f32) (i : Fin 32) (d e : Fin 64) :
    k0_pay18 (k0_pay17 (k0_pay1 v) s k) (ix4 i 0 d e) = decay 3 * s (ix4 i 0 d e) + k (ix4 i 0 d 0) * v (ix4 i 3 0 e) := by
  pointwise [k0_pay18, k0_pay17, k0_pay1]
  rfl

theorem gla_store0 (v : Vec Ideal S32x4x1x64 .f32) (a : Vec Ideal S32x1x32x1 .f32) (s : Vec Ideal S32x1x32x64 .f32) (k : Vec Ideal S32x1x32x1 .f32) (i : Fin 32) (d : Fin 32) (e : Fin 64) :
    k0_pay26 v a s k (ix4 i 0 d e) = Ideal.exp (a (ix4 i 0 d 0)) * s (ix4 i 0 d e) + k (ix4 i 0 d 0) * v (ix4 i 0 0 e) := by
  pointwise [k0_pay26, k0_pay25, k0_pay24]

theorem gla_store1 (v : Vec Ideal S32x4x1x64 .f32) (a : Vec Ideal S32x1x32x1 .f32) (s : Vec Ideal S32x1x32x64 .f32) (k : Vec Ideal S32x1x32x1 .f32) (i : Fin 32) (d : Fin 32) (e : Fin 64) :
    k0_pay31 (k0_pay24 v) (k0_pay29 a s) k (ix4 i 0 d e) = Ideal.exp (a (ix4 i 0 d 0)) * s (ix4 i 0 d e) + k (ix4 i 0 d 0) * v (ix4 i 1 0 e) := by
  pointwise [k0_pay31, k0_pay30, k0_pay29, k0_pay24]

theorem gla_store2 (v : Vec Ideal S32x4x1x64 .f32) (a : Vec Ideal S32x1x32x1 .f32) (s : Vec Ideal S32x1x32x64 .f32) (k : Vec Ideal S32x1x32x1 .f32) (i : Fin 32) (d : Fin 32) (e : Fin 64) :
    k0_pay37 (k0_pay24 v) a s k (ix4 i 0 d e) = Ideal.exp (a (ix4 i 0 d 0)) * s (ix4 i 0 d e) + k (ix4 i 0 d 0) * v (ix4 i 2 0 e) := by
  pointwise [k0_pay37, k0_pay36, k0_pay24]

theorem gla_store3 (v : Vec Ideal S32x4x1x64 .f32) (a : Vec Ideal S32x1x32x1 .f32) (s : Vec Ideal S32x1x32x64 .f32) (k : Vec Ideal S32x1x32x1 .f32) (i : Fin 32) (d : Fin 32) (e : Fin 64) :
    k0_pay43 (k0_pay24 v) (k0_pay41 a s) k (ix4 i 0 d e) = Ideal.exp (a (ix4 i 0 d 0)) * s (ix4 i 0 d e) + k (ix4 i 0 d 0) * v (ix4 i 3 0 e) := by
  pointwise [k0_pay43, k0_pay42, k0_pay41, k0_pay24]

/-! ## Where a head lies in an array -/

theorem ret_emb0 (i : Fin 32) (d e : Fin 64) : r0_1.emb (ix4 i 0 d e) = ix4 i 0 d e := by blk_ext
theorem ret_col0 (i : Fin 32) (d : Fin 64) : r0_2.emb (ix4 i 0 d 0) = ix4 i 0 d 0 := by blk_ext
theorem gla_emb0 (i d : Fin 32) (e : Fin 64) : r0_18.emb (ix4 i 0 d e) = ix4 i 0 d e := by blk_ext
theorem gla_col0 (i d : Fin 32) : r0_17.emb (ix4 i 0 d 0) = ix4 i 0 d 0 := by blk_ext
theorem ret_emb1 (i : Fin 32) (d e : Fin 64) : r0_5.emb (ix4 i 0 d e) = ix4 i 1 d e := by blk_ext
theorem ret_col1 (i : Fin 32) (d : Fin 64) : r0_6.emb (ix4 i 0 d 0) = ix4 i 1 d 0 := by blk_ext
theorem gla_emb1 (i d : Fin 32) (e : Fin 64) : r0_20.emb (ix4 i 0 d e) = ix4 i 1 d e := by blk_ext
theorem gla_col1 (i d : Fin 32) : r0_19.emb (ix4 i 0 d 0) = ix4 i 1 d 0 := by blk_ext
theorem ret_emb2 (i : Fin 32) (d e : Fin 64) : r0_9.emb (ix4 i 0 d e) = ix4 i 2 d e := by blk_ext
theorem ret_col2 (i : Fin 32) (d : Fin 64) : r0_10.emb (ix4 i 0 d 0) = ix4 i 2 d 0 := by blk_ext
theorem gla_emb2 (i d : Fin 32) (e : Fin 64) : r0_22.emb (ix4 i 0 d e) = ix4 i 2 d e := by blk_ext
theorem gla_col2 (i d : Fin 32) : r0_21.emb (ix4 i 0 d 0) = ix4 i 2 d 0 := by blk_ext
theorem ret_emb3 (i : Fin 32) (d e : Fin 64) : r0_13.emb (ix4 i 0 d e) = ix4 i 3 d e := by blk_ext
theorem ret_col3 (i : Fin 32) (d : Fin 64) : r0_14.emb (ix4 i 0 d 0) = ix4 i 3 d 0 := by blk_ext
theorem gla_emb3 (i d : Fin 32) (e : Fin 64) : r0_24.emb (ix4 i 0 d e) = ix4 i 3 d e := by blk_ext
theorem gla_col3 (i d : Fin 32) : r0_23.emb (ix4 i 0 d 0) = ix4 i 3 d 0 := by blk_ext
theorem row_emb (i : Fin 32) (h : Fin 4) (e : Fin 64) : r0_0.emb (ix4 i h 0 e) = ix4 i h 0 e := by blk_ext

/-- The stored states of the retention. -/
theorem stored24 (x0 : Vec Ideal S32x4x64x1 .f32) (x1 : Vec Ideal S32x4x64x1 .f32) (x2 : Vec Ideal S32x4x1x64 .f32) (x3 : Vec Ideal S32x4x64 .f32) (x4 : Vec Ideal S32x4x64x64 .f32) (x5 : Vec Ideal S4x1x64 .f32) (x6 : Vec Ideal S32x4x32x1 .f32) (x7 : Vec Ideal S32x4x32x1 .f32) (x8 : Vec Ideal S32x4x32x1 .f32) (x9 : Vec Ideal S32x4x1x64 .f32) (x10 : Vec Ideal S32x4x64 .f32) (x11 : Vec Ideal S32x4x32x64 .f32) (x12 : Vec Ideal S4x1x64 .f32) (x13 : Vec Ideal S32x256 .f32) (x14 : Vec Ideal S32x1024 .f32) (x15 : Vec Ideal S32x1024 .f32) (x16 : Vec Ideal S1x1024 .f32) (x17 : Vec Ideal S1x1024 .f32) (x18 : Vec Ideal S256x2048 .bf16) (x19 : Vec Ideal S2048x256 .bf16) (x20 : Vec Ideal S1x256 .f32) (x21 : Vec Ideal S256x256 .bf16) (x22 : Vec Ideal S1x256 .f32) (y : S32x4x64x64.Idx) : out0_24 x0 x1 x2 x3 x4 x5 x6 x7 x8 x9 x10 x11 x12 x13 x14 x15 x16 x17 x18 x19 x20 x21 x22 y = retNew x1 x2 x4 y := by
  unfold out0_24 k0_pay58 k0_pay57 k0_pay56
  refine View.canon_apply_of_pieces (Val := Elt Ideal) (retNew x1 x2 x4) _ ?_ y (cover0_24 _ _ _ _ y)
  intro p hp
  rcases List.mem_cons.mp hp with rfl | hp
  · intro z
    idx_vars z
    obtain rfl : z1 = 0 := Subsingleton.elim _ _
    refine (ret_store3 _ _ _ z0 z2 z3).trans ?_
    show decay 3 * x4 (r0_13.emb _) + x1 (r0_14.emb _) * x2 (r0_0.emb _) = retNew x1 x2 x4 (r0_13.emb (ix4 z0 0 z2 z3))
    rw [ret_emb3, ret_col3, row_emb]
    rfl
  rcases List.mem_cons.mp hp with rfl | hp
  · intro z
    idx_vars z
    obtain rfl : z1 = 0 := Subsingleton.elim _ _
    refine (ret_store2 _ _ _ z0 z2 z3).trans ?_
    show decay 2 * x4 (r0_9.emb _) + x1 (r0_10.emb _) * x2 (r0_0.emb _) = retNew x1 x2 x4 (r0_9.emb (ix4 z0 0 z2 z3))
    rw [ret_emb2, ret_col2, row_emb]
    rfl
  rcases List.mem_cons.mp hp with rfl | hp
  · intro z
    idx_vars z
    obtain rfl : z1 = 0 := Subsingleton.elim _ _
    refine (ret_store1 _ _ _ z0 z2 z3).trans ?_
    show decay 1 * x4 (r0_5.emb _) + x1 (r0_6.emb _) * x2 (r0_0.emb _) = retNew x1 x2 x4 (r0_5.emb (ix4 z0 0 z2 z3))
    rw [ret_emb1, ret_col1, row_emb]
    rfl
  rcases List.mem_cons.mp hp with rfl | hp
  · intro z
    idx_vars z
    obtain rfl : z1 = 0 := Subsingleton.elim _ _
    refine (ret_store0 _ _ _ z0 z2 z3).trans ?_
    show decay 0 * x4 (r0_1.emb _) + x1 (r0_2.emb _) * x2 (r0_0.emb _) = retNew x1 x2 x4 (r0_1.emb (ix4 z0 0 z2 z3))
    rw [ret_emb0, ret_col0, row_emb]
    rfl
  nomatch hp

/-- The stored states of the gated branch. -/
theorem stored26 (x0 : Vec Ideal S32x4x64x1 .f32) (x1 : Vec Ideal S32x4x64x1 .f32) (x2 : Vec Ideal S32x4x1x64 .f32) (x3 : Vec Ideal S32x4x64 .f32) (x4 : Vec Ideal S32x4x64x64 .f32) (x5 : Vec Ideal S4x1x64 .f32) (x6 : Vec Ideal S32x4x32x1 .f32) (x7 : Vec Ideal S32x4x32x1 .f32) (x8 : Vec Ideal S32x4x32x1 .f32) (x9 : Vec Ideal S32x4x1x64 .f32) (x10 : Vec Ideal S32x4x64 .f32) (x11 : Vec Ideal S32x4x32x64 .f32) (x12 : Vec Ideal S4x1x64 .f32) (x13 : Vec Ideal S32x256 .f32) (x14 : Vec Ideal S32x1024 .f32) (x15 : Vec Ideal S32x1024 .f32) (x16 : Vec Ideal S1x1024 .f32) (x17 : Vec Ideal S1x1024 .f32) (x18 : Vec Ideal S256x2048 .bf16) (x19 : Vec Ideal S2048x256 .bf16) (x20 : Vec Ideal S1x256 .f32) (x21 : Vec Ideal S256x256 .bf16) (x22 : Vec Ideal S1x256 .f32) (y : S32x4x32x64.Idx) : out0_26 x0 x1 x2 x3 x4 x5 x6 x7 x8 x9 x10 x11 x12 x13 x14 x15 x16 x17 x18 x19 x20 x21 x22 y = glaNew x7 x8 x9 x11 y := by
  unfold out0_26 k0_pay61 k0_pay60 k0_pay59
  refine View.canon_apply_of_pieces (Val := Elt Ideal) (glaNew x7 x8 x9 x11) _ ?_ y (cover0_26 _ _ _ _ y)
  intro p hp
  rcases List.mem_cons.mp hp with rfl | hp
  · intro z
    idx_vars z
    obtain rfl : z1 = 0 := Subsingleton.elim _ _
    refine (gla_store3 _ _ _ _ z0 z2 z3).trans ?_
    show Ideal.exp (x8 (r0_23.emb _)) * x11 (r0_24.emb _) + x7 (r0_23.emb _) * x9 (r0_0.emb _) = glaNew x7 x8 x9 x11 (r0_24.emb (ix4 z0 0 z2 z3))
    rw [gla_emb3, gla_col3, row_emb]
    rfl
  rcases List.mem_cons.mp hp with rfl | hp
  · intro z
    idx_vars z
    obtain rfl : z1 = 0 := Subsingleton.elim _ _
    refine (gla_store2 _ _ _ _ z0 z2 z3).trans ?_
    show Ideal.exp (x8 (r0_21.emb _)) * x11 (r0_22.emb _) + x7 (r0_21.emb _) * x9 (r0_0.emb _) = glaNew x7 x8 x9 x11 (r0_22.emb (ix4 z0 0 z2 z3))
    rw [gla_emb2, gla_col2, row_emb]
    rfl
  rcases List.mem_cons.mp hp with rfl | hp
  · intro z
    idx_vars z
    obtain rfl : z1 = 0 := Subsingleton.elim _ _
    refine (gla_store1 _ _ _ _ z0 z2 z3).trans ?_
    show Ideal.exp (x8 (r0_19.emb _)) * x11 (r0_20.emb _) + x7 (r0_19.emb _) * x9 (r0_0.emb _) = glaNew x7 x8 x9 x11 (r0_20.emb (ix4 z0 0 z2 z3))
    rw [gla_emb1, gla_col1, row_emb]
    rfl
  rcases List.mem_cons.mp hp with rfl | hp
  · intro z
    idx_vars z
    obtain rfl : z1 = 0 := Subsingleton.elim _ _
    refine (gla_store0 _ _ _ _ z0 z2 z3).trans ?_
    show Ideal.exp (x8 (r0_17.emb _)) * x11 (r0_18.emb _) + x7 (r0_17.emb _) * x9 (r0_0.emb _) = glaNew x7 x8 x9 x11 (r0_18.emb (ix4 z0 0 z2 z3))
    rw [gla_emb0, gla_col0, row_emb]
    rfl
  nomatch hp

/-! ## The state space branch -/

theorem re_store (u : Vec Ideal S32x256 .f32) (b : Vec Ideal S256x2048 .bf16) (ar ai : Vec Ideal S1x1024 .f32) (sr si : Vec Ideal S32x1024 .f32) (i : Fin 32) (n : Fin 1024) :
    k0_pay53 u b ar ai sr si (ix2 i n) = (∑ k : Fin 256, u (ix2 i k) * b (ix2 k ⟨n.val, by omega⟩)) + (ar (ix2 0 n) * sr (ix2 i n) - ai (ix2 0 n) * si (ix2 i n)) := by
  pointwise [k0_pay53, k0_pay52, k0_pay51, k0_pay50, k0_pay49, k0_pay48]

theorem im_store (u : Vec Ideal S32x256 .f32) (b : Vec Ideal S256x2048 .bf16) (ar ai : Vec Ideal S1x1024 .f32) (sr si : Vec Ideal S32x1024 .f32) (i : Fin 32) (n : Fin 1024) :
    k0_pay54 u b ar ai sr si (ix2 i n) = (∑ k : Fin 256, u (ix2 i k) * b (ix2 k ⟨1024 + n.val, by omega⟩)) + (ar (ix2 0 n) * si (ix2 i n) + ai (ix2 0 n) * sr (ix2 i n)) := by
  pointwise [k0_pay54, k0_pay52, k0_pay51, k0_pay50, k0_pay49, k0_pay48]

theorem full_emb (i : Fin 32) (n : Fin 1024) : r0_28.emb (ix2 i n) = ix2 i n := by blk_ext
theorem bar_emb (n : Fin 1024) : r0_27.emb (ix2 0 n) = ix2 0 n := by blk_ext
theorem in_emb (i : Fin 32) (k : Fin 256) : r0_25.emb (ix2 i k) = ix2 i k := by blk_ext
theorem bb_emb (k : Fin 256) (n : Fin 2048) : r0_26.emb (ix2 k n) = ix2 k n := by blk_ext

/-- The real parts of the state space branch's new states. -/
def reNew (u : Vec Ideal S32x256 .f32) (b : Vec Ideal S256x2048 .bf16) (ar ai : Vec Ideal S1x1024 .f32) (sr si : Vec Ideal S32x1024 .f32) : S32x1024.Idx → EReal := fun y =>
  (∑ k : Fin 256, u (ix2 (y 0) k) * b (ix2 k ⟨(y 1).val, by have h : (y 1).val < 1024 := (y 1).isLt; omega⟩)) + (ar (ix2 0 (y 1)) * sr y - ai (ix2 0 (y 1)) * si y)

/-- The imaginary parts of the state space branch's new states. -/
def imNew (u : Vec Ideal S32x256 .f32) (b : Vec Ideal S256x2048 .bf16) (ar ai : Vec Ideal S1x1024 .f32) (sr si : Vec Ideal S32x1024 .f32) : S32x1024.Idx → EReal := fun y =>
  (∑ k : Fin 256, u (ix2 (y 0) k) * b (ix2 k ⟨1024 + (y 1).val, by have h : (y 1).val < 1024 := (y 1).isLt; omega⟩)) + (ar (ix2 0 (y 1)) * si y + ai (ix2 0 (y 1)) * sr y)

theorem stored28 (x0 : Vec Ideal S32x4x64x1 .f32) (x1 : Vec Ideal S32x4x64x1 .f32) (x2 : Vec Ideal S32x4x1x64 .f32) (x3 : Vec Ideal S32x4x64 .f32) (x4 : Vec Ideal S32x4x64x64 .f32) (x5 : Vec Ideal S4x1x64 .f32) (x6 : Vec Ideal S32x4x32x1 .f32) (x7 : Vec Ideal S32x4x32x1 .f32) (x8 : Vec Ideal S32x4x32x1 .f32) (x9 : Vec Ideal S32x4x1x64 .f32) (x10 : Vec Ideal S32x4x64 .f32) (x11 : Vec Ideal S32x4x32x64 .f32) (x12 : Vec Ideal S4x1x64 .f32) (x13 : Vec Ideal S32x256 .f32) (x14 : Vec Ideal S32x1024 .f32) (x15 : Vec Ideal S32x1024 .f32) (x16 : Vec Ideal S1x1024 .f32) (x17 : Vec Ideal S1x1024 .f32) (x18 : Vec Ideal S256x2048 .bf16) (x19 : Vec Ideal S2048x256 .bf16) (x20 : Vec Ideal S1x256 .f32) (x21 : Vec Ideal S256x256 .bf16) (x22 : Vec Ideal S1x256 .f32) (y : S32x1024.Idx) : out0_28 x0 x1 x2 x3 x4 x5 x6 x7 x8 x9 x10 x11 x12 x13 x14 x15 x16 x17 x18 x19 x20 x21 x22 y = reNew x13 x18 x16 x17 x14 x15 y := by
  unfold out0_28
  refine View.canon_apply_of_pieces (Val := Elt Ideal) (reNew x13 x18 x16 x17 x14 x15) _ ?_ y (cover0_28 _ y)
  intro p hp
  rcases List.mem_cons.mp hp with rfl | hp
  · intro z
    idx_vars z
    refine (re_store _ _ _ _ _ _ z0 z1).trans ?_
    show (∑ k : Fin 256, x13 (r0_25.emb _) * x18 (r0_26.emb _)) + (x16 (r0_27.emb _) * x14 (r0_28.emb _) - x17 (r0_27.emb _) * x15 (r0_28.emb _)) = reNew x13 x18 x16 x17 x14 x15 (r0_28.emb (ix2 z0 z1))
    simp only [full_emb, bar_emb, in_emb, bb_emb]
    rfl
  nomatch hp

theorem stored29 (x0 : Vec Ideal S32x4x64x1 .f32) (x1 : Vec Ideal S32x4x64x1 .f32) (x2 : Vec Ideal S32x4x1x64 .f32) (x3 : Vec Ideal S32x4x64 .f32) (x4 : Vec Ideal S32x4x64x64 .f32) (x5 : Vec Ideal S4x1x64 .f32) (x6 : Vec Ideal S32x4x32x1 .f32) (x7 : Vec Ideal S32x4x32x1 .f32) (x8 : Vec Ideal S32x4x32x1 .f32) (x9 : Vec Ideal S32x4x1x64 .f32) (x10 : Vec Ideal S32x4x64 .f32) (x11 : Vec Ideal S32x4x32x64 .f32) (x12 : Vec Ideal S4x1x64 .f32) (x13 : Vec Ideal S32x256 .f32) (x14 : Vec Ideal S32x1024 .f32) (x15 : Vec Ideal S32x1024 .f32) (x16 : Vec Ideal S1x1024 .f32) (x17 : Vec Ideal S1x1024 .f32) (x18 : Vec Ideal S256x2048 .bf16) (x19 : Vec Ideal S2048x256 .bf16) (x20 : Vec Ideal S1x256 .f32) (x21 : Vec Ideal S256x256 .bf16) (x22 : Vec Ideal S1x256 .f32) (y : S32x1024.Idx) : out0_29 x0 x1 x2 x3 x4 x5 x6 x7 x8 x9 x10 x11 x12 x13 x14 x15 x16 x17 x18 x19 x20 x21 x22 y = imNew x13 x18 x16 x17 x14 x15 y := by
  unfold out0_29
  refine View.canon_apply_of_pieces (Val := Elt Ideal) (imNew x13 x18 x16 x17 x14 x15) _ ?_ y (cover0_29 _ y)
  intro p hp
  rcases List.mem_cons.mp hp with rfl | hp
  · intro z
    idx_vars z
    refine (im_store _ _ _ _ _ _ z0 z1).trans ?_
    show (∑ k : Fin 256, x13 (r0_25.emb _) * x18 (r0_26.emb _)) + (x16 (r0_27.emb _) * x15 (r0_28.emb _) + x17 (r0_27.emb _) * x14 (r0_28.emb _)) = imNew x13 x18 x16 x17 x14 x15 (r0_28.emb (ix2 z0 z1))
    simp only [full_emb, bar_emb, in_emb, bb_emb]
    rfl
  nomatch hp

theorem retNew_of (k : Vec Ideal S32x4x64x1 .f32) (v : Vec Ideal S32x4x1x64 .f32) (s : Vec Ideal S32x4x64x64 .f32) (i : Fin 32) (h : Fin 4) (d e : Fin 64)
    {K W T : EReal} (h1 : k (ix4 i h d 0) = K) (h2 : v (ix4 i h 0 e) = W) (h3 : s (ix4 i h d e) = T) :
    retNew k v s (ix4 i h d e) = decay h * T + K * W := by
  subst h1 h2 h3; rfl

theorem glaNew_of (k a : Vec Ideal S32x4x32x1 .f32) (v : Vec Ideal S32x4x1x64 .f32) (s : Vec Ideal S32x4x32x64 .f32) (i : Fin 32) (h : Fin 4) (d : Fin 32) (e : Fin 64)
    {K A W T : EReal} (h1 : k (ix4 i h d 0) = K) (h2 : a (ix4 i h d 0) = A) (h3 : v (ix4 i h 0 e) = W) (h4 : s (ix4 i h d e) = T) :
    glaNew k a v s (ix4 i h d e) = Ideal.exp A * T + K * W := by
  subst h1 h2 h3 h4; rfl

theorem reNew_of (u : Vec Ideal S32x256 .f32) (b : Vec Ideal S256x2048 .bf16) (ar ai : Vec Ideal S1x1024 .f32) (sr si : Vec Ideal S32x1024 .f32) (i : Fin 32) (n : Fin 1024)
    {D A B S T : EReal} (h0 : (∑ k : Fin 256, u (ix2 i k) * b (ix2 k ⟨n.val, by omega⟩)) = D) (h1 : ar (ix2 0 n) = A) (h2 : ai (ix2 0 n) = B)
    (h3 : sr (ix2 i n) = S) (h4 : si (ix2 i n) = T) : reNew u b ar ai sr si (ix2 i n) = D + (A * S - B * T) := by
  subst h0 h1 h2 h3 h4; rfl

theorem imNew_of (u : Vec Ideal S32x256 .f32) (b : Vec Ideal S256x2048 .bf16) (ar ai : Vec Ideal S1x1024 .f32) (sr si : Vec Ideal S32x1024 .f32) (i : Fin 32) (n : Fin 1024)
    {D A B S T : EReal} (h0 : (∑ k : Fin 256, u (ix2 i k) * b (ix2 k ⟨1024 + n.val, by omega⟩)) = D) (h1 : ar (ix2 0 n) = A) (h2 : ai (ix2 0 n) = B)
    (h3 : sr (ix2 i n) = S) (h4 : si (ix2 i n) = T) : imNew u b ar ai sr si (ix2 i n) = D + (A * T + B * S) := by
  subst h0 h1 h2 h3 h4; rfl

end Cert.MixIdeal.Hand

end
-- ==== Proof.Mix.Host.lean ====
/- The operands the host prepares for the samples' mixer, element by element. -/
module

public import proofs.«01_k».proof.Proof.Mix.Stored
public import Idealize.ShloMosaic.Lib.StableHlo.ReadAt
public import Idealize.ShloMosaic.Lib.Pointwise
public import Idealize.ShloMosaic.Lib.Pipeline.ValueKit

@[expose] public section

set_option maxRecDepth 16384

noncomputable section

namespace Cert.MixIdeal.Hand

open Cert.MixIdeal Cert.MixIdeal.Gen Idealize.ShloMosaic Idealize.ShloMosaic.TcCoe Idealize.SL.Sem

variable (m : (ℓ : Loc nD τ sig) → Buf (Elt Ideal) ℓ) (c : Dev nD)

theorem rk_apply (i : Fin 32) (h : Fin 4) (d : Fin 64) : V m c main_v64 (ix4 i h d 0) =
    m ((c : Thread nD τ).loc main_arg0) (ix2 i ⟨256 + (d.val / 32 * 128 + h.val * 32 + d.val % 32), by omega⟩) := by
  unfold V
  after_reads_at

theorem rv_apply (i : Fin 32) (h : Fin 4) (e : Fin 64) : V m c main_v66 (ix4 i h 0 e) =
    m ((c : Thread nD τ).loc main_arg0) (ix2 i ⟨512 + (h.val * 64 + e.val), by omega⟩) := by
  unfold V
  after_reads_at

theorem gk_apply (i : Fin 32) (h : Fin 4) (d : Fin 32) : V m c main_v72 (ix4 i h d 0) =
    m ((c : Thread nD τ).loc main_arg1) (ix2 i ⟨640 + (h.val * 32 + d.val), by omega⟩) := by
  unfold V
  after_reads_at

theorem ga_apply (i : Fin 32) (h : Fin 4) (d : Fin 32) : V m c main_v74 (ix4 i h d 0) =
    m ((c : Thread nD τ).loc main_arg1) (ix2 i ⟨768 + (h.val * 32 + d.val), by omega⟩) := by
  unfold V
  after_reads_at

theorem gv_apply (i : Fin 32) (h : Fin 4) (e : Fin 64) : V m c main_v76 (ix4 i h 0 e) =
    m ((c : Thread nD τ).loc main_arg1) (ix2 i ⟨h.val * 64 + e.val, by omega⟩) := by
  unfold V
  after_reads_at

theorem ar_apply (n : Fin 1024) : V m c main_v52 (ix2 0 n) =
    m ((c : Thread nD τ).loc main_arg9) (ix2 ⟨n.val / 64, by omega⟩ ⟨n.val % 64, by omega⟩) := by
  unfold V
  after_reads_at

theorem ai_apply (n : Fin 1024) : V m c main_v53 (ix2 0 n) =
    m ((c : Thread nD τ).loc main_arg10) (ix2 ⟨n.val / 64, by omega⟩ ⟨n.val % 64, by omega⟩) := by
  unfold V
  after_reads_at

theorem sr_apply (i : Fin 32) (n : Fin 1024) : V m c main_v81 (ix2 i n) =
    m ((c : Thread nD τ).loc main_arg5) (ix3 i ⟨n.val / 64, by omega⟩ ⟨n.val % 64, by omega⟩) := by
  unfold V
  after_reads_at

theorem si_apply (i : Fin 32) (n : Fin 1024) : V m c main_v82 (ix2 i n) =
    m ((c : Thread nD τ).loc main_arg6) (ix3 i ⟨n.val / 64, by omega⟩ ⟨n.val % 64, by omega⟩) := by
  unfold V
  after_reads_at

theorem eye_bits : ∀ a b : Fin 16, IntOp.cmpi .eq (IntOp.addi (BitVec.ofNat 32 a.val) 0#32) (BitVec.ofNat 32 b.val) = if a.val = b.val then 1#1 else 0#1 := by
  decide +kernel

/-- An entry of the host's unit matrix. -/
theorem eye (a b : Fin 16) : FloatOps.uitofp (F := Ideal) FTy.f32 (IntOp.cmpi .eq (IntOp.addi (BitVec.ofNat 32 a.val) 0#32) (BitVec.ofNat 32 b.val)) =
    if a.val = b.val then (1 : EReal) else 0 := by
  rw [eye_bits]
  split
  · show (((1#1 : BitVec 1).toNat : ℝ) : EReal) = 1
    norm_num
  · show (((0#1 : BitVec 1).toNat : ℝ) : EReal) = 0
    norm_num

theorem bb_re_apply (k : Fin 256) (n : Fin 1024) : V m c main_v25 (ix2 k ⟨n.val, by omega⟩) =
    HMul.hMul (α := EReal) (m ((c : Thread nD τ).loc main_arg11) (ix3 ⟨k.val / 16, by omega⟩ ⟨k.val % 16, by omega⟩ ⟨n.val % 64, by omega⟩)) (if k.val / 16 = n.val / 64 then (1 : EReal) else 0) := by
  unfold V
  after_reads_at
  pointwise
  after_reads_at
  pointwise
  exact congrArg (HMul.hMul (α := EReal) (β := EReal) (γ := EReal) _) (eye ⟨k.val / 16, by omega⟩ ⟨n.val / 64, by omega⟩)

theorem bb_im_apply (k : Fin 256) (n : Fin 1024) : V m c main_v25 (ix2 k ⟨1024 + n.val, by omega⟩) =
    HMul.hMul (α := EReal) (m ((c : Thread nD τ).loc main_arg12) (ix3 ⟨k.val / 16, by omega⟩ ⟨k.val % 16, by omega⟩ ⟨n.val % 64, by omega⟩)) (if k.val / 16 = n.val / 64 then (1 : EReal) else 0) := by
  unfold V
  after_reads_at
  pointwise
  after_reads_at
  pointwise
  exact congrArg (HMul.hMul (α := EReal) (β := EReal) (γ := EReal) _) (eye ⟨k.val / 16, by omega⟩ ⟨n.val / 64, by omega⟩)

end Cert.MixIdeal.Hand

end
-- ==== Proof.Mix.Array.lean ====
/- What the samples' mixer leaves in its four state arrays. -/
module

public import proofs.«01_k».proof.Proof.Mix.Host

@[expose] public section

set_option maxRecDepth 16384

noncomputable section

namespace Cert.MixIdeal.Hand

open Cert.MixIdeal Cert.MixIdeal.Gen Idealize.ShloMosaic Idealize.ShloMosaic.TcCoe Idealize.SL.Sem Cert.Mix.Spec

variable (m : (ℓ : Loc nD τ sig) → Buf (Elt Ideal) ℓ) (c : Dev nD)

/-! ## The windows' one block is the whole array -/

theorem idx1 : ∀ t : Fin cfg0.N, win0_1.index t = ![0, 0, 0, 0] := (by decide +kernel : ∀ t : Fin grid0.N, _)
theorem idx2 : ∀ t : Fin cfg0.N, win0_2.index t = ![0, 0, 0, 0] := (by decide +kernel : ∀ t : Fin grid0.N, _)
theorem idx4 : ∀ t : Fin cfg0.N, win0_4.index t = ![0, 0, 0, 0] := (by decide +kernel : ∀ t : Fin grid0.N, _)
theorem idx7 : ∀ t : Fin cfg0.N, win0_7.index t = ![0, 0, 0, 0] := (by decide +kernel : ∀ t : Fin grid0.N, _)
theorem idx8 : ∀ t : Fin cfg0.N, win0_8.index t = ![0, 0, 0, 0] := (by decide +kernel : ∀ t : Fin grid0.N, _)
theorem idx9 : ∀ t : Fin cfg0.N, win0_9.index t = ![0, 0, 0, 0] := (by decide +kernel : ∀ t : Fin grid0.N, _)
theorem idx11 : ∀ t : Fin cfg0.N, win0_11.index t = ![0, 0, 0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx24 : ∀ t : Fin cfg0.N, win0_24.index t = ![0, 0, 0, 0] := (by decide +kernel : ∀ t : Fin grid0.N, _)
theorem idx26 : ∀ t : Fin cfg0.N, win0_26.index t = ![0, 0, 0, 0] := (by decide +kernel : ∀ t : Fin grid0.N, _)
theorem idx28 : ∀ t : Fin cfg0.N, win0_28.index t = ![0, 0] := (by decide +kernel : ∀ t : Fin grid0.N, _)
theorem idx29 : ∀ t : Fin cfg0.N, win0_29.index t = ![0, 0] := (by decide +kernel : ∀ t : Fin grid0.N, _)

theorem cover24 : (cfg0.win 24).Covers := by decide +kernel
theorem cover26 : (cfg0.win 26).Covers := by decide +kernel
theorem cover28 : (cfg0.win 28).Covers := by decide +kernel
theorem cover29 : (cfg0.win 29).Covers := by decide +kernel

/-- The retention's new states. -/
def R24 : S32x4x64x64.Idx → EReal := fun y => ret (fun i h => m ((c : Thread nD τ).loc main_arg0) (ix2 i h)) (fun i h d e => m ((c : Thread nD τ).loc main_arg3) (ix4 i h d e)) (y 0) (y 1) (y 2) (y 3)
/-- The gated branch's new states. -/
def R26 : S32x4x32x64.Idx → EReal := fun y => gla (fun i h => m ((c : Thread nD τ).loc main_arg1) (ix2 i h)) (fun i h d e => m ((c : Thread nD τ).loc main_arg4) (ix4 i h d e)) (y 0) (y 1) (y 2) (y 3)
/-- The real parts of the state space branch's new states. -/
def R28 : S32x1024.Idx → EReal := fun y => re (fun i h => m ((c : Thread nD τ).loc main_arg2) (ix2 i h)) (fun i h d => m ((c : Thread nD τ).loc main_arg11) (ix3 i h d)) (fun i h => m ((c : Thread nD τ).loc main_arg9) (ix2 i h)) (fun i h => m ((c : Thread nD τ).loc main_arg10) (ix2 i h)) (fun i h d => m ((c : Thread nD τ).loc main_arg5) (ix3 i h d)) (fun i h d => m ((c : Thread nD τ).loc main_arg6) (ix3 i h d)) (y 0) ⟨(y 1).val / 64, by have h : (y 1).val < 1024 := (y 1).isLt; omega⟩ ⟨(y 1).val % 64, by omega⟩
/-- The imaginary parts of the state space branch's new states. -/
def R29 : S32x1024.Idx → EReal := fun y => im (fun i h => m ((c : Thread nD τ).loc main_arg2) (ix2 i h)) (fun i h d => m ((c : Thread nD τ).loc main_arg12) (ix3 i h d)) (fun i h => m ((c : Thread nD τ).loc main_arg9) (ix2 i h)) (fun i h => m ((c : Thread nD τ).loc main_arg10) (ix2 i h)) (fun i h d => m ((c : Thread nD τ).loc main_arg5) (ix3 i h d)) (fun i h d => m ((c : Thread nD τ).loc main_arg6) (ix3 i h d)) (y 0) ⟨(y 1).val / 64, by have h : (y 1).val < 1024 := (y 1).isLt; omega⟩ ⟨(y 1).val % 64, by omega⟩

/-! ## The operands' blocks -/

theorem blk1 (t : Fin cfg0.N) (i : Fin 32) (h : Fin 4) (d : Fin 64) : iblk m c 1 t (ix4 i h d 0) = m ((c : Thread nD τ).loc main_arg0) (ix2 i ⟨256 + (d.val / 32 * 128 + h.val * 32 + d.val % 32), by omega⟩) := by
  refine Eq.trans ?_ (rk_apply m c i h d)
  blk_ext [iblk, idx1 t]

theorem blk2 (t : Fin cfg0.N) (i : Fin 32) (h : Fin 4) (e : Fin 64) : iblk m c 2 t (ix4 i h 0 e) = m ((c : Thread nD τ).loc main_arg0) (ix2 i ⟨512 + (h.val * 64 + e.val), by omega⟩) := by
  refine Eq.trans ?_ (rv_apply m c i h e)
  blk_ext [iblk, idx2 t]

set_option maxHeartbeats 4000000 in
theorem blk7 (t : Fin cfg0.N) (i : Fin 32) (h : Fin 4) (d : Fin 32) : iblk m c 7 t (ix4 i h d 0) = m ((c : Thread nD τ).loc main_arg1) (ix2 i ⟨640 + (h.val * 32 + d.val), by omega⟩) := by
  refine Eq.trans ?_ (gk_apply m c i h d)
  blk_ext [iblk, idx7 t]

set_option maxHeartbeats 4000000 in
theorem blk8 (t : Fin cfg0.N) (i : Fin 32) (h : Fin 4) (d : Fin 32) : iblk m c 8 t (ix4 i h d 0) = m ((c : Thread nD τ).loc main_arg1) (ix2 i ⟨768 + (h.val * 32 + d.val), by omega⟩) := by
  refine Eq.trans ?_ (ga_apply m c i h d)
  blk_ext [iblk, idx8 t]

set_option maxHeartbeats 4000000 in
theorem blk9 (t : Fin cfg0.N) (i : Fin 32) (h : Fin 4) (e : Fin 64) : iblk m c 9 t (ix4 i h 0 e) = m ((c : Thread nD τ).loc main_arg1) (ix2 i ⟨h.val * 64 + e.val, by omega⟩) := by
  refine Eq.trans ?_ (gv_apply m c i h e)
  blk_ext [iblk, idx9 t]

theorem blk16 (t : Fin cfg0.N) (n : Fin 1024) : iblk m c 16 t (ix2 0 n) = m ((c : Thread nD τ).loc main_arg9) (ix2 ⟨n.val / 64, by omega⟩ ⟨n.val % 64, by omega⟩) := by
  refine Eq.trans ?_ (ar_apply m c n)
  blk_ext [iblk, idx16 t]

theorem blk17 (t : Fin cfg0.N) (n : Fin 1024) : iblk m c 17 t (ix2 0 n) = m ((c : Thread nD τ).loc main_arg10) (ix2 ⟨n.val / 64, by omega⟩ ⟨n.val % 64, by omega⟩) := by
  refine Eq.trans ?_ (ai_apply m c n)
  blk_ext [iblk, idx17 t]

theorem blk14 (t : Fin cfg0.N) (i : Fin 32) (n : Fin 1024) : iblk m c 14 t (ix2 i n) = m ((c : Thread nD τ).loc main_arg5) (ix3 i ⟨n.val / 64, by omega⟩ ⟨n.val % 64, by omega⟩) := by
  refine Eq.trans ?_ (sr_apply m c i n)
  blk_ext [iblk, idx14 t]

theorem blk15 (t : Fin cfg0.N) (i : Fin 32) (n : Fin 1024) : iblk m c 15 t (ix2 i n) = m ((c : Thread nD τ).loc main_arg6) (ix3 i ⟨n.val / 64, by omega⟩ ⟨n.val % 64, by omega⟩) := by
  refine Eq.trans ?_ (si_apply m c i n)
  blk_ext [iblk, idx15 t]

theorem blk4 (t : Fin cfg0.N) (i : Fin 32) (h : Fin 4) (d e : Fin 64) : iblk m c 4 t (ix4 i h d e) = m ((c : Thread nD τ).loc main_arg3) (ix4 i h d e) := by
  refine Eq.trans ?_ (congrFun (V_main_arg3 m c) (ix4 i h d e))
  blk_ext [iblk, idx4 t]

set_option maxHeartbeats 4000000 in
theorem blk11 (t : Fin cfg0.N) (i : Fin 32) (h : Fin 4) (d : Fin 32) (e : Fin 64) : iblk m c 11 t (ix4 i h d e) = m ((c : Thread nD τ).loc main_arg4) (ix4 i h d e) := by
  refine Eq.trans ?_ (congrFun (V_main_arg4 m c) (ix4 i h d e))
  blk_ext [iblk, idx11 t]

theorem blk13 (t : Fin cfg0.N) (i : Fin 32) (k : Fin 256) : iblk m c 13 t (ix2 i k) = m ((c : Thread nD τ).loc main_arg2) (ix2 i k) := by
  refine Eq.trans ?_ (congrFun (V_main_arg2 m c) (ix2 i k))
  blk_ext [iblk, idx13 t]

theorem blk18_re (t : Fin cfg0.N) (k : Fin 256) (n : Fin 1024) : iblk m c 18 t (ix2 k ⟨n.val, by omega⟩) = HMul.hMul (α := EReal) (m ((c : Thread nD τ).loc main_arg11) (ix3 ⟨k.val / 16, by omega⟩ ⟨k.val % 16, by omega⟩ ⟨n.val % 64, by omega⟩)) (if k.val / 16 = n.val / 64 then (1 : EReal) else 0) := by
  refine Eq.trans ?_ (bb_re_apply m c k n)
  blk_ext [iblk, idx18 t]

/-- The token's part of the real states. -/
theorem drive_re (t : Fin cfg0.N) (i : Fin 32) (n : Fin 1024) : (∑ k : Fin 256, HMul.hMul (α := EReal) (β := EReal) (iblk m c 13 t (ix2 i k)) (iblk m c 18 t (ix2 k ⟨n.val, by omega⟩))) =
    drive (fun i h => m ((c : Thread nD τ).loc main_arg2) (ix2 i h)) (fun i h d => m ((c : Thread nD τ).loc main_arg11) (ix3 i h d)) i ⟨n.val / 64, by omega⟩ ⟨n.val % 64, by omega⟩ := by
  refine Eq.trans (Finset.sum_congr rfl fun k _ => ?_) (diag_sum (fun k => m ((c : Thread nD τ).loc main_arg2) (ix2 i k)) (fun g k => m ((c : Thread nD τ).loc main_arg11) (ix3 g k ⟨n.val % 64, by omega⟩)) ⟨n.val / 64, by omega⟩)
  rw [blk13, blk18_re]

theorem blk18_im (t : Fin cfg0.N) (k : Fin 256) (n : Fin 1024) : iblk m c 18 t (ix2 k ⟨1024 + n.val, by omega⟩) = HMul.hMul (α := EReal) (m ((c : Thread nD τ).loc main_arg12) (ix3 ⟨k.val / 16, by omega⟩ ⟨k.val % 16, by omega⟩ ⟨n.val % 64, by omega⟩)) (if k.val / 16 = n.val / 64 then (1 : EReal) else 0) := by
  refine Eq.trans ?_ (bb_im_apply m c k n)
  blk_ext [iblk, idx18 t]

/-- The token's part of the imaginary states. -/
theorem drive_im (t : Fin cfg0.N) (i : Fin 32) (n : Fin 1024) : (∑ k : Fin 256, HMul.hMul (α := EReal) (β := EReal) (iblk m c 13 t (ix2 i k)) (iblk m c 18 t (ix2 k ⟨1024 + n.val, by omega⟩))) =
    drive (fun i h => m ((c : Thread nD τ).loc main_arg2) (ix2 i h)) (fun i h d => m ((c : Thread nD τ).loc main_arg12) (ix3 i h d)) i ⟨n.val / 64, by omega⟩ ⟨n.val % 64, by omega⟩ := by
  refine Eq.trans (Finset.sum_congr rfl fun k _ => ?_) (diag_sum (fun k => m ((c : Thread nD τ).loc main_arg2) (ix2 i k)) (fun g k => m ((c : Thread nD τ).loc main_arg12) (ix3 g k ⟨n.val % 64, by omega⟩)) ⟨n.val / 64, by omega⟩)
  rw [blk13, blk18_im]

set_option maxHeartbeats 4000000 in
theorem final24 : (dats m 0 c).arrAt 24 cfg0.N = R24 m c := by
  refine (dats m 0 c).arrAt_eq_of_covers 24 _ cover24 fun t hf y => ?_
  blk_simp
  rw [after0_24]
  idx_vars y
  rw [stored24]
  have he : ((View.whole main_v83_1).slice (win0_24.rect t)).emb (ix4 y0 y1 y2 y3) = ix4 y0 y1 y2 y3 := by
    blk_ext [idx24 t]
  rw [he]
  exact retNew_of _ _ _ y0 y1 y2 y3 (blk1 m c t y0 y1 y2) (blk2 m c t y0 y1 y3) (blk4 m c t y0 y1 y2 y3)

set_option maxHeartbeats 4000000 in
theorem final26 : (dats m 0 c).arrAt 26 cfg0.N = R26 m c := by
  refine (dats m 0 c).arrAt_eq_of_covers 26 _ cover26 fun t hf y => ?_
  blk_simp
  rw [after0_26]
  idx_vars y
  rw [stored26]
  have he : ((View.whole main_v83_3).slice (win0_26.rect t)).emb (ix4 y0 y1 y2 y3) = ix4 y0 y1 y2 y3 := by
    blk_ext [idx26 t]
  rw [he]
  exact glaNew_of _ _ _ _ y0 y1 y2 y3 (blk7 m c t y0 y1 y2) (blk8 m c t y0 y1 y2) (blk9 m c t y0 y1 y3) (blk11 m c t y0 y1 y2 y3)

theorem final28 : (dats m 0 c).arrAt 28 cfg0.N = R28 m c := by
  refine (dats m 0 c).arrAt_eq_of_covers 28 _ cover28 fun t hf y => ?_
  blk_simp
  rw [after0_28]
  idx_vars y
  rw [stored28]
  have he : ((View.whole main_v83_5).slice (win0_28.rect t)).emb (ix2 y0 y1) = ix2 y0 y1 := by
    blk_ext [idx28 t]
  rw [he]
  exact reNew_of _ _ _ _ _ _ y0 y1 (drive_re m c t y0 y1) (blk16 m c t y1) (blk17 m c t y1) (blk14 m c t y0 y1) (blk15 m c t y0 y1)

theorem final29 : (dats m 0 c).arrAt 29 cfg0.N = R29 m c := by
  refine (dats m 0 c).arrAt_eq_of_covers 29 _ cover29 fun t hf y => ?_
  blk_simp
  rw [after0_29]
  idx_vars y
  rw [stored29]
  have he : ((View.whole main_v83_6).slice (win0_29.rect t)).emb (ix2 y0 y1) = ix2 y0 y1 := by
    blk_ext [idx29 t]
  rw [he]
  exact imNew_of _ _ _ _ _ _ y0 y1 (drive_im m c t y0 y1) (blk16 m c t y1) (blk17 m c t y1) (blk14 m c t y0 y1) (blk15 m c t y0 y1)

end Cert.MixIdeal.Hand

end
-- ==== Proof.Mix.Gates.lean ====
/- The exponentials of the two gated recurrences: the retention's fixed decays and the finite logarithms of the gates. -/
module

public import proofs.«01_k».proof.Proof.Mix.Spec
public import proofs.«01_k».proof.Proof.Gen.MixRefIdeal.Read

@[expose] public section

set_option maxRecDepth 16384

noncomputable section

namespace Cert.MixRefIdeal.Hand

open Cert.MixRefIdeal Cert.MixRefIdeal.Read Idealize.ShloMosaic Cert.Mix.Spec

/-- The exponential of a positive number's logarithm is the number. -/
theorem exp_log (r : ℝ) (hr : 0 < r) : Ideal.exp (Ideal.log (r : EReal)) = (r : EReal) := by
  show Ideal.exp (if r ≤ 0 then ⊥ else (Real.log r : EReal)) = (r : EReal)
  rw [if_neg (not_le.mpr hr)]
  show ((Real.exp (Real.log r) : ℝ) : EReal) = (r : EReal)
  rw [Real.exp_log hr]

/-- A finite number taken from itself has the exponential one. -/
theorem exp_sub_self (r : ℝ) : Ideal.exp ((r : EReal) - (r : EReal)) = 1 := by
  rw [← EReal.coe_sub, sub_self]
  show ((Real.exp 0 : ℝ) : EReal) = 1
  rw [Real.exp_zero, EReal.coe_one]

/-- The retention's decay as a real number. -/
def rate (h : Fin 4) : ℝ := 1 - (2 ^ (5 + h.val))⁻¹

theorem rate_pos : ∀ h : Fin 4, 0 < rate h := by
  intro h
  fin_cases h <;> norm_num [rate]

theorem decay_eq (h : Fin 4) : decay h = ((rate h : ℝ) : EReal) := by
  fin_cases h <;>
  · simp [decay, rate, Ideal.ofBits, Ideal.ieee, -EReal.coe_mul, -EReal.coe_sub]
    try norm_num

theorem two_pow (h : Fin 4) : Ideal.pow ((2 : ℝ) : EReal) (((-5 : ℝ) : EReal) - ((h.val : ℝ) : EReal)) = (((2 ^ (5 + h.val))⁻¹ : ℝ) : EReal) := by
  rw [← EReal.coe_sub]
  show ((Real.rpow 2 (-5 - (h.val : ℝ)) : ℝ) : EReal) = _
  refine congrArg _ ?_
  show (2 : ℝ) ^ (-5 - (h.val : ℝ)) = _
  rw [show (-5 - (h.val : ℝ) : ℝ) = -((5 + h.val : ℕ) : ℝ) by push_cast; ring, Real.rpow_neg (by norm_num), Real.rpow_natCast]

theorem head_cast (h : Fin 4) : FloatOps.sitofp (F := Ideal) FTy.f32 (BitVec.ofNat 32 h.val) = ((h.val : ℝ) : EReal) := by
  have hb : ∀ k : Fin 4, (BitVec.ofNat 32 k.val).toInt = (k.val : ℤ) := by decide
  show (((BitVec.ofNat 32 h.val).toInt : ℝ) : EReal) = _
  rw [hb]
  norm_num

theorem two_bits : Ideal.ofBits .f32 0x40000000#32 = ((2 : ℝ) : EReal) := by
  simp [Ideal.ofBits, Ideal.ieee, -EReal.coe_mul]
  norm_num

theorem five_bits : Ideal.ofBits .f32 0xC0A00000#32 = ((-5 : ℝ) : EReal) := by
  simp [Ideal.ofBits, Ideal.ieee, -EReal.coe_mul]
  norm_num

/-- The logarithm of a head's decay. -/
theorem v14_apply (h : Fin 4) : val_main_v14 (F := Ideal) (ix1 h) = Ideal.log ((rate h : ℝ) : EReal) := by
  pointwise [val_main_v14, val_main_v13, val_main_v12, val_main_v11, val_main_v10, val_main_v9, val_main_v8, val_main_v7, val_main_v6,
    val_main_cst, val_main_cst_0, val_main_cst_1]
  rw [head_cast, two_bits, five_bits, two_pow, ← EReal.coe_one, ← EReal.coe_sub]
  rfl

theorem exp_v14 (h : Fin 4) : Ideal.exp (val_main_v14 (F := Ideal) (ix1 h)) = decay h := by
  rw [v14_apply, exp_log _ (rate_pos h), decay_eq]

theorem exp_v14_sub (h : Fin 4) : Ideal.exp (val_main_v14 (F := Ideal) (ix1 h) - val_main_v14 (F := Ideal) (ix1 h)) = 1 := by
  rw [v14_apply]
  show Ideal.exp ((if rate h ≤ 0 then ⊥ else (Real.log (rate h) : EReal)) - (if rate h ≤ 0 then ⊥ else (Real.log (rate h) : EReal))) = 1
  rw [if_neg (not_le.mpr (rate_pos h))]
  exact exp_sub_self _

end Cert.MixRefIdeal.Hand

end
-- ==== Proof.Mix.Reference.lean ====
/- The reference's recurrent states of the samples, element by element. -/
module

public import proofs.«01_k».proof.Proof.Mix.Gates

@[expose] public section

set_option maxRecDepth 16384

noncomputable section

namespace Cert.MixRefIdeal.Hand

open Cert.MixRefIdeal Cert.MixRefIdeal.Read Idealize.ShloMosaic Cert.Mix.Spec

variable (x0 : (⟨S32x1024, .f32⟩ : BufTy).Contents (Elt Ideal)) (x1 : (⟨S32x896, .f32⟩ : BufTy).Contents (Elt Ideal))
  (x2 : (⟨S32x256, .f32⟩ : BufTy).Contents (Elt Ideal)) (x3 : (⟨S32x4x64x64, .f32⟩ : BufTy).Contents (Elt Ideal))
  (x4 : (⟨S32x4x32x64, .f32⟩ : BufTy).Contents (Elt Ideal)) (x5 x6 : (⟨S32x16x64, .f32⟩ : BufTy).Contents (Elt Ideal))
  (x9 x10 : (⟨S16x64, .f32⟩ : BufTy).Contents (Elt Ideal)) (x11 x12 : (⟨S16x16x64, .f32⟩ : BufTy).Contents (Elt Ideal))

theorem rk_flat (i : Fin 32) (h : Fin 4) (d : Fin 64) : val_main_v19 (F := Ideal) x0 (ix4 i h 0 d) = val_main_v3 (F := Ideal) x0 (ix4 i 0 h d) := by
  rw [val_main_v19_apply, val_main_v18_apply, val_main_v17_apply]
  refine congrArg _ (funext fun a => ?_)
  match a with
  | ⟨0, _⟩ => exact Fin.ext (by dsimp; omega)
  | ⟨1, _⟩ => exact Fin.ext (by dsimp)
  | ⟨2, _⟩ => exact Fin.ext (by dsimp; omega)
  | ⟨3, _⟩ => exact Fin.ext (by dsimp; omega)

theorem rk_read (i : Fin 32) (h : Fin 4) (d : Fin 64) : val_main_v3 (F := Ideal) x0 (ix4 i 0 h d) =
    x0 (ix2 i ⟨256 + (d.val / 32 * 128 + h.val * 32 + d.val % 32), by omega⟩) := by
  pointwise [val_main_v3, val_main_v2, val_main_v1, val_main_v0]

theorem rk_apply (i : Fin 32) (h : Fin 4) (d : Fin 64) : val_main_v19 (F := Ideal) x0 (ix4 i h 0 d) =
    x0 (ix2 i ⟨256 + (d.val / 32 * 128 + h.val * 32 + d.val % 32), by omega⟩) :=
  (rk_flat x0 i h d).trans (rk_read x0 i h d)

theorem rv_apply (i : Fin 32) (h : Fin 4) (e : Fin 64) : val_main_v22 (F := Ideal) x0 (ix4 i h 0 e) = x0 (ix2 i ⟨512 + (h.val * 64 + e.val), by omega⟩) := by
  rw [val_main_v22_apply, val_main_v21_apply, val_main_v20_apply, val_main_v5_apply, val_main_v4_apply]
  refine congrArg _ (funext fun a => ?_)
  match a with
  | ⟨0, _⟩ => exact Fin.ext (by dsimp; omega)
  | ⟨1, _⟩ => exact Fin.ext (by dsimp; omega)

theorem log_apply (i : Fin 32) (h : Fin 4) : val_main_v25 (F := Ideal) (ix4 i h 0 0) = val_main_v14 (F := Ideal) (ix1 h) := by
  rw [val_main_v25_apply, val_main_v24_apply, val_main_v23_apply, val_main_v16_apply, val_main_v15_apply]
  refine congrArg _ (funext fun a => ?_)
  match a with
  | ⟨0, _⟩ => exact Fin.ext (by dsimp; omega)

theorem gk_apply (i : Fin 32) (h : Fin 4) (d : Fin 32) : val_main_v45 (F := Ideal) x1 (ix4 i h 0 d) = x1 (ix2 i ⟨640 + (h.val * 32 + d.val), by omega⟩) := by
  rw [val_main_v45_apply, val_main_v44_apply, val_main_v43_apply, val_main_v38_apply, val_main_v37_apply]
  refine congrArg _ (funext fun a => ?_)
  match a with
  | ⟨0, _⟩ => exact Fin.ext (by dsimp; omega)
  | ⟨1, _⟩ => exact Fin.ext (by dsimp; omega)

theorem gv_apply (i : Fin 32) (h : Fin 4) (e : Fin 64) : val_main_v48 (F := Ideal) x1 (ix4 i h 0 e) = x1 (ix2 i ⟨h.val * 64 + e.val, by omega⟩) := by
  rw [val_main_v48_apply, val_main_v47_apply, val_main_v46_apply, val_main_v40_apply, val_main_v39_apply]
  refine congrArg _ (funext fun a => ?_)
  match a with
  | ⟨0, _⟩ => exact Fin.ext (by dsimp; omega)
  | ⟨1, _⟩ => exact Fin.ext (by dsimp; omega)

theorem ga_apply (i : Fin 32) (h : Fin 4) (d : Fin 32) : val_main_v51 (F := Ideal) x1 (ix4 i h 0 d) = x1 (ix2 i ⟨768 + (h.val * 32 + d.val), by omega⟩) := by
  rw [val_main_v51_apply, val_main_v50_apply, val_main_v49_apply, val_main_v42_apply, val_main_v41_apply]
  refine congrArg _ (funext fun a => ?_)
  match a with
  | ⟨0, _⟩ => exact Fin.ext (by dsimp; omega)
  | ⟨1, _⟩ => exact Fin.ext (by dsimp; omega)

/-- The retention's new states. -/
theorem ret_apply (i : Fin 32) (h : Fin 4) (d e : Fin 64) : val_main_v36 (F := Ideal) x0 x3 (ix4 i h d e) =
    ret (fun i n => x0 (ix2 i n)) (fun i h d e => x3 (ix4 i h d e)) i h d e := by
  pointwise [val_main_v36, val_main_v35, val_main_v34, val_main_v33, val_main_v32, val_main_v31, val_main_v30, val_main_v29, val_main_v28, val_main_v27,
    val_main_v26, rk_apply, rv_apply, log_apply]
  rw [Fin.sum_univ_one, rk_apply, rv_apply, exp_v14_sub, exp_v14, mul_one]
  rfl

/-- The gated branch's new states, where the gates' logarithms are finite. -/
theorem gla_apply (hf : ∀ (i : Fin 32) (n : Fin 896), 768 ≤ n.val → ∃ r : ℝ, x1 (ix2 i n) = (r : EReal)) (i : Fin 32) (h : Fin 4) (d : Fin 32) (e : Fin 64) : val_main_v61 (F := Ideal) x1 x4 (ix4 i h d e) =
    gla (fun i n => x1 (ix2 i n)) (fun i h d e => x4 (ix4 i h d e)) i h d e := by
  pointwise [val_main_v61, val_main_v60, val_main_v59, val_main_v58, val_main_v57, val_main_v56, val_main_v55, val_main_v54, val_main_v53, val_main_v52,
    gk_apply, gv_apply, ga_apply]
  rw [Fin.sum_univ_one, gk_apply, gv_apply, ga_apply]
  have he : Ideal.exp (x1 (ix2 i ⟨768 + (h.val * 32 + d.val), by omega⟩) - x1 (ix2 i ⟨768 + (h.val * 32 + d.val), by omega⟩)) = 1 := by
    obtain ⟨r, hr⟩ := hf i ⟨768 + (h.val * 32 + d.val), by omega⟩ (by show 768 ≤ 768 + (h.val * 32 + d.val); omega)
    rw [hr]
    exact exp_sub_self r
  rw [he, mul_one]
  rfl

theorem re_apply (i : Fin 32) (n : Fin 1024) : val_main_v87 (F := Ideal) x2 x5 x6 x9 x10 x11 (ix2 i n) =
    re (fun i k => x2 (ix2 i k)) (fun g k q => x11 (ix3 g k q)) (fun g q => x9 (ix2 g q)) (fun g q => x10 (ix2 g q)) (fun i g q => x5 (ix3 i g q))
      (fun i g q => x6 (ix3 i g q)) i ⟨n.val / 64, by omega⟩ ⟨n.val % 64, by omega⟩ := by
  pointwise [val_main_v87, val_main_v77, val_main_v76, val_main_v75, val_main_v74, val_main_v73, val_main_v72, val_main_v71, val_main_v70, val_main_v69, val_main_v66, val_main_v65, val_main_v64, val_main_v62]
  rfl

theorem im_apply (i : Fin 32) (n : Fin 1024) : val_main_v88 (F := Ideal) x2 x5 x6 x9 x10 x12 (ix2 i n) =
    im (fun i k => x2 (ix2 i k)) (fun g k q => x12 (ix3 g k q)) (fun g q => x9 (ix2 g q)) (fun g q => x10 (ix2 g q)) (fun i g q => x5 (ix3 i g q))
      (fun i g q => x6 (ix3 i g q)) i ⟨n.val / 64, by omega⟩ ⟨n.val % 64, by omega⟩ := by
  pointwise [val_main_v88, val_main_v86, val_main_v85, val_main_v84, val_main_v83, val_main_v82, val_main_v81, val_main_v80, val_main_v79, val_main_v78, val_main_v68, val_main_v67, val_main_v64, val_main_v63]
  rfl

end Cert.MixRefIdeal.Hand

end
-- ==== Proof.Mix.Finite.lean ====
/- The precondition read at an entry: the logarithms of the gates are finite numbers. -/
module

public import proofs.«01_k».proof.Pre_finite_log_alpha
public import Idealize.ShloMosaic.Lib.Pointwise
public import Idealize.ShloMosaic.Lib.ReduceAll

@[expose] public section

set_option maxRecDepth 16384

noncomputable section

namespace Cert.Pre_finite_log_alpha.Hand

open Cert.Pre_finite_log_alpha Idealize.ShloMosaic

/-- The shape relations the predicate's operations take. -/
theorem facts : Cert.Pre_finite_log_alpha.Facts := ⟨by decide, by decide, by decide, by decide⟩

/-- A number whose magnitude is below infinity is finite. -/
theorem finite_of_lt (x : EReal) (h : max x (-x) < ⊤) : ∃ r : ℝ, x = (r : EReal) := by
  induction x using EReal.rec with
  | bot => exact absurd (lt_of_le_of_lt (le_max_right _ _) h) (by simp)
  | coe r => exact ⟨r, rfl⟩
  | top => exact absurd (lt_of_le_of_lt (le_max_left _ _) h) (by simp)

theorem top_bits : Ideal.ofBits .f32 0x7F800000#32 = ⊤ := by simp [Ideal.ofBits, Ideal.ieee]

theorem finite [hF : Cert.Pre_finite_log_alpha.Facts] {x0 : FVec Ideal S32x1024 .f32} {x1 : FVec Ideal S32x896 .f32} {x2 : FVec Ideal S32x256 .f32} {x3 : FVec Ideal S32x4x64x64 .f32}
    {x4 : FVec Ideal S32x4x32x64 .f32} {x5 x6 : FVec Ideal S32x16x64 .f32} {x7 x8 : FVec Ideal S256 .f32} {x9 x10 : FVec Ideal S16x64 .f32}
    {x11 x12 x13 x14 : FVec Ideal S16x16x64 .f32} {x15 : FVec Ideal S256 .f32} {x16 : FVec Ideal S256x256 .f32} {x17 : FVec Ideal S256 .f32}
    (h : fn (F := Ideal) x0 x1 x2 x3 x4 x5 x6 x7 x8 x9 x10 x11 x12 x13 x14 x15 x16 x17 = fun _ => 1#1) (i : Fin 32) (n : Fin 896) (hn : 768 ≤ n.val) :
    ∃ r : ℝ, x1 (ix2 i n) = (r : EReal) := by
  have hs : Subsingleton S_.Idx := ⟨fun a b => funext fun k => nomatch k⟩
  have h0 := congrFun h (fun k => nomatch k)
  unfold fn at h0
  have h1 := Host.reduce_andi_all _ _ _ _ _ h0 (ix2 i ⟨n.val - 768, by omega⟩)
  refine finite_of_lt _ ?_
  have hi : ∀ hl, (⟨768 + (n.val - 768), hl⟩ : Fin 896) = n := fun _ => Fin.ext (by dsimp; omega)
  have h2 : BitVec.ofBool (decide (max (x1 (ix2 i n)) (-(x1 (ix2 i n))) < Ideal.ofBits .f32 0x7F800000#32)) = 1#1 := by
    rw [← h1]
    pointwise
    rw [hi]
    rfl
  rw [top_bits] at h2
  by_contra hc
  rw [decide_eq_false hc] at h2
  exact absurd h2 (by decide)

end Cert.Pre_finite_log_alpha.Hand

end
-- ==== Proof.Mix.Claim.lean ====
module

public import proofs.«01_k».proof.Defs
public import proofs.«01_k».proof.Proof.Mix.Array
public import proofs.«01_k».proof.Proof.Mix.Reference
public import proofs.«01_k».proof.Proof.Mix.Finite
public import proofs.«01_k».proof.Proof.Mix.MixFrame
public import proofs.«01_k».proof.Proof.Mix.MixIdealValue
public import proofs.«01_k».proof.Proof.Gen.MixRefIdeal.Run

@[expose] public section

set_option maxRecDepth 16384

noncomputable section

namespace Cert.Proof.Mix

open Idealize.ShloMosaic Idealize.ShloMosaic.TcCoe Idealize.SL.Sem
open Cert.MixIdeal.Hand (R24 R26 R28 R29)
open Cert.MixIdeal (nD τ sig main_arg0 main_arg1 main_arg2 main_arg3 main_arg4 main_arg5 main_arg6 main_arg9 main_arg10 main_arg11 main_arg12)

variable (m : (ℓ : Loc nD τ sig) → Buf (Elt Ideal) ℓ) (c : Dev nD)

/-- The retention's states: the reference's are the kernel's. -/
theorem out24 : Cert.MixRefIdeal.Read.val_main_v36 (F := Ideal) (m ((c : Thread nD τ).loc main_arg0)) (m ((c : Thread nD τ).loc main_arg3)) = R24 m c := by
  have e : ∀ (i : Fin 32) (h : Fin 4) (d e : Fin 64), Cert.MixRefIdeal.Read.val_main_v36 (F := Ideal) (m ((c : Thread nD τ).loc main_arg0)) (m ((c : Thread nD τ).loc main_arg3)) (ix4 i h d e) = R24 m c (ix4 i h d e) := by
    intro i h d e
    refine (Cert.MixRefIdeal.Hand.ret_apply _ _ i h d e).trans ?_
    rfl
  funext i
  idx_vars i
  exact e _ _ _ _

/-- The gated branch's states: the reference's are the kernel's. -/
theorem out26 (hf : ∀ (i : Fin 32) (n : Fin 896), 768 ≤ n.val → ∃ r : ℝ, m ((c : Thread nD τ).loc main_arg1) (ix2 i n) = (r : EReal)) : Cert.MixRefIdeal.Read.val_main_v61 (F := Ideal) (m ((c : Thread nD τ).loc main_arg1)) (m ((c : Thread nD τ).loc main_arg4)) = R26 m c := by
  have e : ∀ (i : Fin 32) (h : Fin 4) (d : Fin 32) (e : Fin 64), Cert.MixRefIdeal.Read.val_main_v61 (F := Ideal) (m ((c : Thread nD τ).loc main_arg1)) (m ((c : Thread nD τ).loc main_arg4)) (ix4 i h d e) = R26 m c (ix4 i h d e) := by
    intro i h d e
    refine (Cert.MixRefIdeal.Hand.gla_apply _ _ hf i h d e).trans ?_
    rfl
  funext i
  idx_vars i
  exact e _ _ _ _

/-- The state space branch's real parts: the reference's are the kernel's. -/
theorem out28 : Cert.MixRefIdeal.Read.val_main_v87 (F := Ideal) (m ((c : Thread nD τ).loc main_arg2)) (m ((c : Thread nD τ).loc main_arg5)) (m ((c : Thread nD τ).loc main_arg6)) (m ((c : Thread nD τ).loc main_arg9)) (m ((c : Thread nD τ).loc main_arg10)) (m ((c : Thread nD τ).loc main_arg11)) = R28 m c := by
  have e : ∀ (i : Fin 32) (n : Fin 1024), Cert.MixRefIdeal.Read.val_main_v87 (F := Ideal) (m ((c : Thread nD τ).loc main_arg2)) (m ((c : Thread nD τ).loc main_arg5)) (m ((c : Thread nD τ).loc main_arg6)) (m ((c : Thread nD τ).loc main_arg9)) (m ((c : Thread nD τ).loc main_arg10)) (m ((c : Thread nD τ).loc main_arg11)) (ix2 i n) = R28 m c (ix2 i n) := by
    intro i n
    refine (Cert.MixRefIdeal.Hand.re_apply _ _ _ _ _ _ i n).trans ?_
    rfl
  funext i
  idx_vars i
  exact e _ _

/-- The state space branch's imaginary parts: the reference's are the kernel's. -/
theorem out29 : Cert.MixRefIdeal.Read.val_main_v88 (F := Ideal) (m ((c : Thread nD τ).loc main_arg2)) (m ((c : Thread nD τ).loc main_arg5)) (m ((c : Thread nD τ).loc main_arg6)) (m ((c : Thread nD τ).loc main_arg9)) (m ((c : Thread nD τ).loc main_arg10)) (m ((c : Thread nD τ).loc main_arg12)) = R29 m c := by
  have e : ∀ (i : Fin 32) (n : Fin 1024), Cert.MixRefIdeal.Read.val_main_v88 (F := Ideal) (m ((c : Thread nD τ).loc main_arg2)) (m ((c : Thread nD τ).loc main_arg5)) (m ((c : Thread nD τ).loc main_arg6)) (m ((c : Thread nD τ).loc main_arg9)) (m ((c : Thread nD τ).loc main_arg10)) (m ((c : Thread nD τ).loc main_arg12)) (ix2 i n) = R29 m c (ix2 i n) := by
    intro i n
    refine (Cert.MixRefIdeal.Hand.im_apply _ _ _ _ _ _ i n).trans ?_
    rfl
  funext i
  idx_vars i
  exact e _ _

/-- The kernel's four state arrays are the reference's, where the logarithms of the gates are finite. -/
theorem algebraic : Cert.algebraic_MixIdeal_MixRefIdeal_pre_finite_log_alpha (hMixIdeal := Cert.MixIdeal.Gen.facts) (hMixRefIdeal := Cert.MixRefIdeal.Gen.facts)
    (hPre_finite_log_alpha := Cert.Pre_finite_log_alpha.Hand.facts) := by
  intro m g m' g' hpre hagree
  refine ⟨fun c => R24 m c, fun c => R26 m c, fun c => R28 m c, fun c => R29 m c, ?_, ?_⟩
  · exact (θ_run _ _ _).mono (fun r h c => ⟨(h c).2.1.trans (Cert.MixIdeal.Hand.final24 m c), (h c).2.2.2.1.trans (Cert.MixIdeal.Hand.final26 m c),
      (h c).2.2.2.2.2.1.trans (Cert.MixIdeal.Hand.final28 m c), (h c).2.2.2.2.2.2.1.trans (Cert.MixIdeal.Hand.final29 m c),
      (h c).2.2.2.2.2.2.2⟩) (Cert.MixIdeal.Value.run_blocks m g)
  · refine (θ_run _ _ _).mono (fun r h c => ⟨?_, ?_, ?_, ?_, (h c).2.2.2.2⟩) (Cert.MixRefIdeal.Value.run m' g')
    all_goals obtain ⟨h0, h1, h2, h3, h4, h5, h6, h7, h8, h9, h10, h11, h12, h13, h14, h15, h16, h17⟩ := hagree c
    · rw [(h c).1, h0, h3]
      exact (Cert.MixRefIdeal.Read.val_main_v36_eq ..).trans (out24 m c)
    · rw [(h c).2.1, h1, h4]
      exact (Cert.MixRefIdeal.Read.val_main_v61_eq ..).trans (out26 m c (Cert.Pre_finite_log_alpha.Hand.finite (hF := Cert.Pre_finite_log_alpha.Hand.facts) (hpre c)))
    · rw [(h c).2.2.1, h2, h5, h6, h9, h10, h11]
      exact (Cert.MixRefIdeal.Read.val_main_v87_eq ..).trans (out28 m c)
    · rw [(h c).2.2.2.1, h2, h5, h6, h9, h10, h12]
      exact (Cert.MixRefIdeal.Read.val_main_v88_eq ..).trans (out29 m c)

end Cert.Proof.Mix

end

end
-- ==== Proof.lean ====
module

public import proofs.«01_k».proof.Proof.Merge.Claim
public import proofs.«01_k».proof.Proof.Ffn.Claim
public import proofs.«01_k».proof.Proof.FfnSample.Claim
public import proofs.«01_k».proof.Proof.Norm.Prompt
public import proofs.«01_k».proof.Proof.Norm.Sample
public import proofs.«01_k».proof.Proof.Inproj.Claim
public import proofs.«01_k».proof.Proof.InprojSample.Claim
public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Ffns.Frame
public import proofs.«01_k».proof.Proof.Gen.FfnsIdeal.Frame
public import proofs.«01_k».proof.Proof.Gen.FfnsIdeal.Value
public import proofs.«01_k».proof.Proof.Gen.FfnsRefIdeal.Run
public import proofs.«01_k».proof.Proof.Gen.FfnsRefIdeal.Read
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.NormRefIdeal.Read
public import proofs.«01_k».proof.Proof.Gen.Norms.Frame
public import proofs.«01_k».proof.Proof.Gen.NormsIdeal.Frame
public import proofs.«01_k».proof.Proof.Gen.NormsIdeal.Value
public import proofs.«01_k».proof.Proof.Gen.NormsRefIdeal.Run
public import proofs.«01_k».proof.Proof.Gen.NormsRefIdeal.Read
public import proofs.«01_k».proof.Proof.Gen.Mix.Skeleton
public import proofs.«01_k».proof.Proof.Gen.Mix.Launch
public import proofs.«01_k».proof.Proof.Gen.Mix.Points
public import proofs.«01_k».proof.Proof.Mix.MixFrame
public import proofs.«01_k».proof.Proof.Gen.MixIdeal.Skeleton
public import proofs.«01_k».proof.Proof.Gen.MixIdeal.Launch
public import proofs.«01_k».proof.Proof.Gen.MixIdeal.Points
public import proofs.«01_k».proof.Proof.Mix.MixIdealFrame
public import proofs.«01_k».proof.Proof.Mix.MixIdealValue
public import proofs.«01_k».proof.Proof.Gen.Mix
public import proofs.«01_k».proof.Proof.Gen.MixIdeal
public import proofs.«01_k».proof.Proof.Gen.MixRefIdeal.Run
public import proofs.«01_k».proof.Proof.Gen.MixRefIdeal.Read
public import proofs.«01_k».proof.Proof.Mix.Claim
public import Idealize.ShloMosaic.Adequacy
public import Idealize.ShloMosaic.Init
public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal.Run
public import proofs.«01_k».proof.Proof.Gen.InprojRefIdeal.Read
public import proofs.«01_k».proof.Proof.Gen.Inprojs.Frame
public import proofs.«01_k».proof.Proof.Gen.InprojsIdeal.Frame
public import proofs.«01_k».proof.Proof.Gen.InprojsIdeal.Value
public import proofs.«01_k».proof.Proof.Gen.InprojsRefIdeal.Run
public import proofs.«01_k».proof.Proof.Gen.InprojsRefIdeal.Read

@[expose] public section

noncomputable section

namespace Cert.Proof

open Idealize.ShloMosaic Idealize.SL.Sem Cert.Merge

/-- The reference is a straight-line host program with no semaphore. -/
theorem frame_MergeRef : Cert.quiescent_MergeRefIdeal (hMergeRefIdeal := Cert.MergeRefIdeal.Gen.facts) := fun m ρ _ =>
  (θ_run _ _ _).mono (fun r h => ⟨fun c => (h c).2, sem_eq_zero_of_no_sems (by decide) r.2⟩) (Cert.MergeRefIdeal.Value.run m ρ)

/-- The reference is a straight-line host program with no semaphore. -/
theorem frame_FfnRef : Cert.quiescent_FfnRefIdeal (hFfnRefIdeal := Cert.FfnRefIdeal.Gen.facts) := fun m ρ _ =>
  (θ_run _ _ _).mono (fun r h => ⟨fun c => (h c).2.2, sem_eq_zero_of_no_sems (by decide) r.2⟩) (Cert.FfnRefIdeal.Value.run m ρ)

/-- The reference is a straight-line host program with no semaphore. -/
theorem frame_FfnsRef : Cert.quiescent_FfnsRefIdeal (hFfnsRefIdeal := Cert.FfnsRefIdeal.Gen.facts) := fun m ρ _ =>
  (θ_run _ _ _).mono (fun r h => ⟨fun c => (h c).2.2, sem_eq_zero_of_no_sems (by decide) r.2⟩) (Cert.FfnsRefIdeal.Value.run m ρ)

/-- The reference is a straight-line host program with no semaphore. -/
theorem frame_NormRef : Cert.quiescent_NormRefIdeal (hNormRefIdeal := Cert.NormRefIdeal.Gen.facts) := fun m ρ _ =>
  (θ_run _ _ _).mono (fun r h => ⟨fun c => (h c).2, sem_eq_zero_of_no_sems (by decide) r.2⟩) (Cert.NormRefIdeal.Value.run m ρ)

/-- The reference is a straight-line host program with no semaphore. -/
theorem frame_NormsRef : Cert.quiescent_NormsRefIdeal (hNormsRefIdeal := Cert.NormsRefIdeal.Gen.facts) := fun m ρ _ =>
  (θ_run _ _ _).mono (fun r h => ⟨fun c => (h c).2, sem_eq_zero_of_no_sems (by decide) r.2⟩) (Cert.NormsRefIdeal.Value.run m ρ)

/-- The reference is a straight-line host program with no semaphore. -/
theorem frame_InprojRef : Cert.quiescent_InprojRefIdeal (hInprojRefIdeal := Cert.InprojRefIdeal.Gen.facts) := fun m ρ _ =>
  (θ_run _ _ _).mono (fun r h => ⟨fun c => (h c).2.2.2.2.2.2, sem_eq_zero_of_no_sems (by decide) r.2⟩) (Cert.InprojRefIdeal.Value.run m ρ)

/-- The reference is a straight-line host program with no semaphore. -/
theorem frame_InprojsRef : Cert.quiescent_InprojsRefIdeal (hInprojsRefIdeal := Cert.InprojsRefIdeal.Gen.facts) := fun m ρ _ =>
  (θ_run _ _ _).mono (fun r h => ⟨fun c => (h c).2.2.2.2.2.2.2, sem_eq_zero_of_no_sems (by decide) r.2⟩) (Cert.InprojsRefIdeal.Value.run m ρ)

/-- The reference is a straight-line host program with no semaphore. -/
theorem frame_MixRef : Cert.quiescent_MixRefIdeal (hMixRefIdeal := Cert.MixRefIdeal.Gen.facts) := fun m ρ _ =>
  (θ_run _ _ _).mono (fun r h => ⟨fun c => (h c).2.2.2.2, sem_eq_zero_of_no_sems (by decide) r.2⟩) (Cert.MixRefIdeal.Value.run m ρ)

theorem claim : Cert.Claim := ⟨Cert.Merge.Gen.facts, Cert.MergeIdeal.Gen.facts, Cert.MergeRefIdeal.Gen.facts, Cert.Ffn.Gen.facts, Cert.FfnIdeal.Gen.facts, Cert.FfnRefIdeal.Gen.facts,
    Cert.Ffns.Gen.facts, Cert.FfnsIdeal.Gen.facts, Cert.FfnsRefIdeal.Gen.facts, Cert.Norm.Gen.facts, Cert.NormIdeal.Gen.facts, Cert.NormRefIdeal.Gen.facts, Cert.Norms.Gen.facts, Cert.NormsIdeal.Gen.facts, Cert.NormsRefIdeal.Gen.facts,
    Cert.Inproj.Gen.facts, Cert.InprojIdeal.Gen.facts, Cert.InprojRefIdeal.Gen.facts,
    Cert.Inprojs.Gen.facts, Cert.InprojsIdeal.Gen.facts, Cert.InprojsRefIdeal.Gen.facts,
    Cert.Mix.Gen.facts, Cert.MixIdeal.Gen.facts, Cert.MixRefIdeal.Gen.facts, Cert.Pre_finite_log_alpha.Hand.facts,
    fun m ρ _ => Cert.Merge.Gen.frame m ρ, fun m ρ _ => Cert.MergeIdeal.Gen.frame m ρ, frame_MergeRef,
    fun m ρ _ => Cert.Ffn.Gen.frame m ρ, fun m ρ _ => Cert.FfnIdeal.Gen.frame m ρ, frame_FfnRef,
    fun m ρ _ => Cert.Ffns.Gen.frame m ρ, fun m ρ _ => Cert.FfnsIdeal.Gen.frame m ρ, frame_FfnsRef,
    fun m ρ _ => Cert.Norm.Gen.frame m ρ, fun m ρ _ => Cert.NormIdeal.Gen.frame m ρ, frame_NormRef,
    fun m ρ _ => Cert.Norms.Gen.frame m ρ, fun m ρ _ => Cert.NormsIdeal.Gen.frame m ρ, frame_NormsRef,
    fun m ρ _ => Cert.Inproj.Gen.frame m ρ, fun m ρ _ => Cert.InprojIdeal.Gen.frame m ρ, frame_InprojRef,
    fun m ρ _ => Cert.Inprojs.Gen.frame m ρ, fun m ρ _ => Cert.InprojsIdeal.Gen.frame m ρ, frame_InprojsRef,
    fun m ρ _ => Cert.Mix.Gen.frame m ρ, fun m ρ _ => Cert.MixIdeal.Gen.frame m ρ, fun m ρ _ => Cert.MixIdeal.Gen.frame m ρ, frame_MixRef,
    fun m ρ _ => frame_MixRef m ρ trivial,
    trivial, Cert.Proof.Merge.algebraic, trivial, Cert.Proof.Ffn.algebraic,
    trivial, Cert.Proof.FfnSample.algebraic, trivial, Cert.Proof.Norm.algebraic, trivial, Cert.Proof.Norms.algebraic,
    trivial, Cert.Proof.Inproj.algebraic, trivial, Cert.Proof.Inprojs.algebraic, trivial, Cert.Proof.Mix.algebraic⟩

end Cert.Proof

end
